-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_keys [hPre_finite_queries_keys : Cert.Pre_finite_queries_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_queries_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_keys [hPre_finite_queries_keys : Cert.Pre_finite_queries_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_queries_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_values_lambda [hPre_finite_values_lambda : Cert.Pre_finite_values_lambda.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_values_lambda.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).1 = (fun _ => 1#1)
    ∧ (Cert.Pre_finite_values_lambda.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_values_lambda [hPre_finite_values_lambda : Cert.Pre_finite_values_lambda.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_values_lambda.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).1 = (fun _ => 1#1)
    ∧ (Cert.Pre_finite_values_lambda.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_gain_weights [hPre_finite_gain_weights : Cert.Pre_finite_gain_weights.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_gain_weights.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).1 = (fun _ => 1#1)
    ∧ (Cert.Pre_finite_gain_weights.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_gain_weights [hPre_finite_gain_weights : Cert.Pre_finite_gain_weights.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_gain_weights.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).1 = (fun _ => 1#1)
    ∧ (Cert.Pre_finite_gain_weights.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_queries_keys [hKernelIdeal : Cert.KernelIdeal.Facts] [hPre_finite_queries_keys : Cert.Pre_finite_queries_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_queries_keys [hReferenceIdeal : Cert.ReferenceIdeal.Facts] [hPre_finite_queries_keys : Cert.Pre_finite_queries_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite_values_lambda [hKernel2Ideal : Cert.Kernel2Ideal.Facts] [hPre_finite_values_lambda : Cert.Pre_finite_values_lambda.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_values_lambda m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite_values_lambda [hReference2Ideal : Cert.Reference2Ideal.Facts] [hPre_finite_values_lambda : Cert.Pre_finite_values_lambda.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_values_lambda m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Kernel3Ideal_pre_finite_gain_weights [hKernel3Ideal : Cert.Kernel3Ideal.Facts] [hPre_finite_gain_weights : Cert.Pre_finite_gain_weights.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_gain_weights m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Reference3Ideal_pre_finite_gain_weights [hReference3Ideal : Cert.Reference3Ideal.Facts] [hPre_finite_gain_weights : Cert.Pre_finite_gain_weights.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_gain_weights m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_queries_keys [hKernelIdeal : Cert.KernelIdeal.Facts] [hReferenceIdeal : Cert.ReferenceIdeal.Facts] [hPre_finite_queries_keys : Cert.Pre_finite_queries_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  IdealRules.named_const.Statement Cert.Kernel2Ideal.κ "mask" .f32 0xF149F2CA#32 ⊥

def algebraic_Kernel2Ideal_Reference2Ideal_pre_finite_values_lambda [hKernel2Ideal : Cert.Kernel2Ideal.Facts] [hReference2Ideal : Cert.Reference2Ideal.Facts] [hPre_finite_values_lambda : Cert.Pre_finite_values_lambda.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_values_lambda m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v62) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal_pre_finite_gain_weights [hKernel3Ideal : Cert.Kernel3Ideal.Facts] [hReference3Ideal : Cert.Reference3Ideal.Facts] [hPre_finite_gain_weights : Cert.Pre_finite_gain_weights.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_gain_weights m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v6_0)) (v1 : (c : Dev Cert.Kernel3Ideal.nD) → Buf (Elt Ideal) ((c.tc : Thread Cert.Kernel3Ideal.nD Cert.Kernel3Ideal.τ).loc Cert.Kernel3Ideal.main_v6_1)) (v2 : (c : Dev Cert.Kernel3Ideal.nD) → Buf (Elt Ideal) ((c.tc : Thread Cert.Kernel3Ideal.nD Cert.Kernel3Ideal.τ).loc Cert.Kernel3Ideal.main_v6_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6_0) = v0 c
          ∧ r.2.mem ((c.tc : Thread Cert.Kernel3Ideal.nD Cert.Kernel3Ideal.τ).loc Cert.Kernel3Ideal.main_v6_1) = v1 c
          ∧ r.2.mem ((c.tc : Thread Cert.Kernel3Ideal.nD Cert.Kernel3Ideal.τ).loc Cert.Kernel3Ideal.main_v6_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_v19) = v1 c
          ∧ r.2.mem ((c.tc : Thread Cert.Reference3Ideal.nD Cert.Reference3Ideal.τ).loc Cert.Reference3Ideal.main_v20) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v57_1)) (v1 : (c : Dev Cert.Kernel4Ideal.nD) → Buf (Elt Ideal) ((c.tc : Thread Cert.Kernel4Ideal.nD Cert.Kernel4Ideal.τ).loc Cert.Kernel4Ideal.main_v57_2)) (v2 : (c : Dev Cert.Kernel4Ideal.nD) → Buf (Elt Ideal) ((c.tc : Thread Cert.Kernel4Ideal.nD Cert.Kernel4Ideal.τ).loc Cert.Kernel4Ideal.main_v57_3)) (v3 : (c : Dev Cert.Kernel4Ideal.nD) → Buf (Elt Ideal) ((c.tc : Thread Cert.Kernel4Ideal.nD Cert.Kernel4Ideal.τ).loc Cert.Kernel4Ideal.main_v57_4)) (v4 : (c : Dev Cert.Kernel4Ideal.nD) → Buf (Elt Ideal) ((c.tc : Thread Cert.Kernel4Ideal.nD Cert.Kernel4Ideal.τ).loc Cert.Kernel4Ideal.main_v57_5)) (v5 : (c : Dev Cert.Kernel4Ideal.nD) → Buf (Elt Ideal) ((c.tc : Thread Cert.Kernel4Ideal.nD Cert.Kernel4Ideal.τ).loc Cert.Kernel4Ideal.main_v57_6)) (v6 : (c : Dev Cert.Kernel4Ideal.nD) → Buf (Elt Ideal) ((c.tc : Thread Cert.Kernel4Ideal.nD Cert.Kernel4Ideal.τ).loc Cert.Kernel4Ideal.main_v57_10)) (v7 : (c : Dev Cert.Kernel4Ideal.nD) → Buf (Elt Ideal) ((c.tc : Thread Cert.Kernel4Ideal.nD Cert.Kernel4Ideal.τ).loc Cert.Kernel4Ideal.main_v57_11)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v57_1) = v0 c
          ∧ r.2.mem ((c.tc : Thread Cert.Kernel4Ideal.nD Cert.Kernel4Ideal.τ).loc Cert.Kernel4Ideal.main_v57_2) = v1 c
          ∧ r.2.mem ((c.tc : Thread Cert.Kernel4Ideal.nD Cert.Kernel4Ideal.τ).loc Cert.Kernel4Ideal.main_v57_3) = v2 c
          ∧ r.2.mem ((c.tc : Thread Cert.Kernel4Ideal.nD Cert.Kernel4Ideal.τ).loc Cert.Kernel4Ideal.main_v57_4) = v3 c
          ∧ r.2.mem ((c.tc : Thread Cert.Kernel4Ideal.nD Cert.Kernel4Ideal.τ).loc Cert.Kernel4Ideal.main_v57_5) = v4 c
          ∧ r.2.mem ((c.tc : Thread Cert.Kernel4Ideal.nD Cert.Kernel4Ideal.τ).loc Cert.Kernel4Ideal.main_v57_6) = v5 c
          ∧ r.2.mem ((c.tc : Thread Cert.Kernel4Ideal.nD Cert.Kernel4Ideal.τ).loc Cert.Kernel4Ideal.main_v57_10) = v6 c
          ∧ r.2.mem ((c.tc : Thread Cert.Kernel4Ideal.nD Cert.Kernel4Ideal.τ).loc Cert.Kernel4Ideal.main_v57_11) = v7 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v42) = v0 c
          ∧ r.2.mem ((c.tc : Thread Cert.Reference4Ideal.nD Cert.Reference4Ideal.τ).loc Cert.Reference4Ideal.main_v18) = v1 c
          ∧ r.2.mem ((c.tc : Thread Cert.Reference4Ideal.nD Cert.Reference4Ideal.τ).loc Cert.Reference4Ideal.main_v43) = v2 c
          ∧ r.2.mem ((c.tc : Thread Cert.Reference4Ideal.nD Cert.Reference4Ideal.τ).loc Cert.Reference4Ideal.main_v19) = v3 c
          ∧ r.2.mem ((c.tc : Thread Cert.Reference4Ideal.nD Cert.Reference4Ideal.τ).loc Cert.Reference4Ideal.main_v44) = v4 c
          ∧ r.2.mem ((c.tc : Thread Cert.Reference4Ideal.nD Cert.Reference4Ideal.τ).loc Cert.Reference4Ideal.main_v38) = v5 c
          ∧ r.2.mem ((c.tc : Thread Cert.Reference4Ideal.nD Cert.Reference4Ideal.τ).loc Cert.Reference4Ideal.main_v46) = v6 c
          ∧ r.2.mem ((c.tc : Thread Cert.Reference4Ideal.nD Cert.Reference4Ideal.τ).loc Cert.Reference4Ideal.main_v47) = v7 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_queries_keys : Cert.Pre_finite_queries_keys.Facts) (hPre_finite_values_lambda : Cert.Pre_finite_values_lambda.Facts) (hPre_finite_gain_weights : Cert.Pre_finite_gain_weights.Facts),
    quiescent_Kernel (hKernel := hKernel)
    ∧ quiescent_KernelIdeal (hKernelIdeal := hKernelIdeal)
    ∧ quiescent_KernelIdeal_pre_finite_queries_keys (hKernelIdeal := hKernelIdeal) (hPre_finite_queries_keys := hPre_finite_queries_keys)
    ∧ quiescent_ReferenceIdeal (hReferenceIdeal := hReferenceIdeal)
    ∧ quiescent_ReferenceIdeal_pre_finite_queries_keys (hReferenceIdeal := hReferenceIdeal) (hPre_finite_queries_keys := hPre_finite_queries_keys)
    ∧ quiescent_Kernel2 (hKernel2 := hKernel2)
    ∧ quiescent_Kernel2Ideal (hKernel2Ideal := hKernel2Ideal)
    ∧ quiescent_Kernel2Ideal_pre_finite_values_lambda (hKernel2Ideal := hKernel2Ideal) (hPre_finite_values_lambda := hPre_finite_values_lambda)
    ∧ quiescent_Reference2Ideal (hReference2Ideal := hReference2Ideal)
    ∧ quiescent_Reference2Ideal_pre_finite_values_lambda (hReference2Ideal := hReference2Ideal) (hPre_finite_values_lambda := hPre_finite_values_lambda)
    ∧ quiescent_Kernel3 (hKernel3 := hKernel3)
    ∧ quiescent_Kernel3Ideal (hKernel3Ideal := hKernel3Ideal)
    ∧ quiescent_Kernel3Ideal_pre_finite_gain_weights (hKernel3Ideal := hKernel3Ideal) (hPre_finite_gain_weights := hPre_finite_gain_weights)
    ∧ quiescent_Reference3Ideal (hReference3Ideal := hReference3Ideal)
    ∧ quiescent_Reference3Ideal_pre_finite_gain_weights (hReference3Ideal := hReference3Ideal) (hPre_finite_gain_weights := hPre_finite_gain_weights)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite_queries_keys (hKernelIdeal := hKernelIdeal) (hReferenceIdeal := hReferenceIdeal) (hPre_finite_queries_keys := hPre_finite_queries_keys)
    ∧ preserves_Kernel2_Kernel2Ideal
    ∧ algebraic_Kernel2Ideal_Reference2Ideal_pre_finite_values_lambda (hKernel2Ideal := hKernel2Ideal) (hReference2Ideal := hReference2Ideal) (hPre_finite_values_lambda := hPre_finite_values_lambda)
    ∧ preserves_Kernel3_Kernel3Ideal
    ∧ algebraic_Kernel3Ideal_Reference3Ideal_pre_finite_gain_weights (hKernel3Ideal := hKernel3Ideal) (hReference3Ideal := hReference3Ideal) (hPre_finite_gain_weights := hPre_finite_gain_weights)
    ∧ preserves_Kernel4_Kernel4Ideal
    ∧ algebraic_Kernel4Ideal_Reference4Ideal (hKernel4Ideal := hKernel4Ideal) (hReference4Ideal := hReference4Ideal)
-- ==== Pre_finite_gain_weights.lean ====
abbrev S16384x1024 : Shape := ⟨2, ![16384, 1024]⟩
abbrev S16384x256 : Shape := ⟨2, ![16384, 256]⟩
abbrev S16384x512 : Shape := ⟨2, ![16384, 512]⟩
abbrev S1024x1024 : Shape := ⟨2, ![1024, 1024]⟩
abbrev S1024 : Shape := ⟨1, ![1024]⟩
abbrev S1024x2048 : Shape := ⟨2, ![1024, 2048]⟩
abbrev S_ : Shape := ⟨0, ![]⟩

class Facts : Prop where
  bcast_S_S1024 : S_.BroadcastsInDim S1024 (![] : Fin 0 → Fin S1024.rank)
  bcast_S_S1024x2048 : S_.BroadcastsInDim S1024x2048 (![] : Fin 0 → Fin S1024x2048.rank)

variable [Facts]

def fn {F : FTy → Type} [FloatOps F] (main_arg0 : FVec F S16384x1024 .f32) (main_arg1 : FVec F S16384x256 .bf16) (main_arg2 : FVec F S16384x256 .bf16) (main_arg3 : FVec F S16384x512 .bf16) (main_arg4 : FVec F S1024x1024 .f32) (main_arg5 : FVec F S1024 .f32) (main_arg6 : FVec F S1024x2048 .f32) : IVec S1024 1 × IVec S1024x2048 1 :=
  let main_v0 : FVec F S1024 .f32 := Host.absf main_arg5
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1024x2048 .f32 := Host.absf main_arg6
  let main_cst_0 : FVec F S_ .f32 := constant S_ .f32 0x7F800000#32
  let main_v4 : FVec F S1024x2048 .f32 := broadcastInDim S1024x2048 ![] bcast_S_S1024x2048 main_cst_0
  let main_v5 : IVec S1024x2048 1 := cmpf .olt main_v3 main_v4
  (main_v2, main_v5)
-- ==== Pre_finite_queries_keys.lean ====
abbrev S2x8192x1024 : Shape := ⟨3, ![2, 8192, 1024]⟩
abbrev S2x8192x512 : Shape := ⟨3, ![2, 8192, 512]⟩
abbrev S_ : Shape := ⟨0, ![]⟩

class Facts : Prop where
  bitsLt_bf16_f32 : FTy.bits .bf16 < FTy.bits .f32
  bcast_S_S2x8192x1024 : S_.BroadcastsInDim S2x8192x1024 (![] : Fin 0 → Fin S2x8192x1024.rank)

variable [Facts]

def fn {F : FTy → Type} [FloatOps F] (main_arg0 : FVec F S2x8192x1024 .bf16) (main_arg1 : FVec F S2x8192x1024 .bf16) (main_arg2 : FVec F S2x8192x512 .bf16) : IVec S2x8192x1024 1 × IVec S2x8192x1024 1 :=
  let main_v0 : FVec F S2x8192x1024 .f32 := (extf .f32 · bitsLt_bf16_f32) main_arg0
  let main_v1 : FVec F S2x8192x1024 .f32 := Host.absf main_v0
  let main_cst : FVec F S_ .f32 := constant S_ .f32 0x7F800000#32
  let main_v2 : FVec F S2x8192x1024 .f32 := broadcastInDim S2x8192x1024 ![] bcast_S_S2x8192x1024 main_cst
  let main_v3 : IVec S2x8192x1024 1 := cmpf .olt main_v1 main_v2
  let main_v4 : FVec F S2x8192x1024 .f32 := (extf .f32 · bitsLt_bf16_f32) main_arg1
  let main_v5 : FVec F S2x8192x1024 .f32 := Host.absf main_v4
  let main_cst_0 : FVec F S_ .f32 := constant S_ .f32 0x7F800000#32
  let main_v6 : FVec F S2x8192x1024 .f32 := broadcastInDim S2x8192x1024 ![] bcast_S_S2x8192x1024 main_cst_0
  let main_v7 : IVec S2x8192x1024 1 := cmpf .olt main_v5 main_v6
  (main_v3, main_v7)
-- ==== Pre_finite_values_lambda.lean ====
abbrev S2x8192x256 : Shape := ⟨3, ![2, 8192, 256]⟩
abbrev S1 : Shape := ⟨1, ![1]⟩
abbrev S1x256 : Shape := ⟨2, ![1, 256]⟩
abbrev S_ : Shape := ⟨0, ![]⟩

class Facts : Prop where
  bitsLt_bf16_f32 : FTy.bits .bf16 < FTy.bits .f32
  bcast_S_S2x8192x256 : S_.BroadcastsInDim S2x8192x256 (![] : Fin 0 → Fin S2x8192x256.rank)
  bcast_S_S1 : S_.BroadcastsInDim S1 (![] : Fin 0 → Fin S1.rank)

variable [Facts]

def fn {F : FTy → Type} [FloatOps F] (main_arg0 : FVec F S2x8192x256 .bf16) (main_arg1 : FVec F S2x8192x256 .bf16) (main_arg2 : FVec F S2x8192x256 .bf16) (main_arg3 : FVec F S1 .f32) (main_arg4 : FVec F S1x256 .f32) : IVec S2x8192x256 1 × IVec S1 1 :=
  let main_v0 : FVec F S2x8192x256 .f32 := (extf .f32 · bitsLt_bf16_f32) main_arg2
  let main_v1 : FVec F S2x8192x256 .f32 := Host.absf main_v0
  let main_cst : FVec F S_ .f32 := constant S_ .f32 0x7F800000#32
  let main_v2 : FVec F S2x8192x256 .f32 := broadcastInDim S2x8192x256 ![] bcast_S_S2x8192x256 main_cst
  let main_v3 : IVec S2x8192x256 1 := cmpf .olt main_v1 main_v2
  let main_v4 : FVec F S1 .f32 := Host.absf main_arg3
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  (main_v3, main_v6)
-- ==== Kernel.lean ====
abbrev S2x8192x1024 : Shape := ⟨3, ![2, 8192, 1024]⟩
abbrev S2x8192x512 : Shape := ⟨3, ![2, 8192, 512]⟩
abbrev S1x512x256 : Shape := ⟨3, ![1, 512, 256]⟩
abbrev S1x8192x256 : Shape := ⟨3, ![1, 8192, 256]⟩
abbrev S1x8192x128 : Shape := ⟨3, ![1, 8192, 128]⟩
abbrev S1x512x128 : Shape := ⟨3, ![1, 512, 128]⟩
abbrev S2x512x128 : Shape := ⟨3, ![2, 512, 128]⟩
abbrev S2x512x512 : Shape := ⟨3, ![2, 512, 512]⟩
abbrev S512x256 : Shape := ⟨2, ![512, 256]⟩
abbrev S512x128 : Shape := ⟨2, ![512, 128]⟩
abbrev S512x512 : Shape := ⟨2, ![512, 512]⟩
abbrev S1x512x512 : Shape := ⟨3, ![1, 512, 512]⟩
abbrev S512 : Shape := ⟨1, ![512]⟩
abbrev S512x1 : Shape := ⟨2, ![512, 1]⟩
abbrev S1x128 : Shape := ⟨2, ![1, 128]⟩
abbrev S2x512 : Shape := ⟨2, ![2, 512]⟩
abbrev S2x512x1 : Shape := ⟨3, ![2, 512, 1]⟩

abbrev nBuf : Space → Nat
  | .hbm => 4
  | .vmem => 13
  | .smem => 0
  | _ => 0

abbrev bufTy : (tb : Table) → Fin (tcTables nBuf tb) → BufTy
  | .hbm, ⟨0, _⟩ => ⟨S2x8192x1024, .bf16⟩
  | .hbm, ⟨1, _⟩ => ⟨S2x8192x1024, .bf16⟩
  | .hbm, ⟨2, _⟩ => ⟨S2x8192x512, .bf16⟩
  | .hbm, ⟨3, _⟩ => ⟨S2x8192x512, .bf16⟩
  | .local _ .vmem, ⟨0, _⟩ => ⟨S1x512x256, .bf16⟩
  | .local _ .vmem, ⟨1, _⟩ => ⟨S1x512x256, .bf16⟩
  | .local _ .vmem, ⟨2, _⟩ => ⟨S1x8192x256, .bf16⟩
  | .local _ .vmem, ⟨3, _⟩ => ⟨S1x8192x256, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x512x128, .bf16⟩
  | .local _ .vmem, ⟨7, _⟩ => ⟨S1x512x128, .bf16⟩
  | .local _ .vmem, ⟨8, _⟩ => ⟨S2x512x128, .f32⟩
  | .local _ .vmem, ⟨9, _⟩ => ⟨S2x512x128, .f32⟩
  | .local _ .vmem, ⟨10, _⟩ => ⟨S2x512x128, .f32⟩
  | .local _ .vmem, ⟨11, _⟩ => ⟨S2x512x512, .f32⟩
  | .local _ .vmem, ⟨12, _⟩ => ⟨S2x512x512, .f32⟩
  | _, _ => ⟨S2x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 16], ![false, false, false]⟩

def k0_mult1 : BitVec 32 :=
  let c0_i32_24 : BitVec 32 := 0#32
  c0_i32_24
@[reducible] def k0_t1_loop (i : grid0.Coords) : Scf.Loop 32 :=
  let c0_i32_35 : BitVec 32 := 0#32
  let arg2 : BitVec 32 := BitVec.ofNat 32 (i 2).val
  let c0_i32 : BitVec 32 := 0#32
  let v15 : BitVec 1 := Scalar.cmpi .sgt arg2 c0_i32
  let v16 : BitVec 32 := Scalar.extui v15
  let c0_i32_13 : BitVec 32 := 0#32
  let v17 : BitVec 1 := Scalar.cmpi .slt arg2 c0_i32_13
  let v18 : BitVec 32 := Scalar.extui v17
  let v19 : BitVec 32 := Scalar.subi v16 v18
  let c1_i32 : BitVec 32 := 1#32
  let c0_i32_14 : BitVec 32 := 0#32
  let v20 : BitVec 1 := Scalar.cmpi .sgt c1_i32 c0_i32_14
  let v21 : BitVec 32 := Scalar.extui v20
  let c0_i32_15 : BitVec 32 := 0#32
  let v22 : BitVec 1 := Scalar.cmpi .slt c1_i32 c0_i32_15
  let v23 : BitVec 32 := Scalar.extui v22
  let v24 : BitVec 32 := Scalar.subi v21 v23
  let v25 : BitVec 1 := Scalar.cmpi .ne v19 v24
  let v26 : BitVec 32 := Scalar.remsi arg2 c1_i32
  let c0_i32_16 : BitVec 32 := 0#32
  let v27 : BitVec 1 := Scalar.cmpi .ne v26 c0_i32_16
  let v28 : BitVec 1 := Scalar.andi v25 v27
  let v14 : BitVec 32 := Scalar.divsi arg2 c1_i32
  let c1_i32_17 : BitVec 32 := 1#32
  let v29 : BitVec 32 := Scalar.subi v14 c1_i32_17
  let v30 : BitVec 32 := Scalar.select v28 v29 v14
  let c0_i32_18 : BitVec 32 := 0#32
  let v32 : BitVec 1 := Scalar.cmpi .sgt v30 c0_i32_18
  let v33 : BitVec 32 := Scalar.extui v32
  let c0_i32_19 : BitVec 32 := 0#32
  let v34 : BitVec 1 := Scalar.cmpi .slt v30 c0_i32_19
  let v35 : BitVec 32 := Scalar.extui v34
  let v36 : BitVec 32 := Scalar.subi v33 v35
  let c2_i32 : BitVec 32 := 2#32
  let c0_i32_20 : BitVec 32 := 0#32
  let v37 : BitVec 1 := Scalar.cmpi .sgt c2_i32 c0_i32_20
  let v38 : BitVec 32 := Scalar.extui v37
  let c0_i32_21 : BitVec 32 := 0#32
  let v39 : BitVec 1 := Scalar.cmpi .slt c2_i32 c0_i32_21
  let v40 : BitVec 32 := Scalar.extui v39
  let v41 : BitVec 32 := Scalar.subi v38 v40
  let v42 : BitVec 1 := Scalar.cmpi .ne v36 v41
  let v43 : BitVec 32 := Scalar.remsi v30 c2_i32
  let c0_i32_22 : BitVec 32 := 0#32
  let v44 : BitVec 1 := Scalar.cmpi .ne v43 c0_i32_22
  let v45 : BitVec 1 := Scalar.andi v42 v44
  let v31 : BitVec 32 := Scalar.divsi v30 c2_i32
  let c1_i32_23 : BitVec 32 := 1#32
  let v46 : BitVec 32 := Scalar.subi v31 c1_i32_23
  let v47 : BitVec 32 := Scalar.select v45 v46 v31
  let v64 : BitVec 32 := Scalar.subi v47 c0_i32_35
  let c1_i32_36 : BitVec 32 := 1#32
  let v66 : BitVec 32 := Scalar.divsi v64 c1_i32_36
  let v67 : BitVec 32 := Scalar.muli v66 c1_i32_36
  let v68 : BitVec 32 := Scalar.addi c0_i32_35 v67
  let c1_i32_37 : BitVec 32 := 1#32
  ⟨c0_i32_35, v68, c1_i32_37⟩
def k0_mult2 (i : grid0.Coords) (k0_t1 : Fin (k0_t1_loop i).trips) : BitVec 32 :=
  let c2_i32_52 : BitVec 32 := 2#32
  let c0_i32_35 : BitVec 32 := 0#32
  let c1_i32_37 : BitVec 32 := 1#32
  let arg12 : BitVec 32 := Scf.iv c0_i32_35 c1_i32_37 k0_t1
  let v96 : BitVec 32 := Scalar.muli c2_i32_52 arg12
  let c1_i32_53 : BitVec 32 := 1#32
  let v97 : BitVec 32 := Scalar.addi v96 c1_i32_53
  let c512_i32 : BitVec 32 := 512#32
  let v98 : BitVec 32 := Scalar.muli v97 c512_i32
  v98
def k0_off1 (i : grid0.Coords) (k0_t1 : Fin (k0_t1_loop i).trips) (c1_i32_53 : BitVec 32) : Fin 3 → Nat :=
  let c0_54 : Index := 0#32
  let c2_i32_52 : BitVec 32 := 2#32
  let c0_i32_35 : BitVec 32 := 0#32
  let c1_i32_37 : BitVec 32 := 1#32
  let arg12 : BitVec 32 := Scf.iv c0_i32_35 c1_i32_37 k0_t1
  let v96 : BitVec 32 := Scalar.muli c2_i32_52 arg12
  let v97 : BitVec 32 := Scalar.addi v96 c1_i32_53
  let c512_i32 : BitVec 32 := 512#32
  let v98 : BitVec 32 := Scalar.muli v97 c512_i32
  let v99 : BitVec 32 := v98
  let v100 : Index := Scalar.indexCast v99
  let c0_55 : Index := 0#32
  ![0, v100.toNat, 0]
def k0_mult3 (i : grid0.Coords) (k0_t1 : Fin (k0_t1_loop i).trips) : BitVec 32 :=
  let c2_i32_52 : BitVec 32 := 2#32
  let c0_i32_35 : BitVec 32 := 0#32
  let c1_i32_37 : BitVec 32 := 1#32
  let arg12 : BitVec 32 := Scf.iv c0_i32_35 c1_i32_37 k0_t1
  let v96 : BitVec 32 := Scalar.muli c2_i32_52 arg12
  let c512_i32_64 : BitVec 32 := 512#32
  let v115 : BitVec 32 := Scalar.muli v96 c512_i32_64
  v115
def k0_off2 (i : grid0.Coords) (k0_t1 : Fin (k0_t1_loop i).trips) : Fin 3 → Nat :=
  let c0_65 : Index := 0#32
  let c2_i32_52 : BitVec 32 := 2#32
  let c0_i32_35 : BitVec 32 := 0#32
  let c1_i32_37 : BitVec 32 := 1#32
  let arg12 : BitVec 32 := Scf.iv c0_i32_35 c1_i32_37 k0_t1
  let v96 : BitVec 32 := Scalar.muli c2_i32_52 arg12
  let c512_i32_64 : BitVec 32 := 512#32
  let v115 : BitVec 32 := Scalar.muli v96 c512_i32_64
  let v116 : BitVec 32 := v115
  let v117 : Index := Scalar.indexCast v116
  let c0_66 : Index := 0#32
  ![0, v117.toNat, 0]
def k0_mult4 (i : grid0.Coords) (k0_t1 : Fin (k0_t1_loop i).trips) : BitVec 32 :=
  let c2_i32_52 : BitVec 32 := 2#32
  let c0_i32_35 : BitVec 32 := 0#32
  let c1_i32_37 : BitVec 32 := 1#32
  let arg12 : BitVec 32 := Scf.iv c0_i32_35 c1_i32_37 k0_t1
  let v96 : BitVec 32 := Scalar.muli c2_i32_52 arg12
  let c2_i32_113 : BitVec 32 := 2#32
  let v216 : BitVec 32 := Scalar.addi v96 c2_i32_113
  let c512_i32_114 : BitVec 32 := 512#32
  let v217 : BitVec 32 := Scalar.muli v216 c512_i32_114
  v217
def k0_mult5 (i : grid0.Coords) (k0_t1 : Fin (k0_t1_loop i).trips) : BitVec 32 :=
  let c2_i32_52 : BitVec 32 := 2#32
  let c0_i32_35 : BitVec 32 := 0#32
  let c1_i32_37 : BitVec 32 := 1#32
  let arg12 : BitVec 32 := Scf.iv c0_i32_35 c1_i32_37 k0_t1
  let v96 : BitVec 32 := Scalar.muli c2_i32_52 arg12
  let c1_i32_125 : BitVec 32 := 1#32
  let v234 : BitVec 32 := Scalar.addi v96 c1_i32_125
  let c512_i32_126 : BitVec 32 := 512#32
  let v235 : BitVec 32 := Scalar.muli v234 c512_i32_126
  v235
def k0_off3 (i : grid0.Coords) (k0_t1 : Fin (k0_t1_loop i).trips) : Fin 3 → Nat :=
  let c0_127 : Index := 0#32
  let c2_i32_52 : BitVec 32 := 2#32
  let c0_i32_35 : BitVec 32 := 0#32
  let c1_i32_37 : BitVec 32 := 1#32
  let arg12 : BitVec 32 := Scf.iv c0_i32_35 c1_i32_37 k0_t1
  let v96 : BitVec 32 := Scalar.muli c2_i32_52 arg12
  let c1_i32_125 : BitVec 32 := 1#32
  let v234 : BitVec 32 := Scalar.addi v96 c1_i32_125
  let c512_i32_126 : BitVec 32 := 512#32
  let v235 : BitVec 32 := Scalar.muli v234 c512_i32_126
  let v236 : BitVec 32 := v235
  let v237 : Index := Scalar.indexCast v236
  let c0_128 : Index := 0#32
  ![0, v237.toNat, 0]
@[reducible] def k0_t2_loop (i : grid0.Coords) : Scf.Loop 32 :=
  let c0_i32_35 : BitVec 32 := 0#32
  let arg2 : BitVec 32 := BitVec.ofNat 32 (i 2).val
  let c0_i32 : BitVec 32 := 0#32
  let v15 : BitVec 1 := Scalar.cmpi .sgt arg2 c0_i32
  let v16 : BitVec 32 := Scalar.extui v15
  let c0_i32_13 : BitVec 32 := 0#32
  let v17 : BitVec 1 := Scalar.cmpi .slt arg2 c0_i32_13
  let v18 : BitVec 32 := Scalar.extui v17
  let v19 : BitVec 32 := Scalar.subi v16 v18
  let c1_i32 : BitVec 32 := 1#32
  let c0_i32_14 : BitVec 32 := 0#32
  let v20 : BitVec 1 := Scalar.cmpi .sgt c1_i32 c0_i32_14
  let v21 : BitVec 32 := Scalar.extui v20
  let c0_i32_15 : BitVec 32 := 0#32
  let v22 : BitVec 1 := Scalar.cmpi .slt c1_i32 c0_i32_15
  let v23 : BitVec 32 := Scalar.extui v22
  let v24 : BitVec 32 := Scalar.subi v21 v23
  let v25 : BitVec 1 := Scalar.cmpi .ne v19 v24
  let v26 : BitVec 32 := Scalar.remsi arg2 c1_i32
  let c0_i32_16 : BitVec 32 := 0#32
  let v27 : BitVec 1 := Scalar.cmpi .ne v26 c0_i32_16
  let v28 : BitVec 1 := Scalar.andi v25 v27
  let v14 : BitVec 32 := Scalar.divsi arg2 c1_i32
  let c1_i32_17 : BitVec 32 := 1#32
  let v29 : BitVec 32 := Scalar.subi v14 c1_i32_17
  let v30 : BitVec 32 := Scalar.select v28 v29 v14
  let c0_i32_18 : BitVec 32 := 0#32
  let v32 : BitVec 1 := Scalar.cmpi .sgt v30 c0_i32_18
  let v33 : BitVec 32 := Scalar.extui v32
  let c0_i32_19 : BitVec 32 := 0#32
  let v34 : BitVec 1 := Scalar.cmpi .slt v30 c0_i32_19
  let v35 : BitVec 32 := Scalar.extui v34
  let v36 : BitVec 32 := Scalar.subi v33 v35
  let c2_i32 : BitVec 32 := 2#32
  let c0_i32_20 : BitVec 32 := 0#32
  let v37 : BitVec 1 := Scalar.cmpi .sgt c2_i32 c0_i32_20
  let v38 : BitVec 32 := Scalar.extui v37
  let c0_i32_21 : BitVec 32 := 0#32
  let v39 : BitVec 1 := Scalar.cmpi .slt c2_i32 c0_i32_21
  let v40 : BitVec 32 := Scalar.extui v39
  let v41 : BitVec 32 := Scalar.subi v38 v40
  let v42 : BitVec 1 := Scalar.cmpi .ne v36 v41
  let v43 : BitVec 32 := Scalar.remsi v30 c2_i32
  let c0_i32_22 : BitVec 32 := 0#32
  let v44 : BitVec 1 := Scalar.cmpi .ne v43 c0_i32_22
  let v45 : BitVec 1 := Scalar.andi v42 v44
  let v31 : BitVec 32 := Scalar.divsi v30 c2_i32
  let c1_i32_23 : BitVec 32 := 1#32
  let v46 : BitVec 32 := Scalar.subi v31 c1_i32_23
  let v47 : BitVec 32 := Scalar.select v45 v46 v31
  let v64 : BitVec 32 := Scalar.subi v47 c0_i32_35
  let c1_i32_36 : BitVec 32 := 1#32
  let v66 : BitVec 32 := Scalar.divsi v64 c1_i32_36
  let v67 : BitVec 32 := Scalar.muli v66 c1_i32_36
  let v68 : BitVec 32 := Scalar.addi c0_i32_35 v67
  let v65 : BitVec 32 := Scalar.addi c0_i32_35 v64
  let c1_i32_38 : BitVec 32 := 1#32
  ⟨v68, v65, c1_i32_38⟩
def k0_mult6 (i : grid0.Coords) (k0_t2 : Fin (k0_t2_loop i).trips) : BitVec 32 :=
  let c2_i32_52 : BitVec 32 := 2#32
  let c0_i32_35 : BitVec 32 := 0#32
  let arg2 : BitVec 32 := BitVec.ofNat 32 (i 2).val
  let c0_i32 : BitVec 32 := 0#32
  let v15 : BitVec 1 := Scalar.cmpi .sgt arg2 c0_i32
  let v16 : BitVec 32 := Scalar.extui v15
  let c0_i32_13 : BitVec 32 := 0#32
  let v17 : BitVec 1 := Scalar.cmpi .slt arg2 c0_i32_13
  let v18 : BitVec 32 := Scalar.extui v17
  let v19 : BitVec 32 := Scalar.subi v16 v18
  let c1_i32 : BitVec 32 := 1#32
  let c0_i32_14 : BitVec 32 := 0#32
  let v20 : BitVec 1 := Scalar.cmpi .sgt c1_i32 c0_i32_14
  let v21 : BitVec 32 := Scalar.extui v20
  let c0_i32_15 : BitVec 32 := 0#32
  let v22 : BitVec 1 := Scalar.cmpi .slt c1_i32 c0_i32_15
  let v23 : BitVec 32 := Scalar.extui v22
  let v24 : BitVec 32 := Scalar.subi v21 v23
  let v25 : BitVec 1 := Scalar.cmpi .ne v19 v24
  let v26 : BitVec 32 := Scalar.remsi arg2 c1_i32
  let c0_i32_16 : BitVec 32 := 0#32
  let v27 : BitVec 1 := Scalar.cmpi .ne v26 c0_i32_16
  let v28 : BitVec 1 := Scalar.andi v25 v27
  let v14 : BitVec 32 := Scalar.divsi arg2 c1_i32
  let c1_i32_17 : BitVec 32 := 1#32
  let v29 : BitVec 32 := Scalar.subi v14 c1_i32_17
  let v30 : BitVec 32 := Scalar.select v28 v29 v14
  let c0_i32_18 : BitVec 32 := 0#32
  let v32 : BitVec 1 := Scalar.cmpi .sgt v30 c0_i32_18
  let v33 : BitVec 32 := Scalar.extui v32
  let c0_i32_19 : BitVec 32 := 0#32
  let v34 : BitVec 1 := Scalar.cmpi .slt v30 c0_i32_19
  let v35 : BitVec 32 := Scalar.extui v34
  let v36 : BitVec 32 := Scalar.subi v33 v35
  let c2_i32 : BitVec 32 := 2#32
  let c0_i32_20 : BitVec 32 := 0#32
  let v37 : BitVec 1 := Scalar.cmpi .sgt c2_i32 c0_i32_20
  let v38 : BitVec 32 := Scalar.extui v37
  let c0_i32_21 : BitVec 32 := 0#32
  let v39 : BitVec 1 := Scalar.cmpi .slt c2_i32 c0_i32_21
  let v40 : BitVec 32 := Scalar.extui v39
  let v41 : BitVec 32 := Scalar.subi v38 v40
  let v42 : BitVec 1 := Scalar.cmpi .ne v36 v41
  let v43 : BitVec 32 := Scalar.remsi v30 c2_i32
  let c0_i32_22 : BitVec 32 := 0#32
  let v44 : BitVec 1 := Scalar.cmpi .ne v43 c0_i32_22
  let v45 : BitVec 1 := Scalar.andi v42 v44
  let v31 : BitVec 32 := Scalar.divsi v30 c2_i32
  let c1_i32_23 : BitVec 32 := 1#32
  let v46 : BitVec 32 := Scalar.subi v31 c1_i32_23
  let v47 : BitVec 32 := Scalar.select v45 v46 v31
  let v64 : BitVec 32 := Scalar.subi v47 c0_i32_35
  let c1_i32_36 : BitVec 32 := 1#32
  let v66 : BitVec 32 := Scalar.divsi v64 c1_i32_36
  let v67 : BitVec 32 := Scalar.muli v66 c1_i32_36
  let v68 : BitVec 32 := Scalar.addi c0_i32_35 v67
  let c1_i32_38 : BitVec 32 := 1#32
  let arg12 : BitVec 32 := Scf.iv v68 c1_i32_38 k0_t2
  let v96 : BitVec 32 := Scalar.muli c2_i32_52 arg12
  let c1_i32_53 : BitVec 32 := 1#32
  let v97 : BitVec 32 := Scalar.addi v96 c1_i32_53
  let c512_i32 : BitVec 32 := 512#32
  let v98 : BitVec 32 := Scalar.muli v97 c512_i32
  v98
def k0_off4 (i : grid0.Coords) (k0_t2 : Fin (k0_t2_loop i).trips) (c1_i32_53 : BitVec 32) : Fin 3 → Nat :=
  let c0_54 : Index := 0#32
  let c2_i32_52 : BitVec 32 := 2#32
  let c0_i32_35 : BitVec 32 := 0#32
  let arg2 : BitVec 32 := BitVec.ofNat 32 (i 2).val
  let c0_i32 : BitVec 32 := 0#32
  let v15 : BitVec 1 := Scalar.cmpi .sgt arg2 c0_i32
  let v16 : BitVec 32 := Scalar.extui v15
  let c0_i32_13 : BitVec 32 := 0#32
  let v17 : BitVec 1 := Scalar.cmpi .slt arg2 c0_i32_13
  let v18 : BitVec 32 := Scalar.extui v17
  let v19 : BitVec 32 := Scalar.subi v16 v18
  let c1_i32 : BitVec 32 := 1#32
  let c0_i32_14 : BitVec 32 := 0#32
  let v20 : BitVec 1 := Scalar.cmpi .sgt c1_i32 c0_i32_14
  let v21 : BitVec 32 := Scalar.extui v20
  let c0_i32_15 : BitVec 32 := 0#32
  let v22 : BitVec 1 := Scalar.cmpi .slt c1_i32 c0_i32_15
  let v23 : BitVec 32 := Scalar.extui v22
  let v24 : BitVec 32 := Scalar.subi v21 v23
  let v25 : BitVec 1 := Scalar.cmpi .ne v19 v24
  let v26 : BitVec 32 := Scalar.remsi arg2 c1_i32
  let c0_i32_16 : BitVec 32 := 0#32
  let v27 : BitVec 1 := Scalar.cmpi .ne v26 c0_i32_16
  let v28 : BitVec 1 := Scalar.andi v25 v27
  let v14 : BitVec 32 := Scalar.divsi arg2 c1_i32
  let c1_i32_17 : BitVec 32 := 1#32
  let v29 : BitVec 32 := Scalar.subi v14 c1_i32_17
  let v30 : BitVec 32 := Scalar.select v28 v29 v14
  let c0_i32_18 : BitVec 32 := 0#32
  let v32 : BitVec 1 := Scalar.cmpi .sgt v30 c0_i32_18
  let v33 : BitVec 32 := Scalar.extui v32
  let c0_i32_19 : BitVec 32 := 0#32
  let v34 : BitVec 1 := Scalar.cmpi .slt v30 c0_i32_19
  let v35 : BitVec 32 := Scalar.extui v34
  let v36 : BitVec 32 := Scalar.subi v33 v35
  let c2_i32 : BitVec 32 := 2#32
  let c0_i32_20 : BitVec 32 := 0#32
  let v37 : BitVec 1 := Scalar.cmpi .sgt c2_i32 c0_i32_20
  let v38 : BitVec 32 := Scalar.extui v37
  let c0_i32_21 : BitVec 32 := 0#32
  let v39 : BitVec 1 := Scalar.cmpi .slt c2_i32 c0_i32_21
  let v40 : BitVec 32 := Scalar.extui v39
  let v41 : BitVec 32 := Scalar.subi v38 v40
  let v42 : BitVec 1 := Scalar.cmpi .ne v36 v41
  let v43 : BitVec 32 := Scalar.remsi v30 c2_i32
  let c0_i32_22 : BitVec 32 := 0#32
  let v44 : BitVec 1 := Scalar.cmpi .ne v43 c0_i32_22
  let v45 : BitVec 1 := Scalar.andi v42 v44
  let v31 : BitVec 32 := Scalar.divsi v30 c2_i32
  let c1_i32_23 : BitVec 32 := 1#32
  let v46 : BitVec 32 := Scalar.subi v31 c1_i32_23
  let v47 : BitVec 32 := Scalar.select v45 v46 v31
  let v64 : BitVec 32 := Scalar.subi v47 c0_i32_35
  let c1_i32_36 : BitVec 32 := 1#32
  let v66 : BitVec 32 := Scalar.divsi v64 c1_i32_36
  let v67 : BitVec 32 := Scalar.muli v66 c1_i32_36
  let v68 : BitVec 32 := Scalar.addi c0_i32_35 v67
  let c1_i32_38 : BitVec 32 := 1#32
  let arg12 : BitVec 32 := Scf.iv v68 c1_i32_38 k0_t2
  let v96 : BitVec 32 := Scalar.muli c2_i32_52 arg12
  let v97 : BitVec 32 := Scalar.addi v96 c1_i32_53
  let c512_i32 : BitVec 32 := 512#32
  let v98 : BitVec 32 := Scalar.muli v97 c512_i32
  let v99 : BitVec 32 := v98
  let v100 : Index := Scalar.indexCast v99
  let c0_55 : Index := 0#32
  ![0, v100.toNat, 0]
def k0_mult7 (i : grid0.Coords) (k0_t2 : Fin (k0_t2_loop i).trips) : BitVec 32 :=
  let c2_i32_52 : BitVec 32 := 2#32
  let c0_i32_35 : BitVec 32 := 0#32
  let arg2 : BitVec 32 := BitVec.ofNat 32 (i 2).val
  let c0_i32 : BitVec 32 := 0#32
  let v15 : BitVec 1 := Scalar.cmpi .sgt arg2 c0_i32
  let v16 : BitVec 32 := Scalar.extui v15
  let c0_i32_13 : BitVec 32 := 0#32
  let v17 : BitVec 1 := Scalar.cmpi .slt arg2 c0_i32_13
  let v18 : BitVec 32 := Scalar.extui v17
  let v19 : BitVec 32 := Scalar.subi v16 v18
  let c1_i32 : BitVec 32 := 1#32
  let c0_i32_14 : BitVec 32 := 0#32
  let v20 : BitVec 1 := Scalar.cmpi .sgt c1_i32 c0_i32_14
  let v21 : BitVec 32 := Scalar.extui v20
  let c0_i32_15 : BitVec 32 := 0#32
  let v22 : BitVec 1 := Scalar.cmpi .slt c1_i32 c0_i32_15
  let v23 : BitVec 32 := Scalar.extui v22
  let v24 : BitVec 32 := Scalar.subi v21 v23
  let v25 : BitVec 1 := Scalar.cmpi .ne v19 v24
  let v26 : BitVec 32 := Scalar.remsi arg2 c1_i32
  let c0_i32_16 : BitVec 32 := 0#32
  let v27 : BitVec 1 := Scalar.cmpi .ne v26 c0_i32_16
  let v28 : BitVec 1 := Scalar.andi v25 v27
  let v14 : BitVec 32 := Scalar.divsi arg2 c1_i32
  let c1_i32_17 : BitVec 32 := 1#32
  let v29 : BitVec 32 := Scalar.subi v14 c1_i32_17
  let v30 : BitVec 32 := Scalar.select v28 v29 v14
  let c0_i32_18 : BitVec 32 := 0#32
  let v32 : BitVec 1 := Scalar.cmpi .sgt v30 c0_i32_18
  let v33 : BitVec 32 := Scalar.extui v32
  let c0_i32_19 : BitVec 32 := 0#32
  let v34 : BitVec 1 := Scalar.cmpi .slt v30 c0_i32_19
  let v35 : BitVec 32 := Scalar.extui v34
  let v36 : BitVec 32 := Scalar.subi v33 v35
  let c2_i32 : BitVec 32 := 2#32
  let c0_i32_20 : BitVec 32 := 0#32
  let v37 : BitVec 1 := Scalar.cmpi .sgt c2_i32 c0_i32_20
  let v38 : BitVec 32 := Scalar.extui v37
  let c0_i32_21 : BitVec 32 := 0#32
  let v39 : BitVec 1 := Scalar.cmpi .slt c2_i32 c0_i32_21
  let v40 : BitVec 32 := Scalar.extui v39
  let v41 : BitVec 32 := Scalar.subi v38 v40
  let v42 : BitVec 1 := Scalar.cmpi .ne v36 v41
  let v43 : BitVec 32 := Scalar.remsi v30 c2_i32
  let c0_i32_22 : BitVec 32 := 0#32
  let v44 : BitVec 1 := Scalar.cmpi .ne v43 c0_i32_22
  let v45 : BitVec 1 := Scalar.andi v42 v44
  let v31 : BitVec 32 := Scalar.divsi v30 c2_i32
  let c1_i32_23 : BitVec 32 := 1#32
  let v46 : BitVec 32 := Scalar.subi v31 c1_i32_23
  let v47 : BitVec 32 := Scalar.select v45 v46 v31
  let v64 : BitVec 32 := Scalar.subi v47 c0_i32_35
  let c1_i32_36 : BitVec 32 := 1#32
  let v66 : BitVec 32 := Scalar.divsi v64 c1_i32_36
  let v67 : BitVec 32 := Scalar.muli v66 c1_i32_36
  let v68 : BitVec 32 := Scalar.addi c0_i32_35 v67
  let c1_i32_38 : BitVec 32 := 1#32
  let arg12 : BitVec 32 := Scf.iv v68 c1_i32_38 k0_t2
  let v96 : BitVec 32 := Scalar.muli c2_i32_52 arg12
  let c512_i32_64 : BitVec 32 := 512#32
  let v115 : BitVec 32 := Scalar.muli v96 c512_i32_64
  v115
def k0_off5 (i : grid0.Coords) (k0_t2 : Fin (k0_t2_loop i).trips) : Fin 3 → Nat :=
  let c0_65 : Index := 0#32
  let c2_i32_52 : BitVec 32 := 2#32
  let c0_i32_35 : BitVec 32 := 0#32
  let arg2 : BitVec 32 := BitVec.ofNat 32 (i 2).val
  let c0_i32 : BitVec 32 := 0#32
  let v15 : BitVec 1 := Scalar.cmpi .sgt arg2 c0_i32
  let v16 : BitVec 32 := Scalar.extui v15
  let c0_i32_13 : BitVec 32 := 0#32
  let v17 : BitVec 1 := Scalar.cmpi .slt arg2 c0_i32_13
  let v18 : BitVec 32 := Scalar.extui v17
  let v19 : BitVec 32 := Scalar.subi v16 v18
  let c1_i32 : BitVec 32 := 1#32
  let c0_i32_14 : BitVec 32 := 0#32
  let v20 : BitVec 1 := Scalar.cmpi .sgt c1_i32 c0_i32_14
  let v21 : BitVec 32 := Scalar.extui v20
  let c0_i32_15 : BitVec 32 := 0#32
  let v22 : BitVec 1 := Scalar.cmpi .slt c1_i32 c0_i32_15
  let v23 : BitVec 32 := Scalar.extui v22
  let v24 : BitVec 32 := Scalar.subi v21 v23
  let v25 : BitVec 1 := Scalar.cmpi .ne v19 v24
  let v26 : BitVec 32 := Scalar.remsi arg2 c1_i32
  let c0_i32_16 : BitVec 32 := 0#32
  let v27 : BitVec 1 := Scalar.cmpi .ne v26 c0_i32_16
  let v28 : BitVec 1 := Scalar.andi v25 v27
  let v14 : BitVec 32 := Scalar.divsi arg2 c1_i32
  let c1_i32_17 : BitVec 32 := 1#32
  let v29 : BitVec 32 := Scalar.subi v14 c1_i32_17
  let v30 : BitVec 32 := Scalar.select v28 v29 v14
  let c0_i32_18 : BitVec 32 := 0#32
  let v32 : BitVec 1 := Scalar.cmpi .sgt v30 c0_i32_18
  let v33 : BitVec 32 := Scalar.extui v32
  let c0_i32_19 : BitVec 32 := 0#32
  let v34 : BitVec 1 := Scalar.cmpi .slt v30 c0_i32_19
  let v35 : BitVec 32 := Scalar.extui v34
  let v36 : BitVec 32 := Scalar.subi v33 v35
  let c2_i32 : BitVec 32 := 2#32
  let c0_i32_20 : BitVec 32 := 0#32
  let v37 : BitVec 1 := Scalar.cmpi .sgt c2_i32 c0_i32_20
  let v38 : BitVec 32 := Scalar.extui v37
  let c0_i32_21 : BitVec 32 := 0#32
  let v39 : BitVec 1 := Scalar.cmpi .slt c2_i32 c0_i32_21
  let v40 : BitVec 32 := Scalar.extui v39
  let v41 : BitVec 32 := Scalar.subi v38 v40
  let v42 : BitVec 1 := Scalar.cmpi .ne v36 v41
  let v43 : BitVec 32 := Scalar.remsi v30 c2_i32
  let c0_i32_22 : BitVec 32 := 0#32
  let v44 : BitVec 1 := Scalar.cmpi .ne v43 c0_i32_22
  let v45 : BitVec 1 := Scalar.andi v42 v44
  let v31 : BitVec 32 := Scalar.divsi v30 c2_i32
  let c1_i32_23 : BitVec 32 := 1#32
  let v46 : BitVec 32 := Scalar.subi v31 c1_i32_23
  let v47 : BitVec 32 := Scalar.select v45 v46 v31
  let v64 : BitVec 32 := Scalar.subi v47 c0_i32_35
  let c1_i32_36 : BitVec 32 := 1#32
  let v66 : BitVec 32 := Scalar.divsi v64 c1_i32_36
  let v67 : BitVec 32 := Scalar.muli v66 c1_i32_36
  let v68 : BitVec 32 := Scalar.addi c0_i32_35 v67
  let c1_i32_38 : BitVec 32 := 1#32
  let arg12 : BitVec 32 := Scf.iv v68 c1_i32_38 k0_t2
  let v96 : BitVec 32 := Scalar.muli c2_i32_52 arg12
  let c512_i32_64 : BitVec 32 := 512#32
  let v115 : BitVec 32 := Scalar.muli v96 c512_i32_64
  let v116 : BitVec 32 := v115
  let v117 : Index := Scalar.indexCast v116
  let c0_66 : Index := 0#32
  ![0, v117.toNat, 0]
def k0_mult8 (i : grid0.Coords) (k0_t2 : Fin (k0_t2_loop i).trips) : BitVec 32 :=
  let c2_i32_52 : BitVec 32 := 2#32
  let c0_i32_35 : BitVec 32 := 0#32
  let arg2 : BitVec 32 := BitVec.ofNat 32 (i 2).val
  let c0_i32 : BitVec 32 := 0#32
  let v15 : BitVec 1 := Scalar.cmpi .sgt arg2 c0_i32
  let v16 : BitVec 32 := Scalar.extui v15
  let c0_i32_13 : BitVec 32 := 0#32
  let v17 : BitVec 1 := Scalar.cmpi .slt arg2 c0_i32_13
  let v18 : BitVec 32 := Scalar.extui v17
  let v19 : BitVec 32 := Scalar.subi v16 v18
  let c1_i32 : BitVec 32 := 1#32
  let c0_i32_14 : BitVec 32 := 0#32
  let v20 : BitVec 1 := Scalar.cmpi .sgt c1_i32 c0_i32_14
  let v21 : BitVec 32 := Scalar.extui v20
  let c0_i32_15 : BitVec 32 := 0#32
  let v22 : BitVec 1 := Scalar.cmpi .slt c1_i32 c0_i32_15
  let v23 : BitVec 32 := Scalar.extui v22
  let v24 : BitVec 32 := Scalar.subi v21 v23
  let v25 : BitVec 1 := Scalar.cmpi .ne v19 v24
  let v26 : BitVec 32 := Scalar.remsi arg2 c1_i32
  let c0_i32_16 : BitVec 32 := 0#32
  let v27 : BitVec 1 := Scalar.cmpi .ne v26 c0_i32_16
  let v28 : BitVec 1 := Scalar.andi v25 v27
  let v14 : BitVec 32 := Scalar.divsi arg2 c1_i32
  let c1_i32_17 : BitVec 32 := 1#32
  let v29 : BitVec 32 := Scalar.subi v14 c1_i32_17
  let v30 : BitVec 32 := Scalar.select v28 v29 v14
  let c0_i32_18 : BitVec 32 := 0#32
  let v32 : BitVec 1 := Scalar.cmpi .sgt v30 c0_i32_18
  let v33 : BitVec 32 := Scalar.extui v32
  let c0_i32_19 : BitVec 32 := 0#32
  let v34 : BitVec 1 := Scalar.cmpi .slt v30 c0_i32_19
  let v35 : BitVec 32 := Scalar.extui v34
  let v36 : BitVec 32 := Scalar.subi v33 v35
  let c2_i32 : BitVec 32 := 2#32
  let c0_i32_20 : BitVec 32 := 0#32
  let v37 : BitVec 1 := Scalar.cmpi .sgt c2_i32 c0_i32_20
  let v38 : BitVec 32 := Scalar.extui v37
  let c0_i32_21 : BitVec 32 := 0#32
  let v39 : BitVec 1 := Scalar.cmpi .slt c2_i32 c0_i32_21
  let v40 : BitVec 32 := Scalar.extui v39
  let v41 : BitVec 32 := Scalar.subi v38 v40
  let v42 : BitVec 1 := Scalar.cmpi .ne v36 v41
  let v43 : BitVec 32 := Scalar.remsi v30 c2_i32
  let c0_i32_22 : BitVec 32 := 0#32
  let v44 : BitVec 1 := Scalar.cmpi .ne v43 c0_i32_22
  let v45 : BitVec 1 := Scalar.andi v42 v44
  let v31 : BitVec 32 := Scalar.divsi v30 c2_i32
  let c1_i32_23 : BitVec 32 := 1#32
  let v46 : BitVec 32 := Scalar.subi v31 c1_i32_23
  let v47 : BitVec 32 := Scalar.select v45 v46 v31
  let v64 : BitVec 32 := Scalar.subi v47 c0_i32_35
  let c1_i32_36 : BitVec 32 := 1#32
  let v66 : BitVec 32 := Scalar.divsi v64 c1_i32_36
  let v67 : BitVec 32 := Scalar.muli v66 c1_i32_36
  let v68 : BitVec 32 := Scalar.addi c0_i32_35 v67
  let c1_i32_38 : BitVec 32 := 1#32
  let arg12 : BitVec 32 := Scf.iv v68 c1_i32_38 k0_t2
  let v96 : BitVec 32 := Scalar.muli c2_i32_52 arg12
  let c2_i32_113 : BitVec 32 := 2#32
  let v216 : BitVec 32 := Scalar.addi v96 c2_i32_113
  let c512_i32_114 : BitVec 32 := 512#32
  let v217 : BitVec 32 := Scalar.muli v216 c512_i32_114
  v217
def k0_mult9 (i : grid0.Coords) (k0_t2 : Fin (k0_t2_loop i).trips) : BitVec 32 :=
  let c2_i32_52 : BitVec 32 := 2#32
  let c0_i32_35 : BitVec 32 := 0#32
  let arg2 : BitVec 32 := BitVec.ofNat 32 (i 2).val
  let c0_i32 : BitVec 32 := 0#32
  let v15 : BitVec 1 := Scalar.cmpi .sgt arg2 c0_i32
  let v16 : BitVec 32 := Scalar.extui v15
  let c0_i32_13 : BitVec 32 := 0#32
  let v17 : BitVec 1 := Scalar.cmpi .slt arg2 c0_i32_13
  let v18 : BitVec 32 := Scalar.extui v17
  let v19 : BitVec 32 := Scalar.subi v16 v18
  let c1_i32 : BitVec 32 := 1#32
  let c0_i32_14 : BitVec 32 := 0#32
  let v20 : BitVec 1 := Scalar.cmpi .sgt c1_i32 c0_i32_14
  let v21 : BitVec 32 := Scalar.extui v20
  let c0_i32_15 : BitVec 32 := 0#32
  let v22 : BitVec 1 := Scalar.cmpi .slt c1_i32 c0_i32_15
  let v23 : BitVec 32 := Scalar.extui v22
  let v24 : BitVec 32 := Scalar.subi v21 v23
  let v25 : BitVec 1 := Scalar.cmpi .ne v19 v24
  let v26 : BitVec 32 := Scalar.remsi arg2 c1_i32
  let c0_i32_16 : BitVec 32 := 0#32
  let v27 : BitVec 1 := Scalar.cmpi .ne v26 c0_i32_16
  let v28 : BitVec 1 := Scalar.andi v25 v27
  let v14 : BitVec 32 := Scalar.divsi arg2 c1_i32
  let c1_i32_17 : BitVec 32 := 1#32
  let v29 : BitVec 32 := Scalar.subi v14 c1_i32_17
  let v30 : BitVec 32 := Scalar.select v28 v29 v14
  let c0_i32_18 : BitVec 32 := 0#32
  let v32 : BitVec 1 := Scalar.cmpi .sgt v30 c0_i32_18
  let v33 : BitVec 32 := Scalar.extui v32
  let c0_i32_19 : BitVec 32 := 0#32
  let v34 : BitVec 1 := Scalar.cmpi .slt v30 c0_i32_19
  let v35 : BitVec 32 := Scalar.extui v34
  let v36 : BitVec 32 := Scalar.subi v33 v35
  let c2_i32 : BitVec 32 := 2#32
  let c0_i32_20 : BitVec 32 := 0#32
  let v37 : BitVec 1 := Scalar.cmpi .sgt c2_i32 c0_i32_20
  let v38 : BitVec 32 := Scalar.extui v37
  let c0_i32_21 : BitVec 32 := 0#32
  let v39 : BitVec 1 := Scalar.cmpi .slt c2_i32 c0_i32_21
  let v40 : BitVec 32 := Scalar.extui v39
  let v41 : BitVec 32 := Scalar.subi v38 v40
  let v42 : BitVec 1 := Scalar.cmpi .ne v36 v41
  let v43 : BitVec 32 := Scalar.remsi v30 c2_i32
  let c0_i32_22 : BitVec 32 := 0#32
  let v44 : BitVec 1 := Scalar.cmpi .ne v43 c0_i32_22
  let v45 : BitVec 1 := Scalar.andi v42 v44
  let v31 : BitVec 32 := Scalar.divsi v30 c2_i32
  let c1_i32_23 : BitVec 32 := 1#32
  let v46 : BitVec 32 := Scalar.subi v31 c1_i32_23
  let v47 : BitVec 32 := Scalar.select v45 v46 v31
  let v64 : BitVec 32 := Scalar.subi v47 c0_i32_35
  let c1_i32_36 : BitVec 32 := 1#32
  let v66 : BitVec 32 := Scalar.divsi v64 c1_i32_36
  let v67 : BitVec 32 := Scalar.muli v66 c1_i32_36
  let v68 : BitVec 32 := Scalar.addi c0_i32_35 v67
  let c1_i32_38 : BitVec 32 := 1#32
  let arg12 : BitVec 32 := Scf.iv v68 c1_i32_38 k0_t2
  let v96 : BitVec 32 := Scalar.muli c2_i32_52 arg12
  let c1_i32_125 : BitVec 32 := 1#32
  let v234 : BitVec 32 := Scalar.addi v96 c1_i32_125
  let c512_i32_126 : BitVec 32 := 512#32
  let v235 : BitVec 32 := Scalar.muli v234 c512_i32_126
  v235
def k0_off6 (i : grid0.Coords) (k0_t2 : Fin (k0_t2_loop i).trips) : Fin 3 → Nat :=
  let c0_127 : Index := 0#32
  let c2_i32_52 : BitVec 32 := 2#32
  let c0_i32_35 : BitVec 32 := 0#32
  let arg2 : BitVec 32 := BitVec.ofNat 32 (i 2).val
  let c0_i32 : BitVec 32 := 0#32
  let v15 : BitVec 1 := Scalar.cmpi .sgt arg2 c0_i32
  let v16 : BitVec 32 := Scalar.extui v15
  let c0_i32_13 : BitVec 32 := 0#32
  let v17 : BitVec 1 := Scalar.cmpi .slt arg2 c0_i32_13
  let v18 : BitVec 32 := Scalar.extui v17
  let v19 : BitVec 32 := Scalar.subi v16 v18
  let c1_i32 : BitVec 32 := 1#32
  let c0_i32_14 : BitVec 32 := 0#32
  let v20 : BitVec 1 := Scalar.cmpi .sgt c1_i32 c0_i32_14
  let v21 : BitVec 32 := Scalar.extui v20
  let c0_i32_15 : BitVec 32 := 0#32
  let v22 : BitVec 1 := Scalar.cmpi .slt c1_i32 c0_i32_15
  let v23 : BitVec 32 := Scalar.extui v22
  let v24 : BitVec 32 := Scalar.subi v21 v23
  let v25 : BitVec 1 := Scalar.cmpi .ne v19 v24
  let v26 : BitVec 32 := Scalar.remsi arg2 c1_i32
  let c0_i32_16 : BitVec 32 := 0#32
  let v27 : BitVec 1 := Scalar.cmpi .ne v26 c0_i32_16
  let v28 : BitVec 1 := Scalar.andi v25 v27
  let v14 : BitVec 32 := Scalar.divsi arg2 c1_i32
  let c1_i32_17 : BitVec 32 := 1#32
  let v29 : BitVec 32 := Scalar.subi v14 c1_i32_17
  let v30 : BitVec 32 := Scalar.select v28 v29 v14
  let c0_i32_18 : BitVec 32 := 0#32
  let v32 : BitVec 1 := Scalar.cmpi .sgt v30 c0_i32_18
  let v33 : BitVec 32 := Scalar.extui v32
  let c0_i32_19 : BitVec 32 := 0#32
  let v34 : BitVec 1 := Scalar.cmpi .slt v30 c0_i32_19
  let v35 : BitVec 32 := Scalar.extui v34
  let v36 : BitVec 32 := Scalar.subi v33 v35
  let c2_i32 : BitVec 32 := 2#32
  let c0_i32_20 : BitVec 32 := 0#32
  let v37 : BitVec 1 := Scalar.cmpi .sgt c2_i32 c0_i32_20
  let v38 : BitVec 32 := Scalar.extui v37
  let c0_i32_21 : BitVec 32 := 0#32
  let v39 : BitVec 1 := Scalar.cmpi .slt c2_i32 c0_i32_21
  let v40 : BitVec 32 := Scalar.extui v39
  let v41 : BitVec 32 := Scalar.subi v38 v40
  let v42 : BitVec 1 := Scalar.cmpi .ne v36 v41
  let v43 : BitVec 32 := Scalar.remsi v30 c2_i32
  let c0_i32_22 : BitVec 32 := 0#32
  let v44 : BitVec 1 := Scalar.cmpi .ne v43 c0_i32_22
  let v45 : BitVec 1 := Scalar.andi v42 v44
  let v31 : BitVec 32 := Scalar.divsi v30 c2_i32
  let c1_i32_23 : BitVec 32 := 1#32
  let v46 : BitVec 32 := Scalar.subi v31 c1_i32_23
  let v47 : BitVec 32 := Scalar.select v45 v46 v31
  let v64 : BitVec 32 := Scalar.subi v47 c0_i32_35
  let c1_i32_36 : BitVec 32 := 1#32
  let v66 : BitVec 32 := Scalar.divsi v64 c1_i32_36
  let v67 : BitVec 32 := Scalar.muli v66 c1_i32_36
  let v68 : BitVec 32 := Scalar.addi c0_i32_35 v67
  let c1_i32_38 : BitVec 32 := 1#32
  let arg12 : BitVec 32 := Scf.iv v68 c1_i32_38 k0_t2
  let v96 : BitVec 32 := Scalar.muli c2_i32_52 arg12
  let c1_i32_125 : BitVec 32 := 1#32
  let v234 : BitVec 32 := Scalar.addi v96 c1_i32_125
  let c512_i32_126 : BitVec 32 := 512#32
  let v235 : BitVec 32 := Scalar.muli v234 c512_i32_126
  let v236 : BitVec 32 := v235
  let v237 : Index := Scalar.indexCast v236
  let c0_128 : Index := 0#32
  ![0, v237.toNat, 0]
def k0_cond1 (i : grid0.Coords) : BitVec 1 :=
  let arg2 : BitVec 32 := BitVec.ofNat 32 (i 2).val
  let c0_i32 : BitVec 32 := 0#32
  let v15 : BitVec 1 := Scalar.cmpi .sgt arg2 c0_i32
  let v16 : BitVec 32 := Scalar.extui v15
  let c0_i32_13 : BitVec 32 := 0#32
  let v17 : BitVec 1 := Scalar.cmpi .slt arg2 c0_i32_13
  let v18 : BitVec 32 := Scalar.extui v17
  let v19 : BitVec 32 := Scalar.subi v16 v18
  let c1_i32 : BitVec 32 := 1#32
  let c0_i32_14 : BitVec 32 := 0#32
  let v20 : BitVec 1 := Scalar.cmpi .sgt c1_i32 c0_i32_14
  let v21 : BitVec 32 := Scalar.extui v20
  let c0_i32_15 : BitVec 32 := 0#32
  let v22 : BitVec 1 := Scalar.cmpi .slt c1_i32 c0_i32_15
  let v23 : BitVec 32 := Scalar.extui v22
  let v24 : BitVec 32 := Scalar.subi v21 v23
  let v25 : BitVec 1 := Scalar.cmpi .ne v19 v24
  let v26 : BitVec 32 := Scalar.remsi arg2 c1_i32
  let c0_i32_16 : BitVec 32 := 0#32
  let v27 : BitVec 1 := Scalar.cmpi .ne v26 c0_i32_16
  let v28 : BitVec 1 := Scalar.andi v25 v27
  let v14 : BitVec 32 := Scalar.divsi arg2 c1_i32
  let c1_i32_17 : BitVec 32 := 1#32
  let v29 : BitVec 32 := Scalar.subi v14 c1_i32_17
  let v30 : BitVec 32 := Scalar.select v28 v29 v14
  let c2_i32_39 : BitVec 32 := 2#32
  let c0_i32_18 : BitVec 32 := 0#32
  let v32 : BitVec 1 := Scalar.cmpi .sgt v30 c0_i32_18
  let v33 : BitVec 32 := Scalar.extui v32
  let c0_i32_19 : BitVec 32 := 0#32
  let v34 : BitVec 1 := Scalar.cmpi .slt v30 c0_i32_19
  let v35 : BitVec 32 := Scalar.extui v34
  let v36 : BitVec 32 := Scalar.subi v33 v35
  let c2_i32 : BitVec 32 := 2#32
  let c0_i32_20 : BitVec 32 := 0#32
  let v37 : BitVec 1 := Scalar.cmpi .sgt c2_i32 c0_i32_20
  let v38 : BitVec 32 := Scalar.extui v37
  let c0_i32_21 : BitVec 32 := 0#32
  let v39 : BitVec 1 := Scalar.cmpi .slt c2_i32 c0_i32_21
  let v40 : BitVec 32 := Scalar.extui v39
  let v41 : BitVec 32 := Scalar.subi v38 v40
  let v42 : BitVec 1 := Scalar.cmpi .ne v36 v41
  let v43 : BitVec 32 := Scalar.remsi v30 c2_i32
  let c0_i32_22 : BitVec 32 := 0#32
  let v44 : BitVec 1 := Scalar.cmpi .ne v43 c0_i32_22
  let v45 : BitVec 1 := Scalar.andi v42 v44
  let v31 : BitVec 32 := Scalar.divsi v30 c2_i32
  let c1_i32_23 : BitVec 32 := 1#32
  let v46 : BitVec 32 := Scalar.subi v31 c1_i32_23
  let v47 : BitVec 32 := Scalar.select v45 v46 v31
  let v69 : BitVec 32 := Scalar.muli c2_i32_39 v47
  let v70 : BitVec 1 := Scalar.cmpi .eq v30 v69
  let v71 : BitVec 32 := Scalar.extui v70
  let c0_i32_40 : BitVec 32 := 0#32
  let v72 : BitVec 1 := Scalar.cmpi .ne v71 c0_i32_40
  v72

def k0_mult10 (i : grid0.Coords) : BitVec 32 :=
  let c2_i32_39 : BitVec 32 := 2#32
  let arg2 : BitVec 32 := BitVec.ofNat 32 (i 2).val
  let c0_i32 : BitVec 32 := 0#32
  let v15 : BitVec 1 := Scalar.cmpi .sgt arg2 c0_i32
  let v16 : BitVec 32 := Scalar.extui v15
  let c0_i32_13 : BitVec 32 := 0#32
  let v17 : BitVec 1 := Scalar.cmpi .slt arg2 c0_i32_13
  let v18 : BitVec 32 := Scalar.extui v17
  let v19 : BitVec 32 := Scalar.subi v16 v18
  let c1_i32 : BitVec 32 := 1#32
  let c0_i32_14 : BitVec 32 := 0#32
  let v20 : BitVec 1 := Scalar.cmpi .sgt c1_i32 c0_i32_14
  let v21 : BitVec 32 := Scalar.extui v20
  let c0_i32_15 : BitVec 32 := 0#32
  let v22 : BitVec 1 := Scalar.cmpi .slt c1_i32 c0_i32_15
  let v23 : BitVec 32 := Scalar.extui v22
  let v24 : BitVec 32 := Scalar.subi v21 v23
  let v25 : BitVec 1 := Scalar.cmpi .ne v19 v24
  let v26 : BitVec 32 := Scalar.remsi arg2 c1_i32
  let c0_i32_16 : BitVec 32 := 0#32
  let v27 : BitVec 1 := Scalar.cmpi .ne v26 c0_i32_16
  let v28 : BitVec 1 := Scalar.andi v25 v27
  let v14 : BitVec 32 := Scalar.divsi arg2 c1_i32
  let c1_i32_17 : BitVec 32 := 1#32
  let v29 : BitVec 32 := Scalar.subi v14 c1_i32_17
  let v30 : BitVec 32 := Scalar.select v28 v29 v14
  let c0_i32_18 : BitVec 32 := 0#32
  let v32 : BitVec 1 := Scalar.cmpi .sgt v30 c0_i32_18
  let v33 : BitVec 32 := Scalar.extui v32
  let c0_i32_19 : BitVec 32 := 0#32
  let v34 : BitVec 1 := Scalar.cmpi .slt v30 c0_i32_19
  let v35 : BitVec 32 := Scalar.extui v34
  let v36 : BitVec 32 := Scalar.subi v33 v35
  let c2_i32 : BitVec 32 := 2#32
  let c0_i32_20 : BitVec 32 := 0#32
  let v37 : BitVec 1 := Scalar.cmpi .sgt c2_i32 c0_i32_20
  let v38 : BitVec 32 := Scalar.extui v37
  let c0_i32_21 : BitVec 32 := 0#32
  let v39 : BitVec 1 := Scalar.cmpi .slt c2_i32 c0_i32_21
  let v40 : BitVec 32 := Scalar.extui v39
  let v41 : BitVec 32 := Scalar.subi v38 v40
  let v42 : BitVec 1 := Scalar.cmpi .ne v36 v41
  let v43 : BitVec 32 := Scalar.remsi v30 c2_i32
  let c0_i32_22 : BitVec 32 := 0#32
  let v44 : BitVec 1 := Scalar.cmpi .ne v43 c0_i32_22
  let v45 : BitVec 1 := Scalar.andi v42 v44
  let v31 : BitVec 32 := Scalar.divsi v30 c2_i32
  let c1_i32_23 : BitVec 32 := 1#32
  let v46 : BitVec 32 := Scalar.subi v31 c1_i32_23
  let v47 : BitVec 32 := Scalar.select v45 v46 v31
  let v69 : BitVec 32 := Scalar.muli c2_i32_39 v47
  let c512_i32 : BitVec 32 := 512#32
  let v96 : BitVec 32 := Scalar.muli v69 c512_i32
  v96
def k0_off7 (i : grid0.Coords) : Fin 3 → Nat :=
  let c0_52 : Index := 0#32
  let c2_i32_39 : BitVec 32 := 2#32
  let arg2 : BitVec 32 := BitVec.ofNat 32 (i 2).val
  let c0_i32 : BitVec 32 := 0#32
  let v15 : BitVec 1 := Scalar.cmpi .sgt arg2 c0_i32
  let v16 : BitVec 32 := Scalar.extui v15
  let c0_i32_13 : BitVec 32 := 0#32
  let v17 : BitVec 1 := Scalar.cmpi .slt arg2 c0_i32_13
  let v18 : BitVec 32 := Scalar.extui v17
  let v19 : BitVec 32 := Scalar.subi v16 v18
  let c1_i32 : BitVec 32 := 1#32
  let c0_i32_14 : BitVec 32 := 0#32
  let v20 : BitVec 1 := Scalar.cmpi .sgt c1_i32 c0_i32_14
  let v21 : BitVec 32 := Scalar.extui v20
  let c0_i32_15 : BitVec 32 := 0#32
  let v22 : BitVec 1 := Scalar.cmpi .slt c1_i32 c0_i32_15
  let v23 : BitVec 32 := Scalar.extui v22
  let v24 : BitVec 32 := Scalar.subi v21 v23
  let v25 : BitVec 1 := Scalar.cmpi .ne v19 v24
  let v26 : BitVec 32 := Scalar.remsi arg2 c1_i32
  let c0_i32_16 : BitVec 32 := 0#32
  let v27 : BitVec 1 := Scalar.cmpi .ne v26 c0_i32_16
  let v28 : BitVec 1 := Scalar.andi v25 v27
  let v14 : BitVec 32 := Scalar.divsi arg2 c1_i32
  let c1_i32_17 : BitVec 32 := 1#32
  let v29 : BitVec 32 := Scalar.subi v14 c1_i32_17
  let v30 : BitVec 32 := Scalar.select v28 v29 v14
  let c0_i32_18 : BitVec 32 := 0#32
  let v32 : BitVec 1 := Scalar.cmpi .sgt v30 c0_i32_18
  let v33 : BitVec 32 := Scalar.extui v32
  let c0_i32_19 : BitVec 32 := 0#32
  let v34 : BitVec 1 := Scalar.cmpi .slt v30 c0_i32_19
  let v35 : BitVec 32 := Scalar.extui v34
  let v36 : BitVec 32 := Scalar.subi v33 v35
  let c2_i32 : BitVec 32 := 2#32
  let c0_i32_20 : BitVec 32 := 0#32
  let v37 : BitVec 1 := Scalar.cmpi .sgt c2_i32 c0_i32_20
  let v38 : BitVec 32 := Scalar.extui v37
  let c0_i32_21 : BitVec 32 := 0#32
  let v39 : BitVec 1 := Scalar.cmpi .slt c2_i32 c0_i32_21
  let v40 : BitVec 32 := Scalar.extui v39
  let v41 : BitVec 32 := Scalar.subi v38 v40
  let v42 : BitVec 1 := Scalar.cmpi .ne v36 v41
  let v43 : BitVec 32 := Scalar.remsi v30 c2_i32
  let c0_i32_22 : BitVec 32 := 0#32
  let v44 : BitVec 1 := Scalar.cmpi .ne v43 c0_i32_22
  let v45 : BitVec 1 := Scalar.andi v42 v44
  let v31 : BitVec 32 := Scalar.divsi v30 c2_i32
  let c1_i32_23 : BitVec 32 := 1#32
  let v46 : BitVec 32 := Scalar.subi v31 c1_i32_23
  let v47 : BitVec 32 := Scalar.select v45 v46 v31
  let v69 : BitVec 32 := Scalar.muli c2_i32_39 v47
  let c512_i32 : BitVec 32 := 512#32
  let v96 : BitVec 32 := Scalar.muli v69 c512_i32
  let v97 : BitVec 32 := v96
  let v98 : Index := Scalar.indexCast v97
  let c0_53 : Index := 0#32
  ![0, v98.toNat, 0]
def k0_cond2 (i : grid0.Coords) : BitVec 1 :=
  let arg2 : BitVec 32 := BitVec.ofNat 32 (i 2).val
  let c0_i32 : BitVec 32 := 0#32
  let v15 : BitVec 1 := Scalar.cmpi .sgt arg2 c0_i32
  let v16 : BitVec 32 := Scalar.extui v15
  let c0_i32_13 : BitVec 32 := 0#32
  let v17 : BitVec 1 := Scalar.cmpi .slt arg2 c0_i32_13
  let v18 : BitVec 32 := Scalar.extui v17
  let v19 : BitVec 32 := Scalar.subi v16 v18
  let c1_i32 : BitVec 32 := 1#32
  let c0_i32_14 : BitVec 32 := 0#32
  let v20 : BitVec 1 := Scalar.cmpi .sgt c1_i32 c0_i32_14
  let v21 : BitVec 32 := Scalar.extui v20
  let c0_i32_15 : BitVec 32 := 0#32
  let v22 : BitVec 1 := Scalar.cmpi .slt c1_i32 c0_i32_15
  let v23 : BitVec 32 := Scalar.extui v22
  let v24 : BitVec 32 := Scalar.subi v21 v23
  let v25 : BitVec 1 := Scalar.cmpi .ne v19 v24
  let v26 : BitVec 32 := Scalar.remsi arg2 c1_i32
  let c0_i32_16 : BitVec 32 := 0#32
  let v27 : BitVec 1 := Scalar.cmpi .ne v26 c0_i32_16
  let v28 : BitVec 1 := Scalar.andi v25 v27
  let v14 : BitVec 32 := Scalar.divsi arg2 c1_i32
  let c1_i32_17 : BitVec 32 := 1#32
  let v29 : BitVec 32 := Scalar.subi v14 c1_i32_17
  let v30 : BitVec 32 := Scalar.select v28 v29 v14
  let c2_i32_39 : BitVec 32 := 2#32
  let c0_i32_18 : BitVec 32 := 0#32
  let v32 : BitVec 1 := Scalar.cmpi .sgt v30 c0_i32_18
  let v33 : BitVec 32 := Scalar.extui v32
  let c0_i32_19 : BitVec 32 := 0#32
  let v34 : BitVec 1 := Scalar.cmpi .slt v30 c0_i32_19
  let v35 : BitVec 32 := Scalar.extui v34
  let v36 : BitVec 32 := Scalar.subi v33 v35
  let c2_i32 : BitVec 32 := 2#32
  let c0_i32_20 : BitVec 32 := 0#32
  let v37 : BitVec 1 := Scalar.cmpi .sgt c2_i32 c0_i32_20
  let v38 : BitVec 32 := Scalar.extui v37
  let c0_i32_21 : BitVec 32 := 0#32
  let v39 : BitVec 1 := Scalar.cmpi .slt c2_i32 c0_i32_21
  let v40 : BitVec 32 := Scalar.extui v39
  let v41 : BitVec 32 := Scalar.subi v38 v40
  let v42 : BitVec 1 := Scalar.cmpi .ne v36 v41
  let v43 : BitVec 32 := Scalar.remsi v30 c2_i32
  let c0_i32_22 : BitVec 32 := 0#32
  let v44 : BitVec 1 := Scalar.cmpi .ne v43 c0_i32_22
  let v45 : BitVec 1 := Scalar.andi v42 v44
  let v31 : BitVec 32 := Scalar.divsi v30 c2_i32
  let c1_i32_23 : BitVec 32 := 1#32
  let v46 : BitVec 32 := Scalar.subi v31 c1_i32_23
  let v47 : BitVec 32 := Scalar.select v45 v46 v31
  let v69 : BitVec 32 := Scalar.muli c2_i32_39 v47
  let v73 : BitVec 1 := Scalar.cmpi .ne v30 v69
  let v74 : BitVec 32 := Scalar.extui v73
  let c0_i32_41 : BitVec 32 := 0#32
  let v75 : BitVec 1 := Scalar.cmpi .ne v74 c0_i32_41
  v75

def k0_mult11 (i : grid0.Coords) : BitVec 32 :=
  let c2_i32_39 : BitVec 32 := 2#32
  let arg2 : BitVec 32 := BitVec.ofNat 32 (i 2).val
  let c0_i32 : BitVec 32 := 0#32
  let v15 : BitVec 1 := Scalar.cmpi .sgt arg2 c0_i32
  let v16 : BitVec 32 := Scalar.extui v15
  let c0_i32_13 : BitVec 32 := 0#32
  let v17 : BitVec 1 := Scalar.cmpi .slt arg2 c0_i32_13
  let v18 : BitVec 32 := Scalar.extui v17
  let v19 : BitVec 32 := Scalar.subi v16 v18
  let c1_i32 : BitVec 32 := 1#32
  let c0_i32_14 : BitVec 32 := 0#32
  let v20 : BitVec 1 := Scalar.cmpi .sgt c1_i32 c0_i32_14
  let v21 : BitVec 32 := Scalar.extui v20
  let c0_i32_15 : BitVec 32 := 0#32
  let v22 : BitVec 1 := Scalar.cmpi .slt c1_i32 c0_i32_15
  let v23 : BitVec 32 := Scalar.extui v22
  let v24 : BitVec 32 := Scalar.subi v21 v23
  let v25 : BitVec 1 := Scalar.cmpi .ne v19 v24
  let v26 : BitVec 32 := Scalar.remsi arg2 c1_i32
  let c0_i32_16 : BitVec 32 := 0#32
  let v27 : BitVec 1 := Scalar.cmpi .ne v26 c0_i32_16
  let v28 : BitVec 1 := Scalar.andi v25 v27
  let v14 : BitVec 32 := Scalar.divsi arg2 c1_i32
  let c1_i32_17 : BitVec 32 := 1#32
  let v29 : BitVec 32 := Scalar.subi v14 c1_i32_17
  let v30 : BitVec 32 := Scalar.select v28 v29 v14
  let c0_i32_18 : BitVec 32 := 0#32
  let v32 : BitVec 1 := Scalar.cmpi .sgt v30 c0_i32_18
  let v33 : BitVec 32 := Scalar.extui v32
  let c0_i32_19 : BitVec 32 := 0#32
  let v34 : BitVec 1 := Scalar.cmpi .slt v30 c0_i32_19
  let v35 : BitVec 32 := Scalar.extui v34
  let v36 : BitVec 32 := Scalar.subi v33 v35
  let c2_i32 : BitVec 32 := 2#32
  let c0_i32_20 : BitVec 32 := 0#32
  let v37 : BitVec 1 := Scalar.cmpi .sgt c2_i32 c0_i32_20
  let v38 : BitVec 32 := Scalar.extui v37
  let c0_i32_21 : BitVec 32 := 0#32
  let v39 : BitVec 1 := Scalar.cmpi .slt c2_i32 c0_i32_21
  let v40 : BitVec 32 := Scalar.extui v39
  let v41 : BitVec 32 := Scalar.subi v38 v40
  let v42 : BitVec 1 := Scalar.cmpi .ne v36 v41
  let v43 : BitVec 32 := Scalar.remsi v30 c2_i32
  let c0_i32_22 : BitVec 32 := 0#32
  let v44 : BitVec 1 := Scalar.cmpi .ne v43 c0_i32_22
  let v45 : BitVec 1 := Scalar.andi v42 v44
  let v31 : BitVec 32 := Scalar.divsi v30 c2_i32
  let c1_i32_23 : BitVec 32 := 1#32
  let v46 : BitVec 32 := Scalar.subi v31 c1_i32_23
  let v47 : BitVec 32 := Scalar.select v45 v46 v31
  let v69 : BitVec 32 := Scalar.muli c2_i32_39 v47
  let c1_i32_52 : BitVec 32 := 1#32
  let v96 : BitVec 32 := Scalar.addi v69 c1_i32_52
  let c512_i32 : BitVec 32 := 512#32
  let v97 : BitVec 32 := Scalar.muli v96 c512_i32
  v97
def k0_off8 (i : grid0.Coords) : Fin 3 → Nat :=
  let c0_53 : Index := 0#32
  let c2_i32_39 : BitVec 32 := 2#32
  let arg2 : BitVec 32 := BitVec.ofNat 32 (i 2).val
  let c0_i32 : BitVec 32 := 0#32
  let v15 : BitVec 1 := Scalar.cmpi .sgt arg2 c0_i32
  let v16 : BitVec 32 := Scalar.extui v15
  let c0_i32_13 : BitVec 32 := 0#32
  let v17 : BitVec 1 := Scalar.cmpi .slt arg2 c0_i32_13
  let v18 : BitVec 32 := Scalar.extui v17
  let v19 : BitVec 32 := Scalar.subi v16 v18
  let c1_i32 : BitVec 32 := 1#32
  let c0_i32_14 : BitVec 32 := 0#32
  let v20 : BitVec 1 := Scalar.cmpi .sgt c1_i32 c0_i32_14
  let v21 : BitVec 32 := Scalar.extui v20
  let c0_i32_15 : BitVec 32 := 0#32
  let v22 : BitVec 1 := Scalar.cmpi .slt c1_i32 c0_i32_15
  let v23 : BitVec 32 := Scalar.extui v22
  let v24 : BitVec 32 := Scalar.subi v21 v23
  let v25 : BitVec 1 := Scalar.cmpi .ne v19 v24
  let v26 : BitVec 32 := Scalar.remsi arg2 c1_i32
  let c0_i32_16 : BitVec 32 := 0#32
  let v27 : BitVec 1 := Scalar.cmpi .ne v26 c0_i32_16
  let v28 : BitVec 1 := Scalar.andi v25 v27
  let v14 : BitVec 32 := Scalar.divsi arg2 c1_i32
  let c1_i32_17 : BitVec 32 := 1#32
  let v29 : BitVec 32 := Scalar.subi v14 c1_i32_17
  let v30 : BitVec 32 := Scalar.select v28 v29 v14
  let c0_i32_18 : BitVec 32 := 0#32
  let v32 : BitVec 1 := Scalar.cmpi .sgt v30 c0_i32_18
  let v33 : BitVec 32 := Scalar.extui v32
  let c0_i32_19 : BitVec 32 := 0#32
  let v34 : BitVec 1 := Scalar.cmpi .slt v30 c0_i32_19
  let v35 : BitVec 32 := Scalar.extui v34
  let v36 : BitVec 32 := Scalar.subi v33 v35
  let c2_i32 : BitVec 32 := 2#32
  let c0_i32_20 : BitVec 32 := 0#32
  let v37 : BitVec 1 := Scalar.cmpi .sgt c2_i32 c0_i32_20
  let v38 : BitVec 32 := Scalar.extui v37
  let c0_i32_21 : BitVec 32 := 0#32
  let v39 : BitVec 1 := Scalar.cmpi .slt c2_i32 c0_i32_21
  let v40 : BitVec 32 := Scalar.extui v39
  let v41 : BitVec 32 := Scalar.subi v38 v40
  let v42 : BitVec 1 := Scalar.cmpi .ne v36 v41
  let v43 : BitVec 32 := Scalar.remsi v30 c2_i32
  let c0_i32_22 : BitVec 32 := 0#32
  let v44 : BitVec 1 := Scalar.cmpi .ne v43 c0_i32_22
  let v45 : BitVec 1 := Scalar.andi v42 v44
  let v31 : BitVec 32 := Scalar.divsi v30 c2_i32
  let c1_i32_23 : BitVec 32 := 1#32
  let v46 : BitVec 32 := Scalar.subi v31 c1_i32_23
  let v47 : BitVec 32 := Scalar.select v45 v46 v31
  let v69 : BitVec 32 := Scalar.muli c2_i32_39 v47
  let c1_i32_52 : BitVec 32 := 1#32
  let v96 : BitVec 32 := Scalar.addi v69 c1_i32_52
  let c512_i32 : BitVec 32 := 512#32
  let v97 : BitVec 32 := Scalar.muli v96 c512_i32
  let v98 : BitVec 32 := v97
  let v99 : Index := Scalar.indexCast v98
  let c0_54 : Index := 0#32
  ![0, v99.toNat, 0]
def k0_mult12 (i : grid0.Coords) : BitVec 32 :=
  let c2_i32_39 : BitVec 32 := 2#32
  let arg2 : BitVec 32 := BitVec.ofNat 32 (i 2).val
  let c0_i32 : BitVec 32 := 0#32
  let v15 : BitVec 1 := Scalar.cmpi .sgt arg2 c0_i32
  let v16 : BitVec 32 := Scalar.extui v15
  let c0_i32_13 : BitVec 32 := 0#32
  let v17 : BitVec 1 := Scalar.cmpi .slt arg2 c0_i32_13
  let v18 : BitVec 32 := Scalar.extui v17
  let v19 : BitVec 32 := Scalar.subi v16 v18
  let c1_i32 : BitVec 32 := 1#32
  let c0_i32_14 : BitVec 32 := 0#32
  let v20 : BitVec 1 := Scalar.cmpi .sgt c1_i32 c0_i32_14
  let v21 : BitVec 32 := Scalar.extui v20
  let c0_i32_15 : BitVec 32 := 0#32
  let v22 : BitVec 1 := Scalar.cmpi .slt c1_i32 c0_i32_15
  let v23 : BitVec 32 := Scalar.extui v22
  let v24 : BitVec 32 := Scalar.subi v21 v23
  let v25 : BitVec 1 := Scalar.cmpi .ne v19 v24
  let v26 : BitVec 32 := Scalar.remsi arg2 c1_i32
  let c0_i32_16 : BitVec 32 := 0#32
  let v27 : BitVec 1 := Scalar.cmpi .ne v26 c0_i32_16
  let v28 : BitVec 1 := Scalar.andi v25 v27
  let v14 : BitVec 32 := Scalar.divsi arg2 c1_i32
  let c1_i32_17 : BitVec 32 := 1#32
  let v29 : BitVec 32 := Scalar.subi v14 c1_i32_17
  let v30 : BitVec 32 := Scalar.select v28 v29 v14
  let c0_i32_18 : BitVec 32 := 0#32
  let v32 : BitVec 1 := Scalar.cmpi .sgt v30 c0_i32_18
  let v33 : BitVec 32 := Scalar.extui v32
  let c0_i32_19 : BitVec 32 := 0#32
  let v34 : BitVec 1 := Scalar.cmpi .slt v30 c0_i32_19
  let v35 : BitVec 32 := Scalar.extui v34
  let v36 : BitVec 32 := Scalar.subi v33 v35
  let c2_i32 : BitVec 32 := 2#32
  let c0_i32_20 : BitVec 32 := 0#32
  let v37 : BitVec 1 := Scalar.cmpi .sgt c2_i32 c0_i32_20
  let v38 : BitVec 32 := Scalar.extui v37
  let c0_i32_21 : BitVec 32 := 0#32
  let v39 : BitVec 1 := Scalar.cmpi .slt c2_i32 c0_i32_21
  let v40 : BitVec 32 := Scalar.extui v39
  let v41 : BitVec 32 := Scalar.subi v38 v40
  let v42 : BitVec 1 := Scalar.cmpi .ne v36 v41
  let v43 : BitVec 32 := Scalar.remsi v30 c2_i32
  let c0_i32_22 : BitVec 32 := 0#32
  let v44 : BitVec 1 := Scalar.cmpi .ne v43 c0_i32_22
  let v45 : BitVec 1 := Scalar.andi v42 v44
  let v31 : BitVec 32 := Scalar.divsi v30 c2_i32
  let c1_i32_23 : BitVec 32 := 1#32
  let v46 : BitVec 32 := Scalar.subi v31 c1_i32_23
  let v47 : BitVec 32 := Scalar.select v45 v46 v31
  let v69 : BitVec 32 := Scalar.muli c2_i32_39 v47
  let c512_i32_63 : BitVec 32 := 512#32
  let v114 : BitVec 32 := Scalar.muli v69 c512_i32_63
  v114
def k0_off9 (i : grid0.Coords) : Fin 3 → Nat :=
  let c0_64 : Index := 0#32
  let c2_i32_39 : BitVec 32 := 2#32
  let arg2 : BitVec 32 := BitVec.ofNat 32 (i 2).val
  let c0_i32 : BitVec 32 := 0#32
  let v15 : BitVec 1 := Scalar.cmpi .sgt arg2 c0_i32
  let v16 : BitVec 32 := Scalar.extui v15
  let c0_i32_13 : BitVec 32 := 0#32
  let v17 : BitVec 1 := Scalar.cmpi .slt arg2 c0_i32_13
  let v18 : BitVec 32 := Scalar.extui v17
  let v19 : BitVec 32 := Scalar.subi v16 v18
  let c1_i32 : BitVec 32 := 1#32
  let c0_i32_14 : BitVec 32 := 0#32
  let v20 : BitVec 1 := Scalar.cmpi .sgt c1_i32 c0_i32_14
  let v21 : BitVec 32 := Scalar.extui v20
  let c0_i32_15 : BitVec 32 := 0#32
  let v22 : BitVec 1 := Scalar.cmpi .slt c1_i32 c0_i32_15
  let v23 : BitVec 32 := Scalar.extui v22
  let v24 : BitVec 32 := Scalar.subi v21 v23
  let v25 : BitVec 1 := Scalar.cmpi .ne v19 v24
  let v26 : BitVec 32 := Scalar.remsi arg2 c1_i32
  let c0_i32_16 : BitVec 32 := 0#32
  let v27 : BitVec 1 := Scalar.cmpi .ne v26 c0_i32_16
  let v28 : BitVec 1 := Scalar.andi v25 v27
  let v14 : BitVec 32 := Scalar.divsi arg2 c1_i32
  let c1_i32_17 : BitVec 32 := 1#32
  let v29 : BitVec 32 := Scalar.subi v14 c1_i32_17
  let v30 : BitVec 32 := Scalar.select v28 v29 v14
  let c0_i32_18 : BitVec 32 := 0#32
  let v32 : BitVec 1 := Scalar.cmpi .sgt v30 c0_i32_18
  let v33 : BitVec 32 := Scalar.extui v32
  let c0_i32_19 : BitVec 32 := 0#32
  let v34 : BitVec 1 := Scalar.cmpi .slt v30 c0_i32_19
  let v35 : BitVec 32 := Scalar.extui v34
  let v36 : BitVec 32 := Scalar.subi v33 v35
  let c2_i32 : BitVec 32 := 2#32
  let c0_i32_20 : BitVec 32 := 0#32
  let v37 : BitVec 1 := Scalar.cmpi .sgt c2_i32 c0_i32_20
  let v38 : BitVec 32 := Scalar.extui v37
  let c0_i32_21 : BitVec 32 := 0#32
  let v39 : BitVec 1 := Scalar.cmpi .slt c2_i32 c0_i32_21
  let v40 : BitVec 32 := Scalar.extui v39
  let v41 : BitVec 32 := Scalar.subi v38 v40
  let v42 : BitVec 1 := Scalar.cmpi .ne v36 v41
  let v43 : BitVec 32 := Scalar.remsi v30 c2_i32
  let c0_i32_22 : BitVec 32 := 0#32
  let v44 : BitVec 1 := Scalar.cmpi .ne v43 c0_i32_22
  let v45 : BitVec 1 := Scalar.andi v42 v44
  let v31 : BitVec 32 := Scalar.divsi v30 c2_i32
  let c1_i32_23 : BitVec 32 := 1#32
  let v46 : BitVec 32 := Scalar.subi v31 c1_i32_23
  let v47 : BitVec 32 := Scalar.select v45 v46 v31
  let v69 : BitVec 32 := Scalar.muli c2_i32_39 v47
  let c512_i32_63 : BitVec 32 := 512#32
  let v114 : BitVec 32 := Scalar.muli v69 c512_i32_63
  let v115 : BitVec 32 := v114
  let v116 : Index := Scalar.indexCast v115
  let c0_65 : Index := 0#32
  ![0, v116.toNat, 0]
def k0_mult13 (i : grid0.Coords) : BitVec 32 :=
  let c2_i32_39 : BitVec 32 := 2#32
  let arg2 : BitVec 32 := BitVec.ofNat 32 (i 2).val
  let c0_i32 : BitVec 32 := 0#32
  let v15 : BitVec 1 := Scalar.cmpi .sgt arg2 c0_i32
  let v16 : BitVec 32 := Scalar.extui v15
  let c0_i32_13 : BitVec 32 := 0#32
  let v17 : BitVec 1 := Scalar.cmpi .slt arg2 c0_i32_13
  let v18 : BitVec 32 := Scalar.extui v17
  let v19 : BitVec 32 := Scalar.subi v16 v18
  let c1_i32 : BitVec 32 := 1#32
  let c0_i32_14 : BitVec 32 := 0#32
  let v20 : BitVec 1 := Scalar.cmpi .sgt c1_i32 c0_i32_14
  let v21 : BitVec 32 := Scalar.extui v20
  let c0_i32_15 : BitVec 32 := 0#32
  let v22 : BitVec 1 := Scalar.cmpi .slt c1_i32 c0_i32_15
  let v23 : BitVec 32 := Scalar.extui v22
  let v24 : BitVec 32 := Scalar.subi v21 v23
  let v25 : BitVec 1 := Scalar.cmpi .ne v19 v24
  let v26 : BitVec 32 := Scalar.remsi arg2 c1_i32
  let c0_i32_16 : BitVec 32 := 0#32
  let v27 : BitVec 1 := Scalar.cmpi .ne v26 c0_i32_16
  let v28 : BitVec 1 := Scalar.andi v25 v27
  let v14 : BitVec 32 := Scalar.divsi arg2 c1_i32
  let c1_i32_17 : BitVec 32 := 1#32
  let v29 : BitVec 32 := Scalar.subi v14 c1_i32_17
  let v30 : BitVec 32 := Scalar.select v28 v29 v14
  let c0_i32_18 : BitVec 32 := 0#32
  let v32 : BitVec 1 := Scalar.cmpi .sgt v30 c0_i32_18
  let v33 : BitVec 32 := Scalar.extui v32
  let c0_i32_19 : BitVec 32 := 0#32
  let v34 : BitVec 1 := Scalar.cmpi .slt v30 c0_i32_19
  let v35 : BitVec 32 := Scalar.extui v34
  let v36 : BitVec 32 := Scalar.subi v33 v35
  let c2_i32 : BitVec 32 := 2#32
  let c0_i32_20 : BitVec 32 := 0#32
  let v37 : BitVec 1 := Scalar.cmpi .sgt c2_i32 c0_i32_20
  let v38 : BitVec 32 := Scalar.extui v37
  let c0_i32_21 : BitVec 32 := 0#32
  let v39 : BitVec 1 := Scalar.cmpi .slt c2_i32 c0_i32_21
  let v40 : BitVec 32 := Scalar.extui v39
  let v41 : BitVec 32 := Scalar.subi v38 v40
  let v42 : BitVec 1 := Scalar.cmpi .ne v36 v41
  let v43 : BitVec 32 := Scalar.remsi v30 c2_i32
  let c0_i32_22 : BitVec 32 := 0#32
  let v44 : BitVec 1 := Scalar.cmpi .ne v43 c0_i32_22
  let v45 : BitVec 1 := Scalar.andi v42 v44
  let v31 : BitVec 32 := Scalar.divsi v30 c2_i32
  let c1_i32_23 : BitVec 32 := 1#32
  let v46 : BitVec 32 := Scalar.subi v31 c1_i32_23
  let v47 : BitVec 32 := Scalar.select v45 v46 v31
  let v69 : BitVec 32 := Scalar.muli c2_i32_39 v47
  let c1_i32_112 : BitVec 32 := 1#32
  let v215 : BitVec 32 := Scalar.addi v69 c1_i32_112
  let c512_i32_113 : BitVec 32 := 512#32
  let v216 : BitVec 32 := Scalar.muli v215 c512_i32_113
  v216
def k0_off10 (i : grid0.Coords) : Fin 3 → Nat :=
  let c0_114 : Index := 0#32
  let c2_i32_39 : BitVec 32 := 2#32
  let arg2 : BitVec 32 := BitVec.ofNat 32 (i 2).val
  let c0_i32 : BitVec 32 := 0#32
  let v15 : BitVec 1 := Scalar.cmpi .sgt arg2 c0_i32
  let v16 : BitVec 32 := Scalar.extui v15
  let c0_i32_13 : BitVec 32 := 0#32
  let v17 : BitVec 1 := Scalar.cmpi .slt arg2 c0_i32_13
  let v18 : BitVec 32 := Scalar.extui v17
  let v19 : BitVec 32 := Scalar.subi v16 v18
  let c1_i32 : BitVec 32 := 1#32
  let c0_i32_14 : BitVec 32 := 0#32
  let v20 : BitVec 1 := Scalar.cmpi .sgt c1_i32 c0_i32_14
  let v21 : BitVec 32 := Scalar.extui v20
  let c0_i32_15 : BitVec 32 := 0#32
  let v22 : BitVec 1 := Scalar.cmpi .slt c1_i32 c0_i32_15
  let v23 : BitVec 32 := Scalar.extui v22
  let v24 : BitVec 32 := Scalar.subi v21 v23
  let v25 : BitVec 1 := Scalar.cmpi .ne v19 v24
  let v26 : BitVec 32 := Scalar.remsi arg2 c1_i32
  let c0_i32_16 : BitVec 32 := 0#32
  let v27 : BitVec 1 := Scalar.cmpi .ne v26 c0_i32_16
  let v28 : BitVec 1 := Scalar.andi v25 v27
  let v14 : BitVec 32 := Scalar.divsi arg2 c1_i32
  let c1_i32_17 : BitVec 32 := 1#32
  let v29 : BitVec 32 := Scalar.subi v14 c1_i32_17
  let v30 : BitVec 32 := Scalar.select v28 v29 v14
  let c0_i32_18 : BitVec 32 := 0#32
  let v32 : BitVec 1 := Scalar.cmpi .sgt v30 c0_i32_18
  let v33 : BitVec 32 := Scalar.extui v32
  let c0_i32_19 : BitVec 32 := 0#32
  let v34 : BitVec 1 := Scalar.cmpi .slt v30 c0_i32_19
  let v35 : BitVec 32 := Scalar.extui v34
  let v36 : BitVec 32 := Scalar.subi v33 v35
  let c2_i32 : BitVec 32 := 2#32
  let c0_i32_20 : BitVec 32 := 0#32
  let v37 : BitVec 1 := Scalar.cmpi .sgt c2_i32 c0_i32_20
  let v38 : BitVec 32 := Scalar.extui v37
  let c0_i32_21 : BitVec 32 := 0#32
  let v39 : BitVec 1 := Scalar.cmpi .slt c2_i32 c0_i32_21
  let v40 : BitVec 32 := Scalar.extui v39
  let v41 : BitVec 32 := Scalar.subi v38 v40
  let v42 : BitVec 1 := Scalar.cmpi .ne v36 v41
  let v43 : BitVec 32 := Scalar.remsi v30 c2_i32
  let c0_i32_22 : BitVec 32 := 0#32
  let v44 : BitVec 1 := Scalar.cmpi .ne v43 c0_i32_22
  let v45 : BitVec 1 := Scalar.andi v42 v44
  let v31 : BitVec 32 := Scalar.divsi v30 c2_i32
  let c1_i32_23 : BitVec 32 := 1#32
  let v46 : BitVec 32 := Scalar.subi v31 c1_i32_23
  let v47 : BitVec 32 := Scalar.select v45 v46 v31
  let v69 : BitVec 32 := Scalar.muli c2_i32_39 v47
  let c1_i32_112 : BitVec 32 := 1#32
  let v215 : BitVec 32 := Scalar.addi v69 c1_i32_112
  let c512_i32_113 : BitVec 32 := 512#32
  let v216 : BitVec 32 := Scalar.muli v215 c512_i32_113
  let v217 : BitVec 32 := v216
  let v218 : Index := Scalar.indexCast v217
  let c0_115 : Index := 0#32
  ![0, v218.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S2x8192x1024 : Shape := ⟨3, ![2, 8192, 1024]⟩
abbrev S2x8192x512 : Shape := ⟨3, ![2, 8192, 512]⟩
abbrev S2x8192x8x128 : Shape := ⟨4, ![2, 8192, 8, 128]⟩
abbrev S2x8192x8x64 : Shape := ⟨4, ![2, 8192, 8, 64]⟩
abbrev S8192 : Shape := ⟨1, ![8192]⟩
abbrev S2x8x8192x8192 : Shape := ⟨4, ![2, 8, 8192, 8192]⟩
abbrev S1x8192 : Shape := ⟨2, ![1, 8192]⟩
abbrev S8192x1 : Shape := ⟨2, ![8192, 1]⟩
abbrev S8192x8192 : Shape := ⟨2, ![8192, 8192]⟩
abbrev S_ : Shape := ⟨0, ![]⟩
abbrev S2x8x8192 : Shape := ⟨3, ![2, 8, 8192]⟩
abbrev S2x8x8192x1 : Shape := ⟨4, ![2, 8, 8192, 1]⟩
abbrev S2x8x64x8192 : Shape := ⟨4, ![2, 8, 64, 8192]⟩

abbrev nBuf : Space → Nat
  | .hbm => 39
  | .vmem => 0
  | .smem => 0
  | _ => 0

abbrev bufTy : (tb : Table) → Fin (tcTables nBuf tb) → BufTy
  | .hbm, ⟨0, _⟩ => ⟨S2x8192x1024, .bf16⟩
  | .hbm, ⟨1, _⟩ => ⟨S2x8192x1024, .bf16⟩
  | .hbm, ⟨2, _⟩ => ⟨S2x8192x512, .bf16⟩
  | .hbm, ⟨3, _⟩ => ⟨S2x8192x1024, .f32⟩
  | .hbm, ⟨4, _⟩ => ⟨S2x8192x8x128, .f32⟩
  | .hbm, ⟨5, _⟩ => ⟨S2x8192x1024, .f32⟩
  | .hbm, ⟨6, _⟩ => ⟨S2x8192x8x128, .f32⟩
  | .hbm, ⟨7, _⟩ => ⟨S2x8192x512, .f32⟩
  | .hbm, ⟨8, _⟩ => ⟨S2x8192x8x64, .f32⟩
  | .hbm, ⟨9, _⟩ => ⟨S8192, .i32⟩
  | .hbm, ⟨10, _⟩ => ⟨S2x8x8192x8192, .f32⟩
  | .hbm, ⟨11, _⟩ => ⟨S1x8192, .i32⟩
  | .hbm, ⟨12, _⟩ => ⟨S8192x1, .i32⟩
  | .hbm, ⟨13, _⟩ => ⟨S8192x8192, .i32⟩
  | .hbm, ⟨14, _⟩ => ⟨S8192x8192, .i32⟩
  | .hbm, ⟨15, _⟩ => ⟨S8192x8192, .i1⟩
  | .hbm, ⟨16, _⟩ => ⟨S_, .f32⟩
  | .hbm, ⟨17, _⟩ => ⟨S_, .f32⟩
  | .hbm, ⟨18, _⟩ => ⟨S2x8x8192x8192, .i1⟩
  | .hbm, ⟨19, _⟩ => ⟨S2x8x8192x8192, .f32⟩
  | .hbm, ⟨20, _⟩ => ⟨S2x8x8192x8192, .f32⟩
  | .hbm, ⟨21, _⟩ => ⟨S_, .f32⟩
  | .hbm, ⟨22, _⟩ => ⟨S2x8x8192, .f32⟩
  | .hbm, ⟨23, _⟩ => ⟨S_, .f32⟩
  | .hbm, ⟨24, _⟩ => ⟨S2x8x8192, .f32⟩
  | .hbm, ⟨25, _⟩ => ⟨S2x8x8192, .f32⟩
  | .hbm, ⟨26, _⟩ => ⟨S2x8x8192x1, .f32⟩
  | .hbm, ⟨27, _⟩ => ⟨S2x8x8192x8192, .f32⟩
  | .hbm, ⟨28, _⟩ => ⟨S2x8x8192x8192, .f32⟩
  | .hbm, ⟨29, _⟩ => ⟨S2x8x8192x8192, .f32⟩
  | .hbm, ⟨30, _⟩ => ⟨S_, .f32⟩
  | .hbm, ⟨31, _⟩ => ⟨S2x8x8192, .f32⟩
  | .hbm, ⟨32, _⟩ => ⟨S2x8x8192x1, .f32⟩
  | .hbm, ⟨33, _⟩ => ⟨S2x8x8192x8192, .f32⟩
  | .hbm, ⟨34, _⟩ => ⟨S2x8x8192x8192, .f32⟩
  | .hbm, ⟨35, _⟩ => ⟨S2x8x64x8192, .f32⟩
  | .hbm, ⟨36, _⟩ => ⟨S2x8192x8x64, .f32⟩
  | .hbm, ⟨37, _⟩ => ⟨S2x8192x512, .f32⟩
  | .hbm, ⟨38, _⟩ => ⟨S2x8192x512, .bf16⟩
  | _, _ => ⟨S2x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== Kernel2.lean ====
abbrev S2x8192x256 : Shape := ⟨3, ![2, 8192, 256]⟩
abbrev S1 : Shape := ⟨1, ![1]⟩
abbrev S1x256 : Shape := ⟨2, ![1, 256]⟩
abbrev S1x512x128 : Shape := ⟨3, ![1, 512, 128]⟩
abbrev S1x8192x128 : Shape := ⟨3, ![1, 8192, 128]⟩
abbrev S1x128 : Shape := ⟨2, ![1, 128]⟩
abbrev S2048x128 : Shape := ⟨2, ![2048, 128]⟩
abbrev S2048x512 : Shape := ⟨2, ![2048, 512]⟩
abbrev S512x128 : Shape := ⟨2, ![512, 128]⟩
abbrev S2048 : Shape := ⟨1, ![2048]⟩
abbrev S2048x1 : Shape := ⟨2, ![2048, 1]⟩
abbrev S512 : Shape := ⟨1, ![512]⟩
abbrev S512x1 : Shape := ⟨2, ![512, 1]⟩

abbrev nBuf : Space → Nat
  | .hbm => 6
  | .vmem => 15
  | .smem => 1
  | _ => 0

abbrev bufTy : (tb : Table) → Fin (tcTables nBuf tb) → BufTy
  | .hbm, ⟨0, _⟩ => ⟨S2x8192x256, .bf16⟩
  | .hbm, ⟨1, _⟩ => ⟨S2x8192x256, .bf16⟩
  | .hbm, ⟨2, _⟩ => ⟨S2x8192x256, .bf16⟩
  | .hbm, ⟨3, _⟩ => ⟨S1, .f32⟩
  | .hbm, ⟨4, _⟩ => ⟨S1x256, .f32⟩
  | .hbm, ⟨5, _⟩ => ⟨S2x8192x256, .bf16⟩
  | .local _ .vmem, ⟨0, _⟩ => ⟨S1x512x128, .bf16⟩
  | .local _ .vmem, ⟨1, _⟩ => ⟨S1x512x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x128, .f32⟩
  | .local _ .vmem, ⟨7, _⟩ => ⟨S1x128, .f32⟩
  | .local _ .vmem, ⟨8, _⟩ => ⟨S1x512x128, .bf16⟩
  | .local _ .vmem, ⟨9, _⟩ => ⟨S1x512x128, .bf16⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x512, .f32⟩
  | .local _ .vmem, ⟨14, _⟩ => ⟨S2048x512, .f32⟩
  | .local _ .smem, ⟨0, _⟩ => ⟨S1, .f32⟩
  | _, _ => ⟨S2x8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![2, 2, 16], ![false, false, false]⟩

def k0_mult1 : BitVec 32 :=
  let c0_i32_28 : BitVec 32 := 0#32
  c0_i32_28
@[reducible] def k0_t1_loop (i : grid0.Coords) : Scf.Loop 32 :=
  let c0_i32_35 : BitVec 32 := 0#32
  let arg2 : BitVec 32 := BitVec.ofNat 32 (i 2).val
  let c0_i32_15 : BitVec 32 := 0#32
  let v45 : BitVec 1 := Scalar.cmpi .sgt arg2 c0_i32_15
  let v46 : BitVec 32 := Scalar.extui v45
  let c0_i32_16 : BitVec 32 := 0#32
  let v47 : BitVec 1 := Scalar.cmpi .slt arg2 c0_i32_16
  let v48 : BitVec 32 := Scalar.extui v47
  let v49 : BitVec 32 := Scalar.subi v46 v48
  let c1_i32_14 : BitVec 32 := 1#32
  let c0_i32_17 : BitVec 32 := 0#32
  let v50 : BitVec 1 := Scalar.cmpi .sgt c1_i32_14 c0_i32_17
  let v51 : BitVec 32 := Scalar.extui v50
  let c0_i32_18 : BitVec 32 := 0#32
  let v52 : BitVec 1 := Scalar.cmpi .slt c1_i32_14 c0_i32_18
  let v53 : BitVec 32 := Scalar.extui v52
  let v54 : BitVec 32 := Scalar.subi v51 v53
  let v55 : BitVec 1 := Scalar.cmpi .ne v49 v54
  let v56 : BitVec 32 := Scalar.remsi arg2 c1_i32_14
  let c0_i32_19 : BitVec 32 := 0#32
  let v57 : BitVec 1 := Scalar.cmpi .ne v56 c0_i32_19
  let v58 : BitVec 1 := Scalar.andi v55 v57
  let v44 : BitVec 32 := Scalar.divsi arg2 c1_i32_14
  let c1_i32_20 : BitVec 32 := 1#32
  let v59 : BitVec 32 := Scalar.subi v44 c1_i32_20
  let v60 : BitVec 32 := Scalar.select v58 v59 v44
  let c0_i32_22 : BitVec 32 := 0#32
  let v62 : BitVec 1 := Scalar.cmpi .sgt v60 c0_i32_22
  let v63 : BitVec 32 := Scalar.extui v62
  let c0_i32_23 : BitVec 32 := 0#32
  let v64 : BitVec 1 := Scalar.cmpi .slt v60 c0_i32_23
  let v65 : BitVec 32 := Scalar.extui v64
  let v66 : BitVec 32 := Scalar.subi v63 v65
  let c2_i32_21 : BitVec 32 := 2#32
  let c0_i32_24 : BitVec 32 := 0#32
  let v67 : BitVec 1 := Scalar.cmpi .sgt c2_i32_21 c0_i32_24
  let v68 : BitVec 32 := Scalar.extui v67
  let c0_i32_25 : BitVec 32 := 0#32
  let v69 : BitVec 1 := Scalar.cmpi .slt c2_i32_21 c0_i32_25
  let v70 : BitVec 32 := Scalar.extui v69
  let v71 : BitVec 32 := Scalar.subi v68 v70
  let v72 : BitVec 1 := Scalar.cmpi .ne v66 v71
  let v73 : BitVec 32 := Scalar.remsi v60 c2_i32_21
  let c0_i32_26 : BitVec 32 := 0#32
  let v74 : BitVec 1 := Scalar.cmpi .ne v73 c0_i32_26
  let v75 : BitVec 1 := Scalar.andi v72 v74
  let v61 : BitVec 32 := Scalar.divsi v60 c2_i32_21
  let c1_i32_27 : BitVec 32 := 1#32
  let v76 : BitVec 32 := Scalar.subi v61 c1_i32_27
  let v77 : BitVec 32 := Scalar.select v75 v76 v61
  let v86 : BitVec 32 := Scalar.subi v77 c0_i32_35
  let c1_i32_36 : BitVec 32 := 1#32
  let v88 : BitVec 32 := Scalar.divsi v86 c1_i32_36
  let v89 : BitVec 32 := Scalar.muli v88 c1_i32_36
  let v90 : BitVec 32 := Scalar.addi c0_i32_35 v89
  let c1_i32_37 : BitVec 32 := 1#32
  ⟨c0_i32_35, v90, c1_i32_37⟩
def k0_mult2 (i : grid0.Coords) (k0_t1 : Fin (k0_t1_loop i).trips) : BitVec 32 :=
  let c2_i32_59 : BitVec 32 := 2#32
  let c0_i32_35 : BitVec 32 := 0#32
  let c1_i32_37 : BitVec 32 := 1#32
  let arg14 : BitVec 32 := Scf.iv c0_i32_35 c1_i32_37 k0_t1
  let v153 : BitVec 32 := Scalar.muli c2_i32_59 arg14
  let c1_i32_60 : BitVec 32 := 1#32
  let v154 : BitVec 32 := Scalar.addi v153 c1_i32_60
  let c512_i32 : BitVec 32 := 512#32
  let v155 : BitVec 32 := Scalar.muli v154 c512_i32
  v155
def k0_off1 (i : grid0.Coords) (k0_t1 : Fin (k0_t1_loop i).trips) (c1_i32_60 : BitVec 32) : Fin 3 → Nat :=
  let c0_61 : Index := 0#32
  let c2_i32_59 : BitVec 32 := 2#32
  let c0_i32_35 : BitVec 32 := 0#32
  let c1_i32_37 : BitVec 32 := 1#32
  let arg14 : BitVec 32 := Scf.iv c0_i32_35 c1_i32_37 k0_t1
  let v153 : BitVec 32 := Scalar.muli c2_i32_59 arg14
  let v154 : BitVec 32 := Scalar.addi v153 c1_i32_60
  let c512_i32 : BitVec 32 := 512#32
  let v155 : BitVec 32 := Scalar.muli v154 c512_i32
  let v156 : BitVec 32 := v155
  let v157 : Index := Scalar.indexCast v156
  let c0_62 : Index := 0#32
  ![0, v157.toNat, 0]
def k0_mult3 (i : grid0.Coords) (k0_t1 : Fin (k0_t1_loop i).trips) : BitVec 32 :=
  let c2_i32_59 : BitVec 32 := 2#32
  let c0_i32_35 : BitVec 32 := 0#32
  let c1_i32_37 : BitVec 32 := 1#32
  let arg14 : BitVec 32 := Scf.iv c0_i32_35 c1_i32_37 k0_t1
  let v153 : BitVec 32 := Scalar.muli c2_i32_59 arg14
  let c512_i32_66 : BitVec 32 := 512#32
  let v164 : BitVec 32 := Scalar.muli v153 c512_i32_66
  v164
def k0_off2 (i : grid0.Coords) (k0_t1 : Fin (k0_t1_loop i).trips) : Fin 3 → Nat :=
  let c0_67 : Index := 0#32
  let c2_i32_59 : BitVec 32 := 2#32
  let c0_i32_35 : BitVec 32 := 0#32
  let c1_i32_37 : BitVec 32 := 1#32
  let arg14 : BitVec 32 := Scf.iv c0_i32_35 c1_i32_37 k0_t1
  let v153 : BitVec 32 := Scalar.muli c2_i32_59 arg14
  let c512_i32_66 : BitVec 32 := 512#32
  let v164 : BitVec 32 := Scalar.muli v153 c512_i32_66
  let v165 : BitVec 32 := v164
  let v166 : Index := Scalar.indexCast v165
  let c0_68 : Index := 0#32
  ![0, v166.toNat, 0]
def k0_mult4 (i : grid0.Coords) (k0_t1 : Fin (k0_t1_loop i).trips) : BitVec 32 :=
  let c2_i32_59 : BitVec 32 := 2#32
  let c0_i32_35 : BitVec 32 := 0#32
  let c1_i32_37 : BitVec 32 := 1#32
  let arg14 : BitVec 32 := Scf.iv c0_i32_35 c1_i32_37 k0_t1
  let v153 : BitVec 32 := Scalar.muli c2_i32_59 arg14
  let c2_i32_85 : BitVec 32 := 2#32
  let v213 : BitVec 32 := Scalar.addi v153 c2_i32_85
  let c512_i32_86 : BitVec 32 := 512#32
  let v214 : BitVec 32 := Scalar.muli v213 c512_i32_86
  v214
def k0_mult5 (i : grid0.Coords) (k0_t1 : Fin (k0_t1_loop i).trips) : BitVec 32 :=
  let c2_i32_59 : BitVec 32 := 2#32
  let c0_i32_35 : BitVec 32 := 0#32
  let c1_i32_37 : BitVec 32 := 1#32
  let arg14 : BitVec 32 := Scf.iv c0_i32_35 c1_i32_37 k0_t1
  let v153 : BitVec 32 := Scalar.muli c2_i32_59 arg14
  let c1_i32_92 : BitVec 32 := 1#32
  let v223 : BitVec 32 := Scalar.addi v153 c1_i32_92
  let c512_i32_93 : BitVec 32 := 512#32
  let v224 : BitVec 32 := Scalar.muli v223 c512_i32_93
  v224
@[reducible] def k0_t2_loop (i : grid0.Coords) : Scf.Loop 32 :=
  let c0_i32_35 : BitVec 32 := 0#32
  let arg2 : BitVec 32 := BitVec.ofNat 32 (i 2).val
  let c0_i32_15 : BitVec 32 := 0#32
  let v45 : BitVec 1 := Scalar.cmpi .sgt arg2 c0_i32_15
  let v46 : BitVec 32 := Scalar.extui v45
  let c0_i32_16 : BitVec 32 := 0#32
  let v47 : BitVec 1 := Scalar.cmpi .slt arg2 c0_i32_16
  let v48 : BitVec 32 := Scalar.extui v47
  let v49 : BitVec 32 := Scalar.subi v46 v48
  let c1_i32_14 : BitVec 32 := 1#32
  let c0_i32_17 : BitVec 32 := 0#32
  let v50 : BitVec 1 := Scalar.cmpi .sgt c1_i32_14 c0_i32_17
  let v51 : BitVec 32 := Scalar.extui v50
  let c0_i32_18 : BitVec 32 := 0#32
  let v52 : BitVec 1 := Scalar.cmpi .slt c1_i32_14 c0_i32_18
  let v53 : BitVec 32 := Scalar.extui v52
  let v54 : BitVec 32 := Scalar.subi v51 v53
  let v55 : BitVec 1 := Scalar.cmpi .ne v49 v54
  let v56 : BitVec 32 := Scalar.remsi arg2 c1_i32_14
  let c0_i32_19 : BitVec 32 := 0#32
  let v57 : BitVec 1 := Scalar.cmpi .ne v56 c0_i32_19
  let v58 : BitVec 1 := Scalar.andi v55 v57
  let v44 : BitVec 32 := Scalar.divsi arg2 c1_i32_14
  let c1_i32_20 : BitVec 32 := 1#32
  let v59 : BitVec 32 := Scalar.subi v44 c1_i32_20
  let v60 : BitVec 32 := Scalar.select v58 v59 v44
  let c0_i32_22 : BitVec 32 := 0#32
  let v62 : BitVec 1 := Scalar.cmpi .sgt v60 c0_i32_22
  let v63 : BitVec 32 := Scalar.extui v62
  let c0_i32_23 : BitVec 32 := 0#32
  let v64 : BitVec 1 := Scalar.cmpi .slt v60 c0_i32_23
  let v65 : BitVec 32 := Scalar.extui v64
  let v66 : BitVec 32 := Scalar.subi v63 v65
  let c2_i32_21 : BitVec 32 := 2#32
  let c0_i32_24 : BitVec 32 := 0#32
  let v67 : BitVec 1 := Scalar.cmpi .sgt c2_i32_21 c0_i32_24
  let v68 : BitVec 32 := Scalar.extui v67
  let c0_i32_25 : BitVec 32 := 0#32
  let v69 : BitVec 1 := Scalar.cmpi .slt c2_i32_21 c0_i32_25
  let v70 : BitVec 32 := Scalar.extui v69
  let v71 : BitVec 32 := Scalar.subi v68 v70
  let v72 : BitVec 1 := Scalar.cmpi .ne v66 v71
  let v73 : BitVec 32 := Scalar.remsi v60 c2_i32_21
  let c0_i32_26 : BitVec 32 := 0#32
  let v74 : BitVec 1 := Scalar.cmpi .ne v73 c0_i32_26
  let v75 : BitVec 1 := Scalar.andi v72 v74
  let v61 : BitVec 32 := Scalar.divsi v60 c2_i32_21
  let c1_i32_27 : BitVec 32 := 1#32
  let v76 : BitVec 32 := Scalar.subi v61 c1_i32_27
  let v77 : BitVec 32 := Scalar.select v75 v76 v61
  let v86 : BitVec 32 := Scalar.subi v77 c0_i32_35
  let c1_i32_36 : BitVec 32 := 1#32
  let v88 : BitVec 32 := Scalar.divsi v86 c1_i32_36
  let v89 : BitVec 32 := Scalar.muli v88 c1_i32_36
  let v90 : BitVec 32 := Scalar.addi c0_i32_35 v89
  let v87 : BitVec 32 := Scalar.addi c0_i32_35 v86
  let c1_i32_38 : BitVec 32 := 1#32
  ⟨v90, v87, c1_i32_38⟩
def k0_mult6 (i : grid0.Coords) (k0_t2 : Fin (k0_t2_loop i).trips) : BitVec 32 :=
  let c2_i32_59 : BitVec 32 := 2#32
  let c0_i32_35 : BitVec 32 := 0#32
  let arg2 : BitVec 32 := BitVec.ofNat 32 (i 2).val
  let c0_i32_15 : BitVec 32 := 0#32
  let v45 : BitVec 1 := Scalar.cmpi .sgt arg2 c0_i32_15
  let v46 : BitVec 32 := Scalar.extui v45
  let c0_i32_16 : BitVec 32 := 0#32
  let v47 : BitVec 1 := Scalar.cmpi .slt arg2 c0_i32_16
  let v48 : BitVec 32 := Scalar.extui v47
  let v49 : BitVec 32 := Scalar.subi v46 v48
  let c1_i32_14 : BitVec 32 := 1#32
  let c0_i32_17 : BitVec 32 := 0#32
  let v50 : BitVec 1 := Scalar.cmpi .sgt c1_i32_14 c0_i32_17
  let v51 : BitVec 32 := Scalar.extui v50
  let c0_i32_18 : BitVec 32 := 0#32
  let v52 : BitVec 1 := Scalar.cmpi .slt c1_i32_14 c0_i32_18
  let v53 : BitVec 32 := Scalar.extui v52
  let v54 : BitVec 32 := Scalar.subi v51 v53
  let v55 : BitVec 1 := Scalar.cmpi .ne v49 v54
  let v56 : BitVec 32 := Scalar.remsi arg2 c1_i32_14
  let c0_i32_19 : BitVec 32 := 0#32
  let v57 : BitVec 1 := Scalar.cmpi .ne v56 c0_i32_19
  let v58 : BitVec 1 := Scalar.andi v55 v57
  let v44 : BitVec 32 := Scalar.divsi arg2 c1_i32_14
  let c1_i32_20 : BitVec 32 := 1#32
  let v59 : BitVec 32 := Scalar.subi v44 c1_i32_20
  let v60 : BitVec 32 := Scalar.select v58 v59 v44
  let c0_i32_22 : BitVec 32 := 0#32
  let v62 : BitVec 1 := Scalar.cmpi .sgt v60 c0_i32_22
  let v63 : BitVec 32 := Scalar.extui v62
  let c0_i32_23 : BitVec 32 := 0#32
  let v64 : BitVec 1 := Scalar.cmpi .slt v60 c0_i32_23
  let v65 : BitVec 32 := Scalar.extui v64
  let v66 : BitVec 32 := Scalar.subi v63 v65
  let c2_i32_21 : BitVec 32 := 2#32
  let c0_i32_24 : BitVec 32 := 0#32
  let v67 : BitVec 1 := Scalar.cmpi .sgt c2_i32_21 c0_i32_24
  let v68 : BitVec 32 := Scalar.extui v67
  let c0_i32_25 : BitVec 32 := 0#32
  let v69 : BitVec 1 := Scalar.cmpi .slt c2_i32_21 c0_i32_25
  let v70 : BitVec 32 := Scalar.extui v69
  let v71 : BitVec 32 := Scalar.subi v68 v70
  let v72 : BitVec 1 := Scalar.cmpi .ne v66 v71
  let v73 : BitVec 32 := Scalar.remsi v60 c2_i32_21
  let c0_i32_26 : BitVec 32 := 0#32
  let v74 : BitVec 1 := Scalar.cmpi .ne v73 c0_i32_26
  let v75 : BitVec 1 := Scalar.andi v72 v74
  let v61 : BitVec 32 := Scalar.divsi v60 c2_i32_21
  let c1_i32_27 : BitVec 32 := 1#32
  let v76 : BitVec 32 := Scalar.subi v61 c1_i32_27
  let v77 : BitVec 32 := Scalar.select v75 v76 v61
  let v86 : BitVec 32 := Scalar.subi v77 c0_i32_35
  let c1_i32_36 : BitVec 32 := 1#32
  let v88 : BitVec 32 := Scalar.divsi v86 c1_i32_36
  let v89 : BitVec 32 := Scalar.muli v88 c1_i32_36
  let v90 : BitVec 32 := Scalar.addi c0_i32_35 v89
  let c1_i32_38 : BitVec 32 := 1#32
  let arg14 : BitVec 32 := Scf.iv v90 c1_i32_38 k0_t2
  let v153 : BitVec 32 := Scalar.muli c2_i32_59 arg14
  let c1_i32_60 : BitVec 32 := 1#32
  let v154 : BitVec 32 := Scalar.addi v153 c1_i32_60
  let c512_i32 : BitVec 32 := 512#32
  let v155 : BitVec 32 := Scalar.muli v154 c512_i32
  v155
def k0_off3 (i : grid0.Coords) (k0_t2 : Fin (k0_t2_loop i).trips) (c1_i32_60 : BitVec 32) : Fin 3 → Nat :=
  let c0_61 : Index := 0#32
  let c2_i32_59 : BitVec 32 := 2#32
  let c0_i32_35 : BitVec 32 := 0#32
  let arg2 : BitVec 32 := BitVec.ofNat 32 (i 2).val
  let c0_i32_15 : BitVec 32 := 0#32
  let v45 : BitVec 1 := Scalar.cmpi .sgt arg2 c0_i32_15
  let v46 : BitVec 32 := Scalar.extui v45
  let c0_i32_16 : BitVec 32 := 0#32
  let v47 : BitVec 1 := Scalar.cmpi .slt arg2 c0_i32_16
  let v48 : BitVec 32 := Scalar.extui v47
  let v49 : BitVec 32 := Scalar.subi v46 v48
  let c1_i32_14 : BitVec 32 := 1#32
  let c0_i32_17 : BitVec 32 := 0#32
  let v50 : BitVec 1 := Scalar.cmpi .sgt c1_i32_14 c0_i32_17
  let v51 : BitVec 32 := Scalar.extui v50
  let c0_i32_18 : BitVec 32 := 0#32
  let v52 : BitVec 1 := Scalar.cmpi .slt c1_i32_14 c0_i32_18
  let v53 : BitVec 32 := Scalar.extui v52
  let v54 : BitVec 32 := Scalar.subi v51 v53
  let v55 : BitVec 1 := Scalar.cmpi .ne v49 v54
  let v56 : BitVec 32 := Scalar.remsi arg2 c1_i32_14
  let c0_i32_19 : BitVec 32 := 0#32
  let v57 : BitVec 1 := Scalar.cmpi .ne v56 c0_i32_19
  let v58 : BitVec 1 := Scalar.andi v55 v57
  let v44 : BitVec 32 := Scalar.divsi arg2 c1_i32_14
  let c1_i32_20 : BitVec 32 := 1#32
  let v59 : BitVec 32 := Scalar.subi v44 c1_i32_20
  let v60 : BitVec 32 := Scalar.select v58 v59 v44
  let c0_i32_22 : BitVec 32 := 0#32
  let v62 : BitVec 1 := Scalar.cmpi .sgt v60 c0_i32_22
  let v63 : BitVec 32 := Scalar.extui v62
  let c0_i32_23 : BitVec 32 := 0#32
  let v64 : BitVec 1 := Scalar.cmpi .slt v60 c0_i32_23
  let v65 : BitVec 32 := Scalar.extui v64
  let v66 : BitVec 32 := Scalar.subi v63 v65
  let c2_i32_21 : BitVec 32 := 2#32
  let c0_i32_24 : BitVec 32 := 0#32
  let v67 : BitVec 1 := Scalar.cmpi .sgt c2_i32_21 c0_i32_24
  let v68 : BitVec 32 := Scalar.extui v67
  let c0_i32_25 : BitVec 32 := 0#32
  let v69 : BitVec 1 := Scalar.cmpi .slt c2_i32_21 c0_i32_25
  let v70 : BitVec 32 := Scalar.extui v69
  let v71 : BitVec 32 := Scalar.subi v68 v70
  let v72 : BitVec 1 := Scalar.cmpi .ne v66 v71
  let v73 : BitVec 32 := Scalar.remsi v60 c2_i32_21
  let c0_i32_26 : BitVec 32 := 0#32
  let v74 : BitVec 1 := Scalar.cmpi .ne v73 c0_i32_26
  let v75 : BitVec 1 := Scalar.andi v72 v74
  let v61 : BitVec 32 := Scalar.divsi v60 c2_i32_21
  let c1_i32_27 : BitVec 32 := 1#32
  let v76 : BitVec 32 := Scalar.subi v61 c1_i32_27
  let v77 : BitVec 32 := Scalar.select v75 v76 v61
  let v86 : BitVec 32 := Scalar.subi v77 c0_i32_35
  let c1_i32_36 : BitVec 32 := 1#32
  let v88 : BitVec 32 := Scalar.divsi v86 c1_i32_36
  let v89 : BitVec 32 := Scalar.muli v88 c1_i32_36
  let v90 : BitVec 32 := Scalar.addi c0_i32_35 v89
  let c1_i32_38 : BitVec 32 := 1#32
  let arg14 : BitVec 32 := Scf.iv v90 c1_i32_38 k0_t2
  let v153 : BitVec 32 := Scalar.muli c2_i32_59 arg14
  let v154 : BitVec 32 := Scalar.addi v153 c1_i32_60
  let c512_i32 : BitVec 32 := 512#32
  let v155 : BitVec 32 := Scalar.muli v154 c512_i32
  let v156 : BitVec 32 := v155
  let v157 : Index := Scalar.indexCast v156
  let c0_62 : Index := 0#32
  ![0, v157.toNat, 0]
def k0_mult7 (i : grid0.Coords) (k0_t2 : Fin (k0_t2_loop i).trips) : BitVec 32 :=
  let c2_i32_59 : BitVec 32 := 2#32
  let c0_i32_35 : BitVec 32 := 0#32
  let arg2 : BitVec 32 := BitVec.ofNat 32 (i 2).val
  let c0_i32_15 : BitVec 32 := 0#32
  let v45 : BitVec 1 := Scalar.cmpi .sgt arg2 c0_i32_15
  let v46 : BitVec 32 := Scalar.extui v45
  let c0_i32_16 : BitVec 32 := 0#32
  let v47 : BitVec 1 := Scalar.cmpi .slt arg2 c0_i32_16
  let v48 : BitVec 32 := Scalar.extui v47
  let v49 : BitVec 32 := Scalar.subi v46 v48
  let c1_i32_14 : BitVec 32 := 1#32
  let c0_i32_17 : BitVec 32 := 0#32
  let v50 : BitVec 1 := Scalar.cmpi .sgt c1_i32_14 c0_i32_17
  let v51 : BitVec 32 := Scalar.extui v50
  let c0_i32_18 : BitVec 32 := 0#32
  let v52 : BitVec 1 := Scalar.cmpi .slt c1_i32_14 c0_i32_18
  let v53 : BitVec 32 := Scalar.extui v52
  let v54 : BitVec 32 := Scalar.subi v51 v53
  let v55 : BitVec 1 := Scalar.cmpi .ne v49 v54
  let v56 : BitVec 32 := Scalar.remsi arg2 c1_i32_14
  let c0_i32_19 : BitVec 32 := 0#32
  let v57 : BitVec 1 := Scalar.cmpi .ne v56 c0_i32_19
  let v58 : BitVec 1 := Scalar.andi v55 v57
  let v44 : BitVec 32 := Scalar.divsi arg2 c1_i32_14
  let c1_i32_20 : BitVec 32 := 1#32
  let v59 : BitVec 32 := Scalar.subi v44 c1_i32_20
  let v60 : BitVec 32 := Scalar.select v58 v59 v44
  let c0_i32_22 : BitVec 32 := 0#32
  let v62 : BitVec 1 := Scalar.cmpi .sgt v60 c0_i32_22
  let v63 : BitVec 32 := Scalar.extui v62
  let c0_i32_23 : BitVec 32 := 0#32
  let v64 : BitVec 1 := Scalar.cmpi .slt v60 c0_i32_23
  let v65 : BitVec 32 := Scalar.extui v64
  let v66 : BitVec 32 := Scalar.subi v63 v65
  let c2_i32_21 : BitVec 32 := 2#32
  let c0_i32_24 : BitVec 32 := 0#32
  let v67 : BitVec 1 := Scalar.cmpi .sgt c2_i32_21 c0_i32_24
  let v68 : BitVec 32 := Scalar.extui v67
  let c0_i32_25 : BitVec 32 := 0#32
  let v69 : BitVec 1 := Scalar.cmpi .slt c2_i32_21 c0_i32_25
  let v70 : BitVec 32 := Scalar.extui v69
  let v71 : BitVec 32 := Scalar.subi v68 v70
  let v72 : BitVec 1 := Scalar.cmpi .ne v66 v71
  let v73 : BitVec 32 := Scalar.remsi v60 c2_i32_21
  let c0_i32_26 : BitVec 32 := 0#32
  let v74 : BitVec 1 := Scalar.cmpi .ne v73 c0_i32_26
  let v75 : BitVec 1 := Scalar.andi v72 v74
  let v61 : BitVec 32 := Scalar.divsi v60 c2_i32_21
  let c1_i32_27 : BitVec 32 := 1#32
  let v76 : BitVec 32 := Scalar.subi v61 c1_i32_27
  let v77 : BitVec 32 := Scalar.select v75 v76 v61
  let v86 : BitVec 32 := Scalar.subi v77 c0_i32_35
  let c1_i32_36 : BitVec 32 := 1#32
  let v88 : BitVec 32 := Scalar.divsi v86 c1_i32_36
  let v89 : BitVec 32 := Scalar.muli v88 c1_i32_36
  let v90 : BitVec 32 := Scalar.addi c0_i32_35 v89
  let c1_i32_38 : BitVec 32 := 1#32
  let arg14 : BitVec 32 := Scf.iv v90 c1_i32_38 k0_t2
  let v153 : BitVec 32 := Scalar.muli c2_i32_59 arg14
  let c512_i32_66 : BitVec 32 := 512#32
  let v164 : BitVec 32 := Scalar.muli v153 c512_i32_66
  v164
def k0_off4 (i : grid0.Coords) (k0_t2 : Fin (k0_t2_loop i).trips) : Fin 3 → Nat :=
  let c0_67 : Index := 0#32
  let c2_i32_59 : BitVec 32 := 2#32
  let c0_i32_35 : BitVec 32 := 0#32
  let arg2 : BitVec 32 := BitVec.ofNat 32 (i 2).val
  let c0_i32_15 : BitVec 32 := 0#32
  let v45 : BitVec 1 := Scalar.cmpi .sgt arg2 c0_i32_15
  let v46 : BitVec 32 := Scalar.extui v45
  let c0_i32_16 : BitVec 32 := 0#32
  let v47 : BitVec 1 := Scalar.cmpi .slt arg2 c0_i32_16
  let v48 : BitVec 32 := Scalar.extui v47
  let v49 : BitVec 32 := Scalar.subi v46 v48
  let c1_i32_14 : BitVec 32 := 1#32
  let c0_i32_17 : BitVec 32 := 0#32
  let v50 : BitVec 1 := Scalar.cmpi .sgt c1_i32_14 c0_i32_17
  let v51 : BitVec 32 := Scalar.extui v50
  let c0_i32_18 : BitVec 32 := 0#32
  let v52 : BitVec 1 := Scalar.cmpi .slt c1_i32_14 c0_i32_18
  let v53 : BitVec 32 := Scalar.extui v52
  let v54 : BitVec 32 := Scalar.subi v51 v53
  let v55 : BitVec 1 := Scalar.cmpi .ne v49 v54
  let v56 : BitVec 32 := Scalar.remsi arg2 c1_i32_14
  let c0_i32_19 : BitVec 32 := 0#32
  let v57 : BitVec 1 := Scalar.cmpi .ne v56 c0_i32_19
  let v58 : BitVec 1 := Scalar.andi v55 v57
  let v44 : BitVec 32 := Scalar.divsi arg2 c1_i32_14
  let c1_i32_20 : BitVec 32 := 1#32
  let v59 : BitVec 32 := Scalar.subi v44 c1_i32_20
  let v60 : BitVec 32 := Scalar.select v58 v59 v44
  let c0_i32_22 : BitVec 32 := 0#32
  let v62 : BitVec 1 := Scalar.cmpi .sgt v60 c0_i32_22
  let v63 : BitVec 32 := Scalar.extui v62
  let c0_i32_23 : BitVec 32 := 0#32
  let v64 : BitVec 1 := Scalar.cmpi .slt v60 c0_i32_23
  let v65 : BitVec 32 := Scalar.extui v64
  let v66 : BitVec 32 := Scalar.subi v63 v65
  let c2_i32_21 : BitVec 32 := 2#32
  let c0_i32_24 : BitVec 32 := 0#32
  let v67 : BitVec 1 := Scalar.cmpi .sgt c2_i32_21 c0_i32_24
  let v68 : BitVec 32 := Scalar.extui v67
  let c0_i32_25 : BitVec 32 := 0#32
  let v69 : BitVec 1 := Scalar.cmpi .slt c2_i32_21 c0_i32_25
  let v70 : BitVec 32 := Scalar.extui v69
  let v71 : BitVec 32 := Scalar.subi v68 v70
  let v72 : BitVec 1 := Scalar.cmpi .ne v66 v71
  let v73 : BitVec 32 := Scalar.remsi v60 c2_i32_21
  let c0_i32_26 : BitVec 32 := 0#32
  let v74 : BitVec 1 := Scalar.cmpi .ne v73 c0_i32_26
  let v75 : BitVec 1 := Scalar.andi v72 v74
  let v61 : BitVec 32 := Scalar.divsi v60 c2_i32_21
  let c1_i32_27 : BitVec 32 := 1#32
  let v76 : BitVec 32 := Scalar.subi v61 c1_i32_27
  let v77 : BitVec 32 := Scalar.select v75 v76 v61
  let v86 : BitVec 32 := Scalar.subi v77 c0_i32_35
  let c1_i32_36 : BitVec 32 := 1#32
  let v88 : BitVec 32 := Scalar.divsi v86 c1_i32_36
  let v89 : BitVec 32 := Scalar.muli v88 c1_i32_36
  let v90 : BitVec 32 := Scalar.addi c0_i32_35 v89
  let c1_i32_38 : BitVec 32 := 1#32
  let arg14 : BitVec 32 := Scf.iv v90 c1_i32_38 k0_t2
  let v153 : BitVec 32 := Scalar.muli c2_i32_59 arg14
  let c512_i32_66 : BitVec 32 := 512#32
  let v164 : BitVec 32 := Scalar.muli v153 c512_i32_66
  let v165 : BitVec 32 := v164
  let v166 : Index := Scalar.indexCast v165
  let c0_68 : Index := 0#32
  ![0, v166.toNat, 0]
def k0_mult8 (i : grid0.Coords) (k0_t2 : Fin (k0_t2_loop i).trips) : BitVec 32 :=
  let c2_i32_59 : BitVec 32 := 2#32
  let c0_i32_35 : BitVec 32 := 0#32
  let arg2 : BitVec 32 := BitVec.ofNat 32 (i 2).val
  let c0_i32_15 : BitVec 32 := 0#32
  let v45 : BitVec 1 := Scalar.cmpi .sgt arg2 c0_i32_15
  let v46 : BitVec 32 := Scalar.extui v45
  let c0_i32_16 : BitVec 32 := 0#32
  let v47 : BitVec 1 := Scalar.cmpi .slt arg2 c0_i32_16
  let v48 : BitVec 32 := Scalar.extui v47
  let v49 : BitVec 32 := Scalar.subi v46 v48
  let c1_i32_14 : BitVec 32 := 1#32
  let c0_i32_17 : BitVec 32 := 0#32
  let v50 : BitVec 1 := Scalar.cmpi .sgt c1_i32_14 c0_i32_17
  let v51 : BitVec 32 := Scalar.extui v50
  let c0_i32_18 : BitVec 32 := 0#32
  let v52 : BitVec 1 := Scalar.cmpi .slt c1_i32_14 c0_i32_18
  let v53 : BitVec 32 := Scalar.extui v52
  let v54 : BitVec 32 := Scalar.subi v51 v53
  let v55 : BitVec 1 := Scalar.cmpi .ne v49 v54
  let v56 : BitVec 32 := Scalar.remsi arg2 c1_i32_14
  let c0_i32_19 : BitVec 32 := 0#32
  let v57 : BitVec 1 := Scalar.cmpi .ne v56 c0_i32_19
  let v58 : BitVec 1 := Scalar.andi v55 v57
  let v44 : BitVec 32 := Scalar.divsi arg2 c1_i32_14
  let c1_i32_20 : BitVec 32 := 1#32
  let v59 : BitVec 32 := Scalar.subi v44 c1_i32_20
  let v60 : BitVec 32 := Scalar.select v58 v59 v44
  let c0_i32_22 : BitVec 32 := 0#32
  let v62 : BitVec 1 := Scalar.cmpi .sgt v60 c0_i32_22
  let v63 : BitVec 32 := Scalar.extui v62
  let c0_i32_23 : BitVec 32 := 0#32
  let v64 : BitVec 1 := Scalar.cmpi .slt v60 c0_i32_23
  let v65 : BitVec 32 := Scalar.extui v64
  let v66 : BitVec 32 := Scalar.subi v63 v65
  let c2_i32_21 : BitVec 32 := 2#32
  let c0_i32_24 : BitVec 32 := 0#32
  let v67 : BitVec 1 := Scalar.cmpi .sgt c2_i32_21 c0_i32_24
  let v68 : BitVec 32 := Scalar.extui v67
  let c0_i32_25 : BitVec 32 := 0#32
  let v69 : BitVec 1 := Scalar.cmpi .slt c2_i32_21 c0_i32_25
  let v70 : BitVec 32 := Scalar.extui v69
  let v71 : BitVec 32 := Scalar.subi v68 v70
  let v72 : BitVec 1 := Scalar.cmpi .ne v66 v71
  let v73 : BitVec 32 := Scalar.remsi v60 c2_i32_21
  let c0_i32_26 : BitVec 32 := 0#32
  let v74 : BitVec 1 := Scalar.cmpi .ne v73 c0_i32_26
  let v75 : BitVec 1 := Scalar.andi v72 v74
  let v61 : BitVec 32 := Scalar.divsi v60 c2_i32_21
  let c1_i32_27 : BitVec 32 := 1#32
  let v76 : BitVec 32 := Scalar.subi v61 c1_i32_27
  let v77 : BitVec 32 := Scalar.select v75 v76 v61
  let v86 : BitVec 32 := Scalar.subi v77 c0_i32_35
  let c1_i32_36 : BitVec 32 := 1#32
  let v88 : BitVec 32 := Scalar.divsi v86 c1_i32_36
  let v89 : BitVec 32 := Scalar.muli v88 c1_i32_36
  let v90 : BitVec 32 := Scalar.addi c0_i32_35 v89
  let c1_i32_38 : BitVec 32 := 1#32
  let arg14 : BitVec 32 := Scf.iv v90 c1_i32_38 k0_t2
  let v153 : BitVec 32 := Scalar.muli c2_i32_59 arg14
  let c2_i32_85 : BitVec 32 := 2#32
  let v213 : BitVec 32 := Scalar.addi v153 c2_i32_85
  let c512_i32_86 : BitVec 32 := 512#32
  let v214 : BitVec 32 := Scalar.muli v213 c512_i32_86
  v214
def k0_mult9 (i : grid0.Coords) (k0_t2 : Fin (k0_t2_loop i).trips) : BitVec 32 :=
  let c2_i32_59 : BitVec 32 := 2#32
  let c0_i32_35 : BitVec 32 := 0#32
  let arg2 : BitVec 32 := BitVec.ofNat 32 (i 2).val
  let c0_i32_15 : BitVec 32 := 0#32
  let v45 : BitVec 1 := Scalar.cmpi .sgt arg2 c0_i32_15
  let v46 : BitVec 32 := Scalar.extui v45
  let c0_i32_16 : BitVec 32 := 0#32
  let v47 : BitVec 1 := Scalar.cmpi .slt arg2 c0_i32_16
  let v48 : BitVec 32 := Scalar.extui v47
  let v49 : BitVec 32 := Scalar.subi v46 v48
  let c1_i32_14 : BitVec 32 := 1#32
  let c0_i32_17 : BitVec 32 := 0#32
  let v50 : BitVec 1 := Scalar.cmpi .sgt c1_i32_14 c0_i32_17
  let v51 : BitVec 32 := Scalar.extui v50
  let c0_i32_18 : BitVec 32 := 0#32
  let v52 : BitVec 1 := Scalar.cmpi .slt c1_i32_14 c0_i32_18
  let v53 : BitVec 32 := Scalar.extui v52
  let v54 : BitVec 32 := Scalar.subi v51 v53
  let v55 : BitVec 1 := Scalar.cmpi .ne v49 v54
  let v56 : BitVec 32 := Scalar.remsi arg2 c1_i32_14
  let c0_i32_19 : BitVec 32 := 0#32
  let v57 : BitVec 1 := Scalar.cmpi .ne v56 c0_i32_19
  let v58 : BitVec 1 := Scalar.andi v55 v57
  let v44 : BitVec 32 := Scalar.divsi arg2 c1_i32_14
  let c1_i32_20 : BitVec 32 := 1#32
  let v59 : BitVec 32 := Scalar.subi v44 c1_i32_20
  let v60 : BitVec 32 := Scalar.select v58 v59 v44
  let c0_i32_22 : BitVec 32 := 0#32
  let v62 : BitVec 1 := Scalar.cmpi .sgt v60 c0_i32_22
  let v63 : BitVec 32 := Scalar.extui v62
  let c0_i32_23 : BitVec 32 := 0#32
  let v64 : BitVec 1 := Scalar.cmpi .slt v60 c0_i32_23
  let v65 : BitVec 32 := Scalar.extui v64
  let v66 : BitVec 32 := Scalar.subi v63 v65
  let c2_i32_21 : BitVec 32 := 2#32
  let c0_i32_24 : BitVec 32 := 0#32
  let v67 : BitVec 1 := Scalar.cmpi .sgt c2_i32_21 c0_i32_24
  let v68 : BitVec 32 := Scalar.extui v67
  let c0_i32_25 : BitVec 32 := 0#32
  let v69 : BitVec 1 := Scalar.cmpi .slt c2_i32_21 c0_i32_25
  let v70 : BitVec 32 := Scalar.extui v69
  let v71 : BitVec 32 := Scalar.subi v68 v70
  let v72 : BitVec 1 := Scalar.cmpi .ne v66 v71
  let v73 : BitVec 32 := Scalar.remsi v60 c2_i32_21
  let c0_i32_26 : BitVec 32 := 0#32
  let v74 : BitVec 1 := Scalar.cmpi .ne v73 c0_i32_26
  let v75 : BitVec 1 := Scalar.andi v72 v74
  let v61 : BitVec 32 := Scalar.divsi v60 c2_i32_21
  let c1_i32_27 : BitVec 32 := 1#32
  let v76 : BitVec 32 := Scalar.subi v61 c1_i32_27
  let v77 : BitVec 32 := Scalar.select v75 v76 v61
  let v86 : BitVec 32 := Scalar.subi v77 c0_i32_35
  let c1_i32_36 : BitVec 32 := 1#32
  let v88 : BitVec 32 := Scalar.divsi v86 c1_i32_36
  let v89 : BitVec 32 := Scalar.muli v88 c1_i32_36
  let v90 : BitVec 32 := Scalar.addi c0_i32_35 v89
  let c1_i32_38 : BitVec 32 := 1#32
  let arg14 : BitVec 32 := Scf.iv v90 c1_i32_38 k0_t2
  let v153 : BitVec 32 := Scalar.muli c2_i32_59 arg14
  let c1_i32_92 : BitVec 32 := 1#32
  let v223 : BitVec 32 := Scalar.addi v153 c1_i32_92
  let c512_i32_93 : BitVec 32 := 512#32
  let v224 : BitVec 32 := Scalar.muli v223 c512_i32_93
  v224
def k0_cond1 (i : grid0.Coords) : BitVec 1 :=
  let arg2 : BitVec 32 := BitVec.ofNat 32 (i 2).val
  let c0_i32_15 : BitVec 32 := 0#32
  let v45 : BitVec 1 := Scalar.cmpi .sgt arg2 c0_i32_15
  let v46 : BitVec 32 := Scalar.extui v45
  let c0_i32_16 : BitVec 32 := 0#32
  let v47 : BitVec 1 := Scalar.cmpi .slt arg2 c0_i32_16
  let v48 : BitVec 32 := Scalar.extui v47
  let v49 : BitVec 32 := Scalar.subi v46 v48
  let c1_i32_14 : BitVec 32 := 1#32
  let c0_i32_17 : BitVec 32 := 0#32
  let v50 : BitVec 1 := Scalar.cmpi .sgt c1_i32_14 c0_i32_17
  let v51 : BitVec 32 := Scalar.extui v50
  let c0_i32_18 : BitVec 32 := 0#32
  let v52 : BitVec 1 := Scalar.cmpi .slt c1_i32_14 c0_i32_18
  let v53 : BitVec 32 := Scalar.extui v52
  let v54 : BitVec 32 := Scalar.subi v51 v53
  let v55 : BitVec 1 := Scalar.cmpi .ne v49 v54
  let v56 : BitVec 32 := Scalar.remsi arg2 c1_i32_14
  let c0_i32_19 : BitVec 32 := 0#32
  let v57 : BitVec 1 := Scalar.cmpi .ne v56 c0_i32_19
  let v58 : BitVec 1 := Scalar.andi v55 v57
  let v44 : BitVec 32 := Scalar.divsi arg2 c1_i32_14
  let c1_i32_20 : BitVec 32 := 1#32
  let v59 : BitVec 32 := Scalar.subi v44 c1_i32_20
  let v60 : BitVec 32 := Scalar.select v58 v59 v44
  let c2_i32_39 : BitVec 32 := 2#32
  let c0_i32_22 : BitVec 32 := 0#32
  let v62 : BitVec 1 := Scalar.cmpi .sgt v60 c0_i32_22
  let v63 : BitVec 32 := Scalar.extui v62
  let c0_i32_23 : BitVec 32 := 0#32
  let v64 : BitVec 1 := Scalar.cmpi .slt v60 c0_i32_23
  let v65 : BitVec 32 := Scalar.extui v64
  let v66 : BitVec 32 := Scalar.subi v63 v65
  let c2_i32_21 : BitVec 32 := 2#32
  let c0_i32_24 : BitVec 32 := 0#32
  let v67 : BitVec 1 := Scalar.cmpi .sgt c2_i32_21 c0_i32_24
  let v68 : BitVec 32 := Scalar.extui v67
  let c0_i32_25 : BitVec 32 := 0#32
  let v69 : BitVec 1 := Scalar.cmpi .slt c2_i32_21 c0_i32_25
  let v70 : BitVec 32 := Scalar.extui v69
  let v71 : BitVec 32 := Scalar.subi v68 v70
  let v72 : BitVec 1 := Scalar.cmpi .ne v66 v71
  let v73 : BitVec 32 := Scalar.remsi v60 c2_i32_21
  let c0_i32_26 : BitVec 32 := 0#32
  let v74 : BitVec 1 := Scalar.cmpi .ne v73 c0_i32_26
  let v75 : BitVec 1 := Scalar.andi v72 v74
  let v61 : BitVec 32 := Scalar.divsi v60 c2_i32_21
  let c1_i32_27 : BitVec 32 := 1#32
  let v76 : BitVec 32 := Scalar.subi v61 c1_i32_27
  let v77 : BitVec 32 := Scalar.select v75 v76 v61
  let v91 : BitVec 32 := Scalar.muli c2_i32_39 v77
  let v92 : BitVec 1 := Scalar.cmpi .eq v60 v91
  let v93 : BitVec 32 := Scalar.extui v92
  let c0_i32_40 : BitVec 32 := 0#32
  let v94 : BitVec 1 := Scalar.cmpi .ne v93 c0_i32_40
  v94

def k0_mult10 (i : grid0.Coords) : BitVec 32 :=
  let c2_i32_39 : BitVec 32 := 2#32
  let arg2 : BitVec 32 := BitVec.ofNat 32 (i 2).val
  let c0_i32_15 : BitVec 32 := 0#32
  let v45 : BitVec 1 := Scalar.cmpi .sgt arg2 c0_i32_15
  let v46 : BitVec 32 := Scalar.extui v45
  let c0_i32_16 : BitVec 32 := 0#32
  let v47 : BitVec 1 := Scalar.cmpi .slt arg2 c0_i32_16
  let v48 : BitVec 32 := Scalar.extui v47
  let v49 : BitVec 32 := Scalar.subi v46 v48
  let c1_i32_14 : BitVec 32 := 1#32
  let c0_i32_17 : BitVec 32 := 0#32
  let v50 : BitVec 1 := Scalar.cmpi .sgt c1_i32_14 c0_i32_17
  let v51 : BitVec 32 := Scalar.extui v50
  let c0_i32_18 : BitVec 32 := 0#32
  let v52 : BitVec 1 := Scalar.cmpi .slt c1_i32_14 c0_i32_18
  let v53 : BitVec 32 := Scalar.extui v52
  let v54 : BitVec 32 := Scalar.subi v51 v53
  let v55 : BitVec 1 := Scalar.cmpi .ne v49 v54
  let v56 : BitVec 32 := Scalar.remsi arg2 c1_i32_14
  let c0_i32_19 : BitVec 32 := 0#32
  let v57 : BitVec 1 := Scalar.cmpi .ne v56 c0_i32_19
  let v58 : BitVec 1 := Scalar.andi v55 v57
  let v44 : BitVec 32 := Scalar.divsi arg2 c1_i32_14
  let c1_i32_20 : BitVec 32 := 1#32
  let v59 : BitVec 32 := Scalar.subi v44 c1_i32_20
  let v60 : BitVec 32 := Scalar.select v58 v59 v44
  let c0_i32_22 : BitVec 32 := 0#32
  let v62 : BitVec 1 := Scalar.cmpi .sgt v60 c0_i32_22
  let v63 : BitVec 32 := Scalar.extui v62
  let c0_i32_23 : BitVec 32 := 0#32
  let v64 : BitVec 1 := Scalar.cmpi .slt v60 c0_i32_23
  let v65 : BitVec 32 := Scalar.extui v64
  let v66 : BitVec 32 := Scalar.subi v63 v65
  let c2_i32_21 : BitVec 32 := 2#32
  let c0_i32_24 : BitVec 32 := 0#32
  let v67 : BitVec 1 := Scalar.cmpi .sgt c2_i32_21 c0_i32_24
  let v68 : BitVec 32 := Scalar.extui v67
  let c0_i32_25 : BitVec 32 := 0#32
  let v69 : BitVec 1 := Scalar.cmpi .slt c2_i32_21 c0_i32_25
  let v70 : BitVec 32 := Scalar.extui v69
  let v71 : BitVec 32 := Scalar.subi v68 v70
  let v72 : BitVec 1 := Scalar.cmpi .ne v66 v71
  let v73 : BitVec 32 := Scalar.remsi v60 c2_i32_21
  let c0_i32_26 : BitVec 32 := 0#32
  let v74 : BitVec 1 := Scalar.cmpi .ne v73 c0_i32_26
  let v75 : BitVec 1 := Scalar.andi v72 v74
  let v61 : BitVec 32 := Scalar.divsi v60 c2_i32_21
  let c1_i32_27 : BitVec 32 := 1#32
  let v76 : BitVec 32 := Scalar.subi v61 c1_i32_27
  let v77 : BitVec 32 := Scalar.select v75 v76 v61
  let v91 : BitVec 32 := Scalar.muli c2_i32_39 v77
  let c512_i32 : BitVec 32 := 512#32
  let v153 : BitVec 32 := Scalar.muli v91 c512_i32
  v153
def k0_off5 (i : grid0.Coords) : Fin 3 → Nat :=
  let c0_59 : Index := 0#32
  let c2_i32_39 : BitVec 32 := 2#32
  let arg2 : BitVec 32 := BitVec.ofNat 32 (i 2).val
  let c0_i32_15 : BitVec 32 := 0#32
  let v45 : BitVec 1 := Scalar.cmpi .sgt arg2 c0_i32_15
  let v46 : BitVec 32 := Scalar.extui v45
  let c0_i32_16 : BitVec 32 := 0#32
  let v47 : BitVec 1 := Scalar.cmpi .slt arg2 c0_i32_16
  let v48 : BitVec 32 := Scalar.extui v47
  let v49 : BitVec 32 := Scalar.subi v46 v48
  let c1_i32_14 : BitVec 32 := 1#32
  let c0_i32_17 : BitVec 32 := 0#32
  let v50 : BitVec 1 := Scalar.cmpi .sgt c1_i32_14 c0_i32_17
  let v51 : BitVec 32 := Scalar.extui v50
  let c0_i32_18 : BitVec 32 := 0#32
  let v52 : BitVec 1 := Scalar.cmpi .slt c1_i32_14 c0_i32_18
  let v53 : BitVec 32 := Scalar.extui v52
  let v54 : BitVec 32 := Scalar.subi v51 v53
  let v55 : BitVec 1 := Scalar.cmpi .ne v49 v54
  let v56 : BitVec 32 := Scalar.remsi arg2 c1_i32_14
  let c0_i32_19 : BitVec 32 := 0#32
  let v57 : BitVec 1 := Scalar.cmpi .ne v56 c0_i32_19
  let v58 : BitVec 1 := Scalar.andi v55 v57
  let v44 : BitVec 32 := Scalar.divsi arg2 c1_i32_14
  let c1_i32_20 : BitVec 32 := 1#32
  let v59 : BitVec 32 := Scalar.subi v44 c1_i32_20
  let v60 : BitVec 32 := Scalar.select v58 v59 v44
  let c0_i32_22 : BitVec 32 := 0#32
  let v62 : BitVec 1 := Scalar.cmpi .sgt v60 c0_i32_22
  let v63 : BitVec 32 := Scalar.extui v62
  let c0_i32_23 : BitVec 32 := 0#32
  let v64 : BitVec 1 := Scalar.cmpi .slt v60 c0_i32_23
  let v65 : BitVec 32 := Scalar.extui v64
  let v66 : BitVec 32 := Scalar.subi v63 v65
  let c2_i32_21 : BitVec 32 := 2#32
  let c0_i32_24 : BitVec 32 := 0#32
  let v67 : BitVec 1 := Scalar.cmpi .sgt c2_i32_21 c0_i32_24
  let v68 : BitVec 32 := Scalar.extui v67
  let c0_i32_25 : BitVec 32 := 0#32
  let v69 : BitVec 1 := Scalar.cmpi .slt c2_i32_21 c0_i32_25
  let v70 : BitVec 32 := Scalar.extui v69
  let v71 : BitVec 32 := Scalar.subi v68 v70
  let v72 : BitVec 1 := Scalar.cmpi .ne v66 v71
  let v73 : BitVec 32 := Scalar.remsi v60 c2_i32_21
  let c0_i32_26 : BitVec 32 := 0#32
  let v74 : BitVec 1 := Scalar.cmpi .ne v73 c0_i32_26
  let v75 : BitVec 1 := Scalar.andi v72 v74
  let v61 : BitVec 32 := Scalar.divsi v60 c2_i32_21
  let c1_i32_27 : BitVec 32 := 1#32
  let v76 : BitVec 32 := Scalar.subi v61 c1_i32_27
  let v77 : BitVec 32 := Scalar.select v75 v76 v61
  let v91 : BitVec 32 := Scalar.muli c2_i32_39 v77
  let c512_i32 : BitVec 32 := 512#32
  let v153 : BitVec 32 := Scalar.muli v91 c512_i32
  let v154 : BitVec 32 := v153
  let v155 : Index := Scalar.indexCast v154
  let c0_60 : Index := 0#32
  ![0, v155.toNat, 0]
def k0_cond2 (i : grid0.Coords) : BitVec 1 :=
  let arg2 : BitVec 32 := BitVec.ofNat 32 (i 2).val
  let c0_i32_15 : BitVec 32 := 0#32
  let v45 : BitVec 1 := Scalar.cmpi .sgt arg2 c0_i32_15
  let v46 : BitVec 32 := Scalar.extui v45
  let c0_i32_16 : BitVec 32 := 0#32
  let v47 : BitVec 1 := Scalar.cmpi .slt arg2 c0_i32_16
  let v48 : BitVec 32 := Scalar.extui v47
  let v49 : BitVec 32 := Scalar.subi v46 v48
  let c1_i32_14 : BitVec 32 := 1#32
  let c0_i32_17 : BitVec 32 := 0#32
  let v50 : BitVec 1 := Scalar.cmpi .sgt c1_i32_14 c0_i32_17
  let v51 : BitVec 32 := Scalar.extui v50
  let c0_i32_18 : BitVec 32 := 0#32
  let v52 : BitVec 1 := Scalar.cmpi .slt c1_i32_14 c0_i32_18
  let v53 : BitVec 32 := Scalar.extui v52
  let v54 : BitVec 32 := Scalar.subi v51 v53
  let v55 : BitVec 1 := Scalar.cmpi .ne v49 v54
  let v56 : BitVec 32 := Scalar.remsi arg2 c1_i32_14
  let c0_i32_19 : BitVec 32 := 0#32
  let v57 : BitVec 1 := Scalar.cmpi .ne v56 c0_i32_19
  let v58 : BitVec 1 := Scalar.andi v55 v57
  let v44 : BitVec 32 := Scalar.divsi arg2 c1_i32_14
  let c1_i32_20 : BitVec 32 := 1#32
  let v59 : BitVec 32 := Scalar.subi v44 c1_i32_20
  let v60 : BitVec 32 := Scalar.select v58 v59 v44
  let c2_i32_39 : BitVec 32 := 2#32
  let c0_i32_22 : BitVec 32 := 0#32
  let v62 : BitVec 1 := Scalar.cmpi .sgt v60 c0_i32_22
  let v63 : BitVec 32 := Scalar.extui v62
  let c0_i32_23 : BitVec 32 := 0#32
  let v64 : BitVec 1 := Scalar.cmpi .slt v60 c0_i32_23
  let v65 : BitVec 32 := Scalar.extui v64
  let v66 : BitVec 32 := Scalar.subi v63 v65
  let c2_i32_21 : BitVec 32 := 2#32
  let c0_i32_24 : BitVec 32 := 0#32
  let v67 : BitVec 1 := Scalar.cmpi .sgt c2_i32_21 c0_i32_24
  let v68 : BitVec 32 := Scalar.extui v67
  let c0_i32_25 : BitVec 32 := 0#32
  let v69 : BitVec 1 := Scalar.cmpi .slt c2_i32_21 c0_i32_25
  let v70 : BitVec 32 := Scalar.extui v69
  let v71 : BitVec 32 := Scalar.subi v68 v70
  let v72 : BitVec 1 := Scalar.cmpi .ne v66 v71
  let v73 : BitVec 32 := Scalar.remsi v60 c2_i32_21
  let c0_i32_26 : BitVec 32 := 0#32
  let v74 : BitVec 1 := Scalar.cmpi .ne v73 c0_i32_26
  let v75 : BitVec 1 := Scalar.andi v72 v74
  let v61 : BitVec 32 := Scalar.divsi v60 c2_i32_21
  let c1_i32_27 : BitVec 32 := 1#32
  let v76 : BitVec 32 := Scalar.subi v61 c1_i32_27
  let v77 : BitVec 32 := Scalar.select v75 v76 v61
  let v91 : BitVec 32 := Scalar.muli c2_i32_39 v77
  let v95 : BitVec 1 := Scalar.cmpi .ne v60 v91
  let v96 : BitVec 32 := Scalar.extui v95
  let c0_i32_41 : BitVec 32 := 0#32
  let v97 : BitVec 1 := Scalar.cmpi .ne v96 c0_i32_41
  v97

def k0_mult11 (i : grid0.Coords) : BitVec 32 :=
  let c2_i32_39 : BitVec 32 := 2#32
  let arg2 : BitVec 32 := BitVec.ofNat 32 (i 2).val
  let c0_i32_15 : BitVec 32 := 0#32
  let v45 : BitVec 1 := Scalar.cmpi .sgt arg2 c0_i32_15
  let v46 : BitVec 32 := Scalar.extui v45
  let c0_i32_16 : BitVec 32 := 0#32
  let v47 : BitVec 1 := Scalar.cmpi .slt arg2 c0_i32_16
  let v48 : BitVec 32 := Scalar.extui v47
  let v49 : BitVec 32 := Scalar.subi v46 v48
  let c1_i32_14 : BitVec 32 := 1#32
  let c0_i32_17 : BitVec 32 := 0#32
  let v50 : BitVec 1 := Scalar.cmpi .sgt c1_i32_14 c0_i32_17
  let v51 : BitVec 32 := Scalar.extui v50
  let c0_i32_18 : BitVec 32 := 0#32
  let v52 : BitVec 1 := Scalar.cmpi .slt c1_i32_14 c0_i32_18
  let v53 : BitVec 32 := Scalar.extui v52
  let v54 : BitVec 32 := Scalar.subi v51 v53
  let v55 : BitVec 1 := Scalar.cmpi .ne v49 v54
  let v56 : BitVec 32 := Scalar.remsi arg2 c1_i32_14
  let c0_i32_19 : BitVec 32 := 0#32
  let v57 : BitVec 1 := Scalar.cmpi .ne v56 c0_i32_19
  let v58 : BitVec 1 := Scalar.andi v55 v57
  let v44 : BitVec 32 := Scalar.divsi arg2 c1_i32_14
  let c1_i32_20 : BitVec 32 := 1#32
  let v59 : BitVec 32 := Scalar.subi v44 c1_i32_20
  let v60 : BitVec 32 := Scalar.select v58 v59 v44
  let c0_i32_22 : BitVec 32 := 0#32
  let v62 : BitVec 1 := Scalar.cmpi .sgt v60 c0_i32_22
  let v63 : BitVec 32 := Scalar.extui v62
  let c0_i32_23 : BitVec 32 := 0#32
  let v64 : BitVec 1 := Scalar.cmpi .slt v60 c0_i32_23
  let v65 : BitVec 32 := Scalar.extui v64
  let v66 : BitVec 32 := Scalar.subi v63 v65
  let c2_i32_21 : BitVec 32 := 2#32
  let c0_i32_24 : BitVec 32 := 0#32
  let v67 : BitVec 1 := Scalar.cmpi .sgt c2_i32_21 c0_i32_24
  let v68 : BitVec 32 := Scalar.extui v67
  let c0_i32_25 : BitVec 32 := 0#32
  let v69 : BitVec 1 := Scalar.cmpi .slt c2_i32_21 c0_i32_25
  let v70 : BitVec 32 := Scalar.extui v69
  let v71 : BitVec 32 := Scalar.subi v68 v70
  let v72 : BitVec 1 := Scalar.cmpi .ne v66 v71
  let v73 : BitVec 32 := Scalar.remsi v60 c2_i32_21
  let c0_i32_26 : BitVec 32 := 0#32
  let v74 : BitVec 1 := Scalar.cmpi .ne v73 c0_i32_26
  let v75 : BitVec 1 := Scalar.andi v72 v74
  let v61 : BitVec 32 := Scalar.divsi v60 c2_i32_21
  let c1_i32_27 : BitVec 32 := 1#32
  let v76 : BitVec 32 := Scalar.subi v61 c1_i32_27
  let v77 : BitVec 32 := Scalar.select v75 v76 v61
  let v91 : BitVec 32 := Scalar.muli c2_i32_39 v77
  let c1_i32_59 : BitVec 32 := 1#32
  let v153 : BitVec 32 := Scalar.addi v91 c1_i32_59
  let c512_i32 : BitVec 32 := 512#32
  let v154 : BitVec 32 := Scalar.muli v153 c512_i32
  v154
def k0_off6 (i : grid0.Coords) : Fin 3 → Nat :=
  let c0_60 : Index := 0#32
  let c2_i32_39 : BitVec 32 := 2#32
  let arg2 : BitVec 32 := BitVec.ofNat 32 (i 2).val
  let c0_i32_15 : BitVec 32 := 0#32
  let v45 : BitVec 1 := Scalar.cmpi .sgt arg2 c0_i32_15
  let v46 : BitVec 32 := Scalar.extui v45
  let c0_i32_16 : BitVec 32 := 0#32
  let v47 : BitVec 1 := Scalar.cmpi .slt arg2 c0_i32_16
  let v48 : BitVec 32 := Scalar.extui v47
  let v49 : BitVec 32 := Scalar.subi v46 v48
  let c1_i32_14 : BitVec 32 := 1#32
  let c0_i32_17 : BitVec 32 := 0#32
  let v50 : BitVec 1 := Scalar.cmpi .sgt c1_i32_14 c0_i32_17
  let v51 : BitVec 32 := Scalar.extui v50
  let c0_i32_18 : BitVec 32 := 0#32
  let v52 : BitVec 1 := Scalar.cmpi .slt c1_i32_14 c0_i32_18
  let v53 : BitVec 32 := Scalar.extui v52
  let v54 : BitVec 32 := Scalar.subi v51 v53
  let v55 : BitVec 1 := Scalar.cmpi .ne v49 v54
  let v56 : BitVec 32 := Scalar.remsi arg2 c1_i32_14
  let c0_i32_19 : BitVec 32 := 0#32
  let v57 : BitVec 1 := Scalar.cmpi .ne v56 c0_i32_19
  let v58 : BitVec 1 := Scalar.andi v55 v57
  let v44 : BitVec 32 := Scalar.divsi arg2 c1_i32_14
  let c1_i32_20 : BitVec 32 := 1#32
  let v59 : BitVec 32 := Scalar.subi v44 c1_i32_20
  let v60 : BitVec 32 := Scalar.select v58 v59 v44
  let c0_i32_22 : BitVec 32 := 0#32
  let v62 : BitVec 1 := Scalar.cmpi .sgt v60 c0_i32_22
  let v63 : BitVec 32 := Scalar.extui v62
  let c0_i32_23 : BitVec 32 := 0#32
  let v64 : BitVec 1 := Scalar.cmpi .slt v60 c0_i32_23
  let v65 : BitVec 32 := Scalar.extui v64
  let v66 : BitVec 32 := Scalar.subi v63 v65
  let c2_i32_21 : BitVec 32 := 2#32
  let c0_i32_24 : BitVec 32 := 0#32
  let v67 : BitVec 1 := Scalar.cmpi .sgt c2_i32_21 c0_i32_24
  let v68 : BitVec 32 := Scalar.extui v67
  let c0_i32_25 : BitVec 32 := 0#32
  let v69 : BitVec 1 := Scalar.cmpi .slt c2_i32_21 c0_i32_25
  let v70 : BitVec 32 := Scalar.extui v69
  let v71 : BitVec 32 := Scalar.subi v68 v70
  let v72 : BitVec 1 := Scalar.cmpi .ne v66 v71
  let v73 : BitVec 32 := Scalar.remsi v60 c2_i32_21
  let c0_i32_26 : BitVec 32 := 0#32
  let v74 : BitVec 1 := Scalar.cmpi .ne v73 c0_i32_26
  let v75 : BitVec 1 := Scalar.andi v72 v74
  let v61 : BitVec 32 := Scalar.divsi v60 c2_i32_21
  let c1_i32_27 : BitVec 32 := 1#32
  let v76 : BitVec 32 := Scalar.subi v61 c1_i32_27
  let v77 : BitVec 32 := Scalar.select v75 v76 v61
  let v91 : BitVec 32 := Scalar.muli c2_i32_39 v77
  let c1_i32_59 : BitVec 32 := 1#32
  let v153 : BitVec 32 := Scalar.addi v91 c1_i32_59
  let c512_i32 : BitVec 32 := 512#32
  let v154 : BitVec 32 := Scalar.muli v153 c512_i32
  let v155 : BitVec 32 := v154
  let v156 : Index := Scalar.indexCast v155
  let c0_61 : Index := 0#32
  ![0, v156.toNat, 0]
def k0_mult12 (i : grid0.Coords) : BitVec 32 :=
  let c2_i32_39 : BitVec 32 := 2#32
  let arg2 : BitVec 32 := BitVec.ofNat 32 (i 2).val
  let c0_i32_15 : BitVec 32 := 0#32
  let v45 : BitVec 1 := Scalar.cmpi .sgt arg2 c0_i32_15
  let v46 : BitVec 32 := Scalar.extui v45
  let c0_i32_16 : BitVec 32 := 0#32
  let v47 : BitVec 1 := Scalar.cmpi .slt arg2 c0_i32_16
  let v48 : BitVec 32 := Scalar.extui v47
  let v49 : BitVec 32 := Scalar.subi v46 v48
  let c1_i32_14 : BitVec 32 := 1#32
  let c0_i32_17 : BitVec 32 := 0#32
  let v50 : BitVec 1 := Scalar.cmpi .sgt c1_i32_14 c0_i32_17
  let v51 : BitVec 32 := Scalar.extui v50
  let c0_i32_18 : BitVec 32 := 0#32
  let v52 : BitVec 1 := Scalar.cmpi .slt c1_i32_14 c0_i32_18
  let v53 : BitVec 32 := Scalar.extui v52
  let v54 : BitVec 32 := Scalar.subi v51 v53
  let v55 : BitVec 1 := Scalar.cmpi .ne v49 v54
  let v56 : BitVec 32 := Scalar.remsi arg2 c1_i32_14
  let c0_i32_19 : BitVec 32 := 0#32
  let v57 : BitVec 1 := Scalar.cmpi .ne v56 c0_i32_19
  let v58 : BitVec 1 := Scalar.andi v55 v57
  let v44 : BitVec 32 := Scalar.divsi arg2 c1_i32_14
  let c1_i32_20 : BitVec 32 := 1#32
  let v59 : BitVec 32 := Scalar.subi v44 c1_i32_20
  let v60 : BitVec 32 := Scalar.select v58 v59 v44
  let c0_i32_22 : BitVec 32 := 0#32
  let v62 : BitVec 1 := Scalar.cmpi .sgt v60 c0_i32_22
  let v63 : BitVec 32 := Scalar.extui v62
  let c0_i32_23 : BitVec 32 := 0#32
  let v64 : BitVec 1 := Scalar.cmpi .slt v60 c0_i32_23
  let v65 : BitVec 32 := Scalar.extui v64
  let v66 : BitVec 32 := Scalar.subi v63 v65
  let c2_i32_21 : BitVec 32 := 2#32
  let c0_i32_24 : BitVec 32 := 0#32
  let v67 : BitVec 1 := Scalar.cmpi .sgt c2_i32_21 c0_i32_24
  let v68 : BitVec 32 := Scalar.extui v67
  let c0_i32_25 : BitVec 32 := 0#32
  let v69 : BitVec 1 := Scalar.cmpi .slt c2_i32_21 c0_i32_25
  let v70 : BitVec 32 := Scalar.extui v69
  let v71 : BitVec 32 := Scalar.subi v68 v70
  let v72 : BitVec 1 := Scalar.cmpi .ne v66 v71
  let v73 : BitVec 32 := Scalar.remsi v60 c2_i32_21
  let c0_i32_26 : BitVec 32 := 0#32
  let v74 : BitVec 1 := Scalar.cmpi .ne v73 c0_i32_26
  let v75 : BitVec 1 := Scalar.andi v72 v74
  let v61 : BitVec 32 := Scalar.divsi v60 c2_i32_21
  let c1_i32_27 : BitVec 32 := 1#32
  let v76 : BitVec 32 := Scalar.subi v61 c1_i32_27
  let v77 : BitVec 32 := Scalar.select v75 v76 v61
  let v91 : BitVec 32 := Scalar.muli c2_i32_39 v77
  let c512_i32_65 : BitVec 32 := 512#32
  let v163 : BitVec 32 := Scalar.muli v91 c512_i32_65
  v163
def k0_off7 (i : grid0.Coords) : Fin 3 → Nat :=
  let c0_66 : Index := 0#32
  let c2_i32_39 : BitVec 32 := 2#32
  let arg2 : BitVec 32 := BitVec.ofNat 32 (i 2).val
  let c0_i32_15 : BitVec 32 := 0#32
  let v45 : BitVec 1 := Scalar.cmpi .sgt arg2 c0_i32_15
  let v46 : BitVec 32 := Scalar.extui v45
  let c0_i32_16 : BitVec 32 := 0#32
  let v47 : BitVec 1 := Scalar.cmpi .slt arg2 c0_i32_16
  let v48 : BitVec 32 := Scalar.extui v47
  let v49 : BitVec 32 := Scalar.subi v46 v48
  let c1_i32_14 : BitVec 32 := 1#32
  let c0_i32_17 : BitVec 32 := 0#32
  let v50 : BitVec 1 := Scalar.cmpi .sgt c1_i32_14 c0_i32_17
  let v51 : BitVec 32 := Scalar.extui v50
  let c0_i32_18 : BitVec 32 := 0#32
  let v52 : BitVec 1 := Scalar.cmpi .slt c1_i32_14 c0_i32_18
  let v53 : BitVec 32 := Scalar.extui v52
  let v54 : BitVec 32 := Scalar.subi v51 v53
  let v55 : BitVec 1 := Scalar.cmpi .ne v49 v54
  let v56 : BitVec 32 := Scalar.remsi arg2 c1_i32_14
  let c0_i32_19 : BitVec 32 := 0#32
  let v57 : BitVec 1 := Scalar.cmpi .ne v56 c0_i32_19
  let v58 : BitVec 1 := Scalar.andi v55 v57
  let v44 : BitVec 32 := Scalar.divsi arg2 c1_i32_14
  let c1_i32_20 : BitVec 32 := 1#32
  let v59 : BitVec 32 := Scalar.subi v44 c1_i32_20
  let v60 : BitVec 32 := Scalar.select v58 v59 v44
  let c0_i32_22 : BitVec 32 := 0#32
  let v62 : BitVec 1 := Scalar.cmpi .sgt v60 c0_i32_22
  let v63 : BitVec 32 := Scalar.extui v62
  let c0_i32_23 : BitVec 32 := 0#32
  let v64 : BitVec 1 := Scalar.cmpi .slt v60 c0_i32_23
  let v65 : BitVec 32 := Scalar.extui v64
  let v66 : BitVec 32 := Scalar.subi v63 v65
  let c2_i32_21 : BitVec 32 := 2#32
  let c0_i32_24 : BitVec 32 := 0#32
  let v67 : BitVec 1 := Scalar.cmpi .sgt c2_i32_21 c0_i32_24
  let v68 : BitVec 32 := Scalar.extui v67
  let c0_i32_25 : BitVec 32 := 0#32
  let v69 : BitVec 1 := Scalar.cmpi .slt c2_i32_21 c0_i32_25
  let v70 : BitVec 32 := Scalar.extui v69
  let v71 : BitVec 32 := Scalar.subi v68 v70
  let v72 : BitVec 1 := Scalar.cmpi .ne v66 v71
  let v73 : BitVec 32 := Scalar.remsi v60 c2_i32_21
  let c0_i32_26 : BitVec 32 := 0#32
  let v74 : BitVec 1 := Scalar.cmpi .ne v73 c0_i32_26
  let v75 : BitVec 1 := Scalar.andi v72 v74
  let v61 : BitVec 32 := Scalar.divsi v60 c2_i32_21
  let c1_i32_27 : BitVec 32 := 1#32
  let v76 : BitVec 32 := Scalar.subi v61 c1_i32_27
  let v77 : BitVec 32 := Scalar.select v75 v76 v61
  let v91 : BitVec 32 := Scalar.muli c2_i32_39 v77
  let c512_i32_65 : BitVec 32 := 512#32
  let v163 : BitVec 32 := Scalar.muli v91 c512_i32_65
  let v164 : BitVec 32 := v163
  let v165 : Index := Scalar.indexCast v164
  let c0_67 : Index := 0#32
  ![0, v165.toNat, 0]
def k0_mult13 (i : grid0.Coords) : BitVec 32 :=
  let c2_i32_39 : BitVec 32 := 2#32
  let arg2 : BitVec 32 := BitVec.ofNat 32 (i 2).val
  let c0_i32_15 : BitVec 32 := 0#32
  let v45 : BitVec 1 := Scalar.cmpi .sgt arg2 c0_i32_15
  let v46 : BitVec 32 := Scalar.extui v45
  let c0_i32_16 : BitVec 32 := 0#32
  let v47 : BitVec 1 := Scalar.cmpi .slt arg2 c0_i32_16
  let v48 : BitVec 32 := Scalar.extui v47
  let v49 : BitVec 32 := Scalar.subi v46 v48
  let c1_i32_14 : BitVec 32 := 1#32
  let c0_i32_17 : BitVec 32 := 0#32
  let v50 : BitVec 1 := Scalar.cmpi .sgt c1_i32_14 c0_i32_17
  let v51 : BitVec 32 := Scalar.extui v50
  let c0_i32_18 : BitVec 32 := 0#32
  let v52 : BitVec 1 := Scalar.cmpi .slt c1_i32_14 c0_i32_18
  let v53 : BitVec 32 := Scalar.extui v52
  let v54 : BitVec 32 := Scalar.subi v51 v53
  let v55 : BitVec 1 := Scalar.cmpi .ne v49 v54
  let v56 : BitVec 32 := Scalar.remsi arg2 c1_i32_14
  let c0_i32_19 : BitVec 32 := 0#32
  let v57 : BitVec 1 := Scalar.cmpi .ne v56 c0_i32_19
  let v58 : BitVec 1 := Scalar.andi v55 v57
  let v44 : BitVec 32 := Scalar.divsi arg2 c1_i32_14
  let c1_i32_20 : BitVec 32 := 1#32
  let v59 : BitVec 32 := Scalar.subi v44 c1_i32_20
  let v60 : BitVec 32 := Scalar.select v58 v59 v44
  let c0_i32_22 : BitVec 32 := 0#32
  let v62 : BitVec 1 := Scalar.cmpi .sgt v60 c0_i32_22
  let v63 : BitVec 32 := Scalar.extui v62
  let c0_i32_23 : BitVec 32 := 0#32
  let v64 : BitVec 1 := Scalar.cmpi .slt v60 c0_i32_23
  let v65 : BitVec 32 := Scalar.extui v64
  let v66 : BitVec 32 := Scalar.subi v63 v65
  let c2_i32_21 : BitVec 32 := 2#32
  let c0_i32_24 : BitVec 32 := 0#32
  let v67 : BitVec 1 := Scalar.cmpi .sgt c2_i32_21 c0_i32_24
  let v68 : BitVec 32 := Scalar.extui v67
  let c0_i32_25 : BitVec 32 := 0#32
  let v69 : BitVec 1 := Scalar.cmpi .slt c2_i32_21 c0_i32_25
  let v70 : BitVec 32 := Scalar.extui v69
  let v71 : BitVec 32 := Scalar.subi v68 v70
  let v72 : BitVec 1 := Scalar.cmpi .ne v66 v71
  let v73 : BitVec 32 := Scalar.remsi v60 c2_i32_21
  let c0_i32_26 : BitVec 32 := 0#32
  let v74 : BitVec 1 := Scalar.cmpi .ne v73 c0_i32_26
  let v75 : BitVec 1 := Scalar.andi v72 v74
  let v61 : BitVec 32 := Scalar.divsi v60 c2_i32_21
  let c1_i32_27 : BitVec 32 := 1#32
  let v76 : BitVec 32 := Scalar.subi v61 c1_i32_27
  let v77 : BitVec 32 := Scalar.select v75 v76 v61
  let v91 : BitVec 32 := Scalar.muli c2_i32_39 v77
  let c1_i32_84 : BitVec 32 := 1#32
  let v212 : BitVec 32 := Scalar.addi v91 c1_i32_84
  let c512_i32_85 : BitVec 32 := 512#32
  let v213 : BitVec 32 := Scalar.muli v212 c512_i32_85
  v213
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Kernel2Ideal.lean ====
variable {F : FTy → Type} [FloatOps F] [Named F]
def κ : String → Option EReal := fun
  | "mask" => some ⊥
  | _ => none
-- ==== Reference2Ideal.lean ====
abbrev S2x8192x256 : Shape := ⟨3, ![2, 8192, 256]⟩
abbrev S1 : Shape := ⟨1, ![1]⟩
abbrev S1x256 : Shape := ⟨2, ![1, 256]⟩
abbrev S2x8192x4x64 : Shape := ⟨4, ![2, 8192, 4, 64]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S2x8192x4x32 : Shape := ⟨4, ![2, 8192, 4, 32]⟩
abbrev S2x4x8192x8192 : Shape := ⟨4, ![2, 4, 8192, 8192]⟩
abbrev S_ : Shape := ⟨0, ![]⟩
abbrev S2x4x8192 : Shape := ⟨3, ![2, 4, 8192]⟩
abbrev S2x4x8192x1 : Shape := ⟨4, ![2, 4, 8192, 1]⟩
abbrev S2x4x64x8192 : Shape := ⟨4, ![2, 4, 64, 8192]⟩
abbrev S2x8192x4 : Shape := ⟨3, ![2, 8192, 4]⟩
abbrev S2x8192x4x1 : Shape := ⟨4, ![2, 8192, 4, 1]⟩
abbrev S1x1x256 : Shape := ⟨3, ![1, 1, 256]⟩

abbrev nBuf : Space → Nat
  | .hbm => 85
  | .vmem => 0
  | .smem => 0
  | _ => 0

abbrev bufTy : (tb : Table) → Fin (tcTables nBuf tb) → BufTy
  | .hbm, ⟨0, _⟩ => ⟨S2x8192x256, .bf16⟩
  | .hbm, ⟨1, _⟩ => ⟨S2x8192x256, .bf16⟩
  | .hbm, ⟨2, _⟩ => ⟨S2x8192x256, .bf16⟩
  | .hbm, ⟨3, _⟩ => ⟨S1, .f32⟩
  | .hbm, ⟨4, _⟩ => ⟨S1x256, .f32⟩
  | .hbm, ⟨5, _⟩ => ⟨S2x8192x256, .f32⟩
  | .hbm, ⟨6, _⟩ => ⟨S2x8192x4x64, .f32⟩
  | .hbm, ⟨7, _⟩ => ⟨S2x8192x256, .f32⟩
  | .hbm, ⟨8, _⟩ => ⟨S2x8192x4x64, .f32⟩
  | .hbm, ⟨9, _⟩ => ⟨S2x8192x256, .f32⟩
  | .hbm, ⟨10, _⟩ => ⟨S2x8192x4x64, .f32⟩
  | .hbm, ⟨11, _⟩ => ⟨S8192, .i32⟩
  | .hbm, ⟨12, _⟩ => ⟨S1x8192, .i32⟩
  | .hbm, ⟨13, _⟩ => ⟨S8192x1, .i32⟩
  | .hbm, ⟨14, _⟩ => ⟨S8192x8192, .i32⟩
  | .hbm, ⟨15, _⟩ => ⟨S8192x8192, .i32⟩
  | .hbm, ⟨16, _⟩ => ⟨S8192x8192, .i1⟩
  | .hbm, ⟨17, _⟩ => ⟨S2x8192x4x32, .f32⟩
  | .hbm, ⟨18, _⟩ => ⟨S2x8192x4x32, .f32⟩
  | .hbm, ⟨19, _⟩ => ⟨S2x4x8192x8192, .f32⟩
  | .hbm, ⟨20, _⟩ => ⟨S2x8192x4x32, .f32⟩
  | .hbm, ⟨21, _⟩ => ⟨S2x8192x4x32, .f32⟩
  | .hbm, ⟨22, _⟩ => ⟨S2x4x8192x8192, .f32⟩
  | .hbm, ⟨23, _⟩ => ⟨S_, .f32⟩
  | .hbm, ⟨24, _⟩ => ⟨S_, .f32⟩
  | .hbm, ⟨25, _⟩ => ⟨S2x4x8192x8192, .i1⟩
  | .hbm, ⟨26, _⟩ => ⟨S2x4x8192x8192, .f32⟩
  | .hbm, ⟨27, _⟩ => ⟨S2x4x8192x8192, .f32⟩
  | .hbm, ⟨28, _⟩ => ⟨S_, .f32⟩
  | .hbm, ⟨29, _⟩ => ⟨S2x4x8192, .f32⟩
  | .hbm, ⟨30, _⟩ => ⟨S_, .f32⟩
  | .hbm, ⟨31, _⟩ => ⟨S2x4x8192, .f32⟩
  | .hbm, ⟨32, _⟩ => ⟨S2x4x8192, .f32⟩
  | .hbm, ⟨33, _⟩ => ⟨S2x4x8192x1, .f32⟩
  | .hbm, ⟨34, _⟩ => ⟨S2x4x8192x8192, .f32⟩
  | .hbm, ⟨35, _⟩ => ⟨S2x4x8192x8192, .f32⟩
  | .hbm, ⟨36, _⟩ => ⟨S2x4x8192x8192, .f32⟩
  | .hbm, ⟨37, _⟩ => ⟨S_, .f32⟩
  | .hbm, ⟨38, _⟩ => ⟨S2x4x8192, .f32⟩
  | .hbm, ⟨39, _⟩ => ⟨S2x4x8192x1, .f32⟩
  | .hbm, ⟨40, _⟩ => ⟨S2x4x8192x8192, .f32⟩
  | .hbm, ⟨41, _⟩ => ⟨S2x4x8192x8192, .f32⟩
  | .hbm, ⟨42, _⟩ => ⟨S_, .f32⟩
  | .hbm, ⟨43, _⟩ => ⟨S_, .f32⟩
  | .hbm, ⟨44, _⟩ => ⟨S2x4x8192x8192, .i1⟩
  | .hbm, ⟨45, _⟩ => ⟨S2x4x8192x8192, .f32⟩
  | .hbm, ⟨46, _⟩ => ⟨S2x4x8192x8192, .f32⟩
  | .hbm, ⟨47, _⟩ => ⟨S_, .f32⟩
  | .hbm, ⟨48, _⟩ => ⟨S2x4x8192, .f32⟩
  | .hbm, ⟨49, _⟩ => ⟨S_, .f32⟩
  | .hbm, ⟨50, _⟩ => ⟨S2x4x8192, .f32⟩
  | .hbm, ⟨51, _⟩ => ⟨S2x4x8192, .f32⟩
  | .hbm, ⟨52, _⟩ => ⟨S2x4x8192x1, .f32⟩
  | .hbm, ⟨53, _⟩ => ⟨S2x4x8192x8192, .f32⟩
  | .hbm, ⟨54, _⟩ => ⟨S2x4x8192x8192, .f32⟩
  | .hbm, ⟨55, _⟩ => ⟨S2x4x8192x8192, .f32⟩
  | .hbm, ⟨56, _⟩ => ⟨S_, .f32⟩
  | .hbm, ⟨57, _⟩ => ⟨S2x4x8192, .f32⟩
  | .hbm, ⟨58, _⟩ => ⟨S2x4x8192x1, .f32⟩
  | .hbm, ⟨59, _⟩ => ⟨S2x4x8192x8192, .f32⟩
  | .hbm, ⟨60, _⟩ => ⟨S2x4x8192x8192, .f32⟩
  | .hbm, ⟨61, _⟩ => ⟨S_, .f32⟩
  | .hbm, ⟨62, _⟩ => ⟨S2x4x8192x8192, .f32⟩
  | .hbm, ⟨63, _⟩ => ⟨S2x4x8192x8192, .f32⟩
  | .hbm, ⟨64, _⟩ => ⟨S2x4x8192x8192, .f32⟩
  | .hbm, ⟨65, _⟩ => ⟨S2x4x64x8192, .f32⟩
  | .hbm, ⟨66, _⟩ => ⟨S2x8192x4x64, .f32⟩
  | .hbm, ⟨67, _⟩ => ⟨S2x8192x4x64, .f32⟩
  | .hbm, ⟨68, _⟩ => ⟨S_, .f32⟩
  | .hbm, ⟨69, _⟩ => ⟨S2x8192x4, .f32⟩
  | .hbm, ⟨70, _⟩ => ⟨S2x8192x4x1, .f32⟩
  | .hbm, ⟨71, _⟩ => ⟨S_, .f32⟩
  | .hbm, ⟨72, _⟩ => ⟨S2x8192x4x1, .f32⟩
  | .hbm, ⟨73, _⟩ => ⟨S2x8192x4x1, .f32⟩
  | .hbm, ⟨74, _⟩ => ⟨S_, .f32⟩
  | .hbm, ⟨75, _⟩ => ⟨S2x8192x4x1, .f32⟩
  | .hbm, ⟨76, _⟩ => ⟨S2x8192x4x1, .f32⟩
  | .hbm, ⟨77, _⟩ => ⟨S2x8192x4x1, .f32⟩
  | .hbm, ⟨78, _⟩ => ⟨S2x8192x4x64, .f32⟩
  | .hbm, ⟨79, _⟩ => ⟨S2x8192x4x64, .f32⟩
  | .hbm, ⟨80, _⟩ => ⟨S2x8192x256, .f32⟩
  | .hbm, ⟨81, _⟩ => ⟨S1x1x256, .f32⟩
  | .hbm, ⟨82, _⟩ => ⟨S2x8192x256, .f32⟩
  | .hbm, ⟨83, _⟩ => ⟨S2x8192x256, .f32⟩
  | .hbm, ⟨84, _⟩ => ⟨S2x8192x256, .bf16⟩
  | _, _ => ⟨S2x8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v18 : Ref sig .tc := ⟨.hbm, 27, rfl⟩
abbrev main_cst_0 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_3 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_v30 : Ref sig .tc := ⟨.hbm, 46, rfl⟩
abbrev main_cst_4 : Ref sig .tc := ⟨.hbm, 47, rfl⟩
abbrev main_v31 : Ref sig .tc := ⟨.hbm, 48, rfl⟩
abbrev main_cst_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_7 : Ref sig .tc := ⟨.hbm, 68, rfl⟩
abbrev main_v49 : Ref sig .tc := ⟨.hbm, 69, rfl⟩
abbrev main_v50 : Ref sig .tc := ⟨.hbm, 70, rfl⟩
abbrev main_cst_8 : Ref sig .tc := ⟨.hbm, 71, rfl⟩
abbrev main_v51 : Ref sig .tc := ⟨.hbm, 72, rfl⟩
abbrev main_v52 : Ref sig .tc := ⟨.hbm, 73, rfl⟩
abbrev main_cst_9 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩

abbrev nD : Nat := 1
abbrev τ : Topo := Topo.v7x

variable {F : FTy → Type} [FloatOps F]
-- ==== Kernel3.lean ====
abbrev S16384x1024 : Shape := ⟨2, ![16384, 1024]⟩
abbrev S16384x256 : Shape := ⟨2, ![16384, 256]⟩
abbrev S16384x512 : Shape := ⟨2, ![16384, 512]⟩
abbrev S1024x1024 : Shape := ⟨2, ![1024, 1024]⟩
abbrev S1024 : Shape := ⟨1, ![1024]⟩
abbrev S1024x2048 : Shape := ⟨2, ![1024, 2048]⟩
abbrev S1x1024 : Shape := ⟨2, ![1, 1024]⟩
abbrev S16384x2048 : Shape := ⟨2, ![16384, 2048]⟩
abbrev S512x1024 : Shape := ⟨2, ![512, 1024]⟩
abbrev S512x256 : Shape := ⟨2, ![512, 256]⟩
abbrev S512x512 : Shape := ⟨2, ![512, 512]⟩
abbrev S512x2048 : Shape := ⟨2, ![512, 2048]⟩
abbrev S256x1024 : Shape := ⟨2, ![256, 1024]⟩
abbrev S512 : Shape := ⟨1, ![512]⟩
abbrev S512x1 : Shape := ⟨2, ![512, 1]⟩

abbrev nBuf : Space → Nat
  | .hbm => 16
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S16384x256, .bf16⟩
  | .hbm, ⟨2, _⟩ => ⟨S16384x256, .bf16⟩
  | .hbm, ⟨3, _⟩ => ⟨S16384x512, .bf16⟩
  | .hbm, ⟨4, _⟩ => ⟨S1024x1024, .f32⟩
  | .hbm, ⟨5, _⟩ => ⟨S1024, .f32⟩
  | .hbm, ⟨6, _⟩ => ⟨S1024x2048, .f32⟩
  | .hbm, ⟨7, _⟩ => ⟨S1024x2048, .bf16⟩
  | .hbm, ⟨8, _⟩ => ⟨S1024x2048, .f32⟩
  | .hbm, ⟨9, _⟩ => ⟨S1024x2048, .f32⟩
  | .hbm, ⟨10, _⟩ => ⟨S1024x2048, .bf16⟩
  | .hbm, ⟨11, _⟩ => ⟨S1024x1024, .bf16⟩
  | .hbm, ⟨12, _⟩ => ⟨S1x1024, .f32⟩
  | .hbm, ⟨13, _⟩ => ⟨S16384x1024, .f32⟩
  | .hbm, ⟨14, _⟩ => ⟨S16384x1024, .bf16⟩
  | .hbm, ⟨15, _⟩ => ⟨S16384x2048, .f32⟩
  | .local _ .vmem, ⟨0, _⟩ => ⟨S512x1024, .f32⟩
  | .local _ .vmem, ⟨1, _⟩ => ⟨S512x1024, .f32⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S512x512, .bf16⟩
  | .local _ .vmem, ⟨7, _⟩ => ⟨S512x512, .bf16⟩
  | .local _ .vmem, ⟨8, _⟩ => ⟨S1024x1024, .bf16⟩
  | .local _ .vmem, ⟨9, _⟩ => ⟨S1x1024, .f32⟩
  | .local _ .vmem, ⟨10, _⟩ => ⟨S1024x2048, .bf16⟩
  | .local _ .vmem, ⟨11, _⟩ => ⟨S1024x2048, .bf16⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x2048, .f32⟩
  | .local _ .vmem, ⟨17, _⟩ => ⟨S512x2048, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference3Ideal.lean ====
abbrev S16384x1024 : Shape := ⟨2, ![16384, 1024]⟩
abbrev S16384x256 : Shape := ⟨2, ![16384, 256]⟩
abbrev S16384x512 : Shape := ⟨2, ![16384, 512]⟩
abbrev S1024x1024 : Shape := ⟨2, ![1024, 1024]⟩
abbrev S1024 : Shape := ⟨1, ![1024]⟩
abbrev S1024x2048 : Shape := ⟨2, ![1024, 2048]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2048 : Shape := ⟨2, ![16384, 2048]⟩

abbrev nBuf : Space → Nat
  | .hbm => 31
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x256, .bf16⟩
  | .hbm, ⟨2, _⟩ => ⟨S16384x256, .bf16⟩
  | .hbm, ⟨3, _⟩ => ⟨S16384x512, .bf16⟩
  | .hbm, ⟨4, _⟩ => ⟨S1024x1024, .f32⟩
  | .hbm, ⟨5, _⟩ => ⟨S1024, .f32⟩
  | .hbm, ⟨6, _⟩ => ⟨S1024x2048, .f32⟩
  | .hbm, ⟨7, _⟩ => ⟨S16384x256, .f32⟩
  | .hbm, ⟨8, _⟩ => ⟨S16384x256, .f32⟩
  | .hbm, ⟨9, _⟩ => ⟨S16384x512, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1, .f32⟩
  | .hbm, ⟨24, _⟩ => ⟨S16384x1024, .f32⟩
  | .hbm, ⟨25, _⟩ => ⟨S16384x1024, .f32⟩
  | .hbm, ⟨26, _⟩ => ⟨S1x1024, .f32⟩
  | .hbm, ⟨27, _⟩ => ⟨S16384x1024, .f32⟩
  | .hbm, ⟨28, _⟩ => ⟨S16384x1024, .f32⟩
  | .hbm, ⟨29, _⟩ => ⟨S16384x1024, .bf16⟩
  | .hbm, ⟨30, _⟩ => ⟨S16384x2048, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]
-- ==== Kernel4.lean ====
abbrev S2x8192x1024 : Shape := ⟨3, ![2, 8192, 1024]⟩
abbrev S1024 : Shape := ⟨1, ![1024]⟩
abbrev S1024x2208 : Shape := ⟨2, ![1024, 2208]⟩
abbrev S3x256 : Shape := ⟨2, ![3, 256]⟩
abbrev S384 : Shape := ⟨1, ![384]⟩
abbrev S256 : Shape := ⟨1, ![256]⟩
abbrev S384x8x96 : Shape := ⟨3, ![384, 8, 96]⟩
abbrev S256x8x64 : Shape := ⟨3, ![256, 8, 64]⟩
abbrev S1024x32 : Shape := ⟨2, ![1024, 32]⟩
abbrev S1024x2176 : Shape := ⟨2, ![1024, 2176]⟩
abbrev S_ : Shape := ⟨0, ![]⟩
abbrev S1024x64 : Shape := ⟨2, ![1024, 64]⟩
abbrev S1024x16 : Shape := ⟨2, ![1024, 16]⟩
abbrev S1024x2304 : Shape := ⟨2, ![1024, 2304]⟩
abbrev S384x8x32 : Shape := ⟨3, ![384, 8, 32]⟩
abbrev S384x8x128 : Shape := ⟨3, ![384, 8, 128]⟩
abbrev S384x1024 : Shape := ⟨2, ![384, 1024]⟩
abbrev S384x8x64 : Shape := ⟨3, ![384, 8, 64]⟩
abbrev S384x8x16 : Shape := ⟨3, ![384, 8, 16]⟩
abbrev S256x8x128 : Shape := ⟨3, ![256, 8, 128]⟩
abbrev S256x1024 : Shape := ⟨2, ![256, 1024]⟩
abbrev S1x1024 : Shape := ⟨2, ![1, 1024]⟩
abbrev S1x384 : Shape := ⟨2, ![1, 384]⟩
abbrev S1x256 : Shape := ⟨2, ![1, 256]⟩
abbrev S256x512 : Shape := ⟨2, ![256, 512]⟩
abbrev S8192 : Shape := ⟨1, ![8192]⟩
abbrev S16 : Shape := ⟨1, ![16]⟩
abbrev S8192x1 : Shape := ⟨2, ![8192, 1]⟩
abbrev S1x16 : Shape := ⟨2, ![1, 16]⟩
abbrev S8192x16 : Shape := ⟨2, ![8192, 16]⟩
abbrev S8192x32 : Shape := ⟨2, ![8192, 32]⟩
abbrev S8192x64 : Shape := ⟨2, ![8192, 64]⟩
abbrev S8192x128 : Shape := ⟨2, ![8192, 128]⟩
abbrev S1x8192x128 : Shape := ⟨3, ![1, 8192, 128]⟩
abbrev S2x8192x256 : Shape := ⟨3, ![2, 8192, 256]⟩
abbrev S2x8192x32 : Shape := ⟨3, ![2, 8192, 32]⟩
abbrev S2x8192x512 : Shape := ⟨3, ![2, 8192, 512]⟩
abbrev S2x2x256 : Shape := ⟨3, ![2, 2, 256]⟩
abbrev S1x512x1024 : Shape := ⟨3, ![1, 512, 1024]⟩
abbrev S1x512x128 : Shape := ⟨3, ![1, 512, 128]⟩
abbrev S1x512x256 : Shape := ⟨3, ![1, 512, 256]⟩
abbrev S1x512x32 : Shape := ⟨3, ![1, 512, 32]⟩
abbrev S1x512x512 : Shape := ⟨3, ![1, 512, 512]⟩
abbrev S1x2x256 : Shape := ⟨3, ![1, 2, 256]⟩
abbrev S520x256 : Shape := ⟨2, ![520, 256]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S8x256 : Shape := ⟨2, ![8, 256]⟩
abbrev S2x256 : Shape := ⟨2, ![2, 256]⟩
abbrev S1024x384 : Shape := ⟨2, ![1024, 384]⟩
abbrev S512x384 : Shape := ⟨2, ![512, 384]⟩
abbrev S512x128 : Shape := ⟨2, ![512, 128]⟩
abbrev S1024x128 : Shape := ⟨2, ![1024, 128]⟩
abbrev S512x32 : Shape := ⟨2, ![512, 32]⟩
abbrev S512x512 : Shape := ⟨2, ![512, 512]⟩

abbrev nBuf : Space → Nat
  | .hbm => 87
  | .vmem => 42
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x2208, .f32⟩
  | .hbm, ⟨3, _⟩ => ⟨S3x256, .f32⟩
  | .hbm, ⟨4, _⟩ => ⟨S384, .f32⟩
  | .hbm, ⟨5, _⟩ => ⟨S256, .f32⟩
  | .hbm, ⟨6, _⟩ => ⟨S384x8x96, .f32⟩
  | .hbm, ⟨7, _⟩ => ⟨S256x8x64, .f32⟩
  | .hbm, ⟨8, _⟩ => ⟨S256x8x64, .f32⟩
  | .hbm, ⟨9, _⟩ => ⟨S1024x32, .f32⟩
  | .hbm, ⟨10, _⟩ => ⟨S1024x2176, .f32⟩
  | .hbm, ⟨11, _⟩ => ⟨S_, .f32⟩
  | .hbm, ⟨12, _⟩ => ⟨S1024x64, .f32⟩
  | .hbm, ⟨13, _⟩ => ⟨S1024x16, .f32⟩
  | .hbm, ⟨14, _⟩ => ⟨S1024x16, .f32⟩
  | .hbm, ⟨15, _⟩ => ⟨S1024x16, .f32⟩
  | .hbm, ⟨16, _⟩ => ⟨S1024x32, .f32⟩
  | .hbm, ⟨17, _⟩ => ⟨S1024x2304, .f32⟩
  | .hbm, ⟨18, _⟩ => ⟨S_, .f32⟩
  | .hbm, ⟨19, _⟩ => ⟨S384x8x32, .f32⟩
  | .hbm, ⟨20, _⟩ => ⟨S384x8x128, .f32⟩
  | .hbm, ⟨21, _⟩ => ⟨S384x1024, .f32⟩
  | .hbm, ⟨22, _⟩ => ⟨S_, .f32⟩
  | .hbm, ⟨23, _⟩ => ⟨S384x8x64, .f32⟩
  | .hbm, ⟨24, _⟩ => ⟨S384x8x32, .f32⟩
  | .hbm, ⟨25, _⟩ => ⟨S384x8x16, .f32⟩
  | .hbm, ⟨26, _⟩ => ⟨S384x8x16, .f32⟩
  | .hbm, ⟨27, _⟩ => ⟨S384x8x16, .f32⟩
  | .hbm, ⟨28, _⟩ => ⟨S384x8x32, .f32⟩
  | .hbm, ⟨29, _⟩ => ⟨S384x8x128, .f32⟩
  | .hbm, ⟨30, _⟩ => ⟨S384x1024, .f32⟩
  | .hbm, ⟨31, _⟩ => ⟨S_, .f32⟩
  | .hbm, ⟨32, _⟩ => ⟨S256x8x64, .f32⟩
  | .hbm, ⟨33, _⟩ => ⟨S256x8x128, .f32⟩
  | .hbm, ⟨34, _⟩ => ⟨S256x1024, .f32⟩
  | .hbm, ⟨35, _⟩ => ⟨S1x1024, .f32⟩
  | .hbm, ⟨36, _⟩ => ⟨S1024x2304, .bf16⟩
  | .hbm, ⟨37, _⟩ => ⟨S1x384, .f32⟩
  | .hbm, ⟨38, _⟩ => ⟨S1x256, .f32⟩
  | .hbm, ⟨39, _⟩ => ⟨S384x1024, .bf16⟩
  | .hbm, ⟨40, _⟩ => ⟨S384x1024, .bf16⟩
  | .hbm, ⟨41, _⟩ => ⟨S256x1024, .bf16⟩
  | .hbm, ⟨42, _⟩ => ⟨S256x512, .f32⟩
  | .hbm, ⟨43, _⟩ => ⟨S256x512, .bf16⟩
  | .hbm, ⟨44, _⟩ => ⟨S8192, .i32⟩
  | .hbm, ⟨45, _⟩ => ⟨S16, .f32⟩
  | .hbm, ⟨46, _⟩ => ⟨S16, .f32⟩
  | .hbm, ⟨47, _⟩ => ⟨S_, .f32⟩
  | .hbm, ⟨48, _⟩ => ⟨S16, .f32⟩
  | .hbm, ⟨49, _⟩ => ⟨S16, .f32⟩
  | .hbm, ⟨50, _⟩ => ⟨S_, .f32⟩
  | .hbm, ⟨51, _⟩ => ⟨S16, .f32⟩
  | .hbm, ⟨52, _⟩ => ⟨S16, .f32⟩
  | .hbm, ⟨53, _⟩ => ⟨S8192, .f32⟩
  | .hbm, ⟨54, _⟩ => ⟨S8192x1, .f32⟩
  | .hbm, ⟨55, _⟩ => ⟨S1x16, .f32⟩
  | .hbm, ⟨56, _⟩ => ⟨S8192x16, .f32⟩
  | .hbm, ⟨57, _⟩ => ⟨S8192x16, .f32⟩
  | .hbm, ⟨58, _⟩ => ⟨S8192x16, .f32⟩
  | .hbm, ⟨59, _⟩ => ⟨S8192x16, .f32⟩
  | .hbm, ⟨60, _⟩ => ⟨S8192x32, .f32⟩
  | .hbm, ⟨61, _⟩ => ⟨S8192x16, .f32⟩
  | .hbm, ⟨62, _⟩ => ⟨S8192x32, .f32⟩
  | .hbm, ⟨63, _⟩ => ⟨S_, .f32⟩
  | .hbm, ⟨64, _⟩ => ⟨S8192x64, .f32⟩
  | .hbm, ⟨65, _⟩ => ⟨S_, .f32⟩
  | .hbm, ⟨66, _⟩ => ⟨S8192x32, .f32⟩
  | .hbm, ⟨67, _⟩ => ⟨S_, .f32⟩
  | .hbm, ⟨68, _⟩ => ⟨S8192x64, .f32⟩
  | .hbm, ⟨69, _⟩ => ⟨S8192x128, .f32⟩
  | .hbm, ⟨70, _⟩ => ⟨S8192x128, .f32⟩
  | .hbm, ⟨71, _⟩ => ⟨S8192x128, .f32⟩
  | .hbm, ⟨72, _⟩ => ⟨S1x8192x128, .f32⟩
  | .hbm, ⟨73, _⟩ => ⟨S1x8192x128, .f32⟩
  | .hbm, ⟨74, _⟩ => ⟨S1x8192x128, .f32⟩
  | .hbm, ⟨75, _⟩ => ⟨S2x8192x256, .bf16⟩
  | .hbm, ⟨76, _⟩ => ⟨S2x8192x256, .bf16⟩
  | .hbm, ⟨77, _⟩ => ⟨S2x8192x256, .f32⟩
  | .hbm, ⟨78, _⟩ => ⟨S2x8192x256, .bf16⟩
  | .hbm, ⟨79, _⟩ => ⟨S2x8192x256, .f32⟩
  | .hbm, ⟨80, _⟩ => ⟨S2x8192x256, .bf16⟩
  | .hbm, ⟨81, _⟩ => ⟨S2x8192x256, .f32⟩
  | .hbm, ⟨82, _⟩ => ⟨S2x8192x32, .f32⟩
  | .hbm, ⟨83, _⟩ => ⟨S2x8192x1024, .bf16⟩
  | .hbm, ⟨84, _⟩ => ⟨S2x8192x1024, .bf16⟩
  | .hbm, ⟨85, _⟩ => ⟨S2x8192x512, .bf16⟩
  | .hbm, ⟨86, _⟩ => ⟨S2x2x256, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x2304, .bf16⟩
  | .local _ .vmem, ⟨4, _⟩ => ⟨S3x256, .f32⟩
  | .local _ .vmem, ⟨5, _⟩ => ⟨S1x384, .f32⟩
  | .local _ .vmem, ⟨6, _⟩ => ⟨S1x256, .f32⟩
  | .local _ .vmem, ⟨7, _⟩ => ⟨S384x1024, .bf16⟩
  | .local _ .vmem, ⟨8, _⟩ => ⟨S384x1024, .bf16⟩
  | .local _ .vmem, ⟨9, _⟩ => ⟨S256x1024, .bf16⟩
  | .local _ .vmem, ⟨10, _⟩ => ⟨S256x512, .bf16⟩
  | .local _ .vmem, ⟨11, _⟩ => ⟨S1x512x128, .f32⟩
  | .local _ .vmem, ⟨12, _⟩ => ⟨S1x512x128, .f32⟩
  | .local _ .vmem, ⟨13, _⟩ => ⟨S1x512x128, .f32⟩
  | .local _ .vmem, ⟨14, _⟩ => ⟨S1x512x128, .f32⟩
  | .local _ .vmem, ⟨15, _⟩ => ⟨S1x512x128, .f32⟩
  | .local _ .vmem, ⟨16, _⟩ => ⟨S1x512x128, .f32⟩
  | .local _ .vmem, ⟨17, _⟩ => ⟨S1x512x256, .bf16⟩
  | .local _ .vmem, ⟨18, _⟩ => ⟨S1x512x256, .bf16⟩
  | .local _ .vmem, ⟨19, _⟩ => ⟨S1x512x256, .bf16⟩
  | .local _ .vmem, ⟨20, _⟩ => ⟨S1x512x256, .bf16⟩
  | .local _ .vmem, ⟨21, _⟩ => ⟨S1x512x256, .f32⟩
  | .local _ .vmem, ⟨22, _⟩ => ⟨S1x512x256, .f32⟩
  | .local _ .vmem, ⟨23, _⟩ => ⟨S1x512x256, .bf16⟩
  | .local _ .vmem, ⟨24, _⟩ => ⟨S1x512x256, .bf16⟩
  | .local _ .vmem, ⟨25, _⟩ => ⟨S1x512x256, .f32⟩
  | .local _ .vmem, ⟨26, _⟩ => ⟨S1x512x256, .f32⟩
  | .local _ .vmem, ⟨27, _⟩ => ⟨S1x512x256, .bf16⟩
  | .local _ .vmem, ⟨28, _⟩ => ⟨S1x512x256, .bf16⟩
  | .local _ .vmem, ⟨29, _⟩ => ⟨S1x512x256, .f32⟩
  | .local _ .vmem, ⟨30, _⟩ => ⟨S1x512x256, .f32⟩
  | .local _ .vmem, ⟨31, _⟩ => ⟨S1x512x32, .f32⟩
  | .local _ .vmem, ⟨32, _⟩ => ⟨S1x512x32, .f32⟩
  | .local _ .vmem, ⟨33, _⟩ => ⟨S1x512x1024, .bf16⟩
  | .local _ .vmem, ⟨34, _⟩ => ⟨S1x512x1024, .bf16⟩
  | .local _ .vmem, ⟨35, _⟩ => ⟨S1x512x1024, .bf16⟩
  | .local _ .vmem, ⟨36, _⟩ => ⟨S1x512x1024, .bf16⟩
  | .local _ .vmem, ⟨37, _⟩ => ⟨S1x512x512, .bf16⟩
  | .local _ .vmem, ⟨38, _⟩ => ⟨S1x512x512, .bf16⟩
  | .local _ .vmem, ⟨39, _⟩ => ⟨S1x2x256, .f32⟩
  | .local _ .vmem, ⟨40, _⟩ => ⟨S1x2x256, .f32⟩
  | .local _ .vmem, ⟨41, _⟩ => ⟨S520x256, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_3 : Ref sig .tc := ⟨.hbm, 47, rfl⟩
abbrev main_v34 : Ref sig .tc := ⟨.hbm, 48, rfl⟩
abbrev main_v35 : Ref sig .tc := ⟨.hbm, 49, rfl⟩
abbrev main_cst_4 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_5 : Ref sig .tc := ⟨.hbm, 63, rfl⟩
abbrev main_v48 : Ref sig .tc := ⟨.hbm, 64, rfl⟩
abbrev main_cst_6 : Ref sig .tc := ⟨.hbm, 65, rfl⟩
abbrev main_v49 : Ref sig .tc := ⟨.hbm, 66, rfl⟩
abbrev main_cst_7 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57_0 : Ref sig .tc := ⟨.hbm, 75, rfl⟩
abbrev main_v57_1 : Ref sig .tc := ⟨.hbm, 76, rfl⟩
abbrev main_v57_2 : Ref sig .tc := ⟨.hbm, 77, rfl⟩
abbrev main_v57_3 : Ref sig .tc := ⟨.hbm, 78, rfl⟩
abbrev main_v57_4 : Ref sig .tc := ⟨.hbm, 79, rfl⟩
abbrev main_v57_5 : Ref sig .tc := ⟨.hbm, 80, rfl⟩
abbrev main_v57_6 : Ref sig .tc := ⟨.hbm, 81, rfl⟩
abbrev main_v57_7 : Ref sig .tc := ⟨.hbm, 82, rfl⟩
abbrev main_v57_8 : Ref sig .tc := ⟨.hbm, 83, rfl⟩
abbrev main_v57_9 : Ref sig .tc := ⟨.hbm, 84, rfl⟩
abbrev main_v57_10 : Ref sig .tc := ⟨.hbm, 85, rfl⟩
abbrev main_v57_11 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_stg20_0 : Ref sig .tc := ⟨.vmem, 31, rfl⟩
abbrev cc0_stg20_1 : Ref sig .tc := ⟨.vmem, 32, rfl⟩
abbrev cc0_stg21_0 : Ref sig .tc := ⟨.vmem, 33, rfl⟩
abbrev cc0_stg21_1 : Ref sig .tc := ⟨.vmem, 34, rfl⟩
abbrev cc0_stg22_0 : Ref sig .tc := ⟨.vmem, 35, rfl⟩
abbrev cc0_stg22_1 : Ref sig .tc := ⟨.vmem, 36, rfl⟩
abbrev cc0_stg23_0 : Ref sig .tc := ⟨.vmem, 37, rfl⟩
abbrev cc0_stg23_1 : Ref sig .tc := ⟨.vmem, 38, rfl⟩
abbrev cc0_stg24_0 : Ref sig .tc := ⟨.vmem, 39, rfl⟩
abbrev cc0_stg24_1 : Ref sig .tc := ⟨.vmem, 40, rfl⟩
abbrev cc0_scratch0 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29
abbrev cc0_sem19_1 : DmaSem sig := 30
abbrev cc0_sem20_0 : DmaSem sig := 31
abbrev cc0_sem20_1 : DmaSem sig := 32
abbrev cc0_sem21_0 : DmaSem sig := 33
abbrev cc0_sem21_1 : DmaSem sig := 34
abbrev cc0_sem22_0 : DmaSem sig := 35
abbrev cc0_sem22_1 : DmaSem sig := 36
abbrev cc0_sem23_0 : DmaSem sig := 37
abbrev cc0_sem23_1 : DmaSem sig := 38
abbrev cc0_sem24_0 : DmaSem sig := 39
abbrev cc0_sem24_1 : DmaSem sig := 40

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_24 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2304 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S384x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S384x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1x512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S1x512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x512x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x512x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x512x32 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x512x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x512x1024 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x512x512 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S1x2x256 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, false]
-- ==== Reference4Ideal.lean ====
abbrev S2x8192x1024 : Shape := ⟨3, ![2, 8192, 1024]⟩
abbrev S1024 : Shape := ⟨1, ![1024]⟩
abbrev S1024x2208 : Shape := ⟨2, ![1024, 2208]⟩
abbrev S3x256 : Shape := ⟨2, ![3, 256]⟩
abbrev S384 : Shape := ⟨1, ![384]⟩
abbrev S256 : Shape := ⟨1, ![256]⟩
abbrev S384x8x96 : Shape := ⟨3, ![384, 8, 96]⟩
abbrev S256x8x64 : Shape := ⟨3, ![256, 8, 64]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x2208 : Shape := ⟨3, ![2, 8192, 2208]⟩
abbrev S2x8192x256 : Shape := ⟨3, ![2, 8192, 256]⟩
abbrev S2x8192x384 : Shape := ⟨3, ![2, 8192, 384]⟩
abbrev S2x8192x32 : Shape := ⟨3, ![2, 8192, 32]⟩
abbrev S2x2x256 : Shape := ⟨3, ![2, 2, 256]⟩
abbrev S2x8194x256 : Shape := ⟨3, ![2, 8194, 256]⟩
abbrev S1x1x256 : Shape := ⟨3, ![1, 1, 256]⟩
abbrev S2x8192x8x64 : Shape := ⟨4, ![2, 8192, 8, 64]⟩
abbrev S2x8192x512 : Shape := ⟨3, ![2, 8192, 512]⟩

abbrev nBuf : Space → Nat
  | .hbm => 65
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x2208, .f32⟩
  | .hbm, ⟨3, _⟩ => ⟨S3x256, .f32⟩
  | .hbm, ⟨4, _⟩ => ⟨S384, .f32⟩
  | .hbm, ⟨5, _⟩ => ⟨S256, .f32⟩
  | .hbm, ⟨6, _⟩ => ⟨S384x8x96, .f32⟩
  | .hbm, ⟨7, _⟩ => ⟨S256x8x64, .f32⟩
  | .hbm, ⟨8, _⟩ => ⟨S256x8x64, .f32⟩
  | .hbm, ⟨9, _⟩ => ⟨S2x8192x1024, .f32⟩
  | .hbm, ⟨10, _⟩ => ⟨S_, .f32⟩
  | .hbm, ⟨11, _⟩ => ⟨S2x8192, .f32⟩
  | .hbm, ⟨12, _⟩ => ⟨S2x8192x1, .f32⟩
  | .hbm, ⟨13, _⟩ => ⟨S_, .f32⟩
  | .hbm, ⟨14, _⟩ => ⟨S2x8192x1, .f32⟩
  | .hbm, ⟨15, _⟩ => ⟨S2x8192x1, .f32⟩
  | .hbm, ⟨16, _⟩ => ⟨S_, .f32⟩
  | .hbm, ⟨17, _⟩ => ⟨S2x8192x1, .f32⟩
  | .hbm, ⟨18, _⟩ => ⟨S2x8192x1, .f32⟩
  | .hbm, ⟨19, _⟩ => ⟨S2x8192x1, .f32⟩
  | .hbm, ⟨20, _⟩ => ⟨S2x8192x1024, .f32⟩
  | .hbm, ⟨21, _⟩ => ⟨S2x8192x1024, .f32⟩
  | .hbm, ⟨22, _⟩ => ⟨S1x1x1024, .f32⟩
  | .hbm, ⟨23, _⟩ => ⟨S2x8192x1024, .f32⟩
  | .hbm, ⟨24, _⟩ => ⟨S2x8192x1024, .f32⟩
  | .hbm, ⟨25, _⟩ => ⟨S2x8192x2208, .f32⟩
  | .hbm, ⟨26, _⟩ => ⟨S2x8192x256, .f32⟩
  | .hbm, ⟨27, _⟩ => ⟨S2x8192x256, .f32⟩
  | .hbm, ⟨28, _⟩ => ⟨S2x8192x256, .f32⟩
  | .hbm, ⟨29, _⟩ => ⟨S2x8192x256, .f32⟩
  | .hbm, ⟨30, _⟩ => ⟨S2x8192x256, .f32⟩
  | .hbm, ⟨31, _⟩ => ⟨S2x8192x256, .f32⟩
  | .hbm, ⟨32, _⟩ => ⟨S2x8192x384, .f32⟩
  | .hbm, ⟨33, _⟩ => ⟨S2x8192x256, .f32⟩
  | .hbm, ⟨34, _⟩ => ⟨S2x8192x32, .f32⟩
  | .hbm, ⟨35, _⟩ => ⟨S_, .f32⟩
  | .hbm, ⟨36, _⟩ => ⟨S2x2x256, .f32⟩
  | .hbm, ⟨37, _⟩ => ⟨S2x8192x256, .f32⟩
  | .hbm, ⟨38, _⟩ => ⟨S2x8194x256, .f32⟩
  | .hbm, ⟨39, _⟩ => ⟨S2x8192x256, .f32⟩
  | .hbm, ⟨40, _⟩ => ⟨S_, .f32⟩
  | .hbm, ⟨41, _⟩ => ⟨S2x8192, .f32⟩
  | .hbm, ⟨42, _⟩ => ⟨S2x8192x1, .f32⟩
  | .hbm, ⟨43, _⟩ => ⟨S_, .f32⟩
  | .hbm, ⟨44, _⟩ => ⟨S2x8192x1, .f32⟩
  | .hbm, ⟨45, _⟩ => ⟨S2x8192x1, .f32⟩
  | .hbm, ⟨46, _⟩ => ⟨S_, .f32⟩
  | .hbm, ⟨47, _⟩ => ⟨S2x8192x1, .f32⟩
  | .hbm, ⟨48, _⟩ => ⟨S2x8192x1, .f32⟩
  | .hbm, ⟨49, _⟩ => ⟨S2x8192x1, .f32⟩
  | .hbm, ⟨50, _⟩ => ⟨S2x8192x256, .f32⟩
  | .hbm, ⟨51, _⟩ => ⟨S2x8192x256, .f32⟩
  | .hbm, ⟨52, _⟩ => ⟨S1x1x256, .f32⟩
  | .hbm, ⟨53, _⟩ => ⟨S2x8192x256, .f32⟩
  | .hbm, ⟨54, _⟩ => ⟨S2x8192x256, .f32⟩
  | .hbm, ⟨55, _⟩ => ⟨S2x8192x8x64, .f32⟩
  | .hbm, ⟨56, _⟩ => ⟨S_, .f32⟩
  | .hbm, ⟨57, _⟩ => ⟨S2x8192x256, .f32⟩
  | .hbm, ⟨58, _⟩ => ⟨S2x8192x256, .f32⟩
  | .hbm, ⟨59, _⟩ => ⟨S2x8192x256, .bf16⟩
  | .hbm, ⟨60, _⟩ => ⟨S2x8192x256, .bf16⟩
  | .hbm, ⟨61, _⟩ => ⟨S2x8192x256, .bf16⟩
  | .hbm, ⟨62, _⟩ => ⟨S2x8192x512, .f32⟩
  | .hbm, ⟨63, _⟩ => ⟨S2x8192x512, .bf16⟩
  | .hbm, ⟨64, _⟩ => ⟨S2x2x256, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_6 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩

abbrev nD : Nat := 1
abbrev τ : Topo := Topo.v7x

variable {F : FTy → Type} [FloatOps F]
-- ==== Proof.Mla.KernelRunA.lean ====
/- The printed kernel's body runs at an even block of queries; nothing is said of what it writes. -/
module

public import proofs.«01_k».proof.Proof.Gen.Kernel.Frame.Runs

@[expose] public section

set_option maxRecDepth 16384

noncomputable section

namespace Cert.Kernel.Mla

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at an even block of queries, from any contents of the output and scratch buffers: it gives back the three inputs as they were. -/
theorem run_A (c : Dev nD) (i : grid0.Coords) (arg3 : Memref sig .tc .vmem S1x512x256 .bf16) (harg3 : arg3.IsWhole) (arg4 : Memref sig .tc .vmem S1x8192x256 .bf16) (harg4 : arg4.IsWhole) (arg5 : Memref sig .tc .vmem S1x8192x128 .bf16) (harg5 : arg5.IsWhole) (arg6 : Memref sig .tc .vmem S1x512x128 .bf16) (harg6 : arg6.IsWhole) (arg7 : Memref sig .tc .vmem S2x512x128 .f32) (harg7 : arg7.IsWhole) (arg8 : Memref sig .tc .vmem S2x512x128 .f32) (harg8 : arg8.IsWhole) (arg9 : Memref sig .tc .vmem S2x512x128 .f32) (harg9 : arg9.IsWhole) (arg10 : Memref sig .tc .vmem S2x512x512 .f32) (harg10 : arg10.IsWhole) (arg11 : Memref sig .tc .vmem S2x512x512 .f32) (harg11 : arg11.IsWhole) (hc0 : cond0_0 i) (hc1 : ¬cond0_1 i)
    (x0 : Vec F S1x512x256 .bf16) (x1 : Vec F S1x8192x256 .bf16) (x2 : Vec F S1x8192x128 .bf16) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_mla_attn i arg3 harg3 arg4 harg4 arg5 harg5 arg6 harg6 arg7 harg7 arg8 harg8 arg9 harg9 arg10 harg10 arg11 harg11) K := by
    intro E K
    simp only [cc0_mla_attn_eq_skeleton]; unfold cc0_mla_attn_skel
    simp only [k0_part21_eq_skeleton, k0_part22_eq_skeleton, k0_part13_eq_skeleton, k0_part14_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg3.eq_unread hf0; obtain rfl := harg4.eq_unread hf1; obtain rfl := harg5.eq_unread hf2
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _, _; isplitr; swap; · iexact H3
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.Kernel.Mla
-- ==== Proof.Mla.KernelRunB.lean ====
/- The printed kernel's body runs at an odd block of queries; nothing is said of what it writes. -/
module

public import proofs.«01_k».proof.Proof.Gen.Kernel.Frame.Runs
public import proofs.«01_k».proof.Proof.Mla.KernelRunA

@[expose] public section

set_option maxRecDepth 16384

noncomputable section

namespace Cert.Kernel.Mla

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at an odd block of queries, from any contents of the output and scratch buffers: it gives back the three inputs as they were. -/
theorem run_B (c : Dev nD) (i : grid0.Coords) (arg3 : Memref sig .tc .vmem S1x512x256 .bf16) (harg3 : arg3.IsWhole) (arg4 : Memref sig .tc .vmem S1x8192x256 .bf16) (harg4 : arg4.IsWhole) (arg5 : Memref sig .tc .vmem S1x8192x128 .bf16) (harg5 : arg5.IsWhole) (arg6 : Memref sig .tc .vmem S1x512x128 .bf16) (harg6 : arg6.IsWhole) (arg7 : Memref sig .tc .vmem S2x512x128 .f32) (harg7 : arg7.IsWhole) (arg8 : Memref sig .tc .vmem S2x512x128 .f32) (harg8 : arg8.IsWhole) (arg9 : Memref sig .tc .vmem S2x512x128 .f32) (harg9 : arg9.IsWhole) (arg10 : Memref sig .tc .vmem S2x512x512 .f32) (harg10 : arg10.IsWhole) (arg11 : Memref sig .tc .vmem S2x512x512 .f32) (harg11 : arg11.IsWhole) (hc0 : ¬cond0_0 i) (hc1 : cond0_1 i)
    (x0 : Vec F S1x512x256 .bf16) (x1 : Vec F S1x8192x256 .bf16) (x2 : Vec F S1x8192x128 .bf16) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_mla_attn i arg3 harg3 arg4 harg4 arg5 harg5 arg6 harg6 arg7 harg7 arg8 harg8 arg9 harg9 arg10 harg10 arg11 harg11) K := by
    intro E K
    simp only [cc0_mla_attn_eq_skeleton]; unfold cc0_mla_attn_skel
    simp only [k0_part21_eq_skeleton, k0_part22_eq_skeleton, k0_part15_eq_skeleton, k0_part16_eq_skeleton, k0_part17_eq_skeleton, k0_part18_eq_skeleton, k0_part19_eq_skeleton, k0_part20_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg3.eq_unread hf0; obtain rfl := harg4.eq_unread hf1; obtain rfl := harg5.eq_unread hf2
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _, _; isplitr; swap; · iexact H3
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.Kernel.Mla
-- ==== Proof.Mla.KernelFrame.lean ====
/- The frame of the printed kernel: every run terminates with the arguments unchanged and the semaphores at zero. -/
module

public import proofs.«01_k».proof.Proof.Gen.Kernel.Frame.Runs
public import proofs.«01_k».proof.Proof.Mla.KernelRunB
public import Idealize.ShloMosaic.Lib.Claim

@[expose] public section

set_option maxRecDepth 16384

noncomputable section

namespace Cert.Kernel.Mla

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def forgets0 : Fin 4 → Bool := fun w => w.val == 3

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ (∃ d, owns (c : Thread nD τ) (ms0_3 t) fullShare d))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2]
  rw [show (dats m 0 c).Φ t.castSucc = Pipeline.ΦA spec0 c from rfl, PhiA0_eq]
  have hN : t.val < 128 := lt_of_lt_of_eq t.isLt (show cfg0.N = 128 from N_0)
  by_cases h0 : t.val % 2 = 0
  · by_cases h1 : t.val % 2 = 1
    · exfalso; omega
    · iintro ⟨⟨⟨HS0, HS1, HS2, HS3, HS4⟩, Hg⟩, Ho, ⟨%d0, H0⟩, ⟨%d1, H1⟩, ⟨%d2, H2⟩, ⟨%d3, H3⟩⟩
      iapply ((run_A c (grid0.coords t) _ _ _ _ _ _ _ _ _ _ _ _ _ _ _ _ _ _ ((hcond0_0 t).mpr h0) (fun h => h1 ((hcond0_1 t).mp h)) (iblk m c 0 t) (iblk m c 1 t) (iblk m c 2 t)) Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      isplitl [HS3]; · iexact HS3
      isplitl [HS4]; · iexact HS4
      iintro ⟨H0, H1, H2, H3, HS0, HS1, HS2, HS3, HS4⟩
      isplitl [HS0 HS1 HS2 HS3 HS4 Hg]
      · isplitl [HS0 HS1 HS2 HS3 HS4]
        · isplitl [HS0]
          · iexact HS0
          isplitl [HS1]
          · iexact HS1
          isplitl [HS2]
          · iexact HS2
          isplitl [HS3]
          · iexact HS3
          iexact HS4
        iexact Hg
      isplitl [Ho]; · iexact Ho
      isplitl [H0]; · iexact H0
      isplitl [H1]; · iexact H1
      isplitl [H2]; · iexact H2
      iexact H3
  · by_cases h1 : t.val % 2 = 1
    · iintro ⟨⟨⟨HS0, HS1, HS2, HS3, HS4⟩, Hg⟩, Ho, ⟨%d0, H0⟩, ⟨%d1, H1⟩, ⟨%d2, H2⟩, ⟨%d3, H3⟩⟩
      iapply ((run_B c (grid0.coords t) _ _ _ _ _ _ _ _ _ _ _ _ _ _ _ _ _ _ (fun h => h0 ((hcond0_0 t).mp h)) ((hcond0_1 t).mpr h1) (iblk m c 0 t) (iblk m c 1 t) (iblk m c 2 t)) Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      isplitl [HS3]; · iexact HS3
      isplitl [HS4]; · iexact HS4
      iintro ⟨H0, H1, H2, H3, HS0, HS1, HS2, HS3, HS4⟩
      isplitl [HS0 HS1 HS2 HS3 HS4 Hg]
      · isplitl [HS0 HS1 HS2 HS3 HS4]
        · isplitl [HS0]
          · iexact HS0
          isplitl [HS1]
          · iexact HS1
          isplitl [HS2]
          · iexact HS2
          isplitl [HS3]
          · iexact HS3
          iexact HS4
        iexact Hg
      isplitl [Ho]; · iexact Ho
      isplitl [H0]; · iexact H0
      isplitl [H1]; · iexact H1
      isplitl [H2]; · iexact H2
      iexact H3
    · exfalso; omega

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- A run that leaves the staged arrays at their entry contents leaves the arguments unchanged. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c))⟩) h

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (fun c => (dats m 0 c).toRForget forgets0) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel.Mla
-- ==== Proof.Mla.Online.lean ====
/- The mathematics of the online softmax, over the extended reals: the running maximum, the running sum of exponentials
   (kept as one partial sum per lane) and the running weighted sum of the values, block of columns by block of columns,
   and what their quotient is after the last block. No program occurs here. -/
module

public import Idealize.ShloMosaic.PureOps.Ideal

@[expose] public section

noncomputable section

namespace Mla

open Idealize.ShloMosaic

/-- The column of a block of 512 that lane `l` of tile `u` holds. -/
def tileCol (u : Fin 4) (l : Fin 128) : Fin 512 := ⟨128 * u.val + l.val, by omega⟩

/-- The largest score among the first `n` blocks of columns. -/
def maxAt (S : ℕ → Fin 512 → EReal) (n : ℕ) : EReal := (Finset.range n).sup fun j => Finset.univ.sup (S j)

/-- Lane `l`'s part of the sum of exponentials over the first `n` blocks, relative to their largest score. -/
def sumAt (S : ℕ → Fin 512 → EReal) (n : ℕ) (l : Fin 128) : EReal :=
  ∑ j ∈ Finset.range n, ∑ u : Fin 4, Ideal.exp (S j (tileCol u l) - maxAt S n)

/-- The weighted sum of the values over the first `n` blocks, relative to their largest score. -/
def accAt (S V : ℕ → Fin 512 → EReal) (n : ℕ) : EReal :=
  ∑ j ∈ Finset.range n, ∑ k, Ideal.exp (S j k - maxAt S n) * V j k

theorem exp_nonneg (x : EReal) : 0 ≤ Ideal.exp x := by
  induction x with
  | bot => simp
  | top => simp
  | coe r => rw [Ideal.exp_coe]; exact_mod_cast (Real.exp_pos r).le

theorem exp_ne_top {x : EReal} (h : x ≠ ⊤) : Ideal.exp x ≠ ⊤ := by
  induction x with
  | bot => simp
  | top => exact absurd rfl h
  | coe r => rw [Ideal.exp_coe]; exact EReal.coe_ne_top _

/-- A difference whose second term is at least the first is never +∞. -/
theorem sub_ne_top {x y : EReal} (h : x ≤ y) : x - y ≠ ⊤ := by
  induction y with
  | bot => rw [le_bot_iff.1 h]; decide
  | top => rw [sub_eq_add_neg, EReal.neg_top, EReal.add_bot]; exact bot_ne_top
  | coe r =>
    induction x with
    | bot => rw [sub_eq_add_neg, EReal.bot_add]; exact bot_ne_top
    | top => exact absurd (le_antisymm le_top h) (EReal.coe_ne_top r)
    | coe q => rw [← EReal.coe_sub]; exact EReal.coe_ne_top _

/-- Rescaling one exponential from an old maximum to a new one. -/
theorem exp_rescale {s a b : EReal} (hs : s ≤ a) (hab : a ≤ b) (hb : b ≠ ⊤) :
    Ideal.exp (a - b) * Ideal.exp (s - a) = Ideal.exp (s - b) := by
  induction a with
  | bot =>
    rw [le_bot_iff.1 hs, sub_eq_add_neg ⊥ b, EReal.bot_add, Ideal.exp_bot, zero_mul]
  | top => exact absurd (le_antisymm le_top hab) hb
  | coe a =>
    induction b with
    | bot => exact absurd (le_bot_iff.1 hab) (EReal.coe_ne_bot a)
    | top => exact absurd rfl hb
    | coe b =>
      induction s with
      | bot => simp [sub_eq_add_neg, EReal.bot_add]
      | top => exact absurd (le_antisymm le_top hs) (EReal.coe_ne_top a)
      | coe s =>
        rw [← EReal.coe_sub, ← EReal.coe_sub, ← EReal.coe_sub, Ideal.exp_coe, Ideal.exp_coe, Ideal.exp_coe,
          ← EReal.coe_mul, ← Real.exp_add]
        congr 2; ring

/-- A nonnegative finite factor goes into a finite sum of extended reals. -/
theorem mul_sum {ι : Type} (s : Finset ι) (f : ι → EReal) {x : EReal} (h0 : 0 ≤ x) (h1 : x ≠ ⊤) :
    x * ∑ i ∈ s, f i = ∑ i ∈ s, x * f i := by
  classical
  induction s using Finset.induction_on with
  | empty => simp
  | insert a s ha ih =>
    rw [Finset.sum_insert ha, Finset.sum_insert ha, EReal.left_distrib_of_nonneg_of_ne_top h0 h1, ih]

theorem sum_mul {ι : Type} (s : Finset ι) (f : ι → EReal) {x : EReal} (h0 : 0 ≤ x) (h1 : x ≠ ⊤) :
    (∑ i ∈ s, f i) * x = ∑ i ∈ s, f i * x := by
  rw [mul_comm, mul_sum s f h0 h1]; exact Finset.sum_congr rfl fun i _ => mul_comm _ _

section
variable (S V : ℕ → Fin 512 → EReal)

theorem maxAt_zero : maxAt S 0 = ⊥ := by simp [maxAt]
theorem sumAt_zero (l : Fin 128) : sumAt S 0 l = 0 := by simp [sumAt]
theorem accAt_zero : accAt S V 0 = 0 := by simp [accAt]

theorem maxAt_succ (n : ℕ) : maxAt S (n + 1) = max (maxAt S n) (Finset.univ.sup (S n)) := by
  rw [maxAt, Finset.range_add_one, Finset.sup_insert, sup_comm]; rfl

theorem maxAt_le_succ (n : ℕ) : maxAt S n ≤ maxAt S (n + 1) := by rw [maxAt_succ]; exact le_max_left _ _

theorem le_maxAt {n j : ℕ} (h : j < n) (k : Fin 512) : S j k ≤ maxAt S n :=
  (Finset.le_sup (f := S j) (Finset.mem_univ k)).trans
    (Finset.le_sup (f := fun j => Finset.univ.sup (S j)) (Finset.mem_range.2 h))

/-- The factor that rescales the running sums is a nonnegative finite number. -/
theorem alpha_bounds (n : ℕ) :
    0 ≤ Ideal.exp (maxAt S n - maxAt S (n + 1)) ∧ Ideal.exp (maxAt S n - maxAt S (n + 1)) ≠ ⊤ :=
  ⟨exp_nonneg _, exp_ne_top (sub_ne_top (maxAt_le_succ S n))⟩

/-- One block's update of a lane's sum of exponentials. -/
theorem sumAt_succ {n : ℕ} (h : maxAt S (n + 1) ≠ ⊤) (l : Fin 128) :
    sumAt S (n + 1) l = Ideal.exp (maxAt S n - maxAt S (n + 1)) * sumAt S n l
      + ∑ u : Fin 4, Ideal.exp (S n (tileCol u l) - maxAt S (n + 1)) := by
  obtain ⟨h0, h1⟩ := alpha_bounds S n
  rw [sumAt, Finset.sum_range_succ, sumAt, mul_sum _ _ h0 h1]
  congr 1
  refine Finset.sum_congr rfl fun j hj => ?_
  rw [mul_sum _ _ h0 h1]
  exact Finset.sum_congr rfl fun u _ =>
    (exp_rescale (le_maxAt S (Finset.mem_range.1 hj) _) (maxAt_le_succ S n) h).symm

/-- One block's update of the weighted sum of the values. -/
theorem accAt_succ {n : ℕ} (h : maxAt S (n + 1) ≠ ⊤) :
    accAt S V (n + 1) = Ideal.exp (maxAt S n - maxAt S (n + 1)) * accAt S V n
      + ∑ k, Ideal.exp (S n k - maxAt S (n + 1)) * V n k := by
  obtain ⟨h0, h1⟩ := alpha_bounds S n
  rw [accAt, Finset.sum_range_succ, accAt, mul_sum _ _ h0 h1]
  congr 1
  refine Finset.sum_congr rfl fun j hj => ?_
  rw [mul_sum _ _ h0 h1]
  refine Finset.sum_congr rfl fun k _ => ?_
  rw [← mul_assoc, exp_rescale (le_maxAt S (Finset.mem_range.1 hj) _) (maxAt_le_succ S n) h]

/-- A sum over a block's 512 columns, tile by tile and lane by lane. -/
theorem sum_tiles (f : Fin 512 → EReal) : ∑ l : Fin 128, ∑ u : Fin 4, f (tileCol u l) = ∑ k, f k := by
  rw [Finset.sum_comm, ← Fintype.sum_prod_type']
  exact Fintype.sum_equiv (finProdFinEquiv (m := 4) (n := 128)) _ _ fun p => by
    congr 1; ext; simp [tileCol, finProdFinEquiv, add_comm]

/-- The largest of a block's 512 scores, tile by tile and lane by lane. -/
theorem sup_tiles (f : Fin 512 → EReal) :
    Finset.univ.sup (fun l : Fin 128 => max (max (max (f (tileCol 0 l)) (f (tileCol 1 l))) (f (tileCol 2 l))) (f (tileCol 3 l)))
      = Finset.univ.sup f := by
  have hf (k) : f k ≤ Finset.univ.sup f := Finset.le_sup (Finset.mem_univ k)
  refine le_antisymm (Finset.sup_le fun l _ => ?_) (Finset.sup_le fun k _ => ?_)
  · exact max_le (max_le (max_le (hf _) (hf _)) (hf _)) (hf _)
  · have hl : k.val % 128 < 128 := Nat.mod_lt _ (by decide)
    refine le_trans ?_ (Finset.le_sup (f := fun l : Fin 128 => max (max (max (f (tileCol 0 l)) (f (tileCol 1 l)))
      (f (tileCol 2 l))) (f (tileCol 3 l))) (Finset.mem_univ ⟨k.val % 128, hl⟩))
    have hk : k.val / 128 = 0 ∨ k.val / 128 = 1 ∨ k.val / 128 = 2 ∨ k.val / 128 = 3 := by omega
    have e (u : Fin 4) (h : k.val / 128 = u.val) : f (tileCol u ⟨k.val % 128, hl⟩) = f k := by
      congr 1; ext; simp only [tileCol]; omega
    rcases hk with h | h | h | h
    · simp only [e 0 h, le_max_iff, le_refl, true_or]
    · simp only [e 1 h, le_max_iff, le_refl, true_or, or_true]
    · simp only [e 2 h, le_max_iff, le_refl, true_or, or_true]
    · simp only [e 3 h, le_max_iff, le_refl, or_true]

/-- The lanes' parts together are the whole sum of exponentials. -/
theorem sum_sumAt (n : ℕ) :
    ∑ l : Fin 128, sumAt S n l = ∑ j ∈ Finset.range n, ∑ k, Ideal.exp (S j k - maxAt S n) := by
  simp only [sumAt]
  rw [Finset.sum_comm]
  exact Finset.sum_congr rfl fun j _ => sum_tiles fun k => Ideal.exp (S j k - maxAt S n)

/-- The sum of exponentials is a positive finite number when the largest score is finite. -/
theorem sum_exp_bounds {n : ℕ} (hbot : maxAt S n ≠ ⊥) (htop : maxAt S n ≠ ⊤) :
    0 < (∑ j ∈ Finset.range n, ∑ k, Ideal.exp (S j k - maxAt S n))
      ∧ (∑ j ∈ Finset.range n, ∑ k, Ideal.exp (S j k - maxAt S n)) ≠ ⊤ := by
  have hterm (j : ℕ) : 0 ≤ ∑ k, Ideal.exp (S j k - maxAt S n) := Finset.sum_nonneg fun k _ => exp_nonneg _
  constructor
  · have hn : (Finset.range n).Nonempty := by
      rw [Finset.nonempty_iff_ne_empty]; intro h; exact hbot (by rw [maxAt, h, Finset.sup_empty])
    obtain ⟨j, hj, ej⟩ := Finset.exists_mem_eq_sup _ hn fun j => Finset.univ.sup (S j)
    obtain ⟨k, -, ek⟩ := Finset.exists_mem_eq_sup _ (Finset.univ_nonempty (α := Fin 512)) (S j)
    have e : S j k = maxAt S n := (ek.symm.trans ej.symm)
    have e1 : Ideal.exp (S j k - maxAt S n) = 1 := by
      rw [e]
      generalize maxAt S n = x at hbot htop
      induction x with
      | bot => exact absurd rfl hbot
      | top => exact absurd rfl htop
      | coe r => rw [← EReal.coe_sub, Ideal.exp_coe, sub_self, Real.exp_zero]; rfl
    calc (0 : EReal) < 1 := zero_lt_one
      _ = Ideal.exp (S j k - maxAt S n) := e1.symm
      _ ≤ ∑ k, Ideal.exp (S j k - maxAt S n) :=
        Finset.single_le_sum (f := fun k => Ideal.exp (S j k - maxAt S n)) (fun k _ => exp_nonneg _) (Finset.mem_univ k)
      _ ≤ _ := Finset.single_le_sum (f := fun j => ∑ k, Ideal.exp (S j k - maxAt S n)) (fun j _ => hterm j) hj
  · have key {ι : Type} (s : Finset ι) (f : ι → EReal) (h : ∀ i ∈ s, f i ≠ ⊤) : ∑ i ∈ s, f i ≠ ⊤ := by
      classical
      induction s using Finset.induction_on with
      | empty => simp
      | insert a s ha ih =>
        rw [Finset.sum_insert ha]
        exact EReal.add_ne_top (h a (Finset.mem_insert_self a s)) (ih fun i hi => h i (Finset.mem_insert_of_mem hi))
    exact key _ _ fun j hj => key _ _ fun k _ =>
      exp_ne_top (sub_ne_top (le_maxAt S (Finset.mem_range.1 hj) k))

/-- The quotient that the kernel ends with is the sum of the values weighted by the softmax of the scores. -/
theorem quotient {n : ℕ} (hbot : maxAt S n ≠ ⊥) (htop : maxAt S n ≠ ⊤) :
    Ideal.div (accAt S V n) (∑ l : Fin 128, sumAt S n l)
      = ∑ j ∈ Finset.range n, ∑ k, Ideal.div (Ideal.exp (S j k - maxAt S n))
          (∑ j ∈ Finset.range n, ∑ k, Ideal.exp (S j k - maxAt S n)) * V j k := by
  obtain ⟨h0, h1⟩ := sum_exp_bounds S hbot htop
  rw [sum_sumAt]
  generalize hD : (∑ j ∈ Finset.range n, ∑ k, Ideal.exp (S j k - maxAt S n)) = D at h0 h1
  have hne : D ≠ 0 := h0.ne'
  have i0 : 0 ≤ D⁻¹ := EReal.inv_nonneg_of_nonneg h0.le
  have i1 : D⁻¹ ≠ ⊤ := by
    induction D with
    | bot => simp
    | top => simp
    | coe r => rw [← EReal.coe_inv]; exact EReal.coe_ne_top _
  simp only [Ideal.div, if_neg hne]
  rw [accAt, sum_mul _ _ i0 i1]
  refine Finset.sum_congr rfl fun j _ => ?_
  rw [sum_mul _ _ i0 i1]
  exact Finset.sum_congr rfl fun k _ => by rw [mul_right_comm]

/-- Blocks whose every score is −∞ change neither the maximum nor any sum relative to it. -/
theorem maxAt_of_bot {n N : ℕ} (h : n ≤ N) (hS : ∀ j, n ≤ j → ∀ k, S j k = ⊥) : maxAt S N = maxAt S n := by
  induction N, h using Nat.le_induction with
  | base => rfl
  | succ N hN ih =>
    rw [maxAt_succ, ih]
    exact max_eq_left ((Finset.sup_le fun k _ => (hS N hN k).le).trans bot_le)

end

end Mla

end
-- ==== Proof.Mla.Flash.lean ====
/- One block's update of the online softmax as the kernel computes it, on whole tensors: from the block's scores, the
   running maxima, sums and weighted sums and the block's values to the new ones; and each of them read at a row and a
   lane. -/
module

public import proofs.«01_k».proof.Proof.Gen.KernelIdeal.Skeleton
public import proofs.«01_k».proof.Proof.Mla.Online
public import Idealize.ShloMosaic.Lib.Pipeline.ValueKit

@[expose] public section

set_option maxRecDepth 16384

noncomputable section

namespace Cert.KernelIdeal.Mla

open Cert.KernelIdeal Cert.KernelIdeal.Gen
open Idealize.ShloMosaic

/-- Tile `u` of a block of scores. -/
abbrev tile0 (s : FVec Ideal S512x512 .f32) : FVec Ideal S512x128 .f32 := extractStridedSlice S512x128 ![0, 0] s slices_S512x512_o0_0_S512x128
abbrev tile1 (s : FVec Ideal S512x512 .f32) : FVec Ideal S512x128 .f32 := extractStridedSlice S512x128 ![0, 128] s slices_S512x512_o0_128_S512x128
abbrev tile2 (s : FVec Ideal S512x512 .f32) : FVec Ideal S512x128 .f32 := extractStridedSlice S512x128 ![0, 256] s slices_S512x512_o0_256_S512x128
abbrev tile3 (s : FVec Ideal S512x512 .f32) : FVec Ideal S512x128 .f32 := extractStridedSlice S512x128 ![0, 384] s slices_S512x512_o0_384_S512x128

/-- The new running maxima. -/
def updM (s : FVec Ideal S512x512 .f32) (m : FVec Ideal S512x128 .f32) : FVec Ideal S512x128 .f32 :=
  maximumf m (broadcastTo S512x128 (shapeCast S512x1 (multiReduction .maximumf [1] S512
    (maximumf (maximumf (maximumf (tile0 s) (tile1 s)) (tile2 s)) (tile3 s)) 0xFF800000#32 reduces_S512x128_S512 (.inl rfl) rfl)
    shapeCasts_S512_S512x1) broadcasts_S512x1_S512x128)

/-- The exponentials of one tile, relative to the new maxima. -/
abbrev ex (t m' : FVec Ideal S512x128 .f32) : FVec Ideal S512x128 .f32 := exp (subf t m')

/-- The new running sums. -/
def updL (s : FVec Ideal S512x512 .f32) (m l : FVec Ideal S512x128 .f32) : FVec Ideal S512x128 .f32 :=
  addf (mulf (ex m (updM s m)) l)
    (addf (addf (addf (ex (tile0 s) (updM s m)) (ex (tile1 s) (updM s m))) (ex (tile2 s) (updM s m))) (ex (tile3 s) (updM s m)))

/-- The new running weighted sums. -/
def updA (s : FVec Ideal S512x512 .f32) (v : FVec Ideal S512x128 .bf16) (m a : FVec Ideal S512x128 .f32) : FVec Ideal S512x128 .f32 :=
  addf (mulf (ex m (updM s m)) a)
    (matmul dot_S512x512_S512x128_S512x128_1_0_0_1_n_n none
      (truncf .bf16 (concatenate S512x512 1 [⟨S512x128, ex (tile0 s) (updM s m)⟩, ⟨S512x128, ex (tile1 s) (updM s m)⟩,
        ⟨S512x128, ex (tile2 s) (updM s m)⟩, ⟨S512x128, ex (tile3 s) (updM s m)⟩]
        concatenates_S512x128_S512x128_S512x128_S512x128_S512x512_d1) bitsLt_bf16_f32)
      v (constant S512x128 .f32 0x00000000#32))

theorem ofBits_bot : Ideal.ofBits .f32 0xFF800000#32 = ⊥ := by simp [Ideal.ofBits, Ideal.ieee]

theorem updM_apply (s : FVec Ideal S512x512 .f32) (m : FVec Ideal S512x128 .f32) (r : Fin 512) (l : Fin 128) :
    updM s m (ix2 r l) = max (m (ix2 r l)) (Finset.univ.sup fun k : Fin 512 => (s (ix2 r k) : EReal)) := by
  pointwise [updM]
  rw [ofBits_bot, ← _root_.Mla.sup_tiles]
  congr 1

theorem updL_apply (s : FVec Ideal S512x512 .f32) (m a : FVec Ideal S512x128 .f32) (r : Fin 512) (l : Fin 128) :
    updL s m a (ix2 r l) = Ideal.exp (m (ix2 r l) - updM s m (ix2 r l)) * a (ix2 r l)
      + ∑ u : Fin 4, Ideal.exp (s (ix2 r (_root_.Mla.tileCol u l)) - updM s m (ix2 r l)) := by
  pointwise [updL]
  rw [Fin.sum_univ_four]
  simp [_root_.Mla.tileCol]

theorem updA_apply (s : FVec Ideal S512x512 .f32) (v : FVec Ideal S512x128 .bf16) (m a : FVec Ideal S512x128 .f32) (r : Fin 512) (l : Fin 128)
    (hm : ∀ l', updM s m (ix2 r l') = updM s m (ix2 r l)) :
    updA s v m a (ix2 r l) = Ideal.exp (m (ix2 r l) - updM s m (ix2 r l)) * a (ix2 r l)
      + ∑ k : Fin 512, Ideal.exp (s (ix2 r k) - updM s m (ix2 r l)) * (v (ix2 k l) : EReal) := by
  pointwise [updA]
  congr 1
  refine Finset.sum_congr rfl fun x _ => ?_
  simp only [hm]
  congr 1
  split_ifs with h1 h2 h3
  · rfl
  all_goals
    congr 3
    refine congrArg (ix2 r) (Fin.ext ?_)
    show _ = x.val
    simp only
    omega

/-- The running maxima, sums and weighted sums of one head. -/
structure St where
  m : FVec Ideal S512x128 .f32
  l : FVec Ideal S512x128 .f32
  a : FVec Ideal S512x128 .f32

/-- One block's update. -/
def St.upd (s : FVec Ideal S512x512 .f32) (v : FVec Ideal S512x128 .bf16) (σ : St) : St :=
  ⟨updM s σ.m, updL s σ.m σ.l, updA s v σ.m σ.a⟩

/-- The state before any block. -/
def St.init : St := ⟨fun _ => (⊥ : EReal), fun _ => (0 : EReal), fun _ => (0 : EReal)⟩

/-- The state after the first `n` blocks. -/
def St.after (S : ℕ → FVec Ideal S512x512 .f32) (V : ℕ → FVec Ideal S512x128 .bf16) : ℕ → St
  | 0 => St.init
  | n + 1 => (St.after S V n).upd (S n) (V n)

theorem St.after_congr {S S' : ℕ → FVec Ideal S512x512 .f32} (V : ℕ → FVec Ideal S512x128 .bf16) :
    ∀ n, (∀ j < n, S j = S' j) → St.after S V n = St.after S' V n
  | 0, _ => rfl
  | n + 1, h => by
    rw [St.after, St.after, St.after_congr V n fun j hj => h j (by omega), h n (by omega)]

section
variable (S : ℕ → FVec Ideal S512x512 .f32) (V : ℕ → FVec Ideal S512x128 .bf16)

/-- Row `r` of the scores. -/
abbrev rowS (r : Fin 512) : ℕ → Fin 512 → EReal := fun j k => S j (ix2 r k)
/-- Lane `l` of the values. -/
abbrev colV (l : Fin 128) : ℕ → Fin 512 → EReal := fun j k => V j (ix2 k l)

theorem after_m (n : ℕ) (r : Fin 512) (l : Fin 128) : (St.after S V n).m (ix2 r l) = _root_.Mla.maxAt (rowS S r) n := by
  induction n with
  | zero => rw [_root_.Mla.maxAt_zero]; rfl
  | succ n ih => rw [_root_.Mla.maxAt_succ, ← ih]; exact updM_apply _ _ r l

theorem after_l (n : ℕ) (r : Fin 512) (l : Fin 128) (h : _root_.Mla.maxAt (rowS S r) n ≠ ⊤) :
    (St.after S V n).l (ix2 r l) = _root_.Mla.sumAt (rowS S r) n l := by
  induction n with
  | zero => rw [_root_.Mla.sumAt_zero]; rfl
  | succ n ih =>
    have hn : _root_.Mla.maxAt (rowS S r) n ≠ ⊤ := ne_top_of_le_ne_top h (_root_.Mla.maxAt_le_succ (rowS S r) n)
    rw [_root_.Mla.sumAt_succ _ h, ← ih hn, ← after_m S V n r l, ← after_m S V (n + 1) r l]
    exact updL_apply _ _ _ r l

theorem after_a (n : ℕ) (r : Fin 512) (l : Fin 128) (h : _root_.Mla.maxAt (rowS S r) n ≠ ⊤) :
    (St.after S V n).a (ix2 r l) = _root_.Mla.accAt (rowS S r) (colV V l) n := by
  induction n with
  | zero => rw [_root_.Mla.accAt_zero]; rfl
  | succ n ih =>
    have hn : _root_.Mla.maxAt (rowS S r) n ≠ ⊤ := ne_top_of_le_ne_top h (_root_.Mla.maxAt_le_succ (rowS S r) n)
    rw [_root_.Mla.accAt_succ _ _ h, ← ih hn, ← after_m S V n r l, ← after_m S V (n + 1) r l]
    exact updA_apply _ _ _ _ r l fun l' => (after_m S V (n + 1) r l').trans (after_m S V (n + 1) r l).symm

end

end Cert.KernelIdeal.Mla
-- ==== Proof.Mla.Slab.lean ====
/- The kernel's scratch arrays hold one slab per head of the pair: a slab read off an array, a load of a slab, and what a
   slab holds after a write of either slab. Also the blocks of keys and values a load reads. -/
module

public import proofs.«01_k».proof.Proof.Mla.Flash
public import Idealize.ShloMosaic.Lib.ValueLayout

@[expose] public section

set_option maxRecDepth 16384

noncomputable section

namespace Cert.KernelIdeal.Mla

open Cert.KernelIdeal Cert.KernelIdeal.Gen
open Idealize.ShloMosaic

section
variable {sig' : RefSig} {κ' : Kind} {sp : Space} {n : ℕ}

/-- A stack of two `512 × n` slabs. -/
abbrev Two (n : ℕ) : Shape := ⟨3, ![2, 512, n]⟩
abbrev One (n : ℕ) : Shape := ⟨3, ![1, 512, n]⟩
abbrev Flat (n : ℕ) : Shape := ⟨2, ![512, n]⟩

/-- Slab `h`. -/
def slab (h : Fin 2) (X : (Two n).Idx → EReal) : (Flat n).Idx → EReal := fun j => X (ix3 h (j 0) (j 1))

/-- The rectangle of slab `h`. -/
abbrev rct (h : Fin 2) (inb : ∀ a, (![h.val, 0, 0] : Fin 3 → ℕ) a + (![1, 512, n] : Fin 3 → ℕ) a ≤ (Two n).size a) : Rect (Two n) :=
  Rect.unit (s := Two n) ![h.val, 0, 0] ![1, 512, n] inb

theorem rct_emb (h : Fin 2) (inb) (r : Fin 512) (k : Fin n) : (rct h inb).emb (ix3 (0 : Fin 1) r k) = ix3 h r k := by
  funext a
  apply Fin.ext
  rw [ValueKit.rect_emb_unit_val]
  fin_cases a
  · show h.val + 0 = h.val; omega
  · show 0 + r.val = r.val; omega
  · show 0 + k.val = k.val; omega

variable (v : View sig' κ' sp (Two n) .f32) (f : v.ty.Contents (Elt Ideal))

/-- A load of a slab reads the slab. -/
theorem flat_readAt (h : Fin 2) (inb) (hs : (One n).ShapeCasts (Flat n)) :
    shapeCast (Flat n) (v.readAt (Elt Ideal) (rct h inb).toLoadRect f) hs = slab h (v.read (Elt Ideal) f) := by
  funext j
  obtain ⟨j0, j1, rfl⟩ : ∃ (a : Fin 512) (b : Fin n), j = ix2 a b := ⟨j 0, j 1, eq_ix2 j⟩
  refine (ValueIdx.shapeCast_1ab_ab_apply _ hs j0 j1).trans ?_
  exact congrArg (v.read (Elt Ideal) f) (rct_emb h inb j0 j1)

/-- A slab just written, -/
theorem slab_write (h : Fin 2) (inb) (hs : (Flat n).ShapeCasts (One n)) (x : (Flat n).Idx → EReal)
    (L : List (View.Piece (Elt Ideal) (Two n) .f32)) :
    slab h (v.read (Elt Ideal) (v.writes (Elt Ideal) f (⟨rct h inb, shapeCast (One n) x hs⟩ :: L))) = x := by
  funext j
  obtain ⟨j0, j1, rfl⟩ : ∃ (a : Fin 512) (b : Fin n), j = ix2 a b := ⟨j 0, j 1, eq_ix2 j⟩
  refine Eq.trans ?_ ((View.read_writes_cons_emb v f (rct h inb) (shapeCast (One n) x hs) L (ix3 (0 : Fin 1) j0 j1)).trans
    (ValueIdx.shapeCast_ab_1ab_apply x hs 0 j0 j1))
  exact congrArg (v.read (Elt Ideal) _) (rct_emb h inb j0 j1).symm

/-- the other slab, -/
theorem slab_skip (h h' : Fin 2) (hh : h ≠ h') (inb) (w : (rct (n := n) h' inb).shape.Idx → EReal)
    (L : List (View.Piece (Elt Ideal) (Two n) .f32)) :
    slab h (v.read (Elt Ideal) (v.writes (Elt Ideal) f (⟨rct h' inb, w⟩ :: L)))
      = slab h (v.read (Elt Ideal) (v.writes (Elt Ideal) f L)) := by
  funext j
  obtain ⟨j0, j1, rfl⟩ : ∃ (a : Fin 512) (b : Fin n), j = ix2 a b := ⟨j 0, j 1, eq_ix2 j⟩
  refine View.read_slice_write_of_not_mem (rct h' inb) _ _ _ ?_
  rw [Rect.map_emb_univ]
  intro hm
  have h0 := ((Rect.mem_set_unit).1 hm) 0
  exact hh (Fin.ext (by
    have h1 : h'.val ≤ h.val ∧ h.val < h'.val + 1 := h0
    omega))

/-- and a slab of an array written whole. -/
theorem slab_fill (h : Fin 2) (inb) (x : (Two n).Idx → EReal) (L : List (View.Piece (Elt Ideal) (Two n) .f32)) :
    slab h (v.read (Elt Ideal) (v.writes (Elt Ideal) f (⟨Rect.unit (s := Two n) ![0, 0, 0] (Two n).size inb, x⟩ :: L)))
      = slab h x := by
  funext j
  obtain ⟨j0, j1, rfl⟩ : ∃ (a : Fin 512) (b : Fin n), j = ix2 a b := ⟨j 0, j 1, eq_ix2 j⟩
  refine Eq.trans ?_ (View.read_writes_cons_emb v f (Rect.unit (s := Two n) ![0, 0, 0] (Two n).size inb) x L (ix3 h j0 j1))
  refine congrArg (v.read (Elt Ideal) _) ?_
  funext a
  apply Fin.ext
  rw [ValueKit.rect_emb_unit_val]
  fin_cases a
  · show h.val = 0 + h.val; omega
  · show j0.val = 0 + j0.val; omega
  · show j1.val = 0 + j1.val; omega

end

/-- Block `n` of the keys, and of the values. -/
def blkK (x : Vec Ideal S1x8192x256 .bf16) (n : ℕ) : FVec Ideal S512x256 .bf16 :=
  fun j => x (ix3 (0 : Fin 1) (⟨(512 * n + (j 0).val) % 8192, Nat.mod_lt _ (by decide)⟩ : Fin 8192) (j 1 : Fin 256))
def blkV (x : Vec Ideal S1x8192x128 .bf16) (n : ℕ) : FVec Ideal S512x128 .bf16 :=
  fun j => x (ix3 (0 : Fin 1) (⟨(512 * n + (j 0).val) % 8192, Nat.mod_lt _ (by decide)⟩ : Fin 8192) (j 1 : Fin 128))

theorem load_K {κ' : Kind} {sp : Space} (r : Memref sig κ' sp S1x8192x256 .bf16) (hr : r.IsWhole) (x : Vec Ideal S1x8192x256 .bf16)
    {off : Fin 3 → ℕ} (inb) {n : ℕ} (h : off = ![0, 512 * n, 0]) (hn : n < 16) :
    shapeCast S512x256 (r.view.readAt (Elt Ideal) (Rect.unit (s := S1x8192x256) off S1x512x256.size inb).toLoadRect (hr.unread x))
      shapeCasts_S1x512x256_S512x256 = blkK x n := by
  subst h
  funext j
  idx_vars j
  refine (ValueIdx.shapeCast_1ab_ab_apply _ shapeCasts_S1x512x256_S512x256 j0 j1).trans ?_
  refine (congrFun (hr.read_unread x) _).trans ?_
  refine congrArg x ?_
  funext a
  apply Fin.ext
  refine (ValueKit.rect_emb_unit_val (s := S1x8192x256) _ _ inb _ a).trans ?_
  fin_cases a
  · rfl
  · show 512 * n + j0.val = (512 * n + j0.val) % 8192; omega
  · show 0 + j1.val = j1.val; omega

theorem load_V {κ' : Kind} {sp : Space} (r : Memref sig κ' sp S1x8192x128 .bf16) (hr : r.IsWhole) (x : Vec Ideal S1x8192x128 .bf16)
    {off : Fin 3 → ℕ} (inb) {n : ℕ} (h : off = ![0, 512 * n, 0]) (hn : n < 16) :
    shapeCast S512x128 (r.view.readAt (Elt Ideal) (Rect.unit (s := S1x8192x128) off S1x512x128.size inb).toLoadRect (hr.unread x))
      shapeCasts_S1x512x128_S512x128 = blkV x n := by
  subst h
  funext j
  idx_vars j
  refine (ValueIdx.shapeCast_1ab_ab_apply _ shapeCasts_S1x512x128_S512x128 j0 j1).trans ?_
  refine (congrFun (hr.read_unread x) _).trans ?_
  refine congrArg x ?_
  funext a
  apply Fin.ext
  refine (ValueKit.rect_emb_unit_val (s := S1x8192x128) _ _ inb _ a).trans ?_
  fin_cases a
  · rfl
  · show 512 * n + j0.val = (512 * n + j0.val) % 8192; omega
  · show 0 + j1.val = j1.val; omega

/-- The raw scores of head 0 of the pair, and of head 1, against a block of keys. -/
def sc0 (q k : FVec Ideal S512x256 .bf16) : FVec Ideal S512x512 .f32 :=
  matmul dot_S512x128_S512x128_S512x512_1_1_0_0_n_n none (extractStridedSlice S512x128 ![0, 0] q slices_S512x256_o0_0_S512x128)
    (extractStridedSlice S512x128 ![0, 0] k slices_S512x256_o0_0_S512x128) (constant S512x512 .f32 0x00000000#32)
def sc1 (q k : FVec Ideal S512x256 .bf16) : FVec Ideal S512x512 .f32 :=
  matmul dot_S512x128_S512x128_S512x512_1_1_0_0_n_n none (extractStridedSlice S512x128 ![0, 128] q slices_S512x256_o0_128_S512x128)
    (extractStridedSlice S512x128 ![0, 128] k slices_S512x256_o0_128_S512x128) (constant S512x512 .f32 0x00000000#32)
def sc (h : Fin 2) (q k : FVec Ideal S512x256 .bf16) : FVec Ideal S512x512 .f32 := if h = 0 then sc0 q k else sc1 q k

end Cert.KernelIdeal.Mla
-- ==== Proof.Mla.Points.lean ====
/- What the kernel's scalar arithmetic comes to at a point of the grid: how many pairs of blocks the loop takes and which
   blocks of keys and values each load reads. Decided point by point. -/
module

public import proofs.«01_k».proof.Proof.Gen.KernelIdeal.Skeleton

@[expose] public section

set_option maxRecDepth 16384

namespace Cert.KernelIdeal.Mla

open Cert.KernelIdeal Cert.KernelIdeal.Gen
open Idealize.ShloMosaic

theorem trips1 : ∀ i : grid0.Coords, (k0_t1_loop i).trips = (i 2).val / 2 := by decide +kernel
theorem trips2 : ∀ i : grid0.Coords, (k0_t2_loop i).trips = 0 := by decide +kernel
theorem cond1 : ∀ i : grid0.Coords, k0_cond1 i = 1#1 ↔ (i 2).val % 2 = 0 := by decide +kernel
theorem cond2 : ∀ i : grid0.Coords, k0_cond2 i = 1#1 ↔ (i 2).val % 2 = 1 := by decide +kernel
theorem off1 : ∀ (i : grid0.Coords) (k : Fin (k0_t1_loop i).trips), k0_off1 i k 1#32 = ![0, 512 * (2 * k.val + 1), 0]
    ∧ k0_off1 i k 2#32 = ![0, 512 * (2 * k.val + 2), 0] := by decide +kernel
theorem off2 : ∀ (i : grid0.Coords) (k : Fin (k0_t1_loop i).trips), k0_off2 i k = ![0, 512 * (2 * k.val), 0] := by decide +kernel
theorem off3 : ∀ (i : grid0.Coords) (k : Fin (k0_t1_loop i).trips), k0_off3 i k = ![0, 512 * (2 * k.val + 1), 0] := by decide +kernel
theorem off7 : ∀ i : grid0.Coords, k0_off7 i = ![0, 512 * (2 * ((i 2).val / 2)), 0] := by decide +kernel
theorem off8 : ∀ i : grid0.Coords, k0_off8 i = ![0, 512 * (2 * ((i 2).val / 2) + 1), 0] := by decide +kernel
theorem off9 : ∀ i : grid0.Coords, k0_off9 i = ![0, 512 * (2 * ((i 2).val / 2)), 0] := by decide +kernel
theorem off10 : ∀ i : grid0.Coords, k0_off10 i = ![0, 512 * (2 * ((i 2).val / 2) + 1), 0] := by decide +kernel

end Cert.KernelIdeal.Mla
-- ==== Proof.Mla.Trip.lean ====
/- One trip of the kernel's loop: two blocks' updates of the running maxima, sums and weighted sums of both heads, and the
   scores of the block after them left for the next trip. -/
module

public import proofs.«01_k».proof.Proof.Gen.KernelIdeal.Loops
public import proofs.«01_k».proof.Proof.Mla.Slab
public import proofs.«01_k».proof.Proof.Mla.Points

@[expose] public section

set_option maxRecDepth 16384

noncomputable section

namespace Cert.KernelIdeal.Mla

open Cert.KernelIdeal Cert.KernelIdeal.Gen
open Idealize.ShloMosaic Idealize.ShloMosaic.TcCoe

/-- What the scratch arrays hold for head `h`. -/
def stOf (h : Fin 2) (m l a : S2x512x128.Idx → EReal) : St := ⟨slab h m, slab h l, slab h a⟩

variable (c : Dev nD) (i : grid0.Coords) (arg3 : Memref sig .tc .vmem S1x512x256 .bf16) (harg3 : arg3.IsWhole) (arg4 : Memref sig .tc .vmem S1x8192x256 .bf16) (harg4 : arg4.IsWhole) (arg5 : Memref sig .tc .vmem S1x8192x128 .bf16) (harg5 : arg5.IsWhole) (arg6 : Memref sig .tc .vmem S1x512x128 .bf16) (harg6 : arg6.IsWhole) (arg7 : Memref sig .tc .vmem S2x512x128 .f32) (harg7 : arg7.IsWhole) (arg8 : Memref sig .tc .vmem S2x512x128 .f32) (harg8 : arg8.IsWhole) (arg9 : Memref sig .tc .vmem S2x512x128 .f32) (harg9 : arg9.IsWhole) (arg10 : Memref sig .tc .vmem S2x512x512 .f32) (harg10 : arg10.IsWhole) (arg11 : Memref sig .tc .vmem S2x512x512 .f32) (harg11 : arg11.IsWhole)
  (q : FVec Ideal S512x256 .bf16) (x1 : Vec Ideal S1x8192x256 .bf16) (x2 : Vec Ideal S1x8192x128 .bf16)
  (k : Fin (k0_t1_loop i).trips)
  (f7 : arg7.view.ty.Contents (Elt Ideal)) (f8 : arg8.view.ty.Contents (Elt Ideal)) (f9 : arg9.view.ty.Contents (Elt Ideal))
  (f10 : arg10.view.ty.Contents (Elt Ideal)) (f11 : arg11.view.ty.Contents (Elt Ideal))

theorem two_k_lt (k : Fin (k0_t1_loop i).trips) : 2 * k.val + 2 < 16 := by
  have h : k.val < (i 2).val / 2 := lt_of_lt_of_eq k.isLt (trips1 i)
  have h2 : (i 2).val < 16 := (i 2).isLt
  omega

theorem w119 : (trip_k0_t1.sl.v119 i arg5 (harg5.unread x2) k) = blkV x2 (2 * k.val) :=
  load_V arg5 harg5 x2 _ (off2 i k) (by have := two_k_lt i k; omega)

theorem w239 : (trip_k0_t1.sl.v239 i arg5 (harg5.unread x2) k) = blkV x2 (2 * k.val + 1) :=
  load_V arg5 harg5 x2 _ (off3 i k) (by have := two_k_lt i k; omega)

theorem w102 : (trip_k0_t1.sl.v102 i arg4 (harg4.unread x1) k) = blkK x1 (2 * k.val + 1) :=
  load_K arg4 harg4 x1 _ (off1 i k).1 (by have := two_k_lt i k; omega)

theorem w221 : (trip_k0_t1.sl.v221 i arg4 (harg4.unread x1) k) = blkK x1 (2 * k.val + 2) :=
  load_K arg4 harg4 x1 _ (off1 i k).2 (by have := two_k_lt i k; omega)

theorem w121 : (trip_k0_t1.sl.v121 arg10 f10) = slab 0 (arg10.view.read (Elt Ideal) f10) :=
  flat_readAt (n := 512) _ _ 0 _ _

theorem w169 : (trip_k0_t1.sl.v169 arg10 f10) = slab 1 (arg10.view.read (Elt Ideal) f10) :=
  flat_readAt (n := 512) _ _ 1 _ _

theorem w127 : (trip_k0_t1.sl.v127 arg7 f7) = slab 0 (arg7.view.read (Elt Ideal) f7) :=
  flat_readAt (n := 128) _ _ 0 _ _

theorem w175 : (trip_k0_t1.sl.v175 arg7 f7) = slab 1 (arg7.view.read (Elt Ideal) f7) :=
  flat_readAt (n := 128) _ _ 1 _ _

theorem w146 : (trip_k0_t1.sl.v146 arg8 f8) = slab 0 (arg8.view.read (Elt Ideal) f8) :=
  flat_readAt (n := 128) _ _ 0 _ _

theorem w194 : (trip_k0_t1.sl.v194 arg8 f8) = slab 1 (arg8.view.read (Elt Ideal) f8) :=
  flat_readAt (n := 128) _ _ 1 _ _

theorem w158 : (trip_k0_t1.sl.v158 arg9 f9) = slab 0 (arg9.view.read (Elt Ideal) f9) :=
  flat_readAt (n := 128) _ _ 0 _ _

theorem w206 : (trip_k0_t1.sl.v206 arg9 f9) = slab 1 (arg9.view.read (Elt Ideal) f9) :=
  flat_readAt (n := 128) _ _ 1 _ _

theorem w105 : (trip_k0_t1.sl.v105 i arg4 q (harg4.unread x1) k) = sc0 q (blkK x1 (2 * k.val + 1)) :=
  congrArg (sc0 q) (w102 i arg4 harg4 x1 k)

theorem w111 : (trip_k0_t1.sl.v111 i arg4 q (harg4.unread x1) k) = sc1 q (blkK x1 (2 * k.val + 1)) :=
  congrArg (sc1 q) (w102 i arg4 harg4 x1 k)

theorem w224 : (trip_k0_t1.sl.v224 i arg4 q (harg4.unread x1) k) = sc0 q (blkK x1 (2 * k.val + 2)) :=
  congrArg (sc0 q) (w221 i arg4 harg4 x1 k)

theorem w230 : (trip_k0_t1.sl.v230 i arg4 q (harg4.unread x1) k) = sc1 q (blkK x1 (2 * k.val + 2)) :=
  congrArg (sc1 q) (w221 i arg4 harg4 x1 k)

theorem w241 : (trip_k0_t1.sl.v241 i arg4 arg11 q (harg4.unread x1) k) = sc0 q (blkK x1 (2 * k.val + 1)) :=
  (flat_readAt (n := 512) _ _ 0 _ _).trans ((slab_skip (n := 512) _ _ 0 1 (by decide) _ _ _).trans ((slab_write (n := 512) _ _ 0 _ _ _ _).trans (w105 i arg4 harg4 q x1 k)))

theorem w289 : (trip_k0_t1.sl.v289 i arg4 arg11 q (harg4.unread x1) k) = sc1 q (blkK x1 (2 * k.val + 1)) :=
  (flat_readAt (n := 512) _ _ 1 _ _).trans ((slab_write (n := 512) _ _ 1 _ _ _ _).trans (w111 i arg4 harg4 q x1 k))

theorem w134 : (trip_k0_t1.sl.v134 arg7 arg10 f7 f10) = updM (slab 0 (arg10.view.read (Elt Ideal) f10)) (slab 0 (arg7.view.read (Elt Ideal) f7)) :=
  (show (trip_k0_t1.sl.v134 arg7 arg10 f7 f10) = updM (trip_k0_t1.sl.v121 arg10 f10) (trip_k0_t1.sl.v127 arg7 f7) from rfl).trans (by rw [w121, w127])

theorem w151 : (trip_k0_t1.sl.v151 arg7 arg8 arg10 f7 f8 f10) = updL (slab 0 (arg10.view.read (Elt Ideal) f10)) (slab 0 (arg7.view.read (Elt Ideal) f7)) (slab 0 (arg8.view.read (Elt Ideal) f8)) :=
  (show (trip_k0_t1.sl.v151 arg7 arg8 arg10 f7 f8 f10) = updL (trip_k0_t1.sl.v121 arg10 f10) (trip_k0_t1.sl.v127 arg7 f7) (trip_k0_t1.sl.v146 arg8 f8) from rfl).trans (by rw [w121, w127, w146])

theorem w161 : (trip_k0_t1.sl.v161 i arg5 arg7 arg9 arg10 (harg5.unread x2) k f7 f9 f10) = updA (slab 0 (arg10.view.read (Elt Ideal) f10)) (blkV x2 (2 * k.val)) (slab 0 (arg7.view.read (Elt Ideal) f7)) (slab 0 (arg9.view.read (Elt Ideal) f9)) :=
  (show (trip_k0_t1.sl.v161 i arg5 arg7 arg9 arg10 (harg5.unread x2) k f7 f9 f10) = updA (trip_k0_t1.sl.v121 arg10 f10) (trip_k0_t1.sl.v119 i arg5 (harg5.unread x2) k) (trip_k0_t1.sl.v127 arg7 f7) (trip_k0_t1.sl.v158 arg9 f9) from rfl).trans (by rw [w121, w127, w158, w119 i arg5 harg5 x2 k])

theorem w182 : (trip_k0_t1.sl.v182 arg7 arg10 f7 f10) = updM (slab 1 (arg10.view.read (Elt Ideal) f10)) (slab 1 (arg7.view.read (Elt Ideal) f7)) :=
  (show (trip_k0_t1.sl.v182 arg7 arg10 f7 f10) = updM (trip_k0_t1.sl.v169 arg10 f10) (trip_k0_t1.sl.v175 arg7 f7) from rfl).trans (by rw [w169, w175])

theorem w199 : (trip_k0_t1.sl.v199 arg7 arg8 arg10 f7 f8 f10) = updL (slab 1 (arg10.view.read (Elt Ideal) f10)) (slab 1 (arg7.view.read (Elt Ideal) f7)) (slab 1 (arg8.view.read (Elt Ideal) f8)) :=
  (show (trip_k0_t1.sl.v199 arg7 arg8 arg10 f7 f8 f10) = updL (trip_k0_t1.sl.v169 arg10 f10) (trip_k0_t1.sl.v175 arg7 f7) (trip_k0_t1.sl.v194 arg8 f8) from rfl).trans (by rw [w169, w175, w194])

theorem w209 : (trip_k0_t1.sl.v209 i arg5 arg7 arg9 arg10 (harg5.unread x2) k f7 f9 f10) = updA (slab 1 (arg10.view.read (Elt Ideal) f10)) (blkV x2 (2 * k.val)) (slab 1 (arg7.view.read (Elt Ideal) f7)) (slab 1 (arg9.view.read (Elt Ideal) f9)) :=
  (show (trip_k0_t1.sl.v209 i arg5 arg7 arg9 arg10 (harg5.unread x2) k f7 f9 f10) = updA (trip_k0_t1.sl.v169 arg10 f10) (trip_k0_t1.sl.v119 i arg5 (harg5.unread x2) k) (trip_k0_t1.sl.v175 arg7 f7) (trip_k0_t1.sl.v206 arg9 f9) from rfl).trans (by rw [w169, w175, w206, w119 i arg5 harg5 x2 k])

theorem w247 : (trip_k0_t1.sl.v247 arg7 arg10 f7 f10) = (updM (slab 0 (arg10.view.read (Elt Ideal) f10)) (slab 0 (arg7.view.read (Elt Ideal) f7))) :=
  (flat_readAt (n := 128) _ _ 0 _ _).trans ((slab_skip (n := 128) _ _ 0 1 (by decide) _ _ _).trans ((slab_write (n := 128) _ _ 0 _ _ _ _).trans (w134 arg7 arg10 f7 f10)))

theorem w266 : (trip_k0_t1.sl.v266 arg7 arg8 arg10 f7 f8 f10) = (updL (slab 0 (arg10.view.read (Elt Ideal) f10)) (slab 0 (arg7.view.read (Elt Ideal) f7)) (slab 0 (arg8.view.read (Elt Ideal) f8))) :=
  (flat_readAt (n := 128) _ _ 0 _ _).trans ((slab_skip (n := 128) _ _ 0 1 (by decide) _ _ _).trans ((slab_write (n := 128) _ _ 0 _ _ _ _).trans (w151 arg7 arg8 arg10 f7 f8 f10)))

theorem w278 : (trip_k0_t1.sl.v278 i arg5 arg7 arg9 arg10 (harg5.unread x2) k f7 f9 f10) = (updA (slab 0 (arg10.view.read (Elt Ideal) f10)) (blkV x2 (2 * k.val)) (slab 0 (arg7.view.read (Elt Ideal) f7)) (slab 0 (arg9.view.read (Elt Ideal) f9))) :=
  (flat_readAt (n := 128) _ _ 0 _ _).trans ((slab_skip (n := 128) _ _ 0 1 (by decide) _ _ _).trans ((slab_write (n := 128) _ _ 0 _ _ _ _).trans (w161 i arg5 harg5 arg7 arg9 arg10 x2 k f7 f9 f10)))

theorem w254 : (trip_k0_t1.sl.v254 i arg4 arg7 arg10 arg11 q (harg4.unread x1) k f7 f10) = updM (sc0 q (blkK x1 (2 * k.val + 1))) (updM (slab 0 (arg10.view.read (Elt Ideal) f10)) (slab 0 (arg7.view.read (Elt Ideal) f7))) :=
  (show (trip_k0_t1.sl.v254 i arg4 arg7 arg10 arg11 q (harg4.unread x1) k f7 f10) = updM (trip_k0_t1.sl.v241 i arg4 arg11 q (harg4.unread x1) k) (trip_k0_t1.sl.v247 arg7 arg10 f7 f10) from rfl).trans (by rw [w241 i arg4 harg4 arg11 q x1 k, w247])

theorem w271 : (trip_k0_t1.sl.v271 i arg4 arg7 arg8 arg10 arg11 q (harg4.unread x1) k f7 f8 f10) = updL (sc0 q (blkK x1 (2 * k.val + 1))) (updM (slab 0 (arg10.view.read (Elt Ideal) f10)) (slab 0 (arg7.view.read (Elt Ideal) f7))) (updL (slab 0 (arg10.view.read (Elt Ideal) f10)) (slab 0 (arg7.view.read (Elt Ideal) f7)) (slab 0 (arg8.view.read (Elt Ideal) f8))) :=
  (show (trip_k0_t1.sl.v271 i arg4 arg7 arg8 arg10 arg11 q (harg4.unread x1) k f7 f8 f10) = updL (trip_k0_t1.sl.v241 i arg4 arg11 q (harg4.unread x1) k) (trip_k0_t1.sl.v247 arg7 arg10 f7 f10) (trip_k0_t1.sl.v266 arg7 arg8 arg10 f7 f8 f10) from rfl).trans (by rw [w241 i arg4 harg4 arg11 q x1 k, w247, w266])

theorem w281 : (trip_k0_t1.sl.v281 i arg4 arg5 arg7 arg9 arg10 arg11 q (harg4.unread x1) (harg5.unread x2) k f7 f9 f10) = updA (sc0 q (blkK x1 (2 * k.val + 1))) (blkV x2 (2 * k.val + 1)) (updM (slab 0 (arg10.view.read (Elt Ideal) f10)) (slab 0 (arg7.view.read (Elt Ideal) f7))) (updA (slab 0 (arg10.view.read (Elt Ideal) f10)) (blkV x2 (2 * k.val)) (slab 0 (arg7.view.read (Elt Ideal) f7)) (slab 0 (arg9.view.read (Elt Ideal) f9))) :=
  (show (trip_k0_t1.sl.v281 i arg4 arg5 arg7 arg9 arg10 arg11 q (harg4.unread x1) (harg5.unread x2) k f7 f9 f10) = updA (trip_k0_t1.sl.v241 i arg4 arg11 q (harg4.unread x1) k) (trip_k0_t1.sl.v239 i arg5 (harg5.unread x2) k) (trip_k0_t1.sl.v247 arg7 arg10 f7 f10) (trip_k0_t1.sl.v278 i arg5 arg7 arg9 arg10 (harg5.unread x2) k f7 f9 f10) from rfl).trans (by rw [w241 i arg4 harg4 arg11 q x1 k, w247, w278 i arg5 harg5 arg7 arg9 arg10 x2 k f7 f9 f10, w239 i arg5 harg5 x2 k])

theorem w295 : (trip_k0_t1.sl.v295 i arg4 arg7 arg10 arg11 q (harg4.unread x1) k f7 f10) = (updM (slab 1 (arg10.view.read (Elt Ideal) f10)) (slab 1 (arg7.view.read (Elt Ideal) f7))) :=
  (flat_readAt (n := 128) _ _ 1 _ _).trans ((slab_skip (n := 128) _ _ 1 0 (by decide) _ _ _).trans ((slab_write (n := 128) _ _ 1 _ _ _ _).trans (w182 arg7 arg10 f7 f10)))

theorem w314 : (trip_k0_t1.sl.v314 i arg4 arg7 arg8 arg10 arg11 q (harg4.unread x1) k f7 f8 f10) = (updL (slab 1 (arg10.view.read (Elt Ideal) f10)) (slab 1 (arg7.view.read (Elt Ideal) f7)) (slab 1 (arg8.view.read (Elt Ideal) f8))) :=
  (flat_readAt (n := 128) _ _ 1 _ _).trans ((slab_skip (n := 128) _ _ 1 0 (by decide) _ _ _).trans ((slab_write (n := 128) _ _ 1 _ _ _ _).trans (w199 arg7 arg8 arg10 f7 f8 f10)))

theorem w325 : shapeCast S512x128 (trip_k0_t1.sl.v325 i arg4 arg5 arg7 arg9 arg10 arg11 q (harg4.unread x1) (harg5.unread x2) k f7 f9 f10) shapeCasts_S1x512x128_S512x128 = (updA (slab 1 (arg10.view.read (Elt Ideal) f10)) (blkV x2 (2 * k.val)) (slab 1 (arg7.view.read (Elt Ideal) f7)) (slab 1 (arg9.view.read (Elt Ideal) f9))) :=
  (flat_readAt (n := 128) _ _ 1 _ _).trans ((slab_skip (n := 128) _ _ 1 0 (by decide) _ _ _).trans ((slab_write (n := 128) _ _ 1 _ _ _ _).trans (w209 i arg5 harg5 arg7 arg9 arg10 x2 k f7 f9 f10)))

theorem w302 : (trip_k0_t1.sl.v302 i arg4 arg7 arg10 arg11 q (harg4.unread x1) k f7 f10) = updM (sc1 q (blkK x1 (2 * k.val + 1))) (updM (slab 1 (arg10.view.read (Elt Ideal) f10)) (slab 1 (arg7.view.read (Elt Ideal) f7))) :=
  (show (trip_k0_t1.sl.v302 i arg4 arg7 arg10 arg11 q (harg4.unread x1) k f7 f10) = updM (trip_k0_t1.sl.v289 i arg4 arg11 q (harg4.unread x1) k) (trip_k0_t1.sl.v295 i arg4 arg7 arg10 arg11 q (harg4.unread x1) k f7 f10) from rfl).trans (by rw [w289 i arg4 harg4 arg11 q x1 k, w295 i arg4 harg4])

theorem w319 : (trip_k0_t1.sl.v319 i arg4 arg7 arg8 arg10 arg11 q (harg4.unread x1) k f7 f8 f10) = updL (sc1 q (blkK x1 (2 * k.val + 1))) (updM (slab 1 (arg10.view.read (Elt Ideal) f10)) (slab 1 (arg7.view.read (Elt Ideal) f7))) (updL (slab 1 (arg10.view.read (Elt Ideal) f10)) (slab 1 (arg7.view.read (Elt Ideal) f7)) (slab 1 (arg8.view.read (Elt Ideal) f8))) :=
  (show (trip_k0_t1.sl.v319 i arg4 arg7 arg8 arg10 arg11 q (harg4.unread x1) k f7 f8 f10) = updL (trip_k0_t1.sl.v289 i arg4 arg11 q (harg4.unread x1) k) (trip_k0_t1.sl.v295 i arg4 arg7 arg10 arg11 q (harg4.unread x1) k f7 f10) (trip_k0_t1.sl.v314 i arg4 arg7 arg8 arg10 arg11 q (harg4.unread x1) k f7 f8 f10) from rfl).trans (by rw [w289 i arg4 harg4 arg11 q x1 k, w295 i arg4 harg4, w314 i arg4 harg4])

theorem w325A : k0_pay1 (trip_k0_t1.sl.v239 i arg5 (harg5.unread x2) k) (trip_k0_t1.sl.v304 i arg4 arg7 arg10 arg11 q (harg4.unread x1) k f7 f10) (trip_k0_t1.sl.v324 i arg4 arg7 arg10 arg11 q (harg4.unread x1) k f7 f10) (trip_k0_t1.sl.v325 i arg4 arg5 arg7 arg9 arg10 arg11 q (harg4.unread x1) (harg5.unread x2) k f7 f9 f10) = shapeCast S1x512x128 (updA (sc1 q (blkK x1 (2 * k.val + 1))) (blkV x2 (2 * k.val + 1)) (updM (slab 1 (arg10.view.read (Elt Ideal) f10)) (slab 1 (arg7.view.read (Elt Ideal) f7))) (updA (slab 1 (arg10.view.read (Elt Ideal) f10)) (blkV x2 (2 * k.val)) (slab 1 (arg7.view.read (Elt Ideal) f7)) (slab 1 (arg9.view.read (Elt Ideal) f9)))) shapeCasts_S512x128_S1x512x128 :=
  (show _ = shapeCast S1x512x128 (updA (trip_k0_t1.sl.v289 i arg4 arg11 q (harg4.unread x1) k) (trip_k0_t1.sl.v239 i arg5 (harg5.unread x2) k) (trip_k0_t1.sl.v295 i arg4 arg7 arg10 arg11 q (harg4.unread x1) k f7 f10) (shapeCast S512x128 (trip_k0_t1.sl.v325 i arg4 arg5 arg7 arg9 arg10 arg11 q (harg4.unread x1) (harg5.unread x2) k f7 f9 f10) shapeCasts_S1x512x128_S512x128)) shapeCasts_S512x128_S1x512x128 from rfl).trans (by rw [w289 i arg4 harg4 arg11 q x1 k, w295 i arg4 harg4, w325 i arg4 harg4 arg5 harg5 arg7 arg9 arg10 arg11 q x1 x2 k f7 f9 f10, w239 i arg5 harg5 x2 k])

/-- The pieces trip `k` writes. -/
abbrev tl := tripL_k0_t1 (F := Ideal) Variants.none c none i arg3 harg3 arg4 harg4 arg5 harg5 arg6 harg6 arg7 harg7 arg8 harg8 arg9 harg9
  arg10 harg10 arg11 harg11 q 0#32 (harg4.unread x1) (harg5.unread x2) k f7 f8 f9 f10 f11

theorem trip_s0 : slab 0 (arg10.view.read (Elt Ideal) (arg10.view.writes (Elt Ideal) f10
    (tl c i arg3 harg3 arg4 harg4 arg5 harg5 arg6 harg6 arg7 harg7 arg8 harg8 arg9 harg9 arg10 harg10 arg11 harg11 q x1 x2 k f7 f8 f9 f10 f11).2.2.2.1)) =
    sc0 q (blkK x1 (2 * k.val + 2)) := by
  unfold tl tripL_k0_t1 trip_k0_t1
  dsimp only
  exact (slab_skip (n := 512) _ _ 0 1 (by decide) _ _ _).trans ((slab_write (n := 512) _ _ 0 _ _ _ _).trans (w224 i arg4 harg4 q x1 k))

theorem trip_s1 : slab 1 (arg10.view.read (Elt Ideal) (arg10.view.writes (Elt Ideal) f10
    (tl c i arg3 harg3 arg4 harg4 arg5 harg5 arg6 harg6 arg7 harg7 arg8 harg8 arg9 harg9 arg10 harg10 arg11 harg11 q x1 x2 k f7 f8 f9 f10 f11).2.2.2.1)) =
    sc1 q (blkK x1 (2 * k.val + 2)) := by
  unfold tl tripL_k0_t1 trip_k0_t1
  dsimp only
  exact (slab_write (n := 512) _ _ 1 _ _ _ _).trans (w230 i arg4 harg4 q x1 k)

theorem trip_m0 : slab 0 (arg7.view.read (Elt Ideal) (arg7.view.writes (Elt Ideal) f7
    (tl c i arg3 harg3 arg4 harg4 arg5 harg5 arg6 harg6 arg7 harg7 arg8 harg8 arg9 harg9 arg10 harg10 arg11 harg11 q x1 x2 k f7 f8 f9 f10 f11).1)) =
    updM (sc0 q (blkK x1 (2 * k.val + 1))) (updM (slab 0 (arg10.view.read (Elt Ideal) f10)) (slab 0 (arg7.view.read (Elt Ideal) f7))) := by
  unfold tl tripL_k0_t1 trip_k0_t1
  dsimp only
  exact (slab_skip (n := 128) _ _ 0 1 (by decide) _ _ _).trans ((slab_write (n := 128) _ _ 0 _ _ _ _).trans (w254 i arg4 harg4 arg7 arg10 arg11 q x1 k f7 f10))

theorem trip_m1 : slab 1 (arg7.view.read (Elt Ideal) (arg7.view.writes (Elt Ideal) f7
    (tl c i arg3 harg3 arg4 harg4 arg5 harg5 arg6 harg6 arg7 harg7 arg8 harg8 arg9 harg9 arg10 harg10 arg11 harg11 q x1 x2 k f7 f8 f9 f10 f11).1)) =
    updM (sc1 q (blkK x1 (2 * k.val + 1))) (updM (slab 1 (arg10.view.read (Elt Ideal) f10)) (slab 1 (arg7.view.read (Elt Ideal) f7))) := by
  unfold tl tripL_k0_t1 trip_k0_t1
  dsimp only
  exact (slab_write (n := 128) _ _ 1 _ _ _ _).trans (w302 i arg4 harg4 arg7 arg10 arg11 q x1 k f7 f10)

theorem trip_l0 : slab 0 (arg8.view.read (Elt Ideal) (arg8.view.writes (Elt Ideal) f8
    (tl c i arg3 harg3 arg4 harg4 arg5 harg5 arg6 harg6 arg7 harg7 arg8 harg8 arg9 harg9 arg10 harg10 arg11 harg11 q x1 x2 k f7 f8 f9 f10 f11).2.1)) =
    updL (sc0 q (blkK x1 (2 * k.val + 1))) (updM (slab 0 (arg10.view.read (Elt Ideal) f10)) (slab 0 (arg7.view.read (Elt Ideal) f7))) (updL (slab 0 (arg10.view.read (Elt Ideal) f10)) (slab 0 (arg7.view.read (Elt Ideal) f7)) (slab 0 (arg8.view.read (Elt Ideal) f8))) := by
  unfold tl tripL_k0_t1 trip_k0_t1
  dsimp only
  exact (slab_skip (n := 128) _ _ 0 1 (by decide) _ _ _).trans ((slab_write (n := 128) _ _ 0 _ _ _ _).trans (w271 i arg4 harg4 arg7 arg8 arg10 arg11 q x1 k f7 f8 f10))

theorem trip_l1 : slab 1 (arg8.view.read (Elt Ideal) (arg8.view.writes (Elt Ideal) f8
    (tl c i arg3 harg3 arg4 harg4 arg5 harg5 arg6 harg6 arg7 harg7 arg8 harg8 arg9 harg9 arg10 harg10 arg11 harg11 q x1 x2 k f7 f8 f9 f10 f11).2.1)) =
    updL (sc1 q (blkK x1 (2 * k.val + 1))) (updM (slab 1 (arg10.view.read (Elt Ideal) f10)) (slab 1 (arg7.view.read (Elt Ideal) f7))) (updL (slab 1 (arg10.view.read (Elt Ideal) f10)) (slab 1 (arg7.view.read (Elt Ideal) f7)) (slab 1 (arg8.view.read (Elt Ideal) f8))) := by
  unfold tl tripL_k0_t1 trip_k0_t1
  dsimp only
  exact (slab_write (n := 128) _ _ 1 _ _ _ _).trans (w319 i arg4 harg4 arg7 arg8 arg10 arg11 q x1 k f7 f8 f10)

theorem trip_a0 : slab 0 (arg9.view.read (Elt Ideal) (arg9.view.writes (Elt Ideal) f9
    (tl c i arg3 harg3 arg4 harg4 arg5 harg5 arg6 harg6 arg7 harg7 arg8 harg8 arg9 harg9 arg10 harg10 arg11 harg11 q x1 x2 k f7 f8 f9 f10 f11).2.2.1)) =
    updA (sc0 q (blkK x1 (2 * k.val + 1))) (blkV x2 (2 * k.val + 1)) (updM (slab 0 (arg10.view.read (Elt Ideal) f10)) (slab 0 (arg7.view.read (Elt Ideal) f7))) (updA (slab 0 (arg10.view.read (Elt Ideal) f10)) (blkV x2 (2 * k.val)) (slab 0 (arg7.view.read (Elt Ideal) f7)) (slab 0 (arg9.view.read (Elt Ideal) f9))) := by
  unfold tl tripL_k0_t1 trip_k0_t1
  dsimp only
  exact (slab_skip (n := 128) _ _ 0 1 (by decide) _ _ _).trans ((slab_write (n := 128) _ _ 0 _ _ _ _).trans (w281 i arg4 harg4 arg5 harg5 arg7 arg9 arg10 arg11 q x1 x2 k f7 f9 f10))

theorem trip_a1 : slab 1 (arg9.view.read (Elt Ideal) (arg9.view.writes (Elt Ideal) f9
    (tl c i arg3 harg3 arg4 harg4 arg5 harg5 arg6 harg6 arg7 harg7 arg8 harg8 arg9 harg9 arg10 harg10 arg11 harg11 q x1 x2 k f7 f8 f9 f10 f11).2.2.1)) =
    updA (sc1 q (blkK x1 (2 * k.val + 1))) (blkV x2 (2 * k.val + 1)) (updM (slab 1 (arg10.view.read (Elt Ideal) f10)) (slab 1 (arg7.view.read (Elt Ideal) f7))) (updA (slab 1 (arg10.view.read (Elt Ideal) f10)) (blkV x2 (2 * k.val)) (slab 1 (arg7.view.read (Elt Ideal) f7)) (slab 1 (arg9.view.read (Elt Ideal) f9))) := by
  unfold tl tripL_k0_t1 trip_k0_t1
  dsimp only
  exact (congrArg (fun X => slab 1 (arg9.view.read (Elt Ideal) (arg9.view.writes (Elt Ideal) f9 (⟨rct (n := 128) 1 _, X⟩ :: _))))
    (w325A i arg4 harg4 arg5 harg5 arg7 arg9 arg10 arg11 q x1 x2 k f7 f9 f10)).trans (slab_write (n := 128) _ _ 1 _ _ _ _)

end Cert.KernelIdeal.Mla
-- ==== Proof.Mla.Loop.lean ====
/- The kernel's loop: after `n` trips the scratch arrays hold the online softmax of the first `2 n` blocks, and the scores
   of the next block. -/
module

public import proofs.«01_k».proof.Proof.Mla.Trip

@[expose] public section

set_option maxRecDepth 16384

noncomputable section

namespace Cert.KernelIdeal.Mla

open Cert.KernelIdeal Cert.KernelIdeal.Gen
open Idealize.ShloMosaic Idealize.ShloMosaic.TcCoe

variable (c : Dev nD) (i : grid0.Coords) (arg3 : Memref sig .tc .vmem S1x512x256 .bf16) (harg3 : arg3.IsWhole) (arg4 : Memref sig .tc .vmem S1x8192x256 .bf16) (harg4 : arg4.IsWhole) (arg5 : Memref sig .tc .vmem S1x8192x128 .bf16) (harg5 : arg5.IsWhole) (arg6 : Memref sig .tc .vmem S1x512x128 .bf16) (harg6 : arg6.IsWhole) (arg7 : Memref sig .tc .vmem S2x512x128 .f32) (harg7 : arg7.IsWhole) (arg8 : Memref sig .tc .vmem S2x512x128 .f32) (harg8 : arg8.IsWhole) (arg9 : Memref sig .tc .vmem S2x512x128 .f32) (harg9 : arg9.IsWhole) (arg10 : Memref sig .tc .vmem S2x512x512 .f32) (harg10 : arg10.IsWhole) (arg11 : Memref sig .tc .vmem S2x512x512 .f32) (harg11 : arg11.IsWhole)
  (q : FVec Ideal S512x256 .bf16) (x1 : Vec Ideal S1x8192x256 .bf16) (x2 : Vec Ideal S1x8192x128 .bf16)
  (g7 : arg7.view.ty.Contents (Elt Ideal)) (g8 : arg8.view.ty.Contents (Elt Ideal)) (g9 : arg9.view.ty.Contents (Elt Ideal))
  (g10 : arg10.view.ty.Contents (Elt Ideal)) (g11 : arg11.view.ty.Contents (Elt Ideal))

/-- The scores of head `h`, block by block. -/
def scs (h : Fin 2) (q : FVec Ideal S512x256 .bf16) (x1 : Vec Ideal S1x8192x256 .bf16) : ℕ → FVec Ideal S512x512 .f32 :=
  fun j => sc h q (blkK x1 j)

/-- What the scratch arrays hold when the first `n` blocks are done and the scores of block `n` are ready. -/
structure Holds (q : FVec Ideal S512x256 .bf16) (x1 : Vec Ideal S1x8192x256 .bf16) (x2 : Vec Ideal S1x8192x128 .bf16) (n : ℕ)
    (X7 X8 X9 : S2x512x128.Idx → EReal) (X10 : S2x512x512.Idx → EReal) : Prop where
  s : ∀ h, slab h X10 = scs h q x1 n
  st : ∀ h, stOf h X7 X8 X9 = St.after (scs h q x1) (blkV x2) n

section
variable (k : Fin (k0_t1_loop i).trips) (f7 : arg7.view.ty.Contents (Elt Ideal)) (f8 : arg8.view.ty.Contents (Elt Ideal)) (f9 : arg9.view.ty.Contents (Elt Ideal))
  (f10 : arg10.view.ty.Contents (Elt Ideal)) (f11 : arg11.view.ty.Contents (Elt Ideal))

theorem trip_st0 : stOf 0 (arg7.view.read (Elt Ideal) (arg7.view.writes (Elt Ideal) f7 (tl c i arg3 harg3 arg4 harg4 arg5 harg5 arg6 harg6 arg7 harg7 arg8 harg8 arg9 harg9 arg10 harg10 arg11 harg11 q x1 x2 k f7 f8 f9 f10 f11).1))
      (arg8.view.read (Elt Ideal) (arg8.view.writes (Elt Ideal) f8 (tl c i arg3 harg3 arg4 harg4 arg5 harg5 arg6 harg6 arg7 harg7 arg8 harg8 arg9 harg9 arg10 harg10 arg11 harg11 q x1 x2 k f7 f8 f9 f10 f11).2.1))
      (arg9.view.read (Elt Ideal) (arg9.view.writes (Elt Ideal) f9 (tl c i arg3 harg3 arg4 harg4 arg5 harg5 arg6 harg6 arg7 harg7 arg8 harg8 arg9 harg9 arg10 harg10 arg11 harg11 q x1 x2 k f7 f8 f9 f10 f11).2.2.1))
    = ((stOf 0 (arg7.view.read (Elt Ideal) f7) (arg8.view.read (Elt Ideal) f8) (arg9.view.read (Elt Ideal) f9)).upd
        (slab 0 (arg10.view.read (Elt Ideal) f10)) (blkV x2 (2 * k.val))).upd (sc0 q (blkK x1 (2 * k.val + 1))) (blkV x2 (2 * k.val + 1)) := by
  unfold stOf
  rw [trip_m0, trip_l0, trip_a0]
  rfl

theorem trip_st1 : stOf 1 (arg7.view.read (Elt Ideal) (arg7.view.writes (Elt Ideal) f7 (tl c i arg3 harg3 arg4 harg4 arg5 harg5 arg6 harg6 arg7 harg7 arg8 harg8 arg9 harg9 arg10 harg10 arg11 harg11 q x1 x2 k f7 f8 f9 f10 f11).1))
      (arg8.view.read (Elt Ideal) (arg8.view.writes (Elt Ideal) f8 (tl c i arg3 harg3 arg4 harg4 arg5 harg5 arg6 harg6 arg7 harg7 arg8 harg8 arg9 harg9 arg10 harg10 arg11 harg11 q x1 x2 k f7 f8 f9 f10 f11).2.1))
      (arg9.view.read (Elt Ideal) (arg9.view.writes (Elt Ideal) f9 (tl c i arg3 harg3 arg4 harg4 arg5 harg5 arg6 harg6 arg7 harg7 arg8 harg8 arg9 harg9 arg10 harg10 arg11 harg11 q x1 x2 k f7 f8 f9 f10 f11).2.2.1))
    = ((stOf 1 (arg7.view.read (Elt Ideal) f7) (arg8.view.read (Elt Ideal) f8) (arg9.view.read (Elt Ideal) f9)).upd
        (slab 1 (arg10.view.read (Elt Ideal) f10)) (blkV x2 (2 * k.val))).upd (sc1 q (blkK x1 (2 * k.val + 1))) (blkV x2 (2 * k.val + 1)) := by
  unfold stOf
  rw [trip_m1, trip_l1, trip_a1]
  rfl

end

/-- The pieces of the first `n` trips. -/
abbrev pb (n : ℕ) := pb_k0_t1 (F := Ideal) Variants.none c none i arg3 harg3 arg4 harg4 arg5 harg5 arg6 harg6 arg7 harg7 arg8 harg8 arg9 harg9
  arg10 harg10 arg11 harg11 q 0#32 (harg4.unread x1) (harg5.unread x2) g7 g8 g9 g10 g11 n

theorem loop_holds (h0 : Holds q x1 x2 0 (arg7.view.read (Elt Ideal) g7) (arg8.view.read (Elt Ideal) g8) (arg9.view.read (Elt Ideal) g9)
      (arg10.view.read (Elt Ideal) g10)) (n : ℕ) (hn : n ≤ (k0_t1_loop i).trips) :
    Holds q x1 x2 (2 * n)
      (arg7.view.read (Elt Ideal) (arg7.view.writes (Elt Ideal) g7 (pb c i arg3 harg3 arg4 harg4 arg5 harg5 arg6 harg6 arg7 harg7 arg8 harg8 arg9 harg9 arg10 harg10 arg11 harg11 q x1 x2 g7 g8 g9 g10 g11 n).1))
      (arg8.view.read (Elt Ideal) (arg8.view.writes (Elt Ideal) g8 (pb c i arg3 harg3 arg4 harg4 arg5 harg5 arg6 harg6 arg7 harg7 arg8 harg8 arg9 harg9 arg10 harg10 arg11 harg11 q x1 x2 g7 g8 g9 g10 g11 n).2.1))
      (arg9.view.read (Elt Ideal) (arg9.view.writes (Elt Ideal) g9 (pb c i arg3 harg3 arg4 harg4 arg5 harg5 arg6 harg6 arg7 harg7 arg8 harg8 arg9 harg9 arg10 harg10 arg11 harg11 q x1 x2 g7 g8 g9 g10 g11 n).2.2.1))
      (arg10.view.read (Elt Ideal) (arg10.view.writes (Elt Ideal) g10 (pb c i arg3 harg3 arg4 harg4 arg5 harg5 arg6 harg6 arg7 harg7 arg8 harg8 arg9 harg9 arg10 harg10 arg11 harg11 q x1 x2 g7 g8 g9 g10 g11 n).2.2.2.1)) := by
  induction n with
  | zero => exact h0
  | succ n ih =>
    have ih := ih (by omega)
    have hs := pb_k0_t1_succ (F := Ideal) Variants.none c none i arg3 harg3 arg4 harg4 arg5 harg5 arg6 harg6 arg7 harg7 arg8 harg8 arg9 harg9
      arg10 harg10 arg11 harg11 q 0#32 (harg4.unread x1) (harg5.unread x2) g7 g8 g9 g10 g11 ⟨n, hn⟩
    have e0 := ih.st 0
    have e1 := ih.st 1
    have s0 := ih.s 0
    have s1 := ih.s 1
    rw [pb, hs]
    dsimp only
    rw [View.writes_append, View.writes_append, View.writes_append, View.writes_append]
    constructor
    · intro h
      fin_cases h
      · exact trip_s0 (k := ⟨n, hn⟩) ..
      · exact trip_s1 (k := ⟨n, hn⟩) ..
    · intro h
      fin_cases h
      · refine (trip_st0 (k := ⟨n, hn⟩) ..).trans ?_
        rw [e0, s0]; rfl
      · refine (trip_st1 (k := ⟨n, hn⟩) ..).trans ?_
        rw [e1, s1]; rfl

end Cert.KernelIdeal.Mla
-- ==== Proof.Mla.Final.lean ====
/- The block the kernel writes at a point of the grid: the whole blocks of keys go through the loop, the block on the
   diagonal is masked, and the weighted sums are divided by the sums. -/
module

public import proofs.«01_k».proof.Proof.Mla.Loop

@[expose] public section

set_option maxRecDepth 16384

noncomputable section

namespace Cert.KernelIdeal.Mla

open Cert.KernelIdeal Cert.KernelIdeal.Gen
open Idealize.ShloMosaic Idealize.ShloMosaic.TcCoe

/-- Two slabs stacked. -/
def glue (f : Fin 2 → FVec Ideal S512x128 .f32) : Vec Ideal S2x512x128 .f32 := fun j => f (j 0) (ix2 (j 1) (j 2))

theorem glue_eq (X : Vec Ideal S2x512x128 .f32) (f : Fin 2 → FVec Ideal S512x128 .f32) (h0 : slab 0 X = f 0) (h1 : slab 1 X = f 1) :
    X = glue f := by
  have h : ∀ h : Fin 2, slab h X = f h := by
    intro h; fin_cases h
    · exact h0
    · exact h1
  funext j
  have e := congrFun (h (j 0)) (ix2 (j 1) (j 2))
  refine Eq.trans ?_ e
  exact congrArg X (eq_ix3 j)

/-- A slab of an array read whole. -/
theorem slab_whole {sig' : RefSig} {κ' : Kind} {sp : Space} (v : View sig' κ' sp (Two 128) .f32) (L : List (View.Piece (Elt Ideal) (Two 128) .f32))
    (h : Fin 2) (inb) :
    slab h (v.readCov (Val := Elt Ideal) L (Rect.unit (s := Two 128) ![0, 0, 0] (Two 128).size inb).toLoadRect)
      = slab h (v.read (Elt Ideal) (v.writes (Elt Ideal) (v.junk (Val := Elt Ideal)) L)) := by
  funext j
  obtain ⟨j0, j1, rfl⟩ : ∃ (a : Fin 512) (b : Fin 128), j = ix2 a b := ⟨j 0, j 1, eq_ix2 j⟩
  refine congrArg (v.read (Elt Ideal) _) ?_
  funext a
  apply Fin.ext
  refine (ValueKit.rect_emb_unit_val (s := Two 128) _ _ inb _ a).trans ?_
  fin_cases a
  · show 0 + h.val = h.val; omega
  · show 0 + j0.val = j0.val; omega
  · show 0 + j1.val = j1.val; omega

/-- The output block written whole. -/
theorem store_out {κ' : Kind} {sp : Space} (r : Memref sig κ' sp S1x512x128 .bf16) (f : r.view.ty.Contents (Elt Ideal)) (inb)
    (w : Vec Ideal S1x512x128 .bf16) :
    r.view.read (Elt Ideal) (r.view.writes (Elt Ideal) f [⟨Rect.unit (s := S1x512x128) ![0, 0, 0] ![1, 512, 128] inb, w⟩]) = w := by
  funext j
  refine Eq.trans ?_ (View.read_writes_cons_emb r.view f (Rect.unit (s := S1x512x128) ![0, 0, 0] ![1, 512, 128] inb) w [] j)
  refine congrArg (r.view.read (Elt Ideal) _) ?_
  funext a
  apply Fin.ext
  refine Eq.trans ?_ (ValueKit.rect_emb_unit_val (s := S1x512x128) _ _ inb _ a).symm
  fin_cases a
  · show (j 0).val = 0 + (j 0).val; omega
  · show (j 1).val = 0 + (j 1).val; omega
  · show (j 2).val = 0 + (j 2).val; omega

/-- The block of queries as the kernel loads it. -/
def qOf (x : Vec Ideal S1x512x256 .bf16) : FVec Ideal S512x256 .bf16 := shapeCast S512x256 x shapeCasts_S1x512x256_S512x256

theorem load_Q {κ' : Kind} {sp : Space} (r : Memref sig κ' sp S1x512x256 .bf16) (hr : r.IsWhole) (x : Vec Ideal S1x512x256 .bf16) (inb) :
    shapeCast S512x256 (r.view.readAt (Elt Ideal) (Rect.unit (s := S1x512x256) ![0, 0, 0] S1x512x256.size inb).toLoadRect (hr.unread x))
      shapeCasts_S1x512x256_S512x256 = qOf x := by
  unfold qOf
  congr 1
  funext j
  refine (congrFun (hr.read_unread x) _).trans ?_
  refine congrArg x ?_
  funext a
  apply Fin.ext
  refine (ValueKit.rect_emb_unit_val (s := S1x512x256) _ _ inb _ a).trans ?_
  fin_cases a
  · show 0 + (j 0).val = (j 0).val; omega
  · show 0 + (j 1).val = (j 1).val; omega
  · show 0 + (j 2).val = (j 2).val; omega

/-- The scores of the block on the diagonal, masked. -/
def msk (i : grid0.Coords) (s : FVec Ideal S512x512 .f32) : FVec Ideal S512x512 .f32 :=
  select (k0_pay155 (BitVec.ofNat 32 (i 2).val) (BitVec.ofNat 32 (i 2).val)) s
    (broadcast S512x512 (Named.named κ "mask" 0xF149F2CA#32 : Ideal .f32))

/-- Head `h`'s state once the diagonal block is in. -/
def fin (i : grid0.Coords) (q : FVec Ideal S512x256 .bf16) (x1 : Vec Ideal S1x8192x256 .bf16) (x2 : Vec Ideal S1x8192x128 .bf16) (h : Fin 2) : St :=
  (St.after (scs h q x1) (blkV x2) (i 2).val).upd (msk i (scs h q x1 (i 2).val)) (blkV x2 (i 2).val)

/-- The block written. -/
def OUT (i : grid0.Coords) (x0 : Vec Ideal S1x512x256 .bf16) (x1 : Vec Ideal S1x8192x256 .bf16) (x2 : Vec Ideal S1x8192x128 .bf16) :
    Vec Ideal S1x512x128 .bf16 :=
  k0_pay15 (glue fun h => (fin i (qOf x0) x1 x2 h).a) (glue fun h => (fin i (qOf x0) x1 x2 h).l)

variable (c : Dev nD) (i : grid0.Coords) (arg3 : Memref sig .tc .vmem S1x512x256 .bf16) (harg3 : arg3.IsWhole) (arg4 : Memref sig .tc .vmem S1x8192x256 .bf16) (harg4 : arg4.IsWhole) (arg5 : Memref sig .tc .vmem S1x8192x128 .bf16) (harg5 : arg5.IsWhole) (arg6 : Memref sig .tc .vmem S1x512x128 .bf16) (harg6 : arg6.IsWhole) (arg7 : Memref sig .tc .vmem S2x512x128 .f32) (harg7 : arg7.IsWhole) (arg8 : Memref sig .tc .vmem S2x512x128 .f32) (harg8 : arg8.IsWhole) (arg9 : Memref sig .tc .vmem S2x512x128 .f32) (harg9 : arg9.IsWhole) (arg10 : Memref sig .tc .vmem S2x512x512 .f32) (harg10 : arg10.IsWhole) (arg11 : Memref sig .tc .vmem S2x512x512 .f32) (harg11 : arg11.IsWhole)
  (q : FVec Ideal S512x256 .bf16) (x1 : Vec Ideal S1x8192x256 .bf16) (x2 : Vec Ideal S1x8192x128 .bf16)

/-- Before the loop: nothing summed, the scores of block 0 ready. -/
theorem base_holds (f7 : arg7.view.ty.Contents (Elt Ideal)) (f8 : arg8.view.ty.Contents (Elt Ideal)) (f9 : arg9.view.ty.Contents (Elt Ideal)) (f10 : arg10.view.ty.Contents (Elt Ideal)) (i7) (i8) (i9) (ia) (ib) (ic) :
    Holds q x1 x2 0
      (arg7.view.read (Elt Ideal) (arg7.view.writes (Elt Ideal) f7 [⟨Rect.unit (s := S2x512x128) ![0, 0, 0] S2x512x128.size i7, k0_pay246 (F := Ideal)⟩]))
      (arg8.view.read (Elt Ideal) (arg8.view.writes (Elt Ideal) f8 [⟨Rect.unit (s := S2x512x128) ![0, 0, 0] S2x512x128.size i8, k0_pay247 (F := Ideal)⟩]))
      (arg9.view.read (Elt Ideal) (arg9.view.writes (Elt Ideal) f9 [⟨Rect.unit (s := S2x512x128) ![0, 0, 0] S2x512x128.size i9, k0_pay248 (F := Ideal)⟩]))
      (arg10.view.read (Elt Ideal) (arg10.view.writes (Elt Ideal) f10
        [⟨Rect.unit (s := S2x512x512) ![1, 0, 0] S1x512x512.size ib, k0_pay251 q (arg4.view.readAt (Elt Ideal) (Rect.unit (s := S1x8192x256) ![0, 0, 0] S1x512x256.size ia).toLoadRect (harg4.unread x1))⟩,
         ⟨Rect.unit (s := S2x512x512) ![0, 0, 0] S1x512x512.size ic, k0_pay250 q (arg4.view.readAt (Elt Ideal) (Rect.unit (s := S1x8192x256) ![0, 0, 0] S1x512x256.size ia).toLoadRect (harg4.unread x1))⟩])) := by
  have hk := load_K arg4 harg4 x1 ia (n := 0) rfl (by decide)
  have em : ∀ h, slab h (k0_pay246 (F := Ideal)) = fun _ => (⊥ : EReal) := by
    intro h; funext j
    show (Named.named κ "mask" 0xF149F2CA#32 : Ideal .f32) = ⊥
    exact IdealRules.named_const.ideal_named_scalar κ "mask" _ _ rfl
  have el : ∀ h, slab h (k0_pay247 (F := Ideal)) = fun _ => (0 : EReal) := by
    intro h; funext j
    show (Scalar.ofBits .f32 0x00000000#32 : Ideal .f32) = 0
    exact Ideal.ofBits_zero .f32
  have ea : ∀ h, slab h (k0_pay248 (F := Ideal)) = fun _ => (0 : EReal) := el
  constructor
  · intro h
    fin_cases h
    · exact (slab_skip (n := 512) _ _ 0 1 (by decide) _ _ _).trans ((slab_write (n := 512) _ _ 0 _ _ _ _).trans (congrArg (sc0 q) hk))
    · exact (slab_write (n := 512) _ _ 1 _ _ _ _).trans (congrArg (sc1 q) hk)
  · intro h
    unfold stOf
    rw [slab_fill (n := 128), slab_fill (n := 128), slab_fill (n := 128), em, el, ea]
    rfl

variable (q' : FVec Ideal S512x256 .bf16) (w : BitVec 32) (g11 : arg11.view.ty.Contents (Elt Ideal))
  (H7 : List (View.Piece (Elt Ideal) S2x512x128 .f32)) (H8 : List (View.Piece (Elt Ideal) S2x512x128 .f32)) (H9 : List (View.Piece (Elt Ideal) S2x512x128 .f32))
  (H10 : List (View.Piece (Elt Ideal) S2x512x512 .f32))

/-- The pieces of the loop, over what was written before it, -/
abbrev PB1 := pb c i arg3 harg3 arg4 harg4 arg5 harg5 arg6 harg6 arg7 harg7 arg8 harg8 arg9 harg9 arg10 harg10 arg11 harg11 q x1 x2
  (arg7.view.writes (Elt Ideal) arg7.view.junk H7) (arg8.view.writes (Elt Ideal) arg8.view.junk H8) (arg9.view.writes (Elt Ideal) arg9.view.junk H9)
  (arg10.view.writes (Elt Ideal) arg10.view.junk H10) g11 (Scf.trips (k0_t1_loop i).lb (k0_t1_loop i).ub (k0_t1_loop i).st)

/-- and of the second loop, which takes no trip. -/
abbrev PB2 := pb_k0_t2 (F := Ideal) Variants.none c none i arg3 harg3 arg4 harg4 arg5 harg5 arg6 harg6 arg7 harg7 arg8 harg8 arg9 harg9
  arg10 harg10 arg11 harg11 q w (harg4.unread x1) (harg5.unread x2)
  (arg7.view.writes (Elt Ideal) arg7.view.junk ((PB1 c i arg3 harg3 arg4 harg4 arg5 harg5 arg6 harg6 arg7 harg7 arg8 harg8 arg9 harg9 arg10 harg10 arg11 harg11 q x1 x2 g11 H7 H8 H9 H10).1 ++ H7))
  (arg8.view.writes (Elt Ideal) arg8.view.junk ((PB1 c i arg3 harg3 arg4 harg4 arg5 harg5 arg6 harg6 arg7 harg7 arg8 harg8 arg9 harg9 arg10 harg10 arg11 harg11 q x1 x2 g11 H7 H8 H9 H10).2.1 ++ H8))
  (arg9.view.writes (Elt Ideal) arg9.view.junk ((PB1 c i arg3 harg3 arg4 harg4 arg5 harg5 arg6 harg6 arg7 harg7 arg8 harg8 arg9 harg9 arg10 harg10 arg11 harg11 q x1 x2 g11 H7 H8 H9 H10).2.2.1 ++ H9))
  (arg10.view.writes (Elt Ideal) arg10.view.junk ((PB1 c i arg3 harg3 arg4 harg4 arg5 harg5 arg6 harg6 arg7 harg7 arg8 harg8 arg9 harg9 arg10 harg10 arg11 harg11 q x1 x2 g11 H7 H8 H9 H10).2.2.2.1 ++ H10))
  (arg11.view.writes (Elt Ideal) g11 (PB1 c i arg3 harg3 arg4 harg4 arg5 harg5 arg6 harg6 arg7 harg7 arg8 harg8 arg9 harg9 arg10 harg10 arg11 harg11 q x1 x2 g11 H7 H8 H9 H10).2.2.2.2)
  (Scf.trips (k0_t2_loop i).lb (k0_t2_loop i).ub (k0_t2_loop i).st)

theorem PB2_nil : PB2 c i arg3 harg3 arg4 harg4 arg5 harg5 arg6 harg6 arg7 harg7 arg8 harg8 arg9 harg9 arg10 harg10 arg11 harg11 q x1 x2 w g11 H7 H8 H9 H10
    = ([], [], [], [], []) := by
  have h : Scf.trips (k0_t2_loop i).lb (k0_t2_loop i).ub (k0_t2_loop i).st = 0 := trips2 i
  unfold PB2
  rw [h]
  rfl

theorem loops_hold (hq : q = q')
    (h0 : Holds q x1 x2 0 (arg7.view.read (Elt Ideal) (arg7.view.writes (Elt Ideal) arg7.view.junk H7)) (arg8.view.read (Elt Ideal) (arg8.view.writes (Elt Ideal) arg8.view.junk H8))
      (arg9.view.read (Elt Ideal) (arg9.view.writes (Elt Ideal) arg9.view.junk H9)) (arg10.view.read (Elt Ideal) (arg10.view.writes (Elt Ideal) arg10.view.junk H10))) :
    Holds q' x1 x2 (2 * ((i 2).val / 2))
      (arg7.view.read (Elt Ideal) (arg7.view.writes (Elt Ideal) arg7.view.junk ((PB2 c i arg3 harg3 arg4 harg4 arg5 harg5 arg6 harg6 arg7 harg7 arg8 harg8 arg9 harg9 arg10 harg10 arg11 harg11 q x1 x2 w g11 H7 H8 H9 H10).1
        ++ ((PB1 c i arg3 harg3 arg4 harg4 arg5 harg5 arg6 harg6 arg7 harg7 arg8 harg8 arg9 harg9 arg10 harg10 arg11 harg11 q x1 x2 g11 H7 H8 H9 H10).1 ++ H7))))
      (arg8.view.read (Elt Ideal) (arg8.view.writes (Elt Ideal) arg8.view.junk ((PB2 c i arg3 harg3 arg4 harg4 arg5 harg5 arg6 harg6 arg7 harg7 arg8 harg8 arg9 harg9 arg10 harg10 arg11 harg11 q x1 x2 w g11 H7 H8 H9 H10).2.1
        ++ ((PB1 c i arg3 harg3 arg4 harg4 arg5 harg5 arg6 harg6 arg7 harg7 arg8 harg8 arg9 harg9 arg10 harg10 arg11 harg11 q x1 x2 g11 H7 H8 H9 H10).2.1 ++ H8))))
      (arg9.view.read (Elt Ideal) (arg9.view.writes (Elt Ideal) arg9.view.junk ((PB2 c i arg3 harg3 arg4 harg4 arg5 harg5 arg6 harg6 arg7 harg7 arg8 harg8 arg9 harg9 arg10 harg10 arg11 harg11 q x1 x2 w g11 H7 H8 H9 H10).2.2.1
        ++ ((PB1 c i arg3 harg3 arg4 harg4 arg5 harg5 arg6 harg6 arg7 harg7 arg8 harg8 arg9 harg9 arg10 harg10 arg11 harg11 q x1 x2 g11 H7 H8 H9 H10).2.2.1 ++ H9))))
      (arg10.view.read (Elt Ideal) (arg10.view.writes (Elt Ideal) arg10.view.junk ((PB2 c i arg3 harg3 arg4 harg4 arg5 harg5 arg6 harg6 arg7 harg7 arg8 harg8 arg9 harg9 arg10 harg10 arg11 harg11 q x1 x2 w g11 H7 H8 H9 H10).2.2.2.1
        ++ ((PB1 c i arg3 harg3 arg4 harg4 arg5 harg5 arg6 harg6 arg7 harg7 arg8 harg8 arg9 harg9 arg10 harg10 arg11 harg11 q x1 x2 g11 H7 H8 H9 H10).2.2.2.1 ++ H10)))) := by
  subst hq
  rw [PB2_nil]
  dsimp only [List.nil_append]
  rw [View.writes_append, View.writes_append, View.writes_append, View.writes_append]
  have h := loop_holds c i arg3 harg3 arg4 harg4 arg5 harg5 arg6 harg6 arg7 harg7 arg8 harg8 arg9 harg9 arg10 harg10 arg11 harg11 q x1 x2 _ _ _ _ g11 h0
    (Scf.trips (k0_t1_loop i).lb (k0_t1_loop i).ub (k0_t1_loop i).st) le_rfl
  have hn : Scf.trips (k0_t1_loop i).lb (k0_t1_loop i).ub (k0_t1_loop i).st = (i 2).val / 2 := trips1 i
  rw [← hn]
  exact h

end Cert.KernelIdeal.Mla
-- ==== Proof.Mla.RunA.lean ====
/- The kernel's body at a point of the grid whose block of queries has an even number: what it leaves in the output block. -/
module

public import proofs.«01_k».proof.Proof.Gen.KernelIdeal.Frame.Runs
import all proofs.«01_k».proof.Proof.Gen.KernelIdeal.Loops
public import proofs.«01_k».proof.Proof.Mla.Final

@[expose] public section

set_option maxRecDepth 16384

noncomputable section

namespace Cert.KernelIdeal.Mla

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

set_option maxHeartbeats 2000000 in
/-- The body's triple there. -/
theorem run_A (c : Dev nD) (i : grid0.Coords) (arg3 : Memref sig .tc .vmem S1x512x256 .bf16) (harg3 : arg3.IsWhole) (arg4 : Memref sig .tc .vmem S1x8192x256 .bf16) (harg4 : arg4.IsWhole) (arg5 : Memref sig .tc .vmem S1x8192x128 .bf16) (harg5 : arg5.IsWhole) (arg6 : Memref sig .tc .vmem S1x512x128 .bf16) (harg6 : arg6.IsWhole) (arg7 : Memref sig .tc .vmem S2x512x128 .f32) (harg7 : arg7.IsWhole) (arg8 : Memref sig .tc .vmem S2x512x128 .f32) (harg8 : arg8.IsWhole) (arg9 : Memref sig .tc .vmem S2x512x128 .f32) (harg9 : arg9.IsWhole) (arg10 : Memref sig .tc .vmem S2x512x512 .f32) (harg10 : arg10.IsWhole) (arg11 : Memref sig .tc .vmem S2x512x512 .f32) (harg11 : arg11.IsWhole) (hc0 : cond0_0 i) (hc1 : ¬cond0_1 i)
    (x0 : Vec Ideal S1x512x256 .bf16) (x1 : Vec Ideal S1x8192x256 .bf16) (x2 : Vec Ideal S1x8192x128 .bf16) (E : Set ℕ) (K : PUnit → sProp 𝕄) :
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare (OUT i x0 x1 x2) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := Ideal)) Variants.none c none) E (cc0_mla_attn i arg3 harg3 arg4 harg4 arg5 harg5 arg6 harg6 arg7 harg7 arg8 harg8 arg9 harg9 arg10 harg10 arg11 harg11) K := by
    simp only [cc0_mla_attn_eq_skeleton]; unfold cc0_mla_attn_skel
    simp only [k0_part21_eq_skeleton, k0_part22_eq_skeleton, k0_part13_eq_skeleton, k0_part14_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg3.eq_unread hf0; obtain rfl := harg4.eq_unread hf1; obtain rfl := harg5.eq_unread hf2
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; swap; · iexact H3
      ipureintro
      refine (store_out arg6 f3 _ _).trans ?_
      have hq : run_A.sl.r c arg3 harg3 x0 = qOf x0 := load_Q arg3 harg3 x0 _
      have H := loops_hold c i arg3 harg3 arg4 harg4 arg5 harg5 arg6 harg6 arg7 harg7 arg8 harg8 arg9 harg9 arg10 harg10 arg11 harg11 (run_A.sl.r c arg3 harg3 x0) x1 x2 (qOf x0) (run_A.sl.v68 i) fs4 run_A.sl.HS0_1 run_A.sl.HS1_1 run_A.sl.HS2_1
        (run_A.sl.HS3_2 c arg3 harg3 arg4 harg4 x0 x1) hq (base_holds arg4 harg4 arg7 arg8 arg9 arg10 _ x1 x2 _ _ _ _ _ _ _ _ _ _)
      have hi : (i 2).val % 2 = 0 := (cond1 i).1 hc0
      have hn : 2 * ((i 2).val / 2) = (i 2).val := by omega
      rw [hn] at H
      have hb : Scalar.muli 2#32 (run_A.sl.v47 i) = BitVec.ofNat 32 (i 2).val :=
        (by decide +kernel : ∀ i : grid0.Coords, (i 2).val % 2 = 0 → Scalar.muli 2#32 (run_A.sl.v47 i) = BitVec.ofNat 32 (i 2).val) i hi
      have hv : run_A.sl.r_1 i arg5 harg5 hc0 x2 = blkV x2 (i 2).val :=
        load_V arg5 harg5 x2 _ ((off7 i).trans (by rw [hn])) (i 2).isLt
      have e112 : shapeCast S512x512 (run_A.sl.v112 c i arg3 harg3 arg4 harg4 arg5 harg5 arg6 harg6 arg7 harg7 arg8 harg8 arg9 harg9 arg10 harg10 arg11 harg11 x0 x1 x2 fs4) shapeCasts_S1x512x512_S512x512 = scs 0 (qOf x0) x1 (i 2).val :=
        (flat_readAt (n := 512) _ _ 0 _ _).trans (H.s 0)
      have e162 : shapeCast S512x512 (run_A.sl.v162 c i arg3 harg3 arg4 harg4 arg5 harg5 arg6 harg6 arg7 harg7 arg8 harg8 arg9 harg9 arg10 harg10 arg11 harg11 x0 x1 x2 fs4) shapeCasts_S1x512x512_S512x512 = scs 1 (qOf x0) x1 (i 2).val :=
        (flat_readAt (n := 512) _ _ 1 _ _).trans (H.s 1)
      have e120 : shapeCast S512x128 (run_A.sl.v120 c i arg3 harg3 arg4 harg4 arg5 harg5 arg6 harg6 arg7 harg7 arg8 harg8 arg9 harg9 arg10 harg10 arg11 harg11 x0 x1 x2 fs4) shapeCasts_S1x512x128_S512x128 = (St.after (scs 0 (qOf x0) x1) (blkV x2) (i 2).val).m :=
        (flat_readAt (n := 128) _ _ 0 _ _).trans (congrArg St.m (H.st 0))
      have e139 : shapeCast S512x128 (run_A.sl.v139 c i arg3 harg3 arg4 harg4 arg5 harg5 arg6 harg6 arg7 harg7 arg8 harg8 arg9 harg9 arg10 harg10 arg11 harg11 x0 x1 x2 fs4) shapeCasts_S1x512x128_S512x128 = (St.after (scs 0 (qOf x0) x1) (blkV x2) (i 2).val).l :=
        (flat_readAt (n := 128) _ _ 0 _ _).trans (congrArg St.l (H.st 0))
      have e151 : shapeCast S512x128 (run_A.sl.v151 c i arg3 harg3 arg4 harg4 arg5 harg5 arg6 harg6 arg7 harg7 arg8 harg8 arg9 harg9 arg10 harg10 arg11 harg11 x0 x1 x2 fs4) shapeCasts_S1x512x128_S512x128 = (St.after (scs 0 (qOf x0) x1) (blkV x2) (i 2).val).a :=
        (flat_readAt (n := 128) _ _ 0 _ _).trans (congrArg St.a (H.st 0))
      have e170 : shapeCast S512x128 (run_A.sl.v170 c i arg3 harg3 arg4 harg4 arg5 harg5 arg6 harg6 arg7 harg7 arg8 harg8 arg9 harg9 arg10 harg10 arg11 harg11 x0 x1 x2 fs4) shapeCasts_S1x512x128_S512x128 = (St.after (scs 1 (qOf x0) x1) (blkV x2) (i 2).val).m :=
        (flat_readAt (n := 128) _ _ 1 _ _).trans ((slab_skip (n := 128) _ _ 1 0 (by decide) _ _ _).trans (congrArg St.m (H.st 1)))
      have e189 : shapeCast S512x128 (run_A.sl.v189 c i arg3 harg3 arg4 harg4 arg5 harg5 arg6 harg6 arg7 harg7 arg8 harg8 arg9 harg9 arg10 harg10 arg11 harg11 x0 x1 x2 fs4) shapeCasts_S1x512x128_S512x128 = (St.after (scs 1 (qOf x0) x1) (blkV x2) (i 2).val).l :=
        (flat_readAt (n := 128) _ _ 1 _ _).trans ((slab_skip (n := 128) _ _ 1 0 (by decide) _ _ _).trans (congrArg St.l (H.st 1)))
      have e201 : shapeCast S512x128 (run_A.sl.v201 c i arg3 harg3 arg4 harg4 arg5 harg5 arg6 harg6 arg7 harg7 arg8 harg8 arg9 harg9 arg10 harg10 arg11 harg11 hc0 x0 x1 x2 fs4) shapeCasts_S1x512x128_S512x128 = (St.after (scs 1 (qOf x0) x1) (blkV x2) (i 2).val).a :=
        (flat_readAt (n := 128) _ _ 1 _ _).trans ((slab_skip (n := 128) _ _ 1 0 (by decide) _ _ _).trans (congrArg St.a (H.st 1)))
      have hm : run_A.sl.r_2 i = k0_pay155 (BitVec.ofNat 32 (i 2).val) (BitVec.ofNat 32 (i 2).val) :=
        congrArg (k0_pay155 (BitVec.ofNat 32 (i 2).val)) hb
      have A0 : updA (select (run_A.sl.r_2 i) (shapeCast S512x512 (run_A.sl.v112 c i arg3 harg3 arg4 harg4 arg5 harg5 arg6 harg6 arg7 harg7 arg8 harg8 arg9 harg9 arg10 harg10 arg11 harg11 x0 x1 x2 fs4) shapeCasts_S1x512x512_S512x512) (broadcast S512x512 (Named.named κ "mask" 0xF149F2CA#32 : Ideal .f32))) (run_A.sl.r_1 i arg5 harg5 hc0 x2) (shapeCast S512x128 (run_A.sl.v120 c i arg3 harg3 arg4 harg4 arg5 harg5 arg6 harg6 arg7 harg7 arg8 harg8 arg9 harg9 arg10 harg10 arg11 harg11 x0 x1 x2 fs4) shapeCasts_S1x512x128_S512x128) (shapeCast S512x128 (run_A.sl.v151 c i arg3 harg3 arg4 harg4 arg5 harg5 arg6 harg6 arg7 harg7 arg8 harg8 arg9 harg9 arg10 harg10 arg11 harg11 x0 x1 x2 fs4) shapeCasts_S1x512x128_S512x128) = (fin i (qOf x0) x1 x2 0).a :=
        by rw [e112, e120, e151, hm, hv]; rfl
      have L0 : updL (select (run_A.sl.r_2 i) (shapeCast S512x512 (run_A.sl.v112 c i arg3 harg3 arg4 harg4 arg5 harg5 arg6 harg6 arg7 harg7 arg8 harg8 arg9 harg9 arg10 harg10 arg11 harg11 x0 x1 x2 fs4) shapeCasts_S1x512x512_S512x512) (broadcast S512x512 (Named.named κ "mask" 0xF149F2CA#32 : Ideal .f32))) (shapeCast S512x128 (run_A.sl.v120 c i arg3 harg3 arg4 harg4 arg5 harg5 arg6 harg6 arg7 harg7 arg8 harg8 arg9 harg9 arg10 harg10 arg11 harg11 x0 x1 x2 fs4) shapeCasts_S1x512x128_S512x128) (shapeCast S512x128 (run_A.sl.v139 c i arg3 harg3 arg4 harg4 arg5 harg5 arg6 harg6 arg7 harg7 arg8 harg8 arg9 harg9 arg10 harg10 arg11 harg11 x0 x1 x2 fs4) shapeCasts_S1x512x128_S512x128) = (fin i (qOf x0) x1 x2 0).l :=
        by rw [e112, e120, e139, hm]; rfl
      have A1 : updA (select (run_A.sl.r_2 i) (shapeCast S512x512 (run_A.sl.v162 c i arg3 harg3 arg4 harg4 arg5 harg5 arg6 harg6 arg7 harg7 arg8 harg8 arg9 harg9 arg10 harg10 arg11 harg11 x0 x1 x2 fs4) shapeCasts_S1x512x512_S512x512) (broadcast S512x512 (Named.named κ "mask" 0xF149F2CA#32 : Ideal .f32))) (run_A.sl.r_1 i arg5 harg5 hc0 x2) (shapeCast S512x128 (run_A.sl.v170 c i arg3 harg3 arg4 harg4 arg5 harg5 arg6 harg6 arg7 harg7 arg8 harg8 arg9 harg9 arg10 harg10 arg11 harg11 x0 x1 x2 fs4) shapeCasts_S1x512x128_S512x128) (shapeCast S512x128 (run_A.sl.v201 c i arg3 harg3 arg4 harg4 arg5 harg5 arg6 harg6 arg7 harg7 arg8 harg8 arg9 harg9 arg10 harg10 arg11 harg11 hc0 x0 x1 x2 fs4) shapeCasts_S1x512x128_S512x128) = (fin i (qOf x0) x1 x2 1).a :=
        by rw [e162, e170, e201, hm, hv]; rfl
      have L1 : updL (select (run_A.sl.r_2 i) (shapeCast S512x512 (run_A.sl.v162 c i arg3 harg3 arg4 harg4 arg5 harg5 arg6 harg6 arg7 harg7 arg8 harg8 arg9 harg9 arg10 harg10 arg11 harg11 x0 x1 x2 fs4) shapeCasts_S1x512x512_S512x512) (broadcast S512x512 (Named.named κ "mask" 0xF149F2CA#32 : Ideal .f32))) (shapeCast S512x128 (run_A.sl.v170 c i arg3 harg3 arg4 harg4 arg5 harg5 arg6 harg6 arg7 harg7 arg8 harg8 arg9 harg9 arg10 harg10 arg11 harg11 x0 x1 x2 fs4) shapeCasts_S1x512x128_S512x128) (shapeCast S512x128 (run_A.sl.v189 c i arg3 harg3 arg4 harg4 arg5 harg5 arg6 harg6 arg7 harg7 arg8 harg8 arg9 harg9 arg10 harg10 arg11 harg11 x0 x1 x2 fs4) shapeCasts_S1x512x128_S512x128) = (fin i (qOf x0) x1 x2 1).l :=
        by rw [e162, e170, e189, hm]; rfl
      refine congrArg₂ k0_pay15 (glue_eq _ _ ?_ ?_) (glue_eq _ _ ?_ ?_)
      · exact (slab_whole _ _ 0 _).trans ((slab_skip (n := 128) _ _ 0 1 (by decide) _ _ _).trans ((slab_write (n := 128) _ _ 0 _ _ _ _).trans (A0)))
      · exact (slab_whole _ _ 1 _).trans ((slab_write (n := 128) _ _ 1 _ _ _ _).trans (A1))
      · exact (slab_whole _ _ 0 _).trans ((slab_skip (n := 128) _ _ 0 1 (by decide) _ _ _).trans ((slab_write (n := 128) _ _ 0 _ _ _ _).trans (L0)))
      · exact (slab_whole _ _ 1 _).trans ((slab_write (n := 128) _ _ 1 _ _ _ _).trans (L1))
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.KernelIdeal.Mla
-- ==== Proof.Mla.RunB.lean ====
/- The kernel's body at a point of the grid whose block of queries has an odd number: what it leaves in the output block. -/
module

public import proofs.«01_k».proof.Proof.Gen.KernelIdeal.Frame.Runs
import all proofs.«01_k».proof.Proof.Gen.KernelIdeal.Loops
public import proofs.«01_k».proof.Proof.Mla.Final

@[expose] public section

set_option maxRecDepth 16384

noncomputable section

namespace Cert.KernelIdeal.Mla

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

set_option maxHeartbeats 2000000 in
/-- The body's triple there. -/
theorem run_B (c : Dev nD) (i : grid0.Coords) (arg3 : Memref sig .tc .vmem S1x512x256 .bf16) (harg3 : arg3.IsWhole) (arg4 : Memref sig .tc .vmem S1x8192x256 .bf16) (harg4 : arg4.IsWhole) (arg5 : Memref sig .tc .vmem S1x8192x128 .bf16) (harg5 : arg5.IsWhole) (arg6 : Memref sig .tc .vmem S1x512x128 .bf16) (harg6 : arg6.IsWhole) (arg7 : Memref sig .tc .vmem S2x512x128 .f32) (harg7 : arg7.IsWhole) (arg8 : Memref sig .tc .vmem S2x512x128 .f32) (harg8 : arg8.IsWhole) (arg9 : Memref sig .tc .vmem S2x512x128 .f32) (harg9 : arg9.IsWhole) (arg10 : Memref sig .tc .vmem S2x512x512 .f32) (harg10 : arg10.IsWhole) (arg11 : Memref sig .tc .vmem S2x512x512 .f32) (harg11 : arg11.IsWhole) (hc0 : ¬cond0_0 i) (hc1 : cond0_1 i)
    (x0 : Vec Ideal S1x512x256 .bf16) (x1 : Vec Ideal S1x8192x256 .bf16) (x2 : Vec Ideal S1x8192x128 .bf16) (E : Set ℕ) (K : PUnit → sProp 𝕄) :
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare (OUT i x0 x1 x2) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := Ideal)) Variants.none c none) E (cc0_mla_attn i arg3 harg3 arg4 harg4 arg5 harg5 arg6 harg6 arg7 harg7 arg8 harg8 arg9 harg9 arg10 harg10 arg11 harg11) K := by
    simp only [cc0_mla_attn_eq_skeleton]; unfold cc0_mla_attn_skel
    simp only [k0_part21_eq_skeleton, k0_part22_eq_skeleton, k0_part15_eq_skeleton, k0_part16_eq_skeleton, k0_part17_eq_skeleton, k0_part18_eq_skeleton, k0_part19_eq_skeleton, k0_part20_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg3.eq_unread hf0; obtain rfl := harg4.eq_unread hf1; obtain rfl := harg5.eq_unread hf2
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; swap; · iexact H3
      ipureintro
      refine (store_out arg6 f3 _ _).trans ?_
      have hq : run_B.sl.r c arg3 harg3 x0 = qOf x0 := load_Q arg3 harg3 x0 _
      have H := loops_hold c i arg3 harg3 arg4 harg4 arg5 harg5 arg6 harg6 arg7 harg7 arg8 harg8 arg9 harg9 arg10 harg10 arg11 harg11 (run_B.sl.r c arg3 harg3 x0) x1 x2 (qOf x0) (run_B.sl.v68 i) fs4 run_B.sl.HS0_1 run_B.sl.HS1_1 run_B.sl.HS2_1
        (run_B.sl.HS3_2 c arg3 harg3 arg4 harg4 x0 x1) hq (base_holds arg4 harg4 arg7 arg8 arg9 arg10 _ x1 x2 _ _ _ _ _ _ _ _ _ _)
      have hi : (i 2).val % 2 = 1 := (cond2 i).1 hc1
      have hn : 2 * ((i 2).val / 2) + 1 = (i 2).val := by omega
      have hlt : (i 2).val < 16 := (i 2).isLt
      have hb : Scalar.addi (Scalar.muli 2#32 (run_B.sl.v47 i)) 1#32 = BitVec.ofNat 32 (i 2).val :=
        (by decide +kernel : ∀ i : grid0.Coords, (i 2).val % 2 = 1 → Scalar.addi (Scalar.muli 2#32 (run_B.sl.v47 i)) 1#32 = BitVec.ofNat 32 (i 2).val) i hi
      have hv : run_B.sl.r_1 i arg5 harg5 hc1 x2 = blkV x2 (2 * ((i 2).val / 2)) := load_V arg5 harg5 x2 _ (off9 i) (by omega)
      have hv' : run_B.sl.r_12 i arg5 harg5 hc1 x2 = blkV x2 (2 * ((i 2).val / 2) + 1) := load_V arg5 harg5 x2 _ (off10 i) (by omega)
      have hk : ∀ inb, shapeCast S512x256 (arg4.view.readAt (Elt Ideal) (Rect.unit (s := S1x8192x256) (k0_off8 i) S1x512x256.size inb).toLoadRect (harg4.unread x1)) shapeCasts_S1x512x256_S512x256 = blkK x1 (2 * ((i 2).val / 2) + 1) :=
        fun inb => load_K arg4 harg4 x1 inb (off8 i) (by omega)
      have e119 : shapeCast S512x512 (run_B.sl.v119 c i arg3 harg3 arg4 harg4 arg5 harg5 arg6 harg6 arg7 harg7 arg8 harg8 arg9 harg9 arg10 harg10 arg11 harg11 x0 x1 x2 fs4) shapeCasts_S1x512x512_S512x512 = scs 0 (qOf x0) x1 (2 * ((i 2).val / 2)) :=
        (flat_readAt (n := 512) _ _ 0 _ _).trans (H.s 0)
      have e167 : shapeCast S512x512 (run_B.sl.v167 c i arg3 harg3 arg4 harg4 arg5 harg5 arg6 harg6 arg7 harg7 arg8 harg8 arg9 harg9 arg10 harg10 arg11 harg11 x0 x1 x2 fs4) shapeCasts_S1x512x512_S512x512 = scs 1 (qOf x0) x1 (2 * ((i 2).val / 2)) :=
        (flat_readAt (n := 512) _ _ 1 _ _).trans (H.s 1)
      have e125 : shapeCast S512x128 (run_B.sl.v125 c i arg3 harg3 arg4 harg4 arg5 harg5 arg6 harg6 arg7 harg7 arg8 harg8 arg9 harg9 arg10 harg10 arg11 harg11 x0 x1 x2 fs4) shapeCasts_S1x512x128_S512x128 = (St.after (scs 0 (qOf x0) x1) (blkV x2) (2 * ((i 2).val / 2))).m :=
        (flat_readAt (n := 128) _ _ 0 _ _).trans (congrArg St.m (H.st 0))
      have e144 : shapeCast S512x128 (run_B.sl.v144 c i arg3 harg3 arg4 harg4 arg5 harg5 arg6 harg6 arg7 harg7 arg8 harg8 arg9 harg9 arg10 harg10 arg11 harg11 x0 x1 x2 fs4) shapeCasts_S1x512x128_S512x128 = (St.after (scs 0 (qOf x0) x1) (blkV x2) (2 * ((i 2).val / 2))).l :=
        (flat_readAt (n := 128) _ _ 0 _ _).trans (congrArg St.l (H.st 0))
      have e156 : shapeCast S512x128 (run_B.sl.v156 c i arg3 harg3 arg4 harg4 arg5 harg5 arg6 harg6 arg7 harg7 arg8 harg8 arg9 harg9 arg10 harg10 arg11 harg11 x0 x1 x2 fs4) shapeCasts_S1x512x128_S512x128 = (St.after (scs 0 (qOf x0) x1) (blkV x2) (2 * ((i 2).val / 2))).a :=
        (flat_readAt (n := 128) _ _ 0 _ _).trans (congrArg St.a (H.st 0))
      have e173 : shapeCast S512x128 (run_B.sl.v173 c i arg3 harg3 arg4 harg4 arg5 harg5 arg6 harg6 arg7 harg7 arg8 harg8 arg9 harg9 arg10 harg10 arg11 harg11 x0 x1 x2 fs4) shapeCasts_S1x512x128_S512x128 = (St.after (scs 1 (qOf x0) x1) (blkV x2) (2 * ((i 2).val / 2))).m :=
        (flat_readAt (n := 128) _ _ 1 _ _).trans ((slab_skip (n := 128) _ _ 1 0 (by decide) _ _ _).trans (congrArg St.m (H.st 1)))
      have e192 : shapeCast S512x128 (run_B.sl.v192 c i arg3 harg3 arg4 harg4 arg5 harg5 arg6 harg6 arg7 harg7 arg8 harg8 arg9 harg9 arg10 harg10 arg11 harg11 x0 x1 x2 fs4) shapeCasts_S1x512x128_S512x128 = (St.after (scs 1 (qOf x0) x1) (blkV x2) (2 * ((i 2).val / 2))).l :=
        (flat_readAt (n := 128) _ _ 1 _ _).trans ((slab_skip (n := 128) _ _ 1 0 (by decide) _ _ _).trans (congrArg St.l (H.st 1)))
      have e204 : shapeCast S512x128 (run_B.sl.v204 c i arg3 harg3 arg4 harg4 arg5 harg5 arg6 harg6 arg7 harg7 arg8 harg8 arg9 harg9 arg10 harg10 arg11 harg11 hc1 x0 x1 x2 fs4) shapeCasts_S1x512x128_S512x128 = (St.after (scs 1 (qOf x0) x1) (blkV x2) (2 * ((i 2).val / 2))).a :=
        (flat_readAt (n := 128) _ _ 1 _ _).trans ((slab_skip (n := 128) _ _ 1 0 (by decide) _ _ _).trans (congrArg St.a (H.st 1)))
      have e232 : shapeCast S512x512 (run_B.sl.v232 c i arg3 harg3 arg4 harg4 arg5 harg5 arg6 harg6 arg7 harg7 arg8 harg8 arg9 harg9 arg10 harg10 arg11 harg11 hc1 x0 x1 x2 fs4) shapeCasts_S1x512x512_S512x512 = scs 0 (qOf x0) x1 (2 * ((i 2).val / 2) + 1) :=
        (flat_readAt (n := 512) _ _ 0 _ _).trans ((slab_skip (n := 512) _ _ 0 1 (by decide) _ _ _).trans ((slab_write (n := 512) _ _ 0 _ _ _ _).trans (congrArg₂ sc0 hq (hk _))))
      have e282 : shapeCast S512x512 (run_B.sl.v282 c i arg3 harg3 arg4 harg4 arg5 harg5 arg6 harg6 arg7 harg7 arg8 harg8 arg9 harg9 arg10 harg10 arg11 harg11 hc1 x0 x1 x2 fs4) shapeCasts_S1x512x512_S512x512 = scs 1 (qOf x0) x1 (2 * ((i 2).val / 2) + 1) :=
        (flat_readAt (n := 512) _ _ 1 _ _).trans ((slab_write (n := 512) _ _ 1 _ _ _ _).trans (congrArg₂ sc1 hq (hk _)))
      have M0 : updM (shapeCast S512x512 (run_B.sl.v119 c i arg3 harg3 arg4 harg4 arg5 harg5 arg6 harg6 arg7 harg7 arg8 harg8 arg9 harg9 arg10 harg10 arg11 harg11 x0 x1 x2 fs4) shapeCasts_S1x512x512_S512x512) (shapeCast S512x128 (run_B.sl.v125 c i arg3 harg3 arg4 harg4 arg5 harg5 arg6 harg6 arg7 harg7 arg8 harg8 arg9 harg9 arg10 harg10 arg11 harg11 x0 x1 x2 fs4) shapeCasts_S1x512x128_S512x128) = (St.after (scs 0 (qOf x0) x1) (blkV x2) (2 * ((i 2).val / 2) + 1)).m :=
        by rw [e119, e125]; rfl
      have L0 : updL (shapeCast S512x512 (run_B.sl.v119 c i arg3 harg3 arg4 harg4 arg5 harg5 arg6 harg6 arg7 harg7 arg8 harg8 arg9 harg9 arg10 harg10 arg11 harg11 x0 x1 x2 fs4) shapeCasts_S1x512x512_S512x512) (shapeCast S512x128 (run_B.sl.v125 c i arg3 harg3 arg4 harg4 arg5 harg5 arg6 harg6 arg7 harg7 arg8 harg8 arg9 harg9 arg10 harg10 arg11 harg11 x0 x1 x2 fs4) shapeCasts_S1x512x128_S512x128) (shapeCast S512x128 (run_B.sl.v144 c i arg3 harg3 arg4 harg4 arg5 harg5 arg6 harg6 arg7 harg7 arg8 harg8 arg9 harg9 arg10 harg10 arg11 harg11 x0 x1 x2 fs4) shapeCasts_S1x512x128_S512x128) = (St.after (scs 0 (qOf x0) x1) (blkV x2) (2 * ((i 2).val / 2) + 1)).l :=
        by rw [e119, e125, e144]; rfl
      have A0 : updA (shapeCast S512x512 (run_B.sl.v119 c i arg3 harg3 arg4 harg4 arg5 harg5 arg6 harg6 arg7 harg7 arg8 harg8 arg9 harg9 arg10 harg10 arg11 harg11 x0 x1 x2 fs4) shapeCasts_S1x512x512_S512x512) (run_B.sl.r_1 i arg5 harg5 hc1 x2) (shapeCast S512x128 (run_B.sl.v125 c i arg3 harg3 arg4 harg4 arg5 harg5 arg6 harg6 arg7 harg7 arg8 harg8 arg9 harg9 arg10 harg10 arg11 harg11 x0 x1 x2 fs4) shapeCasts_S1x512x128_S512x128) (shapeCast S512x128 (run_B.sl.v156 c i arg3 harg3 arg4 harg4 arg5 harg5 arg6 harg6 arg7 harg7 arg8 harg8 arg9 harg9 arg10 harg10 arg11 harg11 x0 x1 x2 fs4) shapeCasts_S1x512x128_S512x128) = (St.after (scs 0 (qOf x0) x1) (blkV x2) (2 * ((i 2).val / 2) + 1)).a :=
        by rw [e119, e125, e156, hv]; rfl
      have M1 : updM (shapeCast S512x512 (run_B.sl.v167 c i arg3 harg3 arg4 harg4 arg5 harg5 arg6 harg6 arg7 harg7 arg8 harg8 arg9 harg9 arg10 harg10 arg11 harg11 x0 x1 x2 fs4) shapeCasts_S1x512x512_S512x512) (shapeCast S512x128 (run_B.sl.v173 c i arg3 harg3 arg4 harg4 arg5 harg5 arg6 harg6 arg7 harg7 arg8 harg8 arg9 harg9 arg10 harg10 arg11 harg11 x0 x1 x2 fs4) shapeCasts_S1x512x128_S512x128) = (St.after (scs 1 (qOf x0) x1) (blkV x2) (2 * ((i 2).val / 2) + 1)).m :=
        by rw [e167, e173]; rfl
      have L1 : updL (shapeCast S512x512 (run_B.sl.v167 c i arg3 harg3 arg4 harg4 arg5 harg5 arg6 harg6 arg7 harg7 arg8 harg8 arg9 harg9 arg10 harg10 arg11 harg11 x0 x1 x2 fs4) shapeCasts_S1x512x512_S512x512) (shapeCast S512x128 (run_B.sl.v173 c i arg3 harg3 arg4 harg4 arg5 harg5 arg6 harg6 arg7 harg7 arg8 harg8 arg9 harg9 arg10 harg10 arg11 harg11 x0 x1 x2 fs4) shapeCasts_S1x512x128_S512x128) (shapeCast S512x128 (run_B.sl.v192 c i arg3 harg3 arg4 harg4 arg5 harg5 arg6 harg6 arg7 harg7 arg8 harg8 arg9 harg9 arg10 harg10 arg11 harg11 x0 x1 x2 fs4) shapeCasts_S1x512x128_S512x128) = (St.after (scs 1 (qOf x0) x1) (blkV x2) (2 * ((i 2).val / 2) + 1)).l :=
        by rw [e167, e173, e192]; rfl
      have A1 : updA (shapeCast S512x512 (run_B.sl.v167 c i arg3 harg3 arg4 harg4 arg5 harg5 arg6 harg6 arg7 harg7 arg8 harg8 arg9 harg9 arg10 harg10 arg11 harg11 x0 x1 x2 fs4) shapeCasts_S1x512x512_S512x512) (run_B.sl.r_1 i arg5 harg5 hc1 x2) (shapeCast S512x128 (run_B.sl.v173 c i arg3 harg3 arg4 harg4 arg5 harg5 arg6 harg6 arg7 harg7 arg8 harg8 arg9 harg9 arg10 harg10 arg11 harg11 x0 x1 x2 fs4) shapeCasts_S1x512x128_S512x128) (shapeCast S512x128 (run_B.sl.v204 c i arg3 harg3 arg4 harg4 arg5 harg5 arg6 harg6 arg7 harg7 arg8 harg8 arg9 harg9 arg10 harg10 arg11 harg11 hc1 x0 x1 x2 fs4) shapeCasts_S1x512x128_S512x128) = (St.after (scs 1 (qOf x0) x1) (blkV x2) (2 * ((i 2).val / 2) + 1)).a :=
        by rw [e167, e173, e204, hv]; rfl
      have e240 : shapeCast S512x128 (run_B.sl.v240 c i arg3 harg3 arg4 harg4 arg5 harg5 arg6 harg6 arg7 harg7 arg8 harg8 arg9 harg9 arg10 harg10 arg11 harg11 x0 x1 x2 fs4) shapeCasts_S1x512x128_S512x128 = (St.after (scs 0 (qOf x0) x1) (blkV x2) (2 * ((i 2).val / 2) + 1)).m :=
        (flat_readAt (n := 128) _ _ 0 _ _).trans ((slab_skip (n := 128) _ _ 0 1 (by decide) _ _ _).trans ((slab_write (n := 128) _ _ 0 _ _ _ _).trans (M0)))
      have e259 : shapeCast S512x128 (run_B.sl.v259 c i arg3 harg3 arg4 harg4 arg5 harg5 arg6 harg6 arg7 harg7 arg8 harg8 arg9 harg9 arg10 harg10 arg11 harg11 x0 x1 x2 fs4) shapeCasts_S1x512x128_S512x128 = (St.after (scs 0 (qOf x0) x1) (blkV x2) (2 * ((i 2).val / 2) + 1)).l :=
        (flat_readAt (n := 128) _ _ 0 _ _).trans ((slab_skip (n := 128) _ _ 0 1 (by decide) _ _ _).trans ((slab_write (n := 128) _ _ 0 _ _ _ _).trans (L0)))
      have e271 : shapeCast S512x128 (run_B.sl.v271 c i arg3 harg3 arg4 harg4 arg5 harg5 arg6 harg6 arg7 harg7 arg8 harg8 arg9 harg9 arg10 harg10 arg11 harg11 hc1 x0 x1 x2 fs4) shapeCasts_S1x512x128_S512x128 = (St.after (scs 0 (qOf x0) x1) (blkV x2) (2 * ((i 2).val / 2) + 1)).a :=
        (flat_readAt (n := 128) _ _ 0 _ _).trans ((slab_skip (n := 128) _ _ 0 1 (by decide) _ _ _).trans ((slab_write (n := 128) _ _ 0 _ _ _ _).trans (A0)))
      have e290 : shapeCast S512x128 (run_B.sl.v290 c i arg3 harg3 arg4 harg4 arg5 harg5 arg6 harg6 arg7 harg7 arg8 harg8 arg9 harg9 arg10 harg10 arg11 harg11 hc1 x0 x1 x2 fs4) shapeCasts_S1x512x128_S512x128 = (St.after (scs 1 (qOf x0) x1) (blkV x2) (2 * ((i 2).val / 2) + 1)).m :=
        (flat_readAt (n := 128) _ _ 1 _ _).trans ((slab_skip (n := 128) _ _ 1 0 (by decide) _ _ _).trans ((slab_write (n := 128) _ _ 1 _ _ _ _).trans (M1)))
      have e309 : shapeCast S512x128 (run_B.sl.v309 c i arg3 harg3 arg4 harg4 arg5 harg5 arg6 harg6 arg7 harg7 arg8 harg8 arg9 harg9 arg10 harg10 arg11 harg11 hc1 x0 x1 x2 fs4) shapeCasts_S1x512x128_S512x128 = (St.after (scs 1 (qOf x0) x1) (blkV x2) (2 * ((i 2).val / 2) + 1)).l :=
        (flat_readAt (n := 128) _ _ 1 _ _).trans ((slab_skip (n := 128) _ _ 1 0 (by decide) _ _ _).trans ((slab_write (n := 128) _ _ 1 _ _ _ _).trans (L1)))
      have e11 : (run_B.sl.r_11 c i arg3 harg3 arg4 harg4 arg5 harg5 arg6 harg6 arg7 harg7 arg8 harg8 arg9 harg9 arg10 harg10 arg11 harg11 hc1 x0 x1 x2 fs4) = shapeCast S1x512x128 (St.after (scs 1 (qOf x0) x1) (blkV x2) (2 * ((i 2).val / 2) + 1)).a shapeCasts_S512x128_S1x512x128 :=
        (show (run_B.sl.r_11 c i arg3 harg3 arg4 harg4 arg5 harg5 arg6 harg6 arg7 harg7 arg8 harg8 arg9 harg9 arg10 harg10 arg11 harg11 hc1 x0 x1 x2 fs4) = shapeCast S1x512x128 (updA (shapeCast S512x512 (run_B.sl.v167 c i arg3 harg3 arg4 harg4 arg5 harg5 arg6 harg6 arg7 harg7 arg8 harg8 arg9 harg9 arg10 harg10 arg11 harg11 x0 x1 x2 fs4) shapeCasts_S1x512x512_S512x512) (run_B.sl.r_1 i arg5 harg5 hc1 x2) (shapeCast S512x128 (run_B.sl.v173 c i arg3 harg3 arg4 harg4 arg5 harg5 arg6 harg6 arg7 harg7 arg8 harg8 arg9 harg9 arg10 harg10 arg11 harg11 x0 x1 x2 fs4) shapeCasts_S1x512x128_S512x128) (shapeCast S512x128 (run_B.sl.v204 c i arg3 harg3 arg4 harg4 arg5 harg5 arg6 harg6 arg7 harg7 arg8 harg8 arg9 harg9 arg10 harg10 arg11 harg11 hc1 x0 x1 x2 fs4) shapeCasts_S1x512x128_S512x128)) shapeCasts_S512x128_S1x512x128 from rfl).trans (by rw [A1])
      have e321 : shapeCast S512x128 (run_B.sl.v321 c i arg3 harg3 arg4 harg4 arg5 harg5 arg6 harg6 arg7 harg7 arg8 harg8 arg9 harg9 arg10 harg10 arg11 harg11 hc1 x0 x1 x2 fs4) shapeCasts_S1x512x128_S512x128 = (St.after (scs 1 (qOf x0) x1) (blkV x2) (2 * ((i 2).val / 2) + 1)).a :=
        (flat_readAt (n := 128) _ _ 1 _ _).trans ((slab_skip (n := 128) _ _ 1 0 (by decide) _ _ _).trans ((congrArg (fun X => slab 1 (arg9.view.read (Elt Ideal) (arg9.view.writes (Elt Ideal) arg9.view.junk (⟨rct (n := 128) 1 _, X⟩ :: _)))) e11).trans (slab_write (n := 128) _ _ 1 _ _ _ _)))
      have hm : run_B.sl.r_13 i = k0_pay155 (BitVec.ofNat 32 (i 2).val) (BitVec.ofNat 32 (i 2).val) :=
        congrArg (k0_pay155 (BitVec.ofNat 32 (i 2).val)) hb
      have A0' : updA (select (run_B.sl.r_13 i) (shapeCast S512x512 (run_B.sl.v232 c i arg3 harg3 arg4 harg4 arg5 harg5 arg6 harg6 arg7 harg7 arg8 harg8 arg9 harg9 arg10 harg10 arg11 harg11 hc1 x0 x1 x2 fs4) shapeCasts_S1x512x512_S512x512) (broadcast S512x512 (Named.named κ "mask" 0xF149F2CA#32 : Ideal .f32))) (run_B.sl.r_12 i arg5 harg5 hc1 x2) (shapeCast S512x128 (run_B.sl.v240 c i arg3 harg3 arg4 harg4 arg5 harg5 arg6 harg6 arg7 harg7 arg8 harg8 arg9 harg9 arg10 harg10 arg11 harg11 x0 x1 x2 fs4) shapeCasts_S1x512x128_S512x128) (shapeCast S512x128 (run_B.sl.v271 c i arg3 harg3 arg4 harg4 arg5 harg5 arg6 harg6 arg7 harg7 arg8 harg8 arg9 harg9 arg10 harg10 arg11 harg11 hc1 x0 x1 x2 fs4) shapeCasts_S1x512x128_S512x128) = (fin i (qOf x0) x1 x2 0).a :=
        by rw [e232, e240, e271, hm, hv', hn]; rfl
      have L0' : updL (select (run_B.sl.r_13 i) (shapeCast S512x512 (run_B.sl.v232 c i arg3 harg3 arg4 harg4 arg5 harg5 arg6 harg6 arg7 harg7 arg8 harg8 arg9 harg9 arg10 harg10 arg11 harg11 hc1 x0 x1 x2 fs4) shapeCasts_S1x512x512_S512x512) (broadcast S512x512 (Named.named κ "mask" 0xF149F2CA#32 : Ideal .f32))) (shapeCast S512x128 (run_B.sl.v240 c i arg3 harg3 arg4 harg4 arg5 harg5 arg6 harg6 arg7 harg7 arg8 harg8 arg9 harg9 arg10 harg10 arg11 harg11 x0 x1 x2 fs4) shapeCasts_S1x512x128_S512x128) (shapeCast S512x128 (run_B.sl.v259 c i arg3 harg3 arg4 harg4 arg5 harg5 arg6 harg6 arg7 harg7 arg8 harg8 arg9 harg9 arg10 harg10 arg11 harg11 x0 x1 x2 fs4) shapeCasts_S1x512x128_S512x128) = (fin i (qOf x0) x1 x2 0).l :=
        by rw [e232, e240, e259, hm, hn]; rfl
      have A1' : updA (select (run_B.sl.r_13 i) (shapeCast S512x512 (run_B.sl.v282 c i arg3 harg3 arg4 harg4 arg5 harg5 arg6 harg6 arg7 harg7 arg8 harg8 arg9 harg9 arg10 harg10 arg11 harg11 hc1 x0 x1 x2 fs4) shapeCasts_S1x512x512_S512x512) (broadcast S512x512 (Named.named κ "mask" 0xF149F2CA#32 : Ideal .f32))) (run_B.sl.r_12 i arg5 harg5 hc1 x2) (shapeCast S512x128 (run_B.sl.v290 c i arg3 harg3 arg4 harg4 arg5 harg5 arg6 harg6 arg7 harg7 arg8 harg8 arg9 harg9 arg10 harg10 arg11 harg11 hc1 x0 x1 x2 fs4) shapeCasts_S1x512x128_S512x128) (shapeCast S512x128 (run_B.sl.v321 c i arg3 harg3 arg4 harg4 arg5 harg5 arg6 harg6 arg7 harg7 arg8 harg8 arg9 harg9 arg10 harg10 arg11 harg11 hc1 x0 x1 x2 fs4) shapeCasts_S1x512x128_S512x128) = (fin i (qOf x0) x1 x2 1).a :=
        by rw [e282, e290, e321, hm, hv', hn]; rfl
      have L1' : updL (select (run_B.sl.r_13 i) (shapeCast S512x512 (run_B.sl.v282 c i arg3 harg3 arg4 harg4 arg5 harg5 arg6 harg6 arg7 harg7 arg8 harg8 arg9 harg9 arg10 harg10 arg11 harg11 hc1 x0 x1 x2 fs4) shapeCasts_S1x512x512_S512x512) (broadcast S512x512 (Named.named κ "mask" 0xF149F2CA#32 : Ideal .f32))) (shapeCast S512x128 (run_B.sl.v290 c i arg3 harg3 arg4 harg4 arg5 harg5 arg6 harg6 arg7 harg7 arg8 harg8 arg9 harg9 arg10 harg10 arg11 harg11 hc1 x0 x1 x2 fs4) shapeCasts_S1x512x128_S512x128) (shapeCast S512x128 (run_B.sl.v309 c i arg3 harg3 arg4 harg4 arg5 harg5 arg6 harg6 arg7 harg7 arg8 harg8 arg9 harg9 arg10 harg10 arg11 harg11 hc1 x0 x1 x2 fs4) shapeCasts_S1x512x128_S512x128) = (fin i (qOf x0) x1 x2 1).l :=
        by rw [e282, e290, e309, hm, hn]; rfl
      refine congrArg₂ k0_pay15 (glue_eq _ _ ?_ ?_) (glue_eq _ _ ?_ ?_)
      · exact (slab_whole _ _ 0 _).trans ((slab_skip (n := 128) _ _ 0 1 (by decide) _ _ _).trans ((slab_write (n := 128) _ _ 0 _ _ _ _).trans (A0')))
      · exact (slab_whole _ _ 1 _).trans ((slab_write (n := 128) _ _ 1 _ _ _ _).trans (A1'))
      · exact (slab_whole _ _ 0 _).trans ((slab_skip (n := 128) _ _ 0 1 (by decide) _ _ _).trans ((slab_write (n := 128) _ _ 0 _ _ _ _).trans (L0')))
      · exact (slab_whole _ _ 1 _).trans ((slab_write (n := 128) _ _ 1 _ _ _ _).trans (L1'))
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.KernelIdeal.Mla
-- ==== Proof.Mla.Frame.lean ====
/- The run of the idealized kernel: every run terminates with the arguments unchanged, the semaphores at zero and the
   output array holding, block by block, what the body computes. -/
module

public import proofs.«01_k».proof.Proof.Gen.KernelIdeal.Frame.Runs
public import proofs.«01_k».proof.Proof.Mla.RunA
public import proofs.«01_k».proof.Proof.Mla.RunB
public import Idealize.ShloMosaic.Lib.Claim

@[expose] public section

set_option maxRecDepth 16384

noncomputable section

namespace Cert.KernelIdeal.Mla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- What each window holds after the body at a point. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => OUT (grid0.coords t) (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

theorem after0_3 (c : Dev nD) (t : Fin cfg0.N) :
    (dats m 0 c).after 3 t = OUT (grid0.coords t) (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body takes at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it gives back. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 1600000 in
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  have hN : t.val < 128 := lt_of_lt_of_eq t.isLt (show cfg0.N = 128 from N_0)
  by_cases h0 : t.val % 2 = 0
  · by_cases h1 : t.val % 2 = 1
    · exfalso; omega
    · iintro ⟨⟨⟨HS0, HS1, HS2, HS3, HS4⟩, Hg⟩, Ho, ⟨%d0, H0⟩, ⟨%d1, H1⟩, ⟨%d2, H2⟩, ⟨%d3, H3⟩⟩
      iapply ((run_A c (grid0.coords t) _ _ _ _ _ _ _ _ _ _ _ _ _ _ _ _ _ _ ((hcond0_0 t).mpr h0) (fun h => h1 ((hcond0_1 t).mp h)) (iblk m c 0 t) (iblk m c 1 t) (iblk m c 2 t)) Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      isplitl [HS3]; · iexact HS3
      isplitl [HS4]; · iexact HS4
      iintro ⟨H0, H1, H2, H3, HS0, HS1, HS2, HS3, HS4⟩
      isplitl [HS0 HS1 HS2 HS3 HS4 Hg]
      · isplitl [HS0 HS1 HS2 HS3 HS4]
        · isplitl [HS0]
          · iexact HS0
          isplitl [HS1]
          · iexact HS1
          isplitl [HS2]
          · iexact HS2
          isplitl [HS3]
          · iexact HS3
          iexact HS4
        iexact Hg
      isplitl [Ho]; · iexact Ho
      isplitl [H0]; · iexact H0
      isplitl [H1]; · iexact H1
      isplitl [H2]; · iexact H2
      iexact H3
  · by_cases h1 : t.val % 2 = 1
    · iintro ⟨⟨⟨HS0, HS1, HS2, HS3, HS4⟩, Hg⟩, Ho, ⟨%d0, H0⟩, ⟨%d1, H1⟩, ⟨%d2, H2⟩, ⟨%d3, H3⟩⟩
      iapply ((run_B c (grid0.coords t) _ _ _ _ _ _ _ _ _ _ _ _ _ _ _ _ _ _ (fun h => h0 ((hcond0_0 t).mp h)) ((hcond0_1 t).mpr h1) (iblk m c 0 t) (iblk m c 1 t) (iblk m c 2 t)) Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      isplitl [HS3]; · iexact HS3
      isplitl [HS4]; · iexact HS4
      iintro ⟨H0, H1, H2, H3, HS0, HS1, HS2, HS3, HS4⟩
      isplitl [HS0 HS1 HS2 HS3 HS4 Hg]
      · isplitl [HS0 HS1 HS2 HS3 HS4]
        · isplitl [HS0]
          · iexact HS0
          isplitl [HS1]
          · iexact HS1
          isplitl [HS2]
          · iexact HS2
          isplitl [HS3]
          · iexact HS3
          iexact HS4
        iexact Hg
      isplitl [Ho]; · iexact Ho
      isplitl [H0]; · iexact H0
      isplitl [H1]; · iexact H1
      isplitl [H2]; · iexact H2
      iexact H3
    · exfalso; omega

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one
set_option backward.isDefEq.respectTransparency.types false in
theorem run_main_quiescent : θ_run defs (onTc (τ := τ) (main (F := Ideal))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := Ideal))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

/-- The output array ends at the blocks written. -/
theorem run_out : θ_run defs (onTc (τ := τ) (main (F := Ideal))) ⟨m, fun _ => 0, ρ⟩ (fun r => ∀ c : Dev nD,
      r.2.mem ((c.tc : Thread nD τ).loc main_v0) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h.1 c).1 3, h.2 c⟩) (θ_run_and (run_main m ρ) (unchanged m ρ))

end Cert.KernelIdeal.Mla
-- ==== Proof.Mla.Soft.lean ====
/- The softmax of a whole row of scores, applied to a column of values, and its computation block by block: what the
   running sums give after the last block with a score other than −∞ is the softmax over all the columns. -/
module

public import proofs.«01_k».proof.Proof.Mla.Online

@[expose] public section

noncomputable section

namespace Mla

open Idealize.ShloMosaic

/-- The softmax of a row of scores, applied to a column of values. -/
def soft (G W : Fin 8192 → EReal) : EReal :=
  ∑ c, Ideal.div (Ideal.exp (G c - Finset.univ.sup G)) (∑ c, Ideal.exp (G c - Finset.univ.sup G)) * W c

/-- Column `k` of block `j`. -/
def col (j : ℕ) (k : Fin 512) : Fin 8192 := ⟨(512 * j + k.val) % 8192, Nat.mod_lt _ (by decide)⟩

theorem col_val {j : ℕ} (h : j < 16) (k : Fin 512) : (col j k).val = 512 * j + k.val :=
  Nat.mod_eq_of_lt (by have := k.isLt; omega)

theorem col_surj (c : Fin 8192) : col (c.val / 512) ⟨c.val % 512, Nat.mod_lt _ (by decide)⟩ = c := by
  have h := c.isLt
  apply Fin.ext
  rw [col_val (by omega)]
  show 512 * (c.val / 512) + c.val % 512 = c.val
  omega

/-- A sum over the blocks is a sum over the columns. -/
theorem sum_blocks (f : Fin 8192 → EReal) : ∑ j ∈ Finset.range 16, ∑ k, f (col j k) = ∑ c, f c := by
  rw [Finset.sum_range (fun j => ∑ k, f (col j k)), ← Fintype.sum_prod_type']
  exact Fintype.sum_equiv (finProdFinEquiv (m := 16) (n := 512)) _ _ fun p => by
    congr 1; ext; rw [col_val p.1.isLt]; simp [finProdFinEquiv, add_comm]

variable {S V : ℕ → Fin 512 → EReal} {n : ℕ} {G W : Fin 8192 → EReal}

theorem sup_blocks (hn : n ≤ 16) (hS : ∀ j < n, ∀ k, S j k = G (col j k)) (hG : ∀ c, 512 * n ≤ c.val → G c = ⊥) :
    maxAt S n = Finset.univ.sup G := by
  refine le_antisymm (Finset.sup_le fun j hj => Finset.sup_le fun k _ => ?_) (Finset.sup_le fun c _ => ?_)
  · rw [hS j (Finset.mem_range.1 hj) k]; exact Finset.le_sup (Finset.mem_univ _)
  · by_cases hc : 512 * n ≤ c.val
    · rw [hG c hc]; exact bot_le
    · have hj : c.val / 512 < n := by omega
      have e := hS _ hj ⟨c.val % 512, Nat.mod_lt _ (by decide)⟩
      rw [col_surj] at e
      rw [← e]; exact le_maxAt S hj _

/-- A sum that leaves out blocks whose terms are zero. -/
theorem sum_to (hn : n ≤ 16) (f : ℕ → Fin 512 → EReal) (g : Fin 8192 → EReal) (hf : ∀ j < n, ∀ k, f j k = g (col j k))
    (hg : ∀ c, 512 * n ≤ c.val → g c = 0) : ∑ j ∈ Finset.range n, ∑ k, f j k = ∑ c, g c := by
  rw [← sum_blocks, Finset.sum_congr rfl fun j hj => Finset.sum_congr rfl fun k _ => hf j (Finset.mem_range.1 hj) k]
  refine Finset.sum_subset (Finset.range_subset_range.2 hn) fun j hj hj' => Finset.sum_eq_zero fun k _ => hg _ ?_
  rw [Finset.mem_range] at hj hj'
  rw [col_val hj]; omega

theorem quotient_eq_soft (hn : n ≤ 16) (hS : ∀ j < n, ∀ k, S j k = G (col j k)) (hV : ∀ j < n, ∀ k, V j k = W (col j k))
    (hG : ∀ c, 512 * n ≤ c.val → G c = ⊥) (hbot : Finset.univ.sup G ≠ ⊥) (htop : Finset.univ.sup G ≠ ⊤) :
    Ideal.div (accAt S V n) (∑ l : Fin 128, sumAt S n l) = soft G W := by
  have hM := sup_blocks hn hS hG
  have hb : maxAt S n ≠ ⊥ := hM ▸ hbot
  have ht : maxAt S n ≠ ⊤ := hM ▸ htop
  have h0 (c : Fin 8192) (hc : 512 * n ≤ c.val) : Ideal.exp (G c - Finset.univ.sup G) = 0 := by
    rw [hG c hc, sub_eq_add_neg, EReal.bot_add, Ideal.exp_bot]
  have hsum : ∑ j ∈ Finset.range n, ∑ k, Ideal.exp (S j k - maxAt S n) = ∑ c, Ideal.exp (G c - Finset.univ.sup G) :=
    sum_to hn _ _ (fun j hj k => by rw [hM, hS j hj k]) h0
  have hpos := (sum_exp_bounds S hb ht).1
  rw [hsum] at hpos
  rw [quotient S V hb ht, hsum]
  refine sum_to hn _ _ (fun j hj k => by rw [hM, hS j hj k, hV j hj k]) fun c hc => ?_
  rw [h0 c hc, Ideal.div, if_neg hpos.ne', zero_mul, zero_mul]

/-- The largest score of a row is finite when no score is +∞ and one is not −∞. -/
theorem sup_ne_bot {c : Fin 8192} (h : G c ≠ ⊥) : Finset.univ.sup G ≠ ⊥ :=
  fun e => h (le_bot_iff.1 (e ▸ Finset.le_sup (f := G) (Finset.mem_univ c)))

theorem sup_ne_top (h : ∀ c, G c ≠ ⊤) : Finset.univ.sup G ≠ ⊤ :=
  ((Finset.sup_lt_iff (bot_lt_top)).2 fun c _ => (h c).lt_top).ne

end Mla
-- ==== Proof.Mla.Index.lean ====
/- The block the kernel writes, read at a row and a lane: the softmax of the row's scores up to the diagonal, applied to
   the lane's column of values. -/
module

public import proofs.«01_k».proof.Proof.Mla.Final
public import proofs.«01_k».proof.Proof.Mla.Soft
public import Idealize.ShloMosaic.Lib.WordCmp

@[expose] public section

set_option maxRecDepth 16384

noncomputable section

namespace Cert.KernelIdeal.Mla

open Cert.KernelIdeal Cert.KernelIdeal.Gen
open Idealize.ShloMosaic Idealize.ShloMosaic.TcCoe

/-- Element `e` of head `h`. -/
def lane (h : Fin 2) (e : Fin 128) : Fin 256 := ⟨128 * h.val + e.val, by omega⟩

/-- A choice by a comparison of small words. -/
theorem select_sle {α : Type} {a b : ℕ} (ha : a < 2 ^ 31) (hb : b < 2 ^ 31) (x y : α) :
    Scalar.select (IntOp.cmpi .sle (BitVec.ofNat 32 a) (BitVec.ofNat 32 b)) x y = if a ≤ b then x else y := by
  rw [WordCmp.cmpi_sle_ofNat (w := 32) ha hb, WordCmp.select_decide]

theorem sc_apply (h : Fin 2) (q k : FVec Ideal S512x256 .bf16) (r s : Fin 512) :
    sc h q k (ix2 r s) = ∑ e : Fin 128, (q (ix2 r (lane h e)) : EReal) * k (ix2 s (lane h e)) := by
  fin_cases h
  · show sc0 q k (ix2 r s) = _
    pointwise [sc0]
    refine Finset.sum_congr rfl fun x _ => ?_
    have e : (⟨x.val, by omega⟩ : Fin 256) = lane 0 x := Fin.ext (by show x.val = 128 * 0 + x.val; omega)
    rw [← e]
  · show sc1 q k (ix2 r s) = _
    pointwise [sc1]
    refine Finset.sum_congr rfl fun x _ => ?_
    have e : (⟨128 + x.val, by omega⟩ : Fin 256) = lane 1 x := Fin.ext (by show 128 + x.val = 128 * 1 + x.val; omega)
    rw [← e]

theorem qOf_apply (x : Vec Ideal S1x512x256 .bf16) (r : Fin 512) (e : Fin 256) : qOf x (ix2 r e) = x (ix3 (0 : Fin 1) r e) := by
  unfold qOf
  exact ValueIdx.shapeCast_1ab_ab_apply ..

theorem msk_apply (i : grid0.Coords) (s : FVec Ideal S512x512 .f32) (r k : Fin 512) :
    msk i s (ix2 r k) = if k.val ≤ r.val then s (ix2 r k) else (⊥ : EReal) := by
  have hi : (i 2).val < 16 := (i 2).isLt
  have hr := r.isLt
  have hk := k.isLt
  have e1 : IntOp.addi (BitVec.ofNat 32 k.val) (Scalar.muli (BitVec.ofNat 32 (i 2).val) 512#32) = BitVec.ofNat 32 (k.val + (i 2).val * 512) := by
    show BitVec.ofNat 32 k.val + BitVec.ofNat 32 (i 2).val * BitVec.ofNat 32 512 = _
    rw [← BitVec.ofNat_mul, ← BitVec.ofNat_add]
  have e2 : IntOp.andi (BitVec.ofNat 32 r.val) 511#32 = BitVec.ofNat 32 r.val := by
    apply BitVec.eq_of_toNat_eq
    show (BitVec.ofNat 32 r.val &&& 511#32).toNat = _
    rw [BitVec.toNat_and, BitVec.toNat_ofNat, Nat.mod_eq_of_lt (by omega : r.val < 2 ^ 32)]
    show r.val &&& (2 ^ 9 - 1) = r.val
    rw [Nat.and_two_pow_sub_one_eq_mod, Nat.mod_eq_of_lt hr]
  have e3 : IntOp.addi (BitVec.ofNat 32 r.val) (Scalar.muli (BitVec.ofNat 32 (i 2).val) 512#32) = BitVec.ofNat 32 (r.val + (i 2).val * 512) := by
    show BitVec.ofNat 32 r.val + BitVec.ofNat 32 (i 2).val * BitVec.ofNat 32 512 = _
    rw [← BitVec.ofNat_mul, ← BitVec.ofNat_add]
  have eb : (Named.named κ "mask" 0xF149F2CA#32 : Ideal .f32) = (⊥ : EReal) := IdealRules.named_const.ideal_named_scalar κ "mask" _ _ rfl
  pointwise [msk, k0_pay155]
  rw [e1, e2, e3, select_sle (by omega) (by omega), eb]
  exact if_congr (by omega) rfl rfl

/-- The last step at a row and a lane. -/
theorem pay_apply (A L : Fin 2 → FVec Ideal S512x128 .f32) (r : Fin 512) (l : Fin 128) (h : Fin 2) (hh : h.val = l.val / 64) :
    k0_pay15 (glue A) (glue L) (ix3 (0 : Fin 1) r l) = Ideal.div (A h (ix2 r l)) (∑ l' : Fin 128, (L h (ix2 r l') : EReal)) := by
  have hl := l.isLt
  pointwise [k0_pay15]
  rw [show (64#32 : BitVec 32) = BitVec.ofNat 32 64 from rfl, WordCmp.cmpi_slt_ofNat (w := 32) (by omega) (by omega), WordCmp.select_decide]
  split_ifs with hc
  · obtain rfl : h = 0 := Fin.ext (by show h.val = 0; omega)
    rfl
  · obtain rfl : h = 1 := Fin.ext (by show h.val = 1; omega)
    rfl

/-- The blocks' scores, the last one masked: the state after the diagonal block is the state after these. -/
def mscs (i : grid0.Coords) (h : Fin 2) (q : FVec Ideal S512x256 .bf16) (x1 : Vec Ideal S1x8192x256 .bf16) : ℕ → FVec Ideal S512x512 .f32 :=
  fun j => if j < (i 2).val then scs h q x1 j else msk i (scs h q x1 (i 2).val)

theorem fin_eq (i : grid0.Coords) (q : FVec Ideal S512x256 .bf16) (x1 : Vec Ideal S1x8192x256 .bf16) (x2 : Vec Ideal S1x8192x128 .bf16) (h : Fin 2) :
    fin i q x1 x2 h = St.after (mscs i h q x1) (blkV x2) ((i 2).val + 1) := by
  rw [St.after, fin, St.after_congr (S' := mscs i h q x1) (blkV x2) _ fun j hj => (if_pos hj).symm]
  congr 1
  exact (if_neg (lt_irrefl _)).symm

/-- The scores of a row of the point's block against all the keys, those past the diagonal −∞. -/
def rowG (i : grid0.Coords) (x0 : Vec Ideal S1x512x256 .bf16) (x1 : Vec Ideal S1x8192x256 .bf16) (h : Fin 2) (r : Fin 512) : Fin 8192 → EReal :=
  fun c => if c.val ≤ 512 * (i 2).val + r.val
    then ∑ e : Fin 128, (x0 (ix3 (0 : Fin 1) r (lane h e)) : EReal) * x1 (ix3 (0 : Fin 1) c (lane h e)) else ⊥

theorem mscs_apply (i : grid0.Coords) (h : Fin 2) (x0 : Vec Ideal S1x512x256 .bf16) (x1 : Vec Ideal S1x8192x256 .bf16) (r : Fin 512)
    (j : ℕ) (hj : j < (i 2).val + 1) (k : Fin 512) : mscs i h (qOf x0) x1 j (ix2 r k) = rowG i x0 x1 h r (_root_.Mla.col j k) := by
  have hi : (i 2).val < 16 := (i 2).isLt
  have hs : ∀ j, scs h (qOf x0) x1 j (ix2 r k)
      = ∑ e : Fin 128, (x0 (ix3 (0 : Fin 1) r (lane h e)) : EReal) * x1 (ix3 (0 : Fin 1) (_root_.Mla.col j k) (lane h e)) := fun j => by
    refine (sc_apply h _ _ r k).trans (Finset.sum_congr rfl fun e _ => ?_)
    rw [qOf_apply]; rfl
  unfold mscs rowG
  rw [_root_.Mla.col_val (by omega)]
  have hr := r.isLt
  have hk := k.isLt
  by_cases hc : j < (i 2).val
  · rw [if_pos hc, if_pos (by omega), hs]
  · obtain rfl : j = (i 2).val := by omega
    rw [if_neg hc, msk_apply, hs]
    exact if_congr (by omega) rfl rfl

/-- The block written, at a row and a lane. -/
theorem OUT_apply (i : grid0.Coords) (x0 : Vec Ideal S1x512x256 .bf16) (x1 : Vec Ideal S1x8192x256 .bf16) (x2 : Vec Ideal S1x8192x128 .bf16)
    (r : Fin 512) (l : Fin 128) (h : Fin 2) (hh : h.val = l.val / 64)
    (hbot : Finset.univ.sup (rowG i x0 x1 h r) ≠ ⊥) (htop : Finset.univ.sup (rowG i x0 x1 h r) ≠ ⊤) :
    OUT i x0 x1 x2 (ix3 (0 : Fin 1) r l) = _root_.Mla.soft (rowG i x0 x1 h r) fun c => x2 (ix3 (0 : Fin 1) c l) := by
  have hi : (i 2).val < 16 := (i 2).isLt
  have hS := mscs_apply i h x0 x1 r
  have hG : ∀ c : Fin 8192, 512 * ((i 2).val + 1) ≤ c.val → rowG i x0 x1 h r c = ⊥ := fun c hc => if_neg (by have := r.isLt; omega)
  have hM : _root_.Mla.maxAt (rowS (mscs i h (qOf x0) x1) r) ((i 2).val + 1) ≠ ⊤ := by
    rw [_root_.Mla.sup_blocks (by omega) hS hG]; exact htop
  refine (pay_apply _ _ r l h hh).trans ?_
  simp only [fin_eq]
  rw [after_a _ _ _ r l hM, Finset.sum_congr rfl fun l' _ => after_l _ (blkV x2) _ r l' hM]
  exact _root_.Mla.quotient_eq_soft (by omega) hS (fun j _ k => rfl) hG hbot htop

end Cert.KernelIdeal.Mla
-- ==== Proof.Mla.Spec.lean ====
/- Causal attention of eight heads over whole arrays: queries and keys of 128 elements a head, values of 64. -/
module

public import proofs.«01_k».proof.Proof.Mla.Soft
public import Idealize.ShloMosaic.Lib.Pipeline.ValueKit

@[expose] public section

set_option maxRecDepth 16384

noncomputable section

namespace Mla

open Idealize.ShloMosaic

/-- The arrays of queries and of keys, and of values. -/
abbrev SQ : Shape := ⟨3, ![2, 8192, 1024]⟩
abbrev SV : Shape := ⟨3, ![2, 8192, 512]⟩

/-- Element `e` of head `h`, and the head of a value's element. -/
def elt (h : Fin 8) (e : Fin 128) : Fin 1024 := ⟨128 * h.val + e.val, by omega⟩
def head (d : Fin 512) : Fin 8 := ⟨d.val / 64, by omega⟩

variable (Q K : SQ.Idx → EReal) (V : SV.Idx → EReal)

/-- The scores of a query's row, those of later keys −∞. -/
def row (b : Fin 2) (h : Fin 8) (r : Fin 8192) : Fin 8192 → EReal :=
  fun c => if c.val ≤ r.val then ∑ e : Fin 128, Q (ix3 b r (elt h e)) * K (ix3 b c (elt h e)) else ⊥

/-- The attention. -/
def att : SV.Idx → EReal := fun j => soft (row Q K (j 0) (head (j 2)) (j 1)) fun c => V (ix3 (j 0) c (j 2))

/-- An array of real numbers. -/
def Finite (X : SQ.Idx → EReal) : Prop := ∀ j, X j ≠ ⊥ ∧ X j ≠ ⊤

theorem sum_finite {ι : Type} (s : Finset ι) (f : ι → EReal) (h : ∀ i ∈ s, f i ≠ ⊥ ∧ f i ≠ ⊤) : ∑ i ∈ s, f i ≠ ⊥ ∧ ∑ i ∈ s, f i ≠ ⊤ := by
  classical
  induction s using Finset.induction_on with
  | empty => simp
  | insert a s ha ih =>
    rw [Finset.sum_insert ha]
    have h1 := h a (Finset.mem_insert_self a s)
    have h2 := ih fun i hi => h i (Finset.mem_insert_of_mem hi)
    exact ⟨by simp [EReal.add_eq_bot_iff, h1.1, h2.1], EReal.add_ne_top h1.2 h2.2⟩

theorem mul_finite {x y : EReal} (hx : x ≠ ⊥ ∧ x ≠ ⊤) (hy : y ≠ ⊥ ∧ y ≠ ⊤) : x * y ≠ ⊥ ∧ x * y ≠ ⊤ := by
  lift x to ℝ using ⟨hx.2, hx.1⟩
  lift y to ℝ using ⟨hy.2, hy.1⟩
  rw [← EReal.coe_mul]
  exact ⟨EReal.coe_ne_bot _, EReal.coe_ne_top _⟩

variable {Q K}

theorem row_sup (hQ : Finite Q) (hK : Finite K) (b : Fin 2) (h : Fin 8) (r : Fin 8192) :
    Finset.univ.sup (row Q K b h r) ≠ ⊥ ∧ Finset.univ.sup (row Q K b h r) ≠ ⊤ := by
  have hs (c : Fin 8192) := sum_finite Finset.univ (fun e : Fin 128 => Q (ix3 b r (elt h e)) * K (ix3 b c (elt h e)))
    fun e _ => mul_finite (hQ _) (hK _)
  constructor
  · refine sup_ne_bot (c := r) ?_
    rw [row, if_pos le_rfl]; exact (hs r).1
  · refine sup_ne_top fun c => ?_
    unfold row
    split_ifs
    · exact (hs c).2
    · exact bot_ne_top

end Mla
-- ==== Proof.Mla.Value.lean ====
/- The output array after the run: the attention of the argument arrays. -/
module

public import proofs.«01_k».proof.Proof.Mla.Frame
public import proofs.«01_k».proof.Proof.Mla.Index
public import proofs.«01_k».proof.Proof.Mla.Spec

@[expose] public section

set_option maxRecDepth 16384

noncomputable section

namespace Cert.KernelIdeal.Mla

open Cert.KernelIdeal Cert.KernelIdeal.Gen
open Idealize.ShloMosaic Idealize.ShloMosaic.TcCoe Idealize.SL.Sem

variable (m : (ℓ : Loc nD τ sig) → Buf (Elt Ideal) ℓ)

/-- Which block each window takes at a point. -/
theorem idx : ∀ t : Fin cfg0.N,
    win0_0.index t = ![(grid0.coords t 0).val, (grid0.coords t 2).val, (grid0.coords t 1).val]
    ∧ win0_1.index t = ![(grid0.coords t 0).val, 0, (grid0.coords t 1).val]
    ∧ win0_2.index t = ![(grid0.coords t 0).val, 0, (grid0.coords t 1).val]
    ∧ win0_3.index t = ![(grid0.coords t 0).val, (grid0.coords t 2).val, (grid0.coords t 1).val] :=
  (by decide +kernel : ∀ t : Fin grid0.N, _)

/-- The place in the arrays of a point's batch, query row, head and value element. -/
def pbat (t : Fin cfg0.N) : Fin 2 := grid0.coords t 0
def pr (t : Fin cfg0.N) (r : Fin 512) : Fin 8192 := ⟨512 * (grid0.coords t 2).val + r.val, by
  have h : (grid0.coords t 2).val < 16 := (grid0.coords t 2).isLt
  have := r.isLt
  omega⟩
def pl (t : Fin cfg0.N) (l : Fin 128) : Fin 512 := ⟨128 * (grid0.coords t 1).val + l.val, by
  have h : (grid0.coords t 1).val < 4 := (grid0.coords t 1).isLt
  have := l.isLt
  omega⟩
def ph (t : Fin cfg0.N) (h : Fin 2) : Fin 8 := ⟨2 * (grid0.coords t 1).val + h.val, by
  have h' : (grid0.coords t 1).val < 4 := (grid0.coords t 1).isLt
  have := h.isLt
  omega⟩

theorem read_q (c : Dev nD) (t : Fin cfg0.N) (r : Fin 512) (h : Fin 2) (e : Fin 128) :
    iblk m c 0 t (ix3 (0 : Fin 1) r (lane h e)) = m ((c : Thread nD τ).loc main_arg0) (ix3 (pbat t) (pr t r) (_root_.Mla.elt (ph t h) e)) := by
  have e1 : (pbat t).val = (grid0.coords t 0).val := rfl
  have e2 : (pr t r).val = 512 * (grid0.coords t 2).val + r.val := rfl
  have e3 : (_root_.Mla.elt (ph t h) e).val = 128 * (2 * (grid0.coords t 1).val + h.val) + e.val := rfl
  have e4 : (lane h e).val = 128 * h.val + e.val := rfl
  blk_ext [iblk, V, idx t]

theorem read_k (c : Dev nD) (t : Fin cfg0.N) (s : Fin 8192) (h : Fin 2) (e : Fin 128) :
    iblk m c 1 t (ix3 (0 : Fin 1) s (lane h e)) = m ((c : Thread nD τ).loc main_arg1) (ix3 (pbat t) s (_root_.Mla.elt (ph t h) e)) := by
  have e1 : (pbat t).val = (grid0.coords t 0).val := rfl
  have e3 : (_root_.Mla.elt (ph t h) e).val = 128 * (2 * (grid0.coords t 1).val + h.val) + e.val := rfl
  have e4 : (lane h e).val = 128 * h.val + e.val := rfl
  blk_ext [iblk, V, idx t]

theorem read_v (c : Dev nD) (t : Fin cfg0.N) (s : Fin 8192) (l : Fin 128) :
    iblk m c 2 t (ix3 (0 : Fin 1) s l) = m ((c : Thread nD τ).loc main_arg2) (ix3 (pbat t) s (pl t l)) := by
  have e1 : (pbat t).val = (grid0.coords t 0).val := rfl
  have e2 : (pl t l).val = 128 * (grid0.coords t 1).val + l.val := rfl
  blk_ext [iblk, V, idx t]

theorem place (t : Fin cfg0.N) (r : Fin 512) (l : Fin 128) :
    (win0_3.blk t).view.emb (ix3 (0 : Fin 1) r l) = ix3 (pbat t) (pr t r) (pl t l) := by
  have e1 : (pbat t).val = (grid0.coords t 0).val := rfl
  have e2 : (pr t r).val = 512 * (grid0.coords t 2).val + r.val := rfl
  have e3 : (pl t l).val = 128 * (grid0.coords t 1).val + l.val := rfl
  blk_ext [idx t]

/-- A row of a point's scores is a row of the arrays'. -/
theorem rowG_eq (c : Dev nD) (t : Fin cfg0.N) (h : Fin 2) (r : Fin 512) :
    rowG (grid0.coords t) (iblk m c 0 t) (iblk m c 1 t) h r
      = _root_.Mla.row (m ((c : Thread nD τ).loc main_arg0)) (m ((c : Thread nD τ).loc main_arg1)) (pbat t) (ph t h) (pr t r) := by
  funext s
  refine if_congr Iff.rfl (Finset.sum_congr rfl fun e _ => ?_) rfl
  rw [read_q, read_k]

theorem point (c : Dev nD) (hQ : _root_.Mla.Finite (m ((c : Thread nD τ).loc main_arg0))) (hK : _root_.Mla.Finite (m ((c : Thread nD τ).loc main_arg1)))
    (t : Fin cfg0.N) (r : Fin 512) (l : Fin 128) :
    OUT (grid0.coords t) (iblk m c 0 t) (iblk m c 1 t) (iblk m c 2 t) (ix3 (0 : Fin 1) r l)
      = _root_.Mla.att (m ((c : Thread nD τ).loc main_arg0)) (m ((c : Thread nD τ).loc main_arg1)) (m ((c : Thread nD τ).loc main_arg2))
          (ix3 (pbat t) (pr t r) (pl t l)) := by
  have hl := l.isLt
  obtain ⟨h, hh⟩ : ∃ h : Fin 2, h.val = l.val / 64 := ⟨⟨l.val / 64, by omega⟩, rfl⟩
  have hs := _root_.Mla.row_sup hQ hK (pbat t) (ph t h) (pr t r)
  rw [← rowG_eq] at hs
  rw [OUT_apply _ _ _ _ r l h hh hs.1 hs.2, rowG_eq]
  have eh : _root_.Mla.head (pl t l) = ph t h := Fin.ext (by
    show (128 * (grid0.coords t 1).val + l.val) / 64 = 2 * (grid0.coords t 1).val + h.val
    omega)
  show _ = _root_.Mla.soft (_root_.Mla.row _ _ (pbat t) (_root_.Mla.head (pl t l)) (pr t r)) fun s => m ((c : Thread nD τ).loc main_arg2) (ix3 (pbat t) s (pl t l))
  rw [eh]
  congr 1
  funext s
  exact read_v m c t s l

theorem final (c : Dev nD) (hQ : _root_.Mla.Finite (m ((c : Thread nD τ).loc main_arg0))) (hK : _root_.Mla.Finite (m ((c : Thread nD τ).loc main_arg1))) :
    (dats m 0 c).arrAt 3 cfg0.N = _root_.Mla.att (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  obtain ⟨a, r, l, rfl⟩ : ∃ (a : Fin 1) (r : Fin 512) (l : Fin 128), y = ix3 a r l := ⟨y 0, y 1, y 2, eq_ix3 y⟩
  obtain rfl : a = 0 := Subsingleton.elim _ _
  refine (point m c hQ hK t r l).trans ?_
  rw [← place]

end Cert.KernelIdeal.Mla
-- ==== Proof.Mla.Ref.lean ====
/- The reference's result is the attention of its arguments. -/
module

public import proofs.«01_k».proof.Proof.Gen.ReferenceIdeal.Run
public import proofs.«01_k».proof.Proof.Mla.Spec
public import Idealize.ShloMosaic.Lib.WordCmp

@[expose] public section

set_option maxRecDepth 16384

noncomputable section

namespace Cert.ReferenceIdeal.Mla

open Cert.ReferenceIdeal Cert.ReferenceIdeal.Gen
open Idealize.ShloMosaic Idealize.ShloMosaic.TcCoe Idealize.SL.Sem

/-- The masked scores. -/
def scores (Q K : FVec Ideal S2x8192x1024 .bf16) : FVec Ideal S2x8x8192x8192 .f32 :=
  (select (broadcastInDim S2x8x8192x8192 ![2, 3] bcast_S8192x8192_S2x8x8192x8192_2_3 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))) (Host.dotGeneral dot_S2x8192x8x128_S2x8192x8x128_S2x8x8192x8192_3_3_1_1_02_02 none (shapeCast _ (extf .f32 Q bitsLt_bf16_f32) shapeCasts_S2x8192x1024_S2x8192x8x128) (shapeCast _ (extf .f32 K bitsLt_bf16_f32) shapeCasts_S2x8192x1024_S2x8192x8x128)) (broadcastInDim S2x8x8192x8192 ![] bcast_S_S2x8x8192x8192 (id (constant S_ .f32 0xFF800000#32))))

/-- The largest score of each row. -/
def tops (X : FVec Ideal S2x8x8192x8192 .f32) : FVec Ideal S2x8x8192 .f32 :=
  Host.reduce FloatOps.maximumf X (constant S_ .f32 0xFF800000#32) reducesTo_S2x8x8192x8192_S2x8x8192_d3 h_S_

/-- The exponentials of scores, relative to given ones of each row. -/
def exps (X : FVec Ideal S2x8x8192x8192 .f32) (M : FVec Ideal S2x8x8192 .f32) : FVec Ideal S2x8x8192x8192 .f32 :=
  Host.exp (subf X (broadcastInDim S2x8x8192x8192 ![0, 1, 2, 3] bcast_S2x8x8192x1_S2x8x8192x8192_0_1_2_3 (broadcastInDim S2x8x8192x1 ![0, 1, 2] bcast_S2x8x8192_S2x8x8192x1_0_1_2 (maximumf (broadcastInDim S2x8x8192 ![] bcast_S_S2x8x8192 (constant S_ .f32 0xFF800000#32)) M))))

/-- Their shares of each row's sum. -/
def shares (E : FVec Ideal S2x8x8192x8192 .f32) : FVec Ideal S2x8x8192x8192 .f32 :=
  Host.divf E (broadcastInDim S2x8x8192x8192 ![0, 1, 2, 3] bcast_S2x8x8192x1_S2x8x8192x8192_0_1_2_3 (broadcastInDim S2x8x8192x1 ![0, 1, 2] bcast_S2x8x8192_S2x8x8192x1_0_1_2 (Host.reduceAdd E (constant S_ .f32 0x00000000#32) reducesTo_S2x8x8192x8192_S2x8x8192_d3 h_S_)))

/-- The values weighted by shares, the heads side by side. -/
def mix (P : FVec Ideal S2x8x8192x8192 .f32) (V : FVec Ideal S2x8192x512 .bf16) : FVec Ideal S2x8192x512 .bf16 :=
  truncf .bf16 (shapeCast _ (transpose S2x8192x8x64 [0, 3, 1, 2] (Host.dotGeneral dot_S2x8192x8x64_S2x8x8192x8192_S2x8x64x8192_1_3_3_2_02_01 none (shapeCast _ (extf .f32 V bitsLt_bf16_f32) shapeCasts_S2x8192x512_S2x8192x8x64) P) transposes_S2x8x64x8192_S2x8192x8x64_0_3_1_2) shapeCasts_S2x8192x8x64_S2x8192x512) bitsLt_bf16_f32

theorem ofBits_bot : Ideal.ofBits .f32 0xFF800000#32 = ⊥ := by simp [Ideal.ofBits, Ideal.ieee]

/-- A choice by a comparison of small words. -/
theorem select_sle {α : Type} {a b : ℕ} (ha : a < 2 ^ 31) (hb : b < 2 ^ 31) (x y : α) :
    Scalar.select (IntOp.cmpi .sle (BitVec.ofNat 32 a) (BitVec.ofNat 32 b)) x y = if a ≤ b then x else y := by
  rw [WordCmp.cmpi_sle_ofNat (w := 32) ha hb, WordCmp.select_decide]

theorem scores_apply (Q K : FVec Ideal S2x8192x1024 .bf16) (b : Fin 2) (h : Fin 8) (r s : Fin 8192) :
    scores Q K (ix4 b h r s) = _root_.Mla.row Q K b h r s := by
  pointwise [scores]
  have hr := r.isLt
  have hs := s.isLt
  have he : ∀ x : Fin 128, (⟨h.val * 128 + x.val, by omega⟩ : Fin 1024) = _root_.Mla.elt h x := fun x =>
    Fin.ext (by show h.val * 128 + x.val = 128 * h.val + x.val; omega)
  rw [select_sle (by omega) (by omega)]
  refine if_congr Iff.rfl (Finset.sum_congr rfl fun x _ => ?_) ofBits_bot
  rw [← he]

theorem reduce_max {n0 n1 n2 n3 : ℕ} {u : Shape} (x : FVec Ideal ⟨4, ![n0, n1, n2, n3]⟩ .f32) (init : FVec Ideal u .f32)
    (h : (⟨4, ![n0, n1, n2, n3]⟩ : Shape).ReducesTo [3] ⟨3, ![n0, n1, n2]⟩) (hu : 0 < u.numel) (a : Fin n0) (b : Fin n1) (c : Fin n2) :
    Host.reduce FloatOps.maximumf x init h hu (ix3 a b c)
      = Finset.fold max (init (Shape.Idx.first hu)) (fun k => (x (ix4 a b c k) : EReal)) Finset.univ := by
  pointwise

theorem tops_apply (X : FVec Ideal S2x8x8192x8192 .f32) (b : Fin 2) (h : Fin 8) (r : Fin 8192) :
    tops X (ix3 b h r) = Finset.univ.sup fun s => (X (ix4 b h r s) : EReal) := by
  refine (reduce_max ..).trans ?_
  show Finset.fold max (Ideal.ofBits .f32 0xFF800000#32) _ _ = _
  rw [ofBits_bot]
  rfl

theorem exps_apply (X : FVec Ideal S2x8x8192x8192 .f32) (M : FVec Ideal S2x8x8192 .f32) (b : Fin 2) (h : Fin 8) (r s : Fin 8192) :
    exps X M (ix4 b h r s) = Ideal.exp (X (ix4 b h r s) - M (ix3 b h r)) := by
  pointwise [exps]
  rw [ofBits_bot, max_eq_right bot_le]

theorem shares_apply (X : FVec Ideal S2x8x8192x8192 .f32) (b : Fin 2) (h : Fin 8) (r s : Fin 8192) :
    shares X (ix4 b h r s) = Ideal.div (X (ix4 b h r s)) (∑ s, (X (ix4 b h r s) : EReal)) := by
  pointwise [shares]

theorem mix_apply (P : FVec Ideal S2x8x8192x8192 .f32) (V : FVec Ideal S2x8192x512 .bf16) (b : Fin 2) (r : Fin 8192) (d : Fin 512) :
    mix P V (ix3 b r d) = ∑ s : Fin 8192, (P (ix4 b (_root_.Mla.head d) r s) : EReal) * V (ix3 b s d) := by
  pointwise [mix]
  exact Finset.sum_congr rfl fun x _ => mul_comm _ _

/-- The reference's result. -/
theorem res_eq (m : (ℓ : Loc nD τ sig) → Buf (Elt Ideal) ℓ) (c : Dev nD) :
    Value.res_main_v28 m c = _root_.Mla.att (m ((c.tc : Thread nD τ).loc main_arg0)) (m ((c.tc : Thread nD τ).loc main_arg1)) (m ((c.tc : Thread nD τ).loc main_arg2)) := by
  have e : ∀ (Q K : FVec Ideal S2x8192x1024 .bf16) (V : FVec Ideal S2x8192x512 .bf16),
      mix (shares (exps (scores Q K) (tops (scores Q K)))) V = _root_.Mla.att Q K V := by
    intro Q K V
    funext j
    obtain ⟨b, r, d, rfl⟩ : ∃ (a : Fin 2) (r : Fin 8192) (l : Fin 512), j = ix3 a r l := ⟨j 0, j 1, j 2, eq_ix3 j⟩
    rw [mix_apply]
    simp only [shares_apply, exps_apply, tops_apply, scores_apply]
    rfl
  exact Eq.trans (by unfold Value.res_main_v28; rfl) (e _ _ _)

end Cert.ReferenceIdeal.Mla
-- ==== Proof.Mla.Pre.lean ====
/- The precondition says that the queries and the keys are real numbers. -/
module

public import proofs.«01_k».proof.Pre_finite_queries_keys
public import proofs.«01_k».proof.Proof.Mla.Spec

@[expose] public section

set_option maxRecDepth 16384

noncomputable section

namespace Cert.Pre_finite_queries_keys.Mla

open Cert.Pre_finite_queries_keys Idealize.ShloMosaic

instance facts : Facts where
  bitsLt_bf16_f32 := by decide
  bcast_S_S2x8192x1024 := by decide

theorem ofBits_top : Ideal.ofBits .f32 0x7F800000#32 = ⊤ := by simp [Ideal.ofBits, Ideal.ieee]

theorem lt_top_of (x : EReal) (h : (FloatOps.cmpf .olt (FloatOps.hostAbsf (F := Ideal) (φ := .f32) x) (Ideal.ofBits .f32 0x7F800000#32 : Ideal .f32)) = 1#1) :
    x ≠ ⊥ ∧ x ≠ ⊤ := by
  rw [ofBits_top] at h
  have h' : BitVec.ofBool (decide (max x (-x) < ⊤)) = 1#1 := h
  constructor <;> rintro rfl <;> revert h' <;> simp

theorem finite (Q K : FVec Ideal S2x8192x1024 .bf16) (V : FVec Ideal S2x8192x512 .bf16)
    (h : (fn (F := Ideal) Q K V).1 = (fun _ => 1#1) ∧ (fn (F := Ideal) Q K V).2 = fun _ => 1#1) :
    _root_.Mla.Finite Q ∧ _root_.Mla.Finite K :=
  ⟨fun j => lt_top_of _ (congrFun h.1 j), fun j => lt_top_of _ (congrFun h.2 j)⟩

end Cert.Pre_finite_queries_keys.Mla
-- ==== Proof.Diff.KernelRunA.lean ====
/- The printed kernel's body runs at an even block of queries; nothing is said of what it writes. -/
module

public import proofs.«01_k».proof.Proof.Gen.Kernel2.Frame.Runs

@[expose] public section

set_option maxRecDepth 16384

noncomputable section

namespace Cert.Kernel2.Diff

open Cert.Kernel2 Cert.Kernel2.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at an even block of queries, from any contents of the output and scratch buffers: it gives back the inputs as they were. -/
theorem run_A (c : Dev nD) (i : grid0.Coords) (arg3 : Memref sig .tc .smem S1 .f32) (harg3 : arg3.IsWhole) (arg4 : Memref sig .tc .vmem S1x512x128 .bf16) (harg4 : arg4.IsWhole) (arg5 : Memref sig .tc .vmem S1x8192x128 .bf16) (harg5 : arg5.IsWhole) (arg6 : Memref sig .tc .vmem S1x8192x128 .bf16) (harg6 : arg6.IsWhole) (arg7 : Memref sig .tc .vmem S1x128 .f32) (harg7 : arg7.IsWhole) (arg8 : Memref sig .tc .vmem S1x512x128 .bf16) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x512 .f32) (harg12 : arg12.IsWhole) (arg13 : Memref sig .tc .vmem S2048x512 .f32) (harg13 : arg13.IsWhole) (hc0 : cond0_0 i) (hc1 : ¬cond0_1 i)
    (x0 : Vec F S1 .f32) (x1 : Vec F S1x512x128 .bf16) (x2 x3 : Vec F S1x8192x128 .bf16) (x4 : Vec F S1x128 .f32) (E : Set ℕ) (K : PUnit → sProp 𝕄) :
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0_diff_attn i arg3 harg3 arg4 harg4 arg5 harg5 arg6 harg6 arg7 harg7 arg8 harg8 arg9 harg9 arg10 harg10 arg11 harg11 arg12 harg12 arg13 harg13) K := by
    simp only [cc0_diff_attn_eq_skeleton]; unfold cc0_diff_attn_skel
    simp only [k0_part11_eq_skeleton, k0_part12_eq_skeleton, k0_part13_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg3.eq_unread hf0; obtain rfl := harg4.eq_unread hf1; obtain rfl := harg5.eq_unread hf2; obtain rfl := harg6.eq_unread hf3; obtain rfl := harg7.eq_unread hf4
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _, _; isplitr; swap; · iexact H5
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.Kernel2.Diff
-- ==== Proof.Diff.KernelRunB.lean ====
/- The printed kernel's body runs at an odd block of queries; nothing is said of what it writes. -/
module

public import proofs.«01_k».proof.Proof.Gen.Kernel2.Frame.Runs
public import proofs.«01_k».proof.Proof.Diff.KernelRunA

@[expose] public section

set_option maxRecDepth 16384

noncomputable section

namespace Cert.Kernel2.Diff

open Cert.Kernel2 Cert.Kernel2.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at an odd block of queries, from any contents of the output and scratch buffers: it gives back the inputs as they were. -/
theorem run_B (c : Dev nD) (i : grid0.Coords) (arg3 : Memref sig .tc .smem S1 .f32) (harg3 : arg3.IsWhole) (arg4 : Memref sig .tc .vmem S1x512x128 .bf16) (harg4 : arg4.IsWhole) (arg5 : Memref sig .tc .vmem S1x8192x128 .bf16) (harg5 : arg5.IsWhole) (arg6 : Memref sig .tc .vmem S1x8192x128 .bf16) (harg6 : arg6.IsWhole) (arg7 : Memref sig .tc .vmem S1x128 .f32) (harg7 : arg7.IsWhole) (arg8 : Memref sig .tc .vmem S1x512x128 .bf16) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x512 .f32) (harg12 : arg12.IsWhole) (arg13 : Memref sig .tc .vmem S2048x512 .f32) (harg13 : arg13.IsWhole) (hc0 : ¬cond0_0 i) (hc1 : cond0_1 i)
    (x0 : Vec F S1 .f32) (x1 : Vec F S1x512x128 .bf16) (x2 x3 : Vec F S1x8192x128 .bf16) (x4 : Vec F S1x128 .f32) (E : Set ℕ) (K : PUnit → sProp 𝕄) :
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0_diff_attn i arg3 harg3 arg4 harg4 arg5 harg5 arg6 harg6 arg7 harg7 arg8 harg8 arg9 harg9 arg10 harg10 arg11 harg11 arg12 harg12 arg13 harg13) K := by
    simp only [cc0_diff_attn_eq_skeleton]; unfold cc0_diff_attn_skel
    simp only [k0_part11_eq_skeleton, k0_part12_eq_skeleton, k0_part13_eq_skeleton, k0_part10_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg3.eq_unread hf0; obtain rfl := harg4.eq_unread hf1; obtain rfl := harg5.eq_unread hf2; obtain rfl := harg6.eq_unread hf3; obtain rfl := harg7.eq_unread hf4
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _, _; isplitr; swap; · iexact H5
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.Kernel2.Diff
-- ==== Proof.Diff.KernelFrame.lean ====
/- The frame of the printed kernel: every run terminates with the arguments unchanged and the semaphores at zero. -/
module

public import proofs.«01_k».proof.Proof.Gen.Kernel2.Frame.Runs
public import proofs.«01_k».proof.Proof.Diff.KernelRunB
public import Idealize.ShloMosaic.Lib.Claim

@[expose] public section

set_option maxRecDepth 16384

noncomputable section

namespace Cert.Kernel2.Diff

open Cert.Kernel2 Cert.Kernel2.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def forgets0 : Fin 6 → Bool := fun w => w.val == 5

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ (∃ d, owns (c : Thread nD τ) (ms0_5 t) fullShare d))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  have hN : t.val < 64 := lt_of_lt_of_eq t.isLt (show cfg0.N = 64 from N_0)
  by_cases h0 : t.val % 2 = 0
  · by_cases h1 : t.val % 2 = 1
    · exfalso; omega
    · iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩⟩
      iapply (run_A c (grid0.coords t) _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      isplitl [HS3]; · iexact HS3
      isplitl [HS4]; · iexact HS4
      iintro ⟨H0, H1, H2, H3, H4, H5, HS0, HS1, HS2, HS3, HS4⟩
      isplitl [HS0 HS1 HS2 HS3 HS4 Hg]
      · isplitl [HS0 HS1 HS2 HS3 HS4]
        · isplitl [HS0]
          · iexact HS0
          isplitl [HS1]
          · iexact HS1
          isplitl [HS2]
          · iexact HS2
          isplitl [HS3]
          · iexact HS3
          iexact HS4
        iexact Hg
      isplitl [Ho]; · iexact Ho
      isplitl [H0]; · iexact H0
      isplitl [H1]; · iexact H1
      isplitl [H2]; · iexact H2
      isplitl [H3]; · iexact H3
      isplitl [H4]; · iexact H4
      iexact H5
  · by_cases h1 : t.val % 2 = 1
    · iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩⟩
      iapply (run_B c (grid0.coords t) _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      isplitl [HS3]; · iexact HS3
      isplitl [HS4]; · iexact HS4
      iintro ⟨H0, H1, H2, H3, H4, H5, HS0, HS1, HS2, HS3, HS4⟩
      isplitl [HS0 HS1 HS2 HS3 HS4 Hg]
      · isplitl [HS0 HS1 HS2 HS3 HS4]
        · isplitl [HS0]
          · iexact HS0
          isplitl [HS1]
          · iexact HS1
          isplitl [HS2]
          · iexact HS2
          isplitl [HS3]
          · iexact HS3
          iexact HS4
        iexact Hg
      isplitl [Ho]; · iexact Ho
      isplitl [H0]; · iexact H0
      isplitl [H1]; · iexact H1
      isplitl [H2]; · iexact H2
      isplitl [H3]; · iexact H3
      isplitl [H4]; · iexact H4
      iexact H5
    · exfalso; omega

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- A run that leaves the staged arrays at their entry contents leaves the arguments unchanged. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(Pipeline.RDat.FramePost.arr_in h c 1 rfl).trans ((hA c 1).trans (V_main_arg0 m c)),
      (Pipeline.RDat.FramePost.arr_in h c 2 rfl).trans ((hA c 2).trans (V_main_arg1 m c)),
      (Pipeline.RDat.FramePost.arr_in h c 3 rfl).trans ((hA c 3).trans (V_main_arg2 m c)),
      (Pipeline.RDat.FramePost.arr_in h c 0 rfl).trans ((hA c 0).trans (V_main_arg3 m c)),
      (Pipeline.RDat.FramePost.arr_in h c 4 rfl).trans ((hA c 4).trans (V_main_arg4 m c))⟩) h

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (fun c => (dats m 0 c).toRForget forgets0) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel2.Diff
-- ==== Proof.Diff.Flash.lean ====
/- One block's update of the online softmax as the kernel computes it, on whole tensors: from the block's scores, the
   running maxima, sums and weighted sums and the block's values to the new ones; and each of them read at a row and a
   lane. -/
module

public import proofs.«01_k».proof.Proof.Gen.Kernel2Ideal.Skeleton
public import proofs.«01_k».proof.Proof.Mla.Online
public import Idealize.ShloMosaic.Lib.Pipeline.ValueKit

@[expose] public section

set_option maxRecDepth 16384

noncomputable section

namespace Cert.Kernel2Ideal.Diff

open Cert.Kernel2Ideal Cert.Kernel2Ideal.Gen
open Idealize.ShloMosaic

/-- Tile `u` of a block of scores. -/
abbrev tile0 (s : FVec Ideal S2048x512 .f32) : FVec Ideal S2048x128 .f32 := extractStridedSlice S2048x128 ![0, 0] s slices_S2048x512_o0_0_S2048x128
abbrev tile1 (s : FVec Ideal S2048x512 .f32) : FVec Ideal S2048x128 .f32 := extractStridedSlice S2048x128 ![0, 128] s slices_S2048x512_o0_128_S2048x128
abbrev tile2 (s : FVec Ideal S2048x512 .f32) : FVec Ideal S2048x128 .f32 := extractStridedSlice S2048x128 ![0, 256] s slices_S2048x512_o0_256_S2048x128
abbrev tile3 (s : FVec Ideal S2048x512 .f32) : FVec Ideal S2048x128 .f32 := extractStridedSlice S2048x128 ![0, 384] s slices_S2048x512_o0_384_S2048x128

/-- The new running maxima. -/
def updM (s : FVec Ideal S2048x512 .f32) (m : FVec Ideal S2048x128 .f32) : FVec Ideal S2048x128 .f32 :=
  maximumf m (broadcastTo S2048x128 (shapeCast S2048x1 (multiReduction .maximumf [1] S2048
    (maximumf (maximumf (maximumf (tile0 s) (tile1 s)) (tile2 s)) (tile3 s)) 0xFF800000#32 reduces_S2048x128_S2048 (.inl rfl) rfl)
    shapeCasts_S2048_S2048x1) broadcasts_S2048x1_S2048x128)

/-- The exponentials of one tile, relative to the new maxima. -/
abbrev ex (t m' : FVec Ideal S2048x128 .f32) : FVec Ideal S2048x128 .f32 := exp (subf t m')

/-- The new running sums. -/
def updL (s : FVec Ideal S2048x512 .f32) (m l : FVec Ideal S2048x128 .f32) : FVec Ideal S2048x128 .f32 :=
  addf (mulf (ex m (updM s m)) l)
    (addf (addf (addf (ex (tile0 s) (updM s m)) (ex (tile1 s) (updM s m))) (ex (tile2 s) (updM s m))) (ex (tile3 s) (updM s m)))

/-- The new running weighted sums. -/
def updA (s : FVec Ideal S2048x512 .f32) (v : FVec Ideal S512x128 .bf16) (m a : FVec Ideal S2048x128 .f32) : FVec Ideal S2048x128 .f32 :=
  addf (mulf (ex m (updM s m)) a)
    (matmul dot_S2048x512_S512x128_S2048x128_1_0_0_1_n_n none
      (truncf .bf16 (concatenate S2048x512 1 [⟨S2048x128, ex (tile0 s) (updM s m)⟩, ⟨S2048x128, ex (tile1 s) (updM s m)⟩,
        ⟨S2048x128, ex (tile2 s) (updM s m)⟩, ⟨S2048x128, ex (tile3 s) (updM s m)⟩]
        concatenates_S2048x128_S2048x128_S2048x128_S2048x128_S2048x512_d1) bitsLt_bf16_f32)
      v (constant S2048x128 .f32 0x00000000#32))

theorem ofBits_bot : Ideal.ofBits .f32 0xFF800000#32 = ⊥ := by simp [Ideal.ofBits, Ideal.ieee]

theorem updM_apply (s : FVec Ideal S2048x512 .f32) (m : FVec Ideal S2048x128 .f32) (r : Fin 2048) (l : Fin 128) :
    updM s m (ix2 r l) = max (m (ix2 r l)) (Finset.univ.sup fun k : Fin 512 => (s (ix2 r k) : EReal)) := by
  pointwise [updM]
  rw [ofBits_bot, ← _root_.Mla.sup_tiles]
  congr 1

theorem updL_apply (s : FVec Ideal S2048x512 .f32) (m a : FVec Ideal S2048x128 .f32) (r : Fin 2048) (l : Fin 128) :
    updL s m a (ix2 r l) = Ideal.exp (m (ix2 r l) - updM s m (ix2 r l)) * a (ix2 r l)
      + ∑ u : Fin 4, Ideal.exp (s (ix2 r (_root_.Mla.tileCol u l)) - updM s m (ix2 r l)) := by
  pointwise [updL]
  rw [Fin.sum_univ_four]
  simp [_root_.Mla.tileCol]

theorem updA_apply (s : FVec Ideal S2048x512 .f32) (v : FVec Ideal S512x128 .bf16) (m a : FVec Ideal S2048x128 .f32) (r : Fin 2048) (l : Fin 128)
    (hm : ∀ l', updM s m (ix2 r l') = updM s m (ix2 r l)) :
    updA s v m a (ix2 r l) = Ideal.exp (m (ix2 r l) - updM s m (ix2 r l)) * a (ix2 r l)
      + ∑ k : Fin 512, Ideal.exp (s (ix2 r k) - updM s m (ix2 r l)) * (v (ix2 k l) : EReal) := by
  pointwise [updA]
  congr 1
  refine Finset.sum_congr rfl fun x _ => ?_
  simp only [hm]
  congr 1
  split_ifs with h1 h2 h3
  · rfl
  all_goals
    congr 3
    refine congrArg (ix2 r) (Fin.ext ?_)
    show _ = x.val
    simp only
    omega

/-- The running maxima, sums and weighted sums of the stacked rows. -/
structure St where
  m : FVec Ideal S2048x128 .f32
  l : FVec Ideal S2048x128 .f32
  a : FVec Ideal S2048x128 .f32

/-- One block's update. -/
def St.upd (s : FVec Ideal S2048x512 .f32) (v : FVec Ideal S512x128 .bf16) (σ : St) : St :=
  ⟨updM s σ.m, updL s σ.m σ.l, updA s v σ.m σ.a⟩

/-- The state before any block. -/
def St.init : St := ⟨fun _ => (⊥ : EReal), fun _ => (0 : EReal), fun _ => (0 : EReal)⟩

/-- The state after the first `n` blocks. -/
def St.after (S : ℕ → FVec Ideal S2048x512 .f32) (V : ℕ → FVec Ideal S512x128 .bf16) : ℕ → St
  | 0 => St.init
  | n + 1 => (St.after S V n).upd (S n) (V n)

theorem St.after_congr {S S' : ℕ → FVec Ideal S2048x512 .f32} (V : ℕ → FVec Ideal S512x128 .bf16) :
    ∀ n, (∀ j < n, S j = S' j) → St.after S V n = St.after S' V n
  | 0, _ => rfl
  | n + 1, h => by
    rw [St.after, St.after, St.after_congr V n fun j hj => h j (by omega), h n (by omega)]

section
variable (S : ℕ → FVec Ideal S2048x512 .f32) (V : ℕ → FVec Ideal S512x128 .bf16)

/-- Row `r` of the scores. -/
abbrev rowS (r : Fin 2048) : ℕ → Fin 512 → EReal := fun j k => S j (ix2 r k)
/-- Lane `l` of the values. -/
abbrev colV (l : Fin 128) : ℕ → Fin 512 → EReal := fun j k => V j (ix2 k l)

theorem after_m (n : ℕ) (r : Fin 2048) (l : Fin 128) : (St.after S V n).m (ix2 r l) = _root_.Mla.maxAt (rowS S r) n := by
  induction n with
  | zero => rw [_root_.Mla.maxAt_zero]; rfl
  | succ n ih => rw [_root_.Mla.maxAt_succ, ← ih]; exact updM_apply _ _ r l

theorem after_l (n : ℕ) (r : Fin 2048) (l : Fin 128) (h : _root_.Mla.maxAt (rowS S r) n ≠ ⊤) :
    (St.after S V n).l (ix2 r l) = _root_.Mla.sumAt (rowS S r) n l := by
  induction n with
  | zero => rw [_root_.Mla.sumAt_zero]; rfl
  | succ n ih =>
    have hn : _root_.Mla.maxAt (rowS S r) n ≠ ⊤ := ne_top_of_le_ne_top h (_root_.Mla.maxAt_le_succ (rowS S r) n)
    rw [_root_.Mla.sumAt_succ _ h, ← ih hn, ← after_m S V n r l, ← after_m S V (n + 1) r l]
    exact updL_apply _ _ _ r l

theorem after_a (n : ℕ) (r : Fin 2048) (l : Fin 128) (h : _root_.Mla.maxAt (rowS S r) n ≠ ⊤) :
    (St.after S V n).a (ix2 r l) = _root_.Mla.accAt (rowS S r) (colV V l) n := by
  induction n with
  | zero => rw [_root_.Mla.accAt_zero]; rfl
  | succ n ih =>
    have hn : _root_.Mla.maxAt (rowS S r) n ≠ ⊤ := ne_top_of_le_ne_top h (_root_.Mla.maxAt_le_succ (rowS S r) n)
    rw [_root_.Mla.accAt_succ _ _ h, ← ih hn, ← after_m S V n r l, ← after_m S V (n + 1) r l]
    exact updA_apply _ _ _ _ r l fun l' => (after_m S V (n + 1) r l').trans (after_m S V (n + 1) r l).symm

end

end Cert.Kernel2Ideal.Diff
-- ==== Proof.Diff.Whole.lean ====
/- The kernel's scratch arrays are loaded and stored whole: what a whole load reads, and what a whole store leaves. Also the
   blocks of keys and values a load reads, and the scores of the stacked queries against a block of keys. -/
module

public import proofs.«01_k».proof.Proof.Diff.Flash
public import Idealize.ShloMosaic.Lib.ValueLayout

@[expose] public section

set_option maxRecDepth 16384

noncomputable section

namespace Cert.Kernel2Ideal.Diff

open Cert.Kernel2Ideal Cert.Kernel2Ideal.Gen
open Idealize.ShloMosaic Idealize.ShloMosaic.TcCoe

section
variable {sig' : RefSig} {κ' : Kind} {sp : Space} {a b : ℕ} {e : EltTy}

/-- An `a × b` array. -/
abbrev Mat (a b : ℕ) : Shape := ⟨2, ![a, b]⟩

/-- The rectangle of the whole array. -/
abbrev all (inb : ∀ d, (![0, 0] : Fin 2 → ℕ) d + (Mat a b).size d ≤ (Mat a b).size d) : Rect (Mat a b) :=
  Rect.unit (s := Mat a b) ![0, 0] (Mat a b).size inb

theorem all_emb (inb) (j : (Mat a b).Idx) : (all (a := a) (b := b) inb).emb j = j := by
  funext d
  apply Fin.ext
  refine (ValueKit.rect_emb_unit_val (s := Mat a b) _ _ inb _ d).trans ?_
  fin_cases d
  · show 0 + (j 0).val = (j 0).val; omega
  · show 0 + (j 1).val = (j 1).val; omega

variable (v : View sig' κ' sp (Mat a b) e) (f : v.ty.Contents (Elt Ideal))

theorem whole_read (inb) : v.readAt (Elt Ideal) (all (a := a) (b := b) inb).toLoadRect f = v.read (Elt Ideal) f := by
  funext j
  exact congrArg (v.read (Elt Ideal) f) (all_emb inb j)

theorem whole_write (inb) (w : (Mat a b).Idx → Elt Ideal e) (L : List (View.Piece (Elt Ideal) (Mat a b) e)) :
    v.read (Elt Ideal) (v.writes (Elt Ideal) f (⟨all inb, w⟩ :: L)) = w := by
  funext j
  refine Eq.trans ?_ (View.read_writes_cons_emb v f (all inb) w L j)
  exact congrArg (v.read (Elt Ideal) _) (all_emb inb j).symm

theorem whole_cov (inb) (L : List (View.Piece (Elt Ideal) (Mat a b) e)) :
    v.readCov (Val := Elt Ideal) L (all (a := a) (b := b) inb).toLoadRect
      = v.read (Elt Ideal) (v.writes (Elt Ideal) (v.junk (Val := Elt Ideal)) L) := by
  funext j
  exact congrArg (v.read (Elt Ideal) _) (all_emb inb j)

end

/-- Block `n` of the keys, or of the values. -/
def blk (x : Vec Ideal S1x8192x128 .bf16) (n : ℕ) : FVec Ideal S512x128 .bf16 :=
  fun j => x (ix3 (0 : Fin 1) (⟨(512 * n + (j 0).val) % 8192, Nat.mod_lt _ (by decide)⟩ : Fin 8192) (j 1 : Fin 128))

theorem load_blk {κ' : Kind} {sp : Space} (r : Memref sig κ' sp S1x8192x128 .bf16) (hr : r.IsWhole) (x : Vec Ideal S1x8192x128 .bf16)
    {off : Fin 3 → ℕ} (inb) {n : ℕ} (h : off = ![0, 512 * n, 0]) (hn : n < 16) :
    shapeCast S512x128 (r.view.readAt (Elt Ideal) (Rect.unit (s := S1x8192x128) off S1x512x128.size inb).toLoadRect (hr.unread x))
      shapeCasts_S1x512x128_S512x128 = blk x n := by
  subst h
  funext j
  idx_vars j
  refine (ValueIdx.shapeCast_1ab_ab_apply _ shapeCasts_S1x512x128_S512x128 j0 j1).trans ?_
  refine (congrFun (hr.read_unread x) _).trans ?_
  refine congrArg x ?_
  funext a
  apply Fin.ext
  refine (ValueKit.rect_emb_unit_val (s := S1x8192x128) _ _ inb _ a).trans ?_
  fin_cases a
  · rfl
  · show 512 * n + j0.val = (512 * n + j0.val) % 8192; omega
  · show 0 + j1.val = j1.val; omega

/-- The raw scores of the stacked queries against a block of keys. -/
def sc (q : FVec Ideal S2048x128 .bf16) (k : FVec Ideal S512x128 .bf16) : FVec Ideal S2048x512 .f32 :=
  matmul dot_S2048x128_S512x128_S2048x512_1_1_0_0_n_n none q k (constant S2048x512 .f32 0x00000000#32)

end Cert.Kernel2Ideal.Diff
-- ==== Proof.Diff.Points.lean ====
/- What the kernel's scalar arithmetic comes to at a point of the grid: how many pairs of blocks the loop takes and which
   blocks of keys and values each load reads. Decided point by point. -/
module

public import proofs.«01_k».proof.Proof.Gen.Kernel2Ideal.Skeleton

@[expose] public section

set_option maxRecDepth 16384

namespace Cert.Kernel2Ideal.Diff

open Cert.Kernel2Ideal Cert.Kernel2Ideal.Gen
open Idealize.ShloMosaic

theorem trips1 : ∀ i : grid0.Coords, (k0_t1_loop i).trips = (i 2).val / 2 := by decide +kernel
theorem trips2 : ∀ i : grid0.Coords, (k0_t2_loop i).trips = 0 := by decide +kernel
theorem cond1 : ∀ i : grid0.Coords, k0_cond1 i = 1#1 ↔ (i 2).val % 2 = 0 := by decide +kernel
theorem cond2 : ∀ i : grid0.Coords, k0_cond2 i = 1#1 ↔ (i 2).val % 2 = 1 := by decide +kernel
theorem off1 : ∀ (i : grid0.Coords) (k : Fin (k0_t1_loop i).trips), k0_off1 i k 1#32 = ![0, 512 * (2 * k.val + 1), 0]
    ∧ k0_off1 i k 2#32 = ![0, 512 * (2 * k.val + 2), 0] := by decide +kernel
theorem off2 : ∀ (i : grid0.Coords) (k : Fin (k0_t1_loop i).trips), k0_off2 i k = ![0, 512 * (2 * k.val), 0] := by decide +kernel
theorem off5 : ∀ i : grid0.Coords, k0_off5 i = ![0, 512 * (2 * ((i 2).val / 2)), 0] := by decide +kernel
theorem off6 : ∀ i : grid0.Coords, k0_off6 i = ![0, 512 * (2 * ((i 2).val / 2) + 1), 0] := by decide +kernel
theorem off7 : ∀ i : grid0.Coords, k0_off7 i = ![0, 512 * (2 * ((i 2).val / 2)), 0] := by decide +kernel

end Cert.Kernel2Ideal.Diff
-- ==== Proof.Diff.Trip.lean ====
/- One trip of the kernel's loop: two blocks' updates of the running maxima, sums and weighted sums of the stacked rows, and
   the scores of the block after them left for the next trip. -/
module

public import proofs.«01_k».proof.Proof.Gen.Kernel2Ideal.Loops
public import proofs.«01_k».proof.Proof.Diff.Whole
public import proofs.«01_k».proof.Proof.Diff.Points

import all proofs.«01_k».proof.Proof.Gen.Kernel2Ideal.Loops

@[expose] public section

set_option maxRecDepth 16384

noncomputable section

namespace Cert.Kernel2Ideal.Diff

open Cert.Kernel2Ideal Cert.Kernel2Ideal.Gen
open Idealize.ShloMosaic Idealize.ShloMosaic.TcCoe

variable (c : Dev nD) (i : grid0.Coords) (arg3 : Memref sig .tc .smem S1 .f32) (harg3 : arg3.IsWhole) (arg4 : Memref sig .tc .vmem S1x512x128 .bf16) (harg4 : arg4.IsWhole) (arg5 : Memref sig .tc .vmem S1x8192x128 .bf16) (harg5 : arg5.IsWhole) (arg6 : Memref sig .tc .vmem S1x8192x128 .bf16) (harg6 : arg6.IsWhole) (arg7 : Memref sig .tc .vmem S1x128 .f32) (harg7 : arg7.IsWhole) (arg8 : Memref sig .tc .vmem S1x512x128 .bf16) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x512 .f32) (harg12 : arg12.IsWhole) (arg13 : Memref sig .tc .vmem S2048x512 .f32) (harg13 : arg13.IsWhole)
  (a2 : BitVec 32) (q : FVec Ideal S2048x128 .bf16) (w60 w77 : BitVec 32) (x2 x3 : Vec Ideal S1x8192x128 .bf16)
  (k : Fin (k0_t1_loop i).trips)
  (f9 : arg9.view.ty.Contents (Elt Ideal)) (f10 : arg10.view.ty.Contents (Elt Ideal)) (f11 : arg11.view.ty.Contents (Elt Ideal))
  (f12 : arg12.view.ty.Contents (Elt Ideal)) (f13 : arg13.view.ty.Contents (Elt Ideal))

theorem two_k_lt (k : Fin (k0_t1_loop i).trips) : 2 * k.val + 2 < 16 := by
  have h : k.val < (i 2).val / 2 := lt_of_lt_of_eq k.isLt (trips1 i)
  have h2 : (i 2).val < 16 := (i 2).isLt
  omega

theorem w159 : trip_k0_t1.sl.v159 i arg5 (harg5.unread x2) k = blk x2 (2 * k.val + 1) :=
  load_blk arg5 harg5 x2 _ (off1 i k).1 (by have := two_k_lt i k; omega)

theorem w218 : trip_k0_t1.sl.v218 i arg5 (harg5.unread x2) k = blk x2 (2 * k.val + 2) :=
  load_blk arg5 harg5 x2 _ (off1 i k).2 (two_k_lt i k)

theorem w168 : trip_k0_t1.sl.v168 i arg6 (harg6.unread x3) k = blk x3 (2 * k.val) :=
  load_blk arg6 harg6 x3 _ (off2 i k) (by have := two_k_lt i k; omega)

theorem w228 : trip_k0_t1.sl.v228 i arg6 (harg6.unread x3) k = blk x3 (2 * k.val + 1) :=
  load_blk arg6 harg6 x3 _ (off1 i k).1 (by have := two_k_lt i k; omega)

theorem w163 : trip_k0_t1.sl.v163 i arg5 q (harg5.unread x2) k = sc q (blk x2 (2 * k.val + 1)) :=
  (shapeCast_self _ _).trans (congrArg (sc q) (w159 i arg5 harg5 x2 k))

theorem w222 : trip_k0_t1.sl.v222 i arg5 q (harg5.unread x2) k = sc q (blk x2 (2 * k.val + 2)) :=
  (shapeCast_self _ _).trans (congrArg (sc q) (w218 i arg5 harg5 x2 k))

theorem w181 : trip_k0_t1.sl.v181 arg9 arg12 f9 f12 = updM (arg12.view.read (Elt Ideal) f12) (arg9.view.read (Elt Ideal) f9) :=
  (show trip_k0_t1.sl.v181 arg9 arg12 f9 f12 = updM (arg12.view.readAt (Elt Ideal) (all (a := 2048) (b := 512) _).toLoadRect f12) (arg9.view.readAt (Elt Ideal) (all (a := 2048) (b := 128) _).toLoadRect f9) from rfl).trans (by rw [whole_read (a := 2048) (b := 512), whole_read (a := 2048) (b := 128)])

theorem w212 : trip_k0_t1.sl.v212 arg9 arg12 f9 f12 = updM (arg12.view.read (Elt Ideal) f12) (arg9.view.read (Elt Ideal) f9) :=
  (shapeCast_self _ _).trans (w181 arg9 arg12 f9 f12)

theorem w200 : trip_k0_t1.sl.v200 arg9 arg10 arg12 f9 f10 f12 = updL (arg12.view.read (Elt Ideal) f12) (arg9.view.read (Elt Ideal) f9) (arg10.view.read (Elt Ideal) f10) :=
  (shapeCast_self _ _).trans ((show trip_k0_t1.sl.v197 arg9 arg10 arg12 f9 f10 f12 = updL (arg12.view.readAt (Elt Ideal) (all (a := 2048) (b := 512) _).toLoadRect f12) (arg9.view.readAt (Elt Ideal) (all (a := 2048) (b := 128) _).toLoadRect f9) (arg10.view.readAt (Elt Ideal) (all (a := 2048) (b := 128) _).toLoadRect f10) from rfl).trans (by rw [whole_read (a := 2048) (b := 512), whole_read (a := 2048) (b := 128), whole_read (a := 2048) (b := 128)]))

theorem w209 : trip_k0_t1.sl.v209 i arg6 arg9 arg11 arg12 (harg6.unread x3) k f9 f11 f12 = updA (arg12.view.read (Elt Ideal) f12) (blk x3 (2 * k.val)) (arg9.view.read (Elt Ideal) f9) (arg11.view.read (Elt Ideal) f11) :=
  (shapeCast_self _ _).trans ((show trip_k0_t1.sl.v206 i arg6 arg9 arg11 arg12 (harg6.unread x3) k f9 f11 f12 = updA (arg12.view.readAt (Elt Ideal) (all (a := 2048) (b := 512) _).toLoadRect f12) (trip_k0_t1.sl.v168 i arg6 (harg6.unread x3) k) (arg9.view.readAt (Elt Ideal) (all (a := 2048) (b := 128) _).toLoadRect f9) (arg11.view.readAt (Elt Ideal) (all (a := 2048) (b := 128) _).toLoadRect f11) from rfl).trans
    (by rw [whole_read (a := 2048) (b := 512), whole_read (a := 2048) (b := 128), whole_read (a := 2048) (b := 128), w168 i arg6 harg6 x3 k]))

theorem w229 : trip_k0_t1.sl.v229 i arg5 arg13 q (harg5.unread x2) k = sc q (blk x2 (2 * k.val + 1)) :=
  (whole_read (a := 2048) (b := 512) _ _ _).trans ((whole_write (a := 2048) (b := 512) _ _ _ _ _).trans (w163 i arg5 harg5 q x2 k))

theorem w234 : trip_k0_t1.sl.v234 arg9 arg12 f9 f12 = updM (arg12.view.read (Elt Ideal) f12) (arg9.view.read (Elt Ideal) f9) :=
  (whole_read (a := 2048) (b := 128) _ _ _).trans ((whole_write (a := 2048) (b := 128) _ _ _ _ _).trans (w212 arg9 arg12 f9 f12))

theorem w252 : trip_k0_t1.sl.v252 arg9 arg10 arg12 f9 f10 f12 = updL (arg12.view.read (Elt Ideal) f12) (arg9.view.read (Elt Ideal) f9) (arg10.view.read (Elt Ideal) f10) :=
  (whole_read (a := 2048) (b := 128) _ _ _).trans ((whole_write (a := 2048) (b := 128) _ _ _ _ _).trans (w200 arg9 arg10 arg12 f9 f10 f12))

theorem w263 : trip_k0_t1.sl.v263 i arg6 arg9 arg11 arg12 (harg6.unread x3) k f9 f11 f12 = updA (arg12.view.read (Elt Ideal) f12) (blk x3 (2 * k.val)) (arg9.view.read (Elt Ideal) f9) (arg11.view.read (Elt Ideal) f11) :=
  (whole_read (a := 2048) (b := 128) _ _ _).trans ((whole_write (a := 2048) (b := 128) _ _ _ _ _).trans (w209 i arg6 harg6 arg9 arg11 arg12 x3 k f9 f11 f12))

theorem w241 : trip_k0_t1.sl.v241 i arg5 arg9 arg12 arg13 q (harg5.unread x2) k f9 f12 = updM (sc q (blk x2 (2 * k.val + 1))) (updM (arg12.view.read (Elt Ideal) f12) (arg9.view.read (Elt Ideal) f9)) :=
  (show trip_k0_t1.sl.v241 i arg5 arg9 arg12 arg13 q (harg5.unread x2) k f9 f12 = updM (trip_k0_t1.sl.v229 i arg5 arg13 q (harg5.unread x2) k) (trip_k0_t1.sl.v234 arg9 arg12 f9 f12) from rfl).trans (by rw [w229 i arg5 harg5 arg13 q x2 k, w234 arg9 arg12 f9 f12])

theorem w260 : trip_k0_t1.sl.v260 i arg5 arg9 arg10 arg12 arg13 q (harg5.unread x2) k f9 f10 f12 = updL (sc q (blk x2 (2 * k.val + 1))) (updM (arg12.view.read (Elt Ideal) f12) (arg9.view.read (Elt Ideal) f9)) (updL (arg12.view.read (Elt Ideal) f12) (arg9.view.read (Elt Ideal) f9) (arg10.view.read (Elt Ideal) f10)) :=
  (shapeCast_self _ _).trans ((show trip_k0_t1.sl.v257 i arg5 arg9 arg10 arg12 arg13 q (harg5.unread x2) k f9 f10 f12 = updL (trip_k0_t1.sl.v229 i arg5 arg13 q (harg5.unread x2) k) (trip_k0_t1.sl.v234 arg9 arg12 f9 f12) (trip_k0_t1.sl.v252 arg9 arg10 arg12 f9 f10 f12) from rfl).trans
    (by rw [w229 i arg5 harg5 arg13 q x2 k, w234 arg9 arg12 f9 f12, w252 arg9 arg10 arg12 f9 f10 f12]))

theorem w269 : trip_k0_t1.sl.v269 i arg5 arg6 arg9 arg11 arg12 arg13 q (harg5.unread x2) (harg6.unread x3) k f9 f11 f12 = updA (sc q (blk x2 (2 * k.val + 1))) (blk x3 (2 * k.val + 1)) (updM (arg12.view.read (Elt Ideal) f12) (arg9.view.read (Elt Ideal) f9)) (updA (arg12.view.read (Elt Ideal) f12) (blk x3 (2 * k.val)) (arg9.view.read (Elt Ideal) f9) (arg11.view.read (Elt Ideal) f11)) :=
  (shapeCast_self _ _).trans ((show trip_k0_t1.sl.v266 i arg5 arg6 arg9 arg11 arg12 arg13 q (harg5.unread x2) (harg6.unread x3) k f9 f11 f12 = updA (trip_k0_t1.sl.v229 i arg5 arg13 q (harg5.unread x2) k) (trip_k0_t1.sl.v228 i arg6 (harg6.unread x3) k) (trip_k0_t1.sl.v234 arg9 arg12 f9 f12) (trip_k0_t1.sl.v263 i arg6 arg9 arg11 arg12 (harg6.unread x3) k f9 f11 f12) from rfl).trans
    (by rw [w229 i arg5 harg5 arg13 q x2 k, w234 arg9 arg12 f9 f12, w228 i arg6 harg6 x3 k, w263 i arg6 harg6 arg9 arg11 arg12 x3 k f9 f11 f12]))

/-- What a trip writes. -/
abbrev tl := tripL_k0_t1 (F := Ideal) Variants.none c none i arg3 harg3 arg4 harg4 arg5 harg5 arg6 harg6 arg7 harg7 arg8 harg8 arg9 harg9 arg10 harg10 arg11 harg11 arg12 harg12 arg13 harg13
  a2 q w60 w77 0#32 (harg5.unread x2) (harg6.unread x3) k f9 f10 f11 f12 f13

theorem trip_s : arg12.view.read (Elt Ideal) (arg12.view.writes (Elt Ideal) f12
    (tl c i arg3 harg3 arg4 harg4 arg5 harg5 arg6 harg6 arg7 harg7 arg8 harg8 arg9 harg9 arg10 harg10 arg11 harg11 arg12 harg12 arg13 harg13 a2 q w60 w77 x2 x3 k f9 f10 f11 f12 f13).2.2.2.1) =
    sc q (blk x2 (2 * k.val + 2)) := by
  unfold tl tripL_k0_t1 trip_k0_t1
  dsimp only
  exact (whole_write (a := 2048) (b := 512) _ _ _ _ _).trans (w222 i arg5 harg5 q x2 k)

theorem trip_m : arg9.view.read (Elt Ideal) (arg9.view.writes (Elt Ideal) f9
    (tl c i arg3 harg3 arg4 harg4 arg5 harg5 arg6 harg6 arg7 harg7 arg8 harg8 arg9 harg9 arg10 harg10 arg11 harg11 arg12 harg12 arg13 harg13 a2 q w60 w77 x2 x3 k f9 f10 f11 f12 f13).1) =
    updM (sc q (blk x2 (2 * k.val + 1))) (updM (arg12.view.read (Elt Ideal) f12) (arg9.view.read (Elt Ideal) f9)) := by
  unfold tl tripL_k0_t1 trip_k0_t1
  dsimp only
  exact (whole_write (a := 2048) (b := 128) _ _ _ _ _).trans ((shapeCast_self _ _).trans (w241 i arg5 harg5 arg9 arg12 arg13 q x2 k f9 f12))

theorem trip_l : arg10.view.read (Elt Ideal) (arg10.view.writes (Elt Ideal) f10
    (tl c i arg3 harg3 arg4 harg4 arg5 harg5 arg6 harg6 arg7 harg7 arg8 harg8 arg9 harg9 arg10 harg10 arg11 harg11 arg12 harg12 arg13 harg13 a2 q w60 w77 x2 x3 k f9 f10 f11 f12 f13).2.1) =
    updL (sc q (blk x2 (2 * k.val + 1))) (updM (arg12.view.read (Elt Ideal) f12) (arg9.view.read (Elt Ideal) f9)) (updL (arg12.view.read (Elt Ideal) f12) (arg9.view.read (Elt Ideal) f9) (arg10.view.read (Elt Ideal) f10)) := by
  unfold tl tripL_k0_t1 trip_k0_t1
  dsimp only
  exact (whole_write (a := 2048) (b := 128) _ _ _ _ _).trans (w260 i arg5 harg5 arg9 arg10 arg12 arg13 q x2 k f9 f10 f12)

theorem trip_a : arg11.view.read (Elt Ideal) (arg11.view.writes (Elt Ideal) f11
    (tl c i arg3 harg3 arg4 harg4 arg5 harg5 arg6 harg6 arg7 harg7 arg8 harg8 arg9 harg9 arg10 harg10 arg11 harg11 arg12 harg12 arg13 harg13 a2 q w60 w77 x2 x3 k f9 f10 f11 f12 f13).2.2.1) =
    updA (sc q (blk x2 (2 * k.val + 1))) (blk x3 (2 * k.val + 1)) (updM (arg12.view.read (Elt Ideal) f12) (arg9.view.read (Elt Ideal) f9)) (updA (arg12.view.read (Elt Ideal) f12) (blk x3 (2 * k.val)) (arg9.view.read (Elt Ideal) f9) (arg11.view.read (Elt Ideal) f11)) := by
  unfold tl tripL_k0_t1 trip_k0_t1
  dsimp only
  exact (whole_write (a := 2048) (b := 128) _ _ _ _ _).trans (w269 i arg5 harg5 arg6 harg6 arg9 arg11 arg12 arg13 q x2 x3 k f9 f11 f12)

theorem trip_st : (⟨(arg9.view.read (Elt Ideal) (arg9.view.writes (Elt Ideal) f9 (tl c i arg3 harg3 arg4 harg4 arg5 harg5 arg6 harg6 arg7 harg7 arg8 harg8 arg9 harg9 arg10 harg10 arg11 harg11 arg12 harg12 arg13 harg13 a2 q w60 w77 x2 x3 k f9 f10 f11 f12 f13).1)),
      (arg10.view.read (Elt Ideal) (arg10.view.writes (Elt Ideal) f10 (tl c i arg3 harg3 arg4 harg4 arg5 harg5 arg6 harg6 arg7 harg7 arg8 harg8 arg9 harg9 arg10 harg10 arg11 harg11 arg12 harg12 arg13 harg13 a2 q w60 w77 x2 x3 k f9 f10 f11 f12 f13).2.1)),
      (arg11.view.read (Elt Ideal) (arg11.view.writes (Elt Ideal) f11 (tl c i arg3 harg3 arg4 harg4 arg5 harg5 arg6 harg6 arg7 harg7 arg8 harg8 arg9 harg9 arg10 harg10 arg11 harg11 arg12 harg12 arg13 harg13 a2 q w60 w77 x2 x3 k f9 f10 f11 f12 f13).2.2.1))⟩ : St)
    = ((⟨(arg9.view.read (Elt Ideal) f9), (arg10.view.read (Elt Ideal) f10), (arg11.view.read (Elt Ideal) f11)⟩ : St).upd (arg12.view.read (Elt Ideal) f12) (blk x3 (2 * k.val))).upd (sc q (blk x2 (2 * k.val + 1))) (blk x3 (2 * k.val + 1)) := by
  rw [trip_m, trip_l, trip_a]
  rfl

end Cert.Kernel2Ideal.Diff
-- ==== Proof.Diff.Loop.lean ====
/- The kernel's loop: after `n` trips the scratch arrays hold the online softmax of the first `2 n` blocks, and the scores
   of the next block. -/
module

public import proofs.«01_k».proof.Proof.Diff.Trip

@[expose] public section

set_option maxRecDepth 16384

noncomputable section

namespace Cert.Kernel2Ideal.Diff

open Cert.Kernel2Ideal Cert.Kernel2Ideal.Gen
open Idealize.ShloMosaic Idealize.ShloMosaic.TcCoe

variable (c : Dev nD) (i : grid0.Coords) (arg3 : Memref sig .tc .smem S1 .f32) (harg3 : arg3.IsWhole) (arg4 : Memref sig .tc .vmem S1x512x128 .bf16) (harg4 : arg4.IsWhole) (arg5 : Memref sig .tc .vmem S1x8192x128 .bf16) (harg5 : arg5.IsWhole) (arg6 : Memref sig .tc .vmem S1x8192x128 .bf16) (harg6 : arg6.IsWhole) (arg7 : Memref sig .tc .vmem S1x128 .f32) (harg7 : arg7.IsWhole) (arg8 : Memref sig .tc .vmem S1x512x128 .bf16) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x512 .f32) (harg12 : arg12.IsWhole) (arg13 : Memref sig .tc .vmem S2048x512 .f32) (harg13 : arg13.IsWhole)
  (a2 : BitVec 32) (q : FVec Ideal S2048x128 .bf16) (w60 w77 : BitVec 32) (x2 x3 : Vec Ideal S1x8192x128 .bf16)
  (g9 : arg9.view.ty.Contents (Elt Ideal)) (g10 : arg10.view.ty.Contents (Elt Ideal)) (g11 : arg11.view.ty.Contents (Elt Ideal))
  (g12 : arg12.view.ty.Contents (Elt Ideal)) (g13 : arg13.view.ty.Contents (Elt Ideal))

/-- The scores, block by block. -/
def scs (q : FVec Ideal S2048x128 .bf16) (x2 : Vec Ideal S1x8192x128 .bf16) : ℕ → FVec Ideal S2048x512 .f32 := fun j => sc q (blk x2 j)

/-- What the scratch arrays hold when the first `n` blocks are done and the scores of block `n` are ready. -/
structure Holds (q : FVec Ideal S2048x128 .bf16) (x2 x3 : Vec Ideal S1x8192x128 .bf16) (n : ℕ)
    (X9 X10 X11 : FVec Ideal S2048x128 .f32) (X12 : FVec Ideal S2048x512 .f32) : Prop where
  s : X12 = scs q x2 n
  st : (⟨X9, X10, X11⟩ : St) = St.after (scs q x2) (blk x3) n

/-- The pieces of the first `n` trips. -/
abbrev pb (n : ℕ) := pb_k0_t1 (F := Ideal) Variants.none c none i arg3 harg3 arg4 harg4 arg5 harg5 arg6 harg6 arg7 harg7 arg8 harg8 arg9 harg9 arg10 harg10 arg11 harg11 arg12 harg12 arg13 harg13
  a2 q w60 w77 0#32 (harg5.unread x2) (harg6.unread x3) g9 g10 g11 g12 g13 n

theorem loop_holds (h0 : Holds q x2 x3 0 (arg9.view.read (Elt Ideal) g9) (arg10.view.read (Elt Ideal) g10) (arg11.view.read (Elt Ideal) g11)
      (arg12.view.read (Elt Ideal) g12)) (n : ℕ) (hn : n ≤ (k0_t1_loop i).trips) :
    Holds q x2 x3 (2 * n)
      (arg9.view.read (Elt Ideal) (arg9.view.writes (Elt Ideal) g9 (pb c i arg3 harg3 arg4 harg4 arg5 harg5 arg6 harg6 arg7 harg7 arg8 harg8 arg9 harg9 arg10 harg10 arg11 harg11 arg12 harg12 arg13 harg13 a2 q w60 w77 x2 x3 g9 g10 g11 g12 g13 n).1))
      (arg10.view.read (Elt Ideal) (arg10.view.writes (Elt Ideal) g10 (pb c i arg3 harg3 arg4 harg4 arg5 harg5 arg6 harg6 arg7 harg7 arg8 harg8 arg9 harg9 arg10 harg10 arg11 harg11 arg12 harg12 arg13 harg13 a2 q w60 w77 x2 x3 g9 g10 g11 g12 g13 n).2.1))
      (arg11.view.read (Elt Ideal) (arg11.view.writes (Elt Ideal) g11 (pb c i arg3 harg3 arg4 harg4 arg5 harg5 arg6 harg6 arg7 harg7 arg8 harg8 arg9 harg9 arg10 harg10 arg11 harg11 arg12 harg12 arg13 harg13 a2 q w60 w77 x2 x3 g9 g10 g11 g12 g13 n).2.2.1))
      (arg12.view.read (Elt Ideal) (arg12.view.writes (Elt Ideal) g12 (pb c i arg3 harg3 arg4 harg4 arg5 harg5 arg6 harg6 arg7 harg7 arg8 harg8 arg9 harg9 arg10 harg10 arg11 harg11 arg12 harg12 arg13 harg13 a2 q w60 w77 x2 x3 g9 g10 g11 g12 g13 n).2.2.2.1)) := by
  induction n with
  | zero => exact h0
  | succ n ih =>
    have ih := ih (by omega)
    have hs := pb_k0_t1_succ (F := Ideal) Variants.none c none i arg3 harg3 arg4 harg4 arg5 harg5 arg6 harg6 arg7 harg7 arg8 harg8 arg9 harg9 arg10 harg10 arg11 harg11 arg12 harg12 arg13 harg13
      a2 q w60 w77 0#32 (harg5.unread x2) (harg6.unread x3) g9 g10 g11 g12 g13 ⟨n, hn⟩
    have e := ih.st
    have s := ih.s
    rw [pb, hs]
    dsimp only
    rw [View.writes_append, View.writes_append, View.writes_append, View.writes_append]
    constructor
    · exact trip_s (k := ⟨n, hn⟩) ..
    · refine (trip_st (k := ⟨n, hn⟩) ..).trans ?_
      rw [e, s]
      rfl

end Cert.Kernel2Ideal.Diff
-- ==== Proof.Diff.Final.lean ====
/- The block the kernel writes at a point of the grid: the whole blocks of keys go through the loop, the block on the
   diagonal is masked, the weighted sums are divided by the sums, the two maps of each head are subtracted and the result is
   normalized. -/
module

public import proofs.«01_k».proof.Proof.Diff.Loop

@[expose] public section

set_option maxRecDepth 16384

noncomputable section

namespace Cert.Kernel2Ideal.Diff

open Cert.Kernel2Ideal Cert.Kernel2Ideal.Gen
open Idealize.ShloMosaic Idealize.ShloMosaic.TcCoe

/-- The output block written whole. -/
theorem store_out {κ' : Kind} {sp : Space} (r : Memref sig κ' sp S1x512x128 .bf16) (f : r.view.ty.Contents (Elt Ideal)) (inb)
    (w : Vec Ideal S1x512x128 .bf16) :
    r.view.read (Elt Ideal) (r.view.writes (Elt Ideal) f [⟨Rect.unit (s := S1x512x128) ![0, 0, 0] ![1, 512, 128] inb, w⟩]) = w := by
  funext j
  refine Eq.trans ?_ (View.read_writes_cons_emb r.view f (Rect.unit (s := S1x512x128) ![0, 0, 0] ![1, 512, 128] inb) w [] j)
  refine congrArg (r.view.read (Elt Ideal) _) ?_
  funext a
  apply Fin.ext
  refine Eq.trans ?_ (ValueKit.rect_emb_unit_val (s := S1x512x128) _ _ inb _ a).symm
  fin_cases a
  · show (j 0).val = 0 + (j 0).val; omega
  · show (j 1).val = 0 + (j 1).val; omega
  · show (j 2).val = 0 + (j 2).val; omega

theorem load_Q {κ' : Kind} {sp : Space} (r : Memref sig κ' sp S1x512x128 .bf16) (hr : r.IsWhole) (x : Vec Ideal S1x512x128 .bf16) (inb) :
    r.view.readAt (Elt Ideal) (Rect.unit (s := S1x512x128) ![0, 0, 0] S1x512x128.size inb).toLoadRect (hr.unread x) = x := by
  funext j
  refine (congrFun (hr.read_unread x) _).trans ?_
  refine congrArg x ?_
  funext a
  apply Fin.ext
  refine (ValueKit.rect_emb_unit_val (s := S1x512x128) _ _ inb _ a).trans ?_
  fin_cases a
  · show 0 + (j 0).val = (j 0).val; omega
  · show 0 + (j 1).val = (j 1).val; omega
  · show 0 + (j 2).val = (j 2).val; omega

/-- The scores of the block on the diagonal, masked. -/
def msk (i : grid0.Coords) (s : FVec Ideal S2048x512 .f32) : FVec Ideal S2048x512 .f32 :=
  k0_pay61 (F := Ideal) (BitVec.ofNat 32 (i 2).val) (BitVec.ofNat 32 (i 2).val) s

/-- The state once the diagonal block is in. -/
def fin (i : grid0.Coords) (q : FVec Ideal S2048x128 .bf16) (x2 x3 : Vec Ideal S1x8192x128 .bf16) : St :=
  (St.after (scs q x2) (blk x3) (i 2).val).upd (msk i (scs q x2 (i 2).val)) (blk x3 (i 2).val)

/-- The block written, from the final weighted sums and sums. -/
def outOf (lam : EReal) (a l : FVec Ideal S2048x128 .f32) (x4 : Vec Ideal S1x128 .f32) : Vec Ideal S1x512x128 .bf16 :=
  k0_pay1 (F := Ideal) (iota .tc S1x128 32 [1] iota_S1x128_d1_w32) (k0_pay118 lam a l) (k0_pay119 a l) (k0_pay120 lam a l) x4

/-- The block written. -/
def OUT (i : grid0.Coords) (x0 : Vec Ideal S1 .f32) (x1 : Vec Ideal S1x512x128 .bf16) (x2 x3 : Vec Ideal S1x8192x128 .bf16)
    (x4 : Vec Ideal S1x128 .f32) : Vec Ideal S1x512x128 .bf16 :=
  outOf (x0 (ix1 (0 : Fin 1))) (fin i (k0_pay106 x1) x2 x3).a (fin i (k0_pay106 x1) x2 x3).l x4

variable (c : Dev nD) (i : grid0.Coords) (arg3 : Memref sig .tc .smem S1 .f32) (harg3 : arg3.IsWhole) (arg4 : Memref sig .tc .vmem S1x512x128 .bf16) (harg4 : arg4.IsWhole) (arg5 : Memref sig .tc .vmem S1x8192x128 .bf16) (harg5 : arg5.IsWhole) (arg6 : Memref sig .tc .vmem S1x8192x128 .bf16) (harg6 : arg6.IsWhole) (arg7 : Memref sig .tc .vmem S1x128 .f32) (harg7 : arg7.IsWhole) (arg8 : Memref sig .tc .vmem S1x512x128 .bf16) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x512 .f32) (harg12 : arg12.IsWhole) (arg13 : Memref sig .tc .vmem S2048x512 .f32) (harg13 : arg13.IsWhole)
  (a2 : BitVec 32) (q : FVec Ideal S2048x128 .bf16) (w60 w77 : BitVec 32) (x2 x3 : Vec Ideal S1x8192x128 .bf16)

/-- Before the loop: nothing summed, the scores of block 0 ready. -/
theorem base_holds (f9 : arg9.view.ty.Contents (Elt Ideal)) (f10 : arg10.view.ty.Contents (Elt Ideal)) (f11 : arg11.view.ty.Contents (Elt Ideal))
    (f12 : arg12.view.ty.Contents (Elt Ideal)) (i9) (i10) (i11) (i12) (ia) :
    Holds q x2 x3 0
      (arg9.view.read (Elt Ideal) (arg9.view.writes (Elt Ideal) f9 [⟨all (a := 2048) (b := 128) i9, k0_pay107 (F := Ideal)⟩]))
      (arg10.view.read (Elt Ideal) (arg10.view.writes (Elt Ideal) f10 [⟨all (a := 2048) (b := 128) i10, k0_pay109 (k0_pay108 (F := Ideal))⟩]))
      (arg11.view.read (Elt Ideal) (arg11.view.writes (Elt Ideal) f11 [⟨all (a := 2048) (b := 128) i11, k0_pay110 (F := Ideal)⟩]))
      (arg12.view.read (Elt Ideal) (arg12.view.writes (Elt Ideal) f12
        [⟨all (a := 2048) (b := 512) i12, k0_pay111 q (arg5.view.readAt (Elt Ideal) (Rect.unit (s := S1x8192x128) ![0, 0, 0] S1x512x128.size ia).toLoadRect (harg5.unread x2))⟩])) := by
  have hk := load_blk arg5 harg5 x2 ia (n := 0) rfl (by decide)
  have em : k0_pay107 (F := Ideal) = fun _ => (⊥ : EReal) :=
    (shapeCast_self _ _).trans (funext fun _ => IdealRules.named_const.ideal_named_scalar κ "mask" _ _ rfl)
  have el : k0_pay109 (k0_pay108 (F := Ideal)) = fun _ => (0 : EReal) :=
    (shapeCast_self _ _).trans (funext fun _ => Ideal.ofBits_zero .f32)
  have ea : k0_pay110 (F := Ideal) = fun _ => (0 : EReal) := (shapeCast_self _ _).trans (funext fun _ => Ideal.ofBits_zero .f32)
  constructor
  · exact (whole_write (a := 2048) (b := 512) _ _ _ _ _).trans ((shapeCast_self _ _).trans (congrArg (sc q) hk))
  · rw [whole_write (a := 2048) (b := 128), whole_write (a := 2048) (b := 128), whole_write (a := 2048) (b := 128), em, el, ea]
    rfl

variable (q' : FVec Ideal S2048x128 .bf16) (w90 : BitVec 32) (g13 : arg13.view.ty.Contents (Elt Ideal))
  (H9 H10 H11 : List (View.Piece (Elt Ideal) S2048x128 .f32)) (H12 : List (View.Piece (Elt Ideal) S2048x512 .f32))

/-- The pieces of the loop, over what was written before it, -/
abbrev PB1 := pb c i arg3 harg3 arg4 harg4 arg5 harg5 arg6 harg6 arg7 harg7 arg8 harg8 arg9 harg9 arg10 harg10 arg11 harg11 arg12 harg12 arg13 harg13 a2 q w60 w77 x2 x3
  (arg9.view.writes (Elt Ideal) arg9.view.junk H9) (arg10.view.writes (Elt Ideal) arg10.view.junk H10) (arg11.view.writes (Elt Ideal) arg11.view.junk H11) (arg12.view.writes (Elt Ideal) arg12.view.junk H12) g13
  (Scf.trips (k0_t1_loop i).lb (k0_t1_loop i).ub (k0_t1_loop i).st)

/-- and of the second loop, which takes no trip. -/
abbrev PB2 := pb_k0_t2 (F := Ideal) Variants.none c none i arg3 harg3 arg4 harg4 arg5 harg5 arg6 harg6 arg7 harg7 arg8 harg8 arg9 harg9 arg10 harg10 arg11 harg11 arg12 harg12 arg13 harg13
  a2 q w60 w77 0#32 w90 (harg5.unread x2) (harg6.unread x3)
  (arg9.view.writes (Elt Ideal) arg9.view.junk ((PB1 c i arg3 harg3 arg4 harg4 arg5 harg5 arg6 harg6 arg7 harg7 arg8 harg8 arg9 harg9 arg10 harg10 arg11 harg11 arg12 harg12 arg13 harg13 a2 q w60 w77 x2 x3 g13 H9 H10 H11 H12).1 ++ H9))
  (arg10.view.writes (Elt Ideal) arg10.view.junk ((PB1 c i arg3 harg3 arg4 harg4 arg5 harg5 arg6 harg6 arg7 harg7 arg8 harg8 arg9 harg9 arg10 harg10 arg11 harg11 arg12 harg12 arg13 harg13 a2 q w60 w77 x2 x3 g13 H9 H10 H11 H12).2.1 ++ H10))
  (arg11.view.writes (Elt Ideal) arg11.view.junk ((PB1 c i arg3 harg3 arg4 harg4 arg5 harg5 arg6 harg6 arg7 harg7 arg8 harg8 arg9 harg9 arg10 harg10 arg11 harg11 arg12 harg12 arg13 harg13 a2 q w60 w77 x2 x3 g13 H9 H10 H11 H12).2.2.1 ++ H11))
  (arg12.view.writes (Elt Ideal) arg12.view.junk ((PB1 c i arg3 harg3 arg4 harg4 arg5 harg5 arg6 harg6 arg7 harg7 arg8 harg8 arg9 harg9 arg10 harg10 arg11 harg11 arg12 harg12 arg13 harg13 a2 q w60 w77 x2 x3 g13 H9 H10 H11 H12).2.2.2.1 ++ H12))
  (arg13.view.writes (Elt Ideal) g13 (PB1 c i arg3 harg3 arg4 harg4 arg5 harg5 arg6 harg6 arg7 harg7 arg8 harg8 arg9 harg9 arg10 harg10 arg11 harg11 arg12 harg12 arg13 harg13 a2 q w60 w77 x2 x3 g13 H9 H10 H11 H12).2.2.2.2)
  (Scf.trips (k0_t2_loop i).lb (k0_t2_loop i).ub (k0_t2_loop i).st)

theorem PB2_nil : PB2 c i arg3 harg3 arg4 harg4 arg5 harg5 arg6 harg6 arg7 harg7 arg8 harg8 arg9 harg9 arg10 harg10 arg11 harg11 arg12 harg12 arg13 harg13 a2 q w60 w77 x2 x3 w90 g13 H9 H10 H11 H12
    = ([], [], [], [], []) := by
  have h : Scf.trips (k0_t2_loop i).lb (k0_t2_loop i).ub (k0_t2_loop i).st = 0 := trips2 i
  unfold PB2
  rw [h]
  rfl

theorem loops_hold (hq : q = q')
    (h0 : Holds q x2 x3 0 (arg9.view.read (Elt Ideal) (arg9.view.writes (Elt Ideal) arg9.view.junk H9)) (arg10.view.read (Elt Ideal) (arg10.view.writes (Elt Ideal) arg10.view.junk H10)) (arg11.view.read (Elt Ideal) (arg11.view.writes (Elt Ideal) arg11.view.junk H11)) (arg12.view.read (Elt Ideal) (arg12.view.writes (Elt Ideal) arg12.view.junk H12))) :
    Holds q' x2 x3 (2 * ((i 2).val / 2))
      (arg9.view.read (Elt Ideal) (arg9.view.writes (Elt Ideal) arg9.view.junk ((PB2 c i arg3 harg3 arg4 harg4 arg5 harg5 arg6 harg6 arg7 harg7 arg8 harg8 arg9 harg9 arg10 harg10 arg11 harg11 arg12 harg12 arg13 harg13 a2 q w60 w77 x2 x3 w90 g13 H9 H10 H11 H12).1
        ++ ((PB1 c i arg3 harg3 arg4 harg4 arg5 harg5 arg6 harg6 arg7 harg7 arg8 harg8 arg9 harg9 arg10 harg10 arg11 harg11 arg12 harg12 arg13 harg13 a2 q w60 w77 x2 x3 g13 H9 H10 H11 H12).1 ++ H9))))
      (arg10.view.read (Elt Ideal) (arg10.view.writes (Elt Ideal) arg10.view.junk ((PB2 c i arg3 harg3 arg4 harg4 arg5 harg5 arg6 harg6 arg7 harg7 arg8 harg8 arg9 harg9 arg10 harg10 arg11 harg11 arg12 harg12 arg13 harg13 a2 q w60 w77 x2 x3 w90 g13 H9 H10 H11 H12).2.1
        ++ ((PB1 c i arg3 harg3 arg4 harg4 arg5 harg5 arg6 harg6 arg7 harg7 arg8 harg8 arg9 harg9 arg10 harg10 arg11 harg11 arg12 harg12 arg13 harg13 a2 q w60 w77 x2 x3 g13 H9 H10 H11 H12).2.1 ++ H10))))
      (arg11.view.read (Elt Ideal) (arg11.view.writes (Elt Ideal) arg11.view.junk ((PB2 c i arg3 harg3 arg4 harg4 arg5 harg5 arg6 harg6 arg7 harg7 arg8 harg8 arg9 harg9 arg10 harg10 arg11 harg11 arg12 harg12 arg13 harg13 a2 q w60 w77 x2 x3 w90 g13 H9 H10 H11 H12).2.2.1
        ++ ((PB1 c i arg3 harg3 arg4 harg4 arg5 harg5 arg6 harg6 arg7 harg7 arg8 harg8 arg9 harg9 arg10 harg10 arg11 harg11 arg12 harg12 arg13 harg13 a2 q w60 w77 x2 x3 g13 H9 H10 H11 H12).2.2.1 ++ H11))))
      (arg12.view.read (Elt Ideal) (arg12.view.writes (Elt Ideal) arg12.view.junk ((PB2 c i arg3 harg3 arg4 harg4 arg5 harg5 arg6 harg6 arg7 harg7 arg8 harg8 arg9 harg9 arg10 harg10 arg11 harg11 arg12 harg12 arg13 harg13 a2 q w60 w77 x2 x3 w90 g13 H9 H10 H11 H12).2.2.2.1
        ++ ((PB1 c i arg3 harg3 arg4 harg4 arg5 harg5 arg6 harg6 arg7 harg7 arg8 harg8 arg9 harg9 arg10 harg10 arg11 harg11 arg12 harg12 arg13 harg13 a2 q w60 w77 x2 x3 g13 H9 H10 H11 H12).2.2.2.1 ++ H12)))) := by
  subst hq
  rw [PB2_nil]
  dsimp only [List.nil_append]
  rw [View.writes_append, View.writes_append, View.writes_append, View.writes_append]
  have h := loop_holds c i arg3 harg3 arg4 harg4 arg5 harg5 arg6 harg6 arg7 harg7 arg8 harg8 arg9 harg9 arg10 harg10 arg11 harg11 arg12 harg12 arg13 harg13 a2 q w60 w77 x2 x3 _ _ _ _ g13 h0
    (Scf.trips (k0_t1_loop i).lb (k0_t1_loop i).ub (k0_t1_loop i).st) le_rfl
  have hn : Scf.trips (k0_t1_loop i).lb (k0_t1_loop i).ub (k0_t1_loop i).st = (i 2).val / 2 := trips1 i
  rw [← hn]
  exact h

end Cert.Kernel2Ideal.Diff
-- ==== Proof.Diff.RunA.lean ====
/- The kernel's body at a point of the grid whose block of queries has an even number: what it leaves in the output block. -/
module

public import proofs.«01_k».proof.Proof.Gen.Kernel2Ideal.Frame.Runs
import all proofs.«01_k».proof.Proof.Gen.Kernel2Ideal.Loops
public import proofs.«01_k».proof.Proof.Diff.Final

@[expose] public section

set_option maxRecDepth 16384

noncomputable section

namespace Cert.Kernel2Ideal.Diff

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

set_option maxHeartbeats 4000000 in
/-- The body's triple there. -/
theorem run_A (c : Dev nD) (i : grid0.Coords) (arg3 : Memref sig .tc .smem S1 .f32) (harg3 : arg3.IsWhole) (arg4 : Memref sig .tc .vmem S1x512x128 .bf16) (harg4 : arg4.IsWhole) (arg5 : Memref sig .tc .vmem S1x8192x128 .bf16) (harg5 : arg5.IsWhole) (arg6 : Memref sig .tc .vmem S1x8192x128 .bf16) (harg6 : arg6.IsWhole) (arg7 : Memref sig .tc .vmem S1x128 .f32) (harg7 : arg7.IsWhole) (arg8 : Memref sig .tc .vmem S1x512x128 .bf16) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x512 .f32) (harg12 : arg12.IsWhole) (arg13 : Memref sig .tc .vmem S2048x512 .f32) (harg13 : arg13.IsWhole) (hc0 : cond0_0 i) (hc1 : ¬cond0_1 i)
    (x0 : Vec Ideal S1 .f32) (x1 : Vec Ideal S1x512x128 .bf16) (x2 x3 : Vec Ideal S1x8192x128 .bf16) (x4 : Vec Ideal S1x128 .f32) (E : Set ℕ) (K : PUnit → sProp 𝕄) :
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (OUT i x0 x1 x2 x3 x4) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := Ideal)) Variants.none c none) E (cc0_diff_attn i arg3 harg3 arg4 harg4 arg5 harg5 arg6 harg6 arg7 harg7 arg8 harg8 arg9 harg9 arg10 harg10 arg11 harg11 arg12 harg12 arg13 harg13) K := by
    simp only [cc0_diff_attn_eq_skeleton]; unfold cc0_diff_attn_skel
    simp only [k0_part11_eq_skeleton, k0_part12_eq_skeleton, k0_part13_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg3.eq_unread hf0; obtain rfl := harg4.eq_unread hf1; obtain rfl := harg5.eq_unread hf2; obtain rfl := harg6.eq_unread hf3; obtain rfl := harg7.eq_unread hf4
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; swap; · iexact H5
      ipureintro
      refine (store_out arg8 f5 _ _).trans ?_
      have hq : run_A.sl.r c arg4 harg4 x1 = k0_pay106 (F := Ideal) x1 := congrArg (k0_pay106 (F := Ideal)) (load_Q arg4 harg4 x1 _)
      have H := loops_hold c i arg3 harg3 arg4 harg4 arg5 harg5 arg6 harg6 arg7 harg7 arg8 harg8 arg9 harg9 arg10 harg10 arg11 harg11 arg12 harg12 arg13 harg13 (BitVec.ofNat 32 (i 2).val) (run_A.sl.r c arg4 harg4 x1) (run_A.sl.v60 i) (run_A.sl.v77 i) x2 x3 (k0_pay106 x1) (run_A.sl.v90 i) fs4 run_A.sl.HS0_1 run_A.sl.HS1_1 run_A.sl.HS2_1
        (run_A.sl.HS3_1 c arg4 harg4 arg5 harg5 x1 x2) hq (base_holds arg5 harg5 arg9 arg10 arg11 arg12 _ x2 x3 _ _ _ _ _ _ _ _ _)
      have hlt : (i 2).val < 16 := (i 2).isLt
      have eg : View.readAt (Elt Ideal) arg7.view (Rect.unit ![0, 0] ![1, 128] inb_S1x128_S1x128_0_0).toLoadRect (harg7.unread x4) = x4 :=
        (whole_read (a := 1) (b := 128) _ _ _).trans (harg7.read_unread x4)
      have ex : run_A.sl.r_11 c arg3 harg3 x0 = x0 (ix1 (0 : Fin 1)) :=
        (congrFun (harg3.read_unread x0) _).trans (congrArg x0 (funext fun a => by fin_cases a; exact Subsingleton.elim (α := Fin 1) _ _))
      have hi : (i 2).val % 2 = 0 := (cond1 i).1 hc0
      have hn : 2 * ((i 2).val / 2) = (i 2).val := by omega
      rw [hn] at H
      have hb : run_A.sl.v91 i = BitVec.ofNat 32 (i 2).val :=
        (by decide +kernel : ∀ i : grid0.Coords, (i 2).val % 2 = 0 → run_A.sl.v91 i = BitVec.ofNat 32 (i 2).val) i hi
      have hv : run_A.sl.r_2 i arg6 harg6 hc0 x3 = blk x3 (i 2).val := load_blk arg6 harg6 x3 _ ((off5 i).trans (by rw [hn])) hlt
      have e169 : run_A.sl.v169 c i arg3 harg3 arg4 harg4 arg5 harg5 arg6 harg6 arg7 harg7 arg8 harg8 arg9 harg9 arg10 harg10 arg11 harg11 arg12 harg12 arg13 harg13 x1 x2 x3 fs4 = scs (k0_pay106 x1) x2 (i 2).val := (whole_cov (a := 2048) (b := 512) _ _ _).trans H.s
      have e176 : run_A.sl.v176 c i arg3 harg3 arg4 harg4 arg5 harg5 arg6 harg6 arg7 harg7 arg8 harg8 arg9 harg9 arg10 harg10 arg11 harg11 arg12 harg12 arg13 harg13 x1 x2 x3 fs4 = (St.after (scs (k0_pay106 x1) x2) (blk x3) (i 2).val).m := (whole_cov (a := 2048) (b := 128) _ _ _).trans (congrArg St.m H.st)
      have e194 : run_A.sl.v194 c i arg3 harg3 arg4 harg4 arg5 harg5 arg6 harg6 arg7 harg7 arg8 harg8 arg9 harg9 arg10 harg10 arg11 harg11 arg12 harg12 arg13 harg13 x1 x2 x3 fs4 = (St.after (scs (k0_pay106 x1) x2) (blk x3) (i 2).val).l := (whole_cov (a := 2048) (b := 128) _ _ _).trans (congrArg St.l H.st)
      have e205 : run_A.sl.v205 c i arg3 harg3 arg4 harg4 arg5 harg5 arg6 harg6 arg7 harg7 arg8 harg8 arg9 harg9 arg10 harg10 arg11 harg11 arg12 harg12 arg13 harg13 x1 x2 x3 fs4 = (St.after (scs (k0_pay106 x1) x2) (blk x3) (i 2).val).a := (whole_cov (a := 2048) (b := 128) _ _ _).trans (congrArg St.a H.st)
      have hm : k0_pay61 (F := Ideal) (BitVec.ofNat 32 (i 2).val) (run_A.sl.v91 i) (run_A.sl.v169 c i arg3 harg3 arg4 harg4 arg5 harg5 arg6 harg6 arg7 harg7 arg8 harg8 arg9 harg9 arg10 harg10 arg11 harg11 arg12 harg12 arg13 harg13 x1 x2 x3 fs4) = msk i (scs (k0_pay106 x1) x2 (i 2).val) := by rw [hb, e169]; rfl
      have e100 : run_A.sl.v100 c i arg3 harg3 arg4 harg4 arg5 harg5 arg6 harg6 arg7 harg7 arg8 harg8 arg9 harg9 arg10 harg10 arg11 harg11 arg12 harg12 arg13 harg13 x1 x2 x3 fs4 = (fin i (k0_pay106 x1) x2 x3).l :=
        (whole_cov (a := 2048) (b := 128) _ _ _).trans ((whole_write (a := 2048) (b := 128) _ _ _ _ _).trans ((shapeCast_self _ _).trans
          ((show _ = updL (k0_pay61 (F := Ideal) (BitVec.ofNat 32 (i 2).val) (run_A.sl.v91 i) (run_A.sl.v169 c i arg3 harg3 arg4 harg4 arg5 harg5 arg6 harg6 arg7 harg7 arg8 harg8 arg9 harg9 arg10 harg10 arg11 harg11 arg12 harg12 arg13 harg13 x1 x2 x3 fs4)) (run_A.sl.v176 c i arg3 harg3 arg4 harg4 arg5 harg5 arg6 harg6 arg7 harg7 arg8 harg8 arg9 harg9 arg10 harg10 arg11 harg11 arg12 harg12 arg13 harg13 x1 x2 x3 fs4) (run_A.sl.v194 c i arg3 harg3 arg4 harg4 arg5 harg5 arg6 harg6 arg7 harg7 arg8 harg8 arg9 harg9 arg10 harg10 arg11 harg11 arg12 harg12 arg13 harg13 x1 x2 x3 fs4) from rfl).trans (by rw [hm, e176, e194]; rfl))))
      have e99 : run_A.sl.v99 c i arg3 harg3 arg4 harg4 arg5 harg5 arg6 harg6 arg7 harg7 arg8 harg8 arg9 harg9 arg10 harg10 arg11 harg11 arg12 harg12 arg13 harg13 hc0 x1 x2 x3 fs4 = (fin i (k0_pay106 x1) x2 x3).a :=
        (whole_cov (a := 2048) (b := 128) _ _ _).trans ((whole_write (a := 2048) (b := 128) _ _ _ _ _).trans ((shapeCast_self _ _).trans
          ((show _ = updA (k0_pay61 (F := Ideal) (BitVec.ofNat 32 (i 2).val) (run_A.sl.v91 i) (run_A.sl.v169 c i arg3 harg3 arg4 harg4 arg5 harg5 arg6 harg6 arg7 harg7 arg8 harg8 arg9 harg9 arg10 harg10 arg11 harg11 arg12 harg12 arg13 harg13 x1 x2 x3 fs4)) (run_A.sl.r_2 i arg6 harg6 hc0 x3) (run_A.sl.v176 c i arg3 harg3 arg4 harg4 arg5 harg5 arg6 harg6 arg7 harg7 arg8 harg8 arg9 harg9 arg10 harg10 arg11 harg11 arg12 harg12 arg13 harg13 x1 x2 x3 fs4) (run_A.sl.v205 c i arg3 harg3 arg4 harg4 arg5 harg5 arg6 harg6 arg7 harg7 arg8 harg8 arg9 harg9 arg10 harg10 arg11 harg11 arg12 harg12 arg13 harg13 x1 x2 x3 fs4) from rfl).trans (by rw [hm, hv, e176, e205]; rfl))))
      exact (congrArg (fun g : Vec Ideal S1x128 .f32 => outOf (run_A.sl.r_11 c arg3 harg3 x0) (run_A.sl.v99 c i arg3 harg3 arg4 harg4 arg5 harg5 arg6 harg6 arg7 harg7 arg8 harg8 arg9 harg9 arg10 harg10 arg11 harg11 arg12 harg12 arg13 harg13 hc0 x1 x2 x3 fs4) (run_A.sl.v100 c i arg3 harg3 arg4 harg4 arg5 harg5 arg6 harg6 arg7 harg7 arg8 harg8 arg9 harg9 arg10 harg10 arg11 harg11 arg12 harg12 arg13 harg13 x1 x2 x3 fs4) g) eg).trans (by rw [ex, e99, e100]; rfl)
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.Kernel2Ideal.Diff
-- ==== Proof.Diff.RunB.lean ====
/- The kernel's body at a point of the grid whose block of queries has an odd number: what it leaves in the output block. -/
module

public import proofs.«01_k».proof.Proof.Gen.Kernel2Ideal.Frame.Runs
import all proofs.«01_k».proof.Proof.Gen.Kernel2Ideal.Loops
public import proofs.«01_k».proof.Proof.Diff.Final

@[expose] public section

set_option maxRecDepth 16384

noncomputable section

namespace Cert.Kernel2Ideal.Diff

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

set_option maxHeartbeats 4000000 in
/-- The body's triple there. -/
theorem run_B (c : Dev nD) (i : grid0.Coords) (arg3 : Memref sig .tc .smem S1 .f32) (harg3 : arg3.IsWhole) (arg4 : Memref sig .tc .vmem S1x512x128 .bf16) (harg4 : arg4.IsWhole) (arg5 : Memref sig .tc .vmem S1x8192x128 .bf16) (harg5 : arg5.IsWhole) (arg6 : Memref sig .tc .vmem S1x8192x128 .bf16) (harg6 : arg6.IsWhole) (arg7 : Memref sig .tc .vmem S1x128 .f32) (harg7 : arg7.IsWhole) (arg8 : Memref sig .tc .vmem S1x512x128 .bf16) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x512 .f32) (harg12 : arg12.IsWhole) (arg13 : Memref sig .tc .vmem S2048x512 .f32) (harg13 : arg13.IsWhole) (hc0 : ¬cond0_0 i) (hc1 : cond0_1 i)
    (x0 : Vec Ideal S1 .f32) (x1 : Vec Ideal S1x512x128 .bf16) (x2 x3 : Vec Ideal S1x8192x128 .bf16) (x4 : Vec Ideal S1x128 .f32) (E : Set ℕ) (K : PUnit → sProp 𝕄) :
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (OUT i x0 x1 x2 x3 x4) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := Ideal)) Variants.none c none) E (cc0_diff_attn i arg3 harg3 arg4 harg4 arg5 harg5 arg6 harg6 arg7 harg7 arg8 harg8 arg9 harg9 arg10 harg10 arg11 harg11 arg12 harg12 arg13 harg13) K := by
    simp only [cc0_diff_attn_eq_skeleton]; unfold cc0_diff_attn_skel
    simp only [k0_part11_eq_skeleton, k0_part12_eq_skeleton, k0_part13_eq_skeleton, k0_part10_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg3.eq_unread hf0; obtain rfl := harg4.eq_unread hf1; obtain rfl := harg5.eq_unread hf2; obtain rfl := harg6.eq_unread hf3; obtain rfl := harg7.eq_unread hf4
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; swap; · iexact H5
      ipureintro
      refine (store_out arg8 f5 _ _).trans ?_
      have hq : run_B.sl.r c arg4 harg4 x1 = k0_pay106 (F := Ideal) x1 := congrArg (k0_pay106 (F := Ideal)) (load_Q arg4 harg4 x1 _)
      have H := loops_hold c i arg3 harg3 arg4 harg4 arg5 harg5 arg6 harg6 arg7 harg7 arg8 harg8 arg9 harg9 arg10 harg10 arg11 harg11 arg12 harg12 arg13 harg13 (BitVec.ofNat 32 (i 2).val) (run_B.sl.r c arg4 harg4 x1) (run_B.sl.v60 i) (run_B.sl.v77 i) x2 x3 (k0_pay106 x1) (run_B.sl.v90 i) fs4 run_B.sl.HS0_1 run_B.sl.HS1_1 run_B.sl.HS2_1
        (run_B.sl.HS3_1 c arg4 harg4 arg5 harg5 x1 x2) hq (base_holds arg5 harg5 arg9 arg10 arg11 arg12 _ x2 x3 _ _ _ _ _ _ _ _ _)
      have hlt : (i 2).val < 16 := (i 2).isLt
      have eg : View.readAt (Elt Ideal) arg7.view (Rect.unit ![0, 0] ![1, 128] inb_S1x128_S1x128_0_0).toLoadRect (harg7.unread x4) = x4 :=
        (whole_read (a := 1) (b := 128) _ _ _).trans (harg7.read_unread x4)
      have ex : run_B.sl.r_6 c arg3 harg3 x0 = x0 (ix1 (0 : Fin 1)) :=
        (congrFun (harg3.read_unread x0) _).trans (congrArg x0 (funext fun a => by fin_cases a; exact Subsingleton.elim (α := Fin 1) _ _))
      have hi : (i 2).val % 2 = 1 := (cond2 i).1 hc1
      have hn : 2 * ((i 2).val / 2) + 1 = (i 2).val := by omega
      have hb : Scalar.addi (run_B.sl.v91 i) 1#32 = BitVec.ofNat 32 (i 2).val :=
        (by decide +kernel : ∀ i : grid0.Coords, (i 2).val % 2 = 1 → Scalar.addi (run_B.sl.v91 i) 1#32 = BitVec.ofNat 32 (i 2).val) i hi
      have hv : run_B.sl.v167 i arg6 harg6 hc1 x3 = blk x3 (2 * ((i 2).val / 2)) := load_blk arg6 harg6 x3 _ (off7 i) (by omega)
      have hv' : run_B.sl.r_2 i arg6 harg6 hc1 x3 = blk x3 (i 2).val := load_blk arg6 harg6 x3 _ ((off6 i).trans (by rw [hn])) hlt
      have hk : run_B.sl.v158 i arg5 harg5 hc1 x2 = blk x2 (i 2).val := load_blk arg5 harg5 x2 _ ((off6 i).trans (by rw [hn])) hlt
      have e168 : run_B.sl.v168 c i arg3 harg3 arg4 harg4 arg5 harg5 arg6 harg6 arg7 harg7 arg8 harg8 arg9 harg9 arg10 harg10 arg11 harg11 arg12 harg12 arg13 harg13 x1 x2 x3 fs4 = scs (k0_pay106 x1) x2 (2 * ((i 2).val / 2)) := (whole_cov (a := 2048) (b := 512) _ _ _).trans H.s
      have e173 : run_B.sl.v173 c i arg3 harg3 arg4 harg4 arg5 harg5 arg6 harg6 arg7 harg7 arg8 harg8 arg9 harg9 arg10 harg10 arg11 harg11 arg12 harg12 arg13 harg13 x1 x2 x3 fs4 = (St.after (scs (k0_pay106 x1) x2) (blk x3) (2 * ((i 2).val / 2))).m := (whole_cov (a := 2048) (b := 128) _ _ _).trans (congrArg St.m H.st)
      have e191 : run_B.sl.v191 c i arg3 harg3 arg4 harg4 arg5 harg5 arg6 harg6 arg7 harg7 arg8 harg8 arg9 harg9 arg10 harg10 arg11 harg11 arg12 harg12 arg13 harg13 x1 x2 x3 fs4 = (St.after (scs (k0_pay106 x1) x2) (blk x3) (2 * ((i 2).val / 2))).l := (whole_cov (a := 2048) (b := 128) _ _ _).trans (congrArg St.l H.st)
      have e202 : run_B.sl.v202 c i arg3 harg3 arg4 harg4 arg5 harg5 arg6 harg6 arg7 harg7 arg8 harg8 arg9 harg9 arg10 harg10 arg11 harg11 arg12 harg12 arg13 harg13 x1 x2 x3 fs4 = (St.after (scs (k0_pay106 x1) x2) (blk x3) (2 * ((i 2).val / 2))).a := (whole_cov (a := 2048) (b := 128) _ _ _).trans (congrArg St.a H.st)
      have e229 : run_B.sl.v229 c i arg3 harg3 arg4 harg4 arg5 harg5 arg6 harg6 arg7 harg7 arg8 harg8 arg9 harg9 arg10 harg10 arg11 harg11 arg12 harg12 arg13 harg13 hc1 x1 x2 x3 fs4 = scs (k0_pay106 x1) x2 (i 2).val :=
        (whole_cov (a := 2048) (b := 512) _ _ _).trans ((whole_write (a := 2048) (b := 512) _ _ _ _ _).trans ((shapeCast_self _ _).trans (congrArg₂ sc hq hk)))
      have e236 : run_B.sl.v236 c i arg3 harg3 arg4 harg4 arg5 harg5 arg6 harg6 arg7 harg7 arg8 harg8 arg9 harg9 arg10 harg10 arg11 harg11 arg12 harg12 arg13 harg13 x1 x2 x3 fs4 = (St.after (scs (k0_pay106 x1) x2) (blk x3) (2 * ((i 2).val / 2) + 1)).m :=
        (whole_cov (a := 2048) (b := 128) _ _ _).trans ((whole_write (a := 2048) (b := 128) _ _ _ _ _).trans ((shapeCast_self _ _).trans
          ((show _ = updM (run_B.sl.v168 c i arg3 harg3 arg4 harg4 arg5 harg5 arg6 harg6 arg7 harg7 arg8 harg8 arg9 harg9 arg10 harg10 arg11 harg11 arg12 harg12 arg13 harg13 x1 x2 x3 fs4) (run_B.sl.v173 c i arg3 harg3 arg4 harg4 arg5 harg5 arg6 harg6 arg7 harg7 arg8 harg8 arg9 harg9 arg10 harg10 arg11 harg11 arg12 harg12 arg13 harg13 x1 x2 x3 fs4) from rfl).trans (by rw [e168, e173]; rfl))))
      have e254 : run_B.sl.v254 c i arg3 harg3 arg4 harg4 arg5 harg5 arg6 harg6 arg7 harg7 arg8 harg8 arg9 harg9 arg10 harg10 arg11 harg11 arg12 harg12 arg13 harg13 x1 x2 x3 fs4 = (St.after (scs (k0_pay106 x1) x2) (blk x3) (2 * ((i 2).val / 2) + 1)).l :=
        (whole_cov (a := 2048) (b := 128) _ _ _).trans ((whole_write (a := 2048) (b := 128) _ _ _ _ _).trans ((shapeCast_self _ _).trans
          ((show _ = updL (run_B.sl.v168 c i arg3 harg3 arg4 harg4 arg5 harg5 arg6 harg6 arg7 harg7 arg8 harg8 arg9 harg9 arg10 harg10 arg11 harg11 arg12 harg12 arg13 harg13 x1 x2 x3 fs4) (run_B.sl.v173 c i arg3 harg3 arg4 harg4 arg5 harg5 arg6 harg6 arg7 harg7 arg8 harg8 arg9 harg9 arg10 harg10 arg11 harg11 arg12 harg12 arg13 harg13 x1 x2 x3 fs4) (run_B.sl.v191 c i arg3 harg3 arg4 harg4 arg5 harg5 arg6 harg6 arg7 harg7 arg8 harg8 arg9 harg9 arg10 harg10 arg11 harg11 arg12 harg12 arg13 harg13 x1 x2 x3 fs4) from rfl).trans (by rw [e168, e173, e191]; rfl))))
      have e265 : run_B.sl.v265 c i arg3 harg3 arg4 harg4 arg5 harg5 arg6 harg6 arg7 harg7 arg8 harg8 arg9 harg9 arg10 harg10 arg11 harg11 arg12 harg12 arg13 harg13 hc1 x1 x2 x3 fs4 = (St.after (scs (k0_pay106 x1) x2) (blk x3) (2 * ((i 2).val / 2) + 1)).a :=
        (whole_cov (a := 2048) (b := 128) _ _ _).trans ((whole_write (a := 2048) (b := 128) _ _ _ _ _).trans ((shapeCast_self _ _).trans
          ((show _ = updA (run_B.sl.v168 c i arg3 harg3 arg4 harg4 arg5 harg5 arg6 harg6 arg7 harg7 arg8 harg8 arg9 harg9 arg10 harg10 arg11 harg11 arg12 harg12 arg13 harg13 x1 x2 x3 fs4) (run_B.sl.v167 i arg6 harg6 hc1 x3) (run_B.sl.v173 c i arg3 harg3 arg4 harg4 arg5 harg5 arg6 harg6 arg7 harg7 arg8 harg8 arg9 harg9 arg10 harg10 arg11 harg11 arg12 harg12 arg13 harg13 x1 x2 x3 fs4) (run_B.sl.v202 c i arg3 harg3 arg4 harg4 arg5 harg5 arg6 harg6 arg7 harg7 arg8 harg8 arg9 harg9 arg10 harg10 arg11 harg11 arg12 harg12 arg13 harg13 x1 x2 x3 fs4) from rfl).trans (by rw [e168, hv, e173, e202]; rfl))))
      rw [hn] at e236 e254 e265
      have hm : run_B.sl.r_3 c i arg3 harg3 arg4 harg4 arg5 harg5 arg6 harg6 arg7 harg7 arg8 harg8 arg9 harg9 arg10 harg10 arg11 harg11 arg12 harg12 arg13 harg13 hc1 x1 x2 x3 fs4 = msk i (scs (k0_pay106 x1) x2 (i 2).val) :=
        (show _ = k0_pay61 (F := Ideal) (BitVec.ofNat 32 (i 2).val) (Scalar.addi (run_B.sl.v91 i) 1#32) (run_B.sl.v229 c i arg3 harg3 arg4 harg4 arg5 harg5 arg6 harg6 arg7 harg7 arg8 harg8 arg9 harg9 arg10 harg10 arg11 harg11 arg12 harg12 arg13 harg13 hc1 x1 x2 x3 fs4) from rfl).trans (by rw [hb, e229]; rfl)
      have e100 : run_B.sl.v100 c i arg3 harg3 arg4 harg4 arg5 harg5 arg6 harg6 arg7 harg7 arg8 harg8 arg9 harg9 arg10 harg10 arg11 harg11 arg12 harg12 arg13 harg13 hc1 x1 x2 x3 fs4 = (fin i (k0_pay106 x1) x2 x3).l :=
        (whole_cov (a := 2048) (b := 128) _ _ _).trans ((whole_write (a := 2048) (b := 128) _ _ _ _ _).trans ((shapeCast_self _ _).trans
          ((show _ = updL (run_B.sl.r_3 c i arg3 harg3 arg4 harg4 arg5 harg5 arg6 harg6 arg7 harg7 arg8 harg8 arg9 harg9 arg10 harg10 arg11 harg11 arg12 harg12 arg13 harg13 hc1 x1 x2 x3 fs4) (run_B.sl.v236 c i arg3 harg3 arg4 harg4 arg5 harg5 arg6 harg6 arg7 harg7 arg8 harg8 arg9 harg9 arg10 harg10 arg11 harg11 arg12 harg12 arg13 harg13 x1 x2 x3 fs4) (run_B.sl.v254 c i arg3 harg3 arg4 harg4 arg5 harg5 arg6 harg6 arg7 harg7 arg8 harg8 arg9 harg9 arg10 harg10 arg11 harg11 arg12 harg12 arg13 harg13 x1 x2 x3 fs4) from rfl).trans (by rw [hm, e236, e254]; rfl))))
      have e99 : run_B.sl.v99 c i arg3 harg3 arg4 harg4 arg5 harg5 arg6 harg6 arg7 harg7 arg8 harg8 arg9 harg9 arg10 harg10 arg11 harg11 arg12 harg12 arg13 harg13 hc1 x1 x2 x3 fs4 = (fin i (k0_pay106 x1) x2 x3).a :=
        (whole_cov (a := 2048) (b := 128) _ _ _).trans ((whole_write (a := 2048) (b := 128) _ _ _ _ _).trans ((shapeCast_self _ _).trans
          ((show _ = updA (run_B.sl.r_3 c i arg3 harg3 arg4 harg4 arg5 harg5 arg6 harg6 arg7 harg7 arg8 harg8 arg9 harg9 arg10 harg10 arg11 harg11 arg12 harg12 arg13 harg13 hc1 x1 x2 x3 fs4) (run_B.sl.r_2 i arg6 harg6 hc1 x3) (run_B.sl.v236 c i arg3 harg3 arg4 harg4 arg5 harg5 arg6 harg6 arg7 harg7 arg8 harg8 arg9 harg9 arg10 harg10 arg11 harg11 arg12 harg12 arg13 harg13 x1 x2 x3 fs4) (run_B.sl.v265 c i arg3 harg3 arg4 harg4 arg5 harg5 arg6 harg6 arg7 harg7 arg8 harg8 arg9 harg9 arg10 harg10 arg11 harg11 arg12 harg12 arg13 harg13 hc1 x1 x2 x3 fs4) from rfl).trans (by rw [hm, hv', e236, e265]; rfl))))
      exact (congrArg (fun g : Vec Ideal S1x128 .f32 => outOf (run_B.sl.r_6 c arg3 harg3 x0) (run_B.sl.v99 c i arg3 harg3 arg4 harg4 arg5 harg5 arg6 harg6 arg7 harg7 arg8 harg8 arg9 harg9 arg10 harg10 arg11 harg11 arg12 harg12 arg13 harg13 hc1 x1 x2 x3 fs4) (run_B.sl.v100 c i arg3 harg3 arg4 harg4 arg5 harg5 arg6 harg6 arg7 harg7 arg8 harg8 arg9 harg9 arg10 harg10 arg11 harg11 arg12 harg12 arg13 harg13 hc1 x1 x2 x3 fs4) g) eg).trans (by rw [ex, e99, e100]; rfl)
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.Kernel2Ideal.Diff
-- ==== Proof.Diff.Frame.lean ====
/- The run of the idealized kernel: every run terminates with the arguments unchanged, the semaphores at zero and the
   output array holding, block by block, what the body computes. -/
module

public import proofs.«01_k».proof.Proof.Gen.Kernel2Ideal.Frame.Runs
public import proofs.«01_k».proof.Proof.Diff.RunA
public import proofs.«01_k».proof.Proof.Diff.RunB
public import Idealize.ShloMosaic.Lib.Claim

@[expose] public section

set_option maxRecDepth 16384

noncomputable section

namespace Cert.Kernel2Ideal.Diff

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- What each window holds after the body at a point. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => OUT (grid0.coords t) (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

theorem after0_5 (c : Dev nD) (t : Fin cfg0.N) :
    (dats m 0 c).after 5 t = OUT (grid0.coords t) (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body takes at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it gives back. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 1600000 in
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  have hN : t.val < 64 := lt_of_lt_of_eq t.isLt (show cfg0.N = 64 from N_0)
  by_cases h0 : t.val % 2 = 0
  · by_cases h1 : t.val % 2 = 1
    · exfalso; omega
    · iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩⟩
      iapply (run_A c (grid0.coords t) _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      isplitl [HS3]; · iexact HS3
      isplitl [HS4]; · iexact HS4
      iintro ⟨H0, H1, H2, H3, H4, H5, HS0, HS1, HS2, HS3, HS4⟩
      isplitl [HS0 HS1 HS2 HS3 HS4 Hg]
      · isplitl [HS0 HS1 HS2 HS3 HS4]
        · isplitl [HS0]
          · iexact HS0
          isplitl [HS1]
          · iexact HS1
          isplitl [HS2]
          · iexact HS2
          isplitl [HS3]
          · iexact HS3
          iexact HS4
        iexact Hg
      isplitl [Ho]; · iexact Ho
      isplitl [H0]; · iexact H0
      isplitl [H1]; · iexact H1
      isplitl [H2]; · iexact H2
      isplitl [H3]; · iexact H3
      isplitl [H4]; · iexact H4
      iexact H5
  · by_cases h1 : t.val % 2 = 1
    · iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩⟩
      iapply (run_B c (grid0.coords t) _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      isplitl [HS3]; · iexact HS3
      isplitl [HS4]; · iexact HS4
      iintro ⟨H0, H1, H2, H3, H4, H5, HS0, HS1, HS2, HS3, HS4⟩
      isplitl [HS0 HS1 HS2 HS3 HS4 Hg]
      · isplitl [HS0 HS1 HS2 HS3 HS4]
        · isplitl [HS0]
          · iexact HS0
          isplitl [HS1]
          · iexact HS1
          isplitl [HS2]
          · iexact HS2
          isplitl [HS3]
          · iexact HS3
          iexact HS4
        iexact Hg
      isplitl [Ho]; · iexact Ho
      isplitl [H0]; · iexact H0
      isplitl [H1]; · iexact H1
      isplitl [H2]; · iexact H2
      isplitl [H3]; · iexact H3
      isplitl [H4]; · iexact H4
      iexact H5
    · exfalso; omega

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one
set_option backward.isDefEq.respectTransparency.types false in
theorem run_main_quiescent : θ_run defs (onTc (τ := τ) (main (F := Ideal))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := Ideal))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

/-- The output array ends at the blocks written. -/
theorem run_out : θ_run defs (onTc (τ := τ) (main (F := Ideal))) ⟨m, fun _ => 0, ρ⟩ (fun r => ∀ c : Dev nD,
      r.2.mem ((c.tc : Thread nD τ).loc main_v0) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h.1 c).1 5, h.2 c⟩) (θ_run_and (run_main m ρ) (unchanged m ρ))

end Cert.Kernel2Ideal.Diff
-- ==== Proof.Diff.Spec.lean ====
/- Differential attention over whole arrays: four heads of two maps of 32 elements each and of 64 value elements; the second
   map, times a number, is taken off the first, and each head's values are normalized and multiplied by a gain. -/
module

public import proofs.«01_k».proof.Proof.Mla.Spec

@[expose] public section

set_option maxRecDepth 16384

noncomputable section

namespace Diff

open Idealize.ShloMosaic

/-- The arrays of queries, keys and values, of the number, and of gains. -/
abbrev SX : Shape := ⟨3, ![2, 8192, 256]⟩
abbrev SN : Shape := ⟨1, ![1]⟩
abbrev SG : Shape := ⟨2, ![1, 256]⟩

/-- Element `e` of map `g`; the maps of a value element's head; the elements of its head. -/
def elt (g : Fin 8) (e : Fin 32) : Fin 256 := ⟨32 * g.val + e.val, by omega⟩
def map (d : Fin 256) (p : Fin 2) : Fin 8 := ⟨2 * (d.val / 64) + p.val, by omega⟩
def mate (d : Fin 256) (e : Fin 64) : Fin 256 := ⟨64 * (d.val / 64) + e.val, by omega⟩

/-- The shares of a row of scores. -/
def share (G : Fin 8192 → EReal) (c : Fin 8192) : EReal :=
  Ideal.div (Ideal.exp (G c - Finset.univ.sup G)) (∑ c, Ideal.exp (G c - Finset.univ.sup G))

theorem soft_eq (G W : Fin 8192 → EReal) : Mla.soft G W = ∑ c, share G c * W c := rfl

/-- The weighted sum of a column over the sum of the weights. -/
def quo (G W : Fin 8192 → EReal) : EReal :=
  Ideal.div (∑ c, Ideal.exp (G c - Finset.univ.sup G) * W c) (∑ c, Ideal.exp (G c - Finset.univ.sup G))

/-- A normalized value: what it is divided by, the sum of the head's squares. -/
def scale (s : EReal) : EReal := Ideal.rsqrt (Ideal.div s (Ideal.ofBits .f32 0x42800000#32) + Ideal.ofBits .f32 0x358637BD#32)

variable (Q K V : SX.Idx → EReal) (lam : SN.Idx → EReal) (gain : SG.Idx → EReal)

/-- The scores of a query's row in a map, those of later keys −∞. -/
def row (b : Fin 2) (g : Fin 8) (r : Fin 8192) : Fin 8192 → EReal :=
  fun c => if c.val ≤ r.val then ∑ e : Fin 32, Q (ix3 b r (elt g e)) * K (ix3 b c (elt g e)) else ⊥

/-- The difference of the two maps: of their quotients, and of their shares before the sum. -/
def dif (b : Fin 2) (r : Fin 8192) (d : Fin 256) : EReal :=
  quo (row Q K b (map d 0) r) (fun c => V (ix3 b c d))
    - lam (ix1 (0 : Fin 1)) * quo (row Q K b (map d 1) r) (fun c => V (ix3 b c d))

def mixed (b : Fin 2) (r : Fin 8192) (d : Fin 256) : EReal :=
  ∑ c, (share (row Q K b (map d 0) r) c - lam (ix1 (0 : Fin 1)) * share (row Q K b (map d 1) r) c) * V (ix3 b c d)

/-- Each head of an array normalized, times the gains. -/
def norm (D : Fin 2 → Fin 8192 → Fin 256 → EReal) : SX.Idx → EReal := fun j =>
  D (j 0) (j 1) (j 2) * scale (∑ e : Fin 64, D (j 0) (j 1) (mate (j 2) e) * D (j 0) (j 1) (mate (j 2) e)) * gain (ix2 (0 : Fin 1) (j 2))

/-- A real number, and an array of them. -/
abbrev Real (x : EReal) : Prop := x ≠ ⊥ ∧ x ≠ ⊤
abbrev Finite (X : SX.Idx → EReal) : Prop := ∀ j, Real (X j)

/-- The exponentials of a row with a real largest score: finite, and of a positive finite sum. -/
theorem exp_real {G : Fin 8192 → EReal} (h : Real (Finset.univ.sup G)) :
    (∀ c, Real (Ideal.exp (G c - Finset.univ.sup G))) ∧ Real (∑ c, Ideal.exp (G c - Finset.univ.sup G))
      ∧ 0 < ∑ c, Ideal.exp (G c - Finset.univ.sup G) := by
  have he (c : Fin 8192) : Real (Ideal.exp (G c - Finset.univ.sup G)) :=
    ⟨(lt_of_lt_of_le EReal.bot_lt_zero (Mla.exp_nonneg _)).ne',
      Mla.exp_ne_top (Mla.sub_ne_top (Finset.le_sup (f := G) (Finset.mem_univ c)))⟩
  have hM : Mla.maxAt (fun j k => G (Mla.col j k)) 16 = Finset.univ.sup G :=
    Mla.sup_blocks (le_refl 16) (fun _ _ _ => rfl) fun c hc => absurd c.isLt (by omega)
  have hp := (Mla.sum_exp_bounds (fun j k => G (Mla.col j k)) (n := 16) (hM ▸ h.1) (hM ▸ h.2)).1
  rw [hM, Mla.sum_blocks fun c => Ideal.exp (G c - Finset.univ.sup G)] at hp
  exact ⟨he, Mla.sum_finite Finset.univ (fun c => Ideal.exp (G c - Finset.univ.sup G)) fun c _ => he c, hp⟩

/-- The shares of a row with a real largest score are real. -/
theorem share_real {G : Fin 8192 → EReal} (h : Real (Finset.univ.sup G)) (c : Fin 8192) : Real (share G c) := by
  obtain ⟨he, hS, hp⟩ := exp_real h
  unfold share
  generalize (∑ c, Ideal.exp (G c - Finset.univ.sup G)) = S at hS hp
  lift S to ℝ using ⟨hS.2, hS.1⟩
  rw [Ideal.div_coe (fun e => hp.ne' (by rw [e]; rfl))]
  exact Mla.mul_finite (he c) ⟨EReal.coe_ne_bot _, EReal.coe_ne_top _⟩

/-- There the quotient is the softmax. -/
theorem quo_eq {G : Fin 8192 → EReal} (h : Real (Finset.univ.sup G)) (W : Fin 8192 → EReal) : quo G W = Mla.soft G W := by
  obtain ⟨he, hS, hp⟩ := exp_real h
  unfold quo Mla.soft
  generalize (∑ c, Ideal.exp (G c - Finset.univ.sup G)) = S at hS hp
  lift S to ℝ using ⟨hS.2, hS.1⟩
  have hS0 : S ≠ 0 := fun e => hp.ne' (by rw [e]; rfl)
  have hi : (0 : EReal) ≤ ((1 / S : ℝ) : EReal) := by
    have : (0 : ℝ) < S := by exact_mod_cast hp
    exact_mod_cast (one_div_pos.2 this).le
  rw [Ideal.div_coe hS0, Mla.sum_mul _ _ hi (EReal.coe_ne_top _)]
  exact Finset.sum_congr rfl fun c _ => by rw [Ideal.div_coe hS0, mul_right_comm]

/-- A row whose largest score is infinite: its exponentials are zero, its shares and its quotients −∞. -/
theorem exp_zero {G : Fin 8192 → EReal} (h : ¬Real (Finset.univ.sup G)) (c : Fin 8192) : Ideal.exp (G c - Finset.univ.sup G) = 0 := by
  have hc : G c ≤ Finset.univ.sup G := Finset.le_sup (Finset.mem_univ c)
  generalize Finset.univ.sup G = M at h hc
  induction M with
  | bot => rw [le_bot_iff.1 hc, sub_eq_add_neg, EReal.bot_add, Ideal.exp_bot]
  | top => rw [sub_eq_add_neg, EReal.neg_top, EReal.add_bot, Ideal.exp_bot]
  | coe r => exact absurd ⟨EReal.coe_ne_bot r, EReal.coe_ne_top r⟩ h

theorem share_bot {G : Fin 8192 → EReal} (h : ¬Real (Finset.univ.sup G)) (c : Fin 8192) : share G c = ⊥ := by
  simp [share, exp_zero h, Ideal.div]

theorem quo_bot {G : Fin 8192 → EReal} (h : ¬Real (Finset.univ.sup G)) (W : Fin 8192 → EReal) : quo G W = ⊥ := by
  simp [quo, exp_zero h, Ideal.div]

/-- Taking one map's shares off another's is taking one softmax off the other. -/
theorem soft_sub {G H W : Fin 8192 → EReal} {x : EReal} (hG : Real (Finset.univ.sup G)) (hH : Real (Finset.univ.sup H)) (hW : ∀ c, Real (W c))
    (hx : Real x) : ∑ c, (share G c - x * share H c) * W c = Mla.soft G W - x * Mla.soft H W := by
  rw [soft_eq, soft_eq]
  have hg (c) := share_real hG c
  have hh (c) := share_real hH c
  lift x to ℝ using ⟨hx.2, hx.1⟩
  generalize share G = g at hg
  generalize share H = h at hh
  lift g to Fin 8192 → ℝ using fun c => ⟨(hg c).2, (hg c).1⟩
  lift h to Fin 8192 → ℝ using fun c => ⟨(hh c).2, (hh c).1⟩
  lift W to Fin 8192 → ℝ using fun c => ⟨(hW c).2, (hW c).1⟩
  have e (f : Fin 8192 → ℝ) : ∑ c, ((f c : ℝ) : EReal) = ((∑ c, f c : ℝ) : EReal) :=
    (map_sum (⟨⟨((↑) : ℝ → EReal), rfl⟩, EReal.coe_add⟩ : ℝ →+ EReal) f Finset.univ).symm
  simp only [← EReal.coe_mul, ← EReal.coe_sub, e]
  rw [Finset.mul_sum, ← Finset.sum_sub_distrib]
  exact congrArg _ (Finset.sum_congr rfl fun c _ => by ring)

/-- A sum over the elements of one block is the block's sum. -/
theorem sum_block {a b : ℕ} (f : Fin (a * b) → EReal) (g : Fin a) :
    ∑ x : Fin (a * b), (if x.val / b = g.val then f x else 0) = ∑ e : Fin b, f (finProdFinEquiv (g, e)) := by
  rw [← finProdFinEquiv.sum_comp, Fintype.sum_prod_type, Finset.sum_eq_single g]
  · refine Finset.sum_congr rfl fun e _ => if_pos ?_
    show (e.val + b * g.val) / b = g.val
    rw [Nat.add_mul_div_left _ _ (Nat.pos_of_ne_zero fun h => by subst h; exact e.elim0), Nat.div_eq_of_lt e.isLt, Nat.zero_add]
  · refine fun g' _ hg => Finset.sum_eq_zero fun e _ => if_neg fun h => hg (Fin.ext ?_)
    have h' : (e.val + b * g'.val) / b = g.val := h
    rwa [Nat.add_mul_div_left _ _ (Nat.pos_of_ne_zero fun h => by subst h; exact e.elim0), Nat.div_eq_of_lt e.isLt, Nat.zero_add] at h'
  · exact fun h => absurd (Finset.mem_univ _) h

theorem ofBits_64 : Ideal.ofBits .f32 0x42800000#32 = ((64 : ℝ) : EReal) := by
  simp [Ideal.ofBits, Ideal.ieee]
  rw [← EReal.coe_mul]
  exact congrArg _ (by norm_num)

/-- Multiplying by a sixty-fourth is dividing by sixty-four. -/
theorem mul_64th (x : EReal) : x * Ideal.ofBits .f32 0x3C800000#32 = Ideal.div x (Ideal.ofBits .f32 0x42800000#32) := by
  have e : Ideal.ofBits .f32 0x3C800000#32 = ((1 / 64 : ℝ) : EReal) := by
    simp [Ideal.ofBits, Ideal.ieee]
    rw [← EReal.coe_mul]
    exact congrArg _ (by norm_num)
  rw [ofBits_64, e, Ideal.div_coe (by norm_num)]

/-- An infinite number, and one that is infinite or zero. -/
abbrev Inf (x : EReal) : Prop := x = ⊥ ∨ x = ⊤
abbrev ZInf (x : EReal) : Prop := x = 0 ∨ Inf x

theorem inf_sub {x y : EReal} (hx : Real x) (hy : Inf y) : Inf (x - y) := by
  lift x to ℝ using ⟨hx.2, hx.1⟩
  rcases hy with rfl | rfl
  · exact .inr rfl
  · exact .inl rfl

theorem inf_mul {x y : EReal} (hx : Inf x) (hy : Real y) : ZInf (x * y) := by
  lift y to ℝ using ⟨hy.2, hy.1⟩
  rcases lt_trichotomy y 0 with h | rfl | h
  · rcases hx with rfl | rfl
    · exact .inr (.inr (EReal.bot_mul_coe_of_neg h))
    · exact .inr (.inl (EReal.top_mul_coe_of_neg h))
  · exact .inl (mul_zero x)
  · rcases hx with rfl | rfl
    · exact .inr (.inl (EReal.bot_mul_coe_of_pos h))
    · exact .inr (.inr (EReal.top_mul_coe_of_pos h))

theorem zinf_sum {ι : Type} (s : Finset ι) (f : ι → EReal) (h : ∀ i, ZInf (f i)) : ZInf (∑ i ∈ s, f i) := by
  classical
  induction s using Finset.induction_on with
  | empty => exact .inl rfl
  | insert a s ha ih =>
    rw [Finset.sum_insert ha]
    rcases h a with e | e | e <;> rcases ih with e' | e' | e' <;> rw [e, e'] <;> simp [ZInf, Inf]

/-- A head of zeros and infinities is normalized to zeros: if one is infinite the sum of squares is, and its inverse root is
    zero. -/
theorem zinf_scale {D : Fin 64 → EReal} (h : ∀ e, ZInf (D e)) (e : Fin 64) : D e * scale (∑ e, D e * D e) = 0 := by
  by_cases hz : D e = 0
  · rw [hz, zero_mul]
  have hi : D e * D e = ⊤ := by
    rcases h e with h | h | h
    · exact absurd h hz
    · rw [h]; rfl
    · rw [h]; rfl
  have hs : ∑ e, D e * D e = ⊤ := top_le_iff.1 (hi ▸ Finset.single_le_sum (f := fun e => D e * D e)
    (fun e _ => by rcases h e with h | h | h <;> rw [h] <;> simp) (Finset.mem_univ e))
  have h64 : Ideal.div ⊤ (Ideal.ofBits .f32 0x42800000#32) = ⊤ := by
    rw [ofBits_64, Ideal.div_coe (by norm_num)]
    exact EReal.top_mul_coe_of_pos (by norm_num)
  have heps : Ideal.ofBits .f32 0x358637BD#32 ≠ ⊥ := by
    simp [Ideal.ofBits, Ideal.ieee]
    rw [← EReal.coe_mul]
    exact EReal.coe_ne_bot _
  rw [hs, scale, h64, EReal.top_add_of_ne_bot heps]
  exact mul_zero _

/-- For real values and a real number the two differences are normalized to the same. -/
theorem head_eq {G H : Fin 8192 → EReal} {W : Fin 64 → Fin 8192 → EReal} {x : EReal} (hW : ∀ e c, Real (W e c)) (hx : Real x) (e : Fin 64) :
    (∑ c, (share G c - x * share H c) * W e c) * scale (∑ e, (∑ c, (share G c - x * share H c) * W e c) * ∑ c, (share G c - x * share H c) * W e c)
      = (quo G (W e) - x * quo H (W e)) * scale (∑ e, (quo G (W e) - x * quo H (W e)) * (quo G (W e) - x * quo H (W e))) := by
  have both (hs : ∀ c, Inf (share G c - x * share H c)) (hq : ∀ e, Inf (quo G (W e) - x * quo H (W e))) :
      (∑ c, (share G c - x * share H c) * W e c) * scale (∑ e, (∑ c, (share G c - x * share H c) * W e c) * ∑ c, (share G c - x * share H c) * W e c)
        = (quo G (W e) - x * quo H (W e)) * scale (∑ e, (quo G (W e) - x * quo H (W e)) * (quo G (W e) - x * quo H (W e))) :=
    (zinf_scale (fun e => zinf_sum _ _ fun c => inf_mul (hs c) (hW e c)) e).trans (zinf_scale (fun e => .inr (hq e)) e).symm
  by_cases hG : Real (Finset.univ.sup G)
  · by_cases hH : Real (Finset.univ.sup H)
    · have hd (e : Fin 64) : ∑ c, (share G c - x * share H c) * W e c = quo G (W e) - x * quo H (W e) := by
        rw [quo_eq hG, quo_eq hH, soft_sub hG hH (hW e) hx]
      simp only [hd]
    · by_cases h0 : x = 0
      · have hd (e : Fin 64) : ∑ c, (share G c - x * share H c) * W e c = quo G (W e) - x * quo H (W e) := by
          rw [quo_eq hG, soft_eq, h0]
          simp only [zero_mul, sub_zero]
        simp only [hd]
      · have hb : Inf (x * ⊥) := by
          rcases inf_mul (.inl rfl : Inf ⊥) hx with h | h
          · exact absurd h (by simp [h0])
          · rwa [mul_comm]
        refine both (fun c => ?_) fun e => ?_
        · rw [share_bot hH]; exact inf_sub (share_real hG c) hb
        · rw [quo_bot hH, quo_eq hG]
          exact inf_sub (Mla.sum_finite Finset.univ _ fun c _ => Mla.mul_finite (share_real hG c) (hW e c)) hb
  · refine both (fun c => ?_) fun e => ?_
    · rw [share_bot hG, sub_eq_add_neg, EReal.bot_add]; exact .inl rfl
    · rw [quo_bot hG, sub_eq_add_neg, EReal.bot_add]; exact .inl rfl

variable {Q K V lam gain}

/-- So are the two arrays. -/
theorem norm_mixed (hV : Finite V) (hl : Real (lam (ix1 (0 : Fin 1)))) : norm gain (mixed Q K V lam) = norm gain (dif Q K V lam) := by
  funext j
  unfold norm
  congr 1
  have em (e : Fin 64) (p : Fin 2) : map (mate (j 2) e) p = map (j 2) p := Fin.ext (by
    show 2 * ((64 * ((j 2).val / 64) + e.val) / 64) + p.val = 2 * ((j 2).val / 64) + p.val
    omega)
  have h := head_eq (G := row Q K (j 0) (map (j 2) 0) (j 1)) (H := row Q K (j 0) (map (j 2) 1) (j 1))
    (W := fun e c => V (ix3 (j 0) c (mate (j 2) e))) (fun e c => hV _) hl ⟨(j 2).val % 64, Nat.mod_lt _ (by decide)⟩
  have ed : mate (j 2) ⟨(j 2).val % 64, Nat.mod_lt _ (by decide)⟩ = j 2 := Fin.ext (Nat.div_add_mod _ _)
  simp only [ed] at h
  unfold mixed dif
  simp only [em]
  exact h

end Diff
-- ==== Proof.Diff.Index.lean ====
/- The block the kernel writes, read at a row and a lane: the quotients of the two maps of the lane's head, subtracted and
   normalized over the head's lanes. -/
module

public import proofs.«01_k».proof.Proof.Diff.Final
public import proofs.«01_k».proof.Proof.Diff.Spec
public import Idealize.ShloMosaic.Lib.WordCmp

@[expose] public section

set_option maxRecDepth 16384

noncomputable section

namespace Cert.Kernel2Ideal.Diff

open Cert.Kernel2Ideal Cert.Kernel2Ideal.Gen
open Idealize.ShloMosaic Idealize.ShloMosaic.TcCoe

/-- Row `r` of map `g` in the stack, and lane `e` of map `g`. -/
def stk (g : Fin 4) (r : Fin 512) : Fin 2048 := ⟨512 * g.val + r.val, by omega⟩
def lane (g : Fin 4) (e : Fin 32) : Fin 128 := ⟨32 * g.val + e.val, by omega⟩

/-- A choice by a comparison of small words. -/
theorem select_sle {α : Type} {a b : ℕ} (ha : a < 2 ^ 31) (hb : b < 2 ^ 31) (x y : α) :
    Scalar.select (IntOp.cmpi .sle (BitVec.ofNat 32 a) (BitVec.ofNat 32 b)) x y = if a ≤ b then x else y := by
  rw [WordCmp.cmpi_sle_ofNat (w := 32) ha hb, WordCmp.select_decide]

theorem select_slt {α : Type} {a b : ℕ} (ha : a < 2 ^ 31) (hb : b < 2 ^ 31) (x y : α) :
    Scalar.select (IntOp.cmpi .slt (BitVec.ofNat 32 a) (BitVec.ofNat 32 b)) x y = if a < b then x else y := by
  rw [WordCmp.cmpi_slt_ofNat (w := 32) ha hb, WordCmp.select_decide]

theorem cmp_map : ∀ (e : Fin 128) (g : Fin 4), IntOp.cmpi .eq (IntOp.shrsi .vector (BitVec.ofNat 32 e.val) 5#32) (BitVec.ofNat 32 g.val)
    = BitVec.ofBool (decide (e.val / 32 = g.val)) := by decide +kernel

theorem select_map {α : Type} (e : Fin 128) (g : Fin 4) (x y : α) :
    Scalar.select (IntOp.cmpi .eq (IntOp.shrsi .vector (BitVec.ofNat 32 e.val) 5#32) (BitVec.ofNat 32 g.val)) x y = if e.val / 32 = g.val then x else y := by
  rw [cmp_map, WordCmp.select_decide]

theorem pay106_apply (x : Vec Ideal S1x512x128 .bf16) (g : Fin 4) (r : Fin 512) (e : Fin 128) :
    k0_pay106 x (ix2 (stk g r) e) = if e.val / 32 = g.val then (x (ix3 (0 : Fin 1) r e) : EReal) else 0 := by
  rw [← select_map]
  have hr := r.isLt
  pointwise [k0_pay106]
  have hs (r' : Fin 512) (h : r'.val = r.val) (c : BitVec 32) : Scalar.select (IntOp.cmpi .eq (IntOp.shrsi .vector (BitVec.ofNat 32 e.val) 5#32) c)
      (x (ix3 (0 : Fin 1) r' e) : EReal) 0 = Scalar.select (IntOp.cmpi .eq (IntOp.shrsi .vector (BitVec.ofNat 32 e.val) 5#32) c) (x (ix3 (0 : Fin 1) r e)) 0 := by
    rw [Fin.ext h]
  fin_cases g
  · refine (dif_pos ?_).trans (hs _ ?_ _)
    · show 512 * 0 + r.val < 512; omega
    · show 512 * 0 + r.val = r.val; omega
  · refine (dif_neg ?_).trans ((dif_pos ?_).trans (hs _ ?_ _))
    · show ¬512 * 1 + r.val < 512; omega
    · show 512 * 1 + r.val - 512 < 512; omega
    · show 512 * 1 + r.val - 512 = r.val; omega
  · refine (dif_neg ?_).trans ((dif_neg ?_).trans ((dif_pos ?_).trans (hs _ ?_ _)))
    · show ¬512 * 2 + r.val < 512; omega
    · show ¬512 * 2 + r.val - 512 < 512; omega
    · show 512 * 2 + r.val - 512 - 512 < 512; omega
    · show 512 * 2 + r.val - 512 - 512 = r.val; omega
  · refine (dif_neg ?_).trans ((dif_neg ?_).trans ((dif_neg ?_).trans (hs _ ?_ _)))
    · show ¬512 * 3 + r.val < 512; omega
    · show ¬512 * 3 + r.val - 512 < 512; omega
    · show ¬512 * 3 + r.val - 512 - 512 < 512; omega
    · show 512 * 3 + r.val - 512 - 512 - 512 = r.val; omega

theorem sc_apply (q : FVec Ideal S2048x128 .bf16) (k : FVec Ideal S512x128 .bf16) (ρ : Fin 2048) (s : Fin 512) :
    sc q k (ix2 ρ s) = ∑ e : Fin 128, (q (ix2 ρ e) : EReal) * k (ix2 s e) := by
  pointwise [sc]

/-- The scores of a row of a map: the other maps' lanes are zero. -/
theorem sc_map (x : Vec Ideal S1x512x128 .bf16) (k : FVec Ideal S512x128 .bf16) (g : Fin 4) (r s : Fin 512) :
    sc (k0_pay106 x) k (ix2 (stk g r) s) = ∑ e : Fin 32, (x (ix3 (0 : Fin 1) r (lane g e)) : EReal) * k (ix2 s (lane g e)) := by
  rw [sc_apply]
  refine (Finset.sum_congr rfl fun e _ => ?_).trans ((_root_.Diff.sum_block (a := 4) (b := 32)
    (fun e : Fin 128 => (x (ix3 (0 : Fin 1) r e) : EReal) * k (ix2 s e)) g).trans (Finset.sum_congr rfl fun e _ => ?_))
  · rw [pay106_apply]
    split_ifs
    · rfl
    · exact zero_mul _
  · have h : (finProdFinEquiv (g, e) : Fin (4 * 32)) = lane g e := Fin.ext (Nat.add_comm _ _)
    rw [← h]

theorem msk_apply (i : grid0.Coords) (s : FVec Ideal S2048x512 .f32) (g : Fin 4) (r k : Fin 512) :
    msk i s (ix2 (stk g r) k) = if k.val ≤ r.val then s (ix2 (stk g r) k) else (⊥ : EReal) := by
  have hi : (i 2).val < 16 := (i 2).isLt
  have hr := r.isLt
  have hk := k.isLt
  have hg := g.isLt
  have e1 (k : ℕ) : IntOp.addi (BitVec.ofNat 32 k) (Scalar.muli (BitVec.ofNat 32 (i 2).val) 512#32) = BitVec.ofNat 32 (k + (i 2).val * 512) := by
    show BitVec.ofNat 32 k + BitVec.ofNat 32 (i 2).val * BitVec.ofNat 32 512 = _
    rw [← BitVec.ofNat_mul, ← BitVec.ofNat_add]
  have e2 : IntOp.andi (BitVec.ofNat 32 (stk g r).val) 511#32 = BitVec.ofNat 32 r.val := by
    apply BitVec.eq_of_toNat_eq
    show (BitVec.ofNat 32 (512 * g.val + r.val) &&& 511#32).toNat = _
    rw [BitVec.toNat_and, BitVec.toNat_ofNat, Nat.mod_eq_of_lt (by omega : 512 * g.val + r.val < 2 ^ 32)]
    show (512 * g.val + r.val) &&& (2 ^ 9 - 1) = r.val % 2 ^ 32
    rw [Nat.and_two_pow_sub_one_eq_mod]; omega
  have eb : (Named.named κ "mask" 0xF149F2CA#32 : Ideal .f32) = (⊥ : EReal) := IdealRules.named_const.ideal_named_scalar κ "mask" _ _ rfl
  pointwise [msk, k0_pay61]
  rw [e1, e2, e1, select_sle (by omega) (by omega), eb]
  exact if_congr (by omega) rfl rfl

/-- A weighted sum over its row's sum. -/
abbrev quo (a l : FVec Ideal S2048x128 .f32) (ρ : Fin 2048) (ln : Fin 128) : EReal :=
  Ideal.div (a (ix2 ρ ln)) (∑ l' : Fin 128, (l (ix2 ρ l') : EReal))

theorem pay118_apply (lam : EReal) (a l : FVec Ideal S2048x128 .f32) (r : Fin 512) (ln : Fin 128) :
    k0_pay118 (F := Ideal) lam a l (ix2 r ln) = quo a l (stk 0 r) ln - lam * quo a l (stk 1 r) ln := by
  have e0 : stk 0 r = ⟨r.val, by omega⟩ := Fin.ext (by show 512 * 0 + r.val = r.val; omega)
  have e1 : stk 1 r = ⟨512 + r.val, by omega⟩ := Fin.ext (by show 512 * 1 + r.val = 512 + r.val; omega)
  rw [e0, e1]
  pointwise [k0_pay118, k0_pay117]

theorem pay119_apply (a l : FVec Ideal S2048x128 .f32) (r : Fin 512) (ln : Fin 128) :
    k0_pay119 (F := Ideal) a l (ix2 r ln) = quo a l (stk 2 r) ln := by
  have e0 : stk 2 r = ⟨1024 + r.val, by omega⟩ := Fin.ext (by show 512 * 2 + r.val = 1024 + r.val; omega)
  rw [e0]
  pointwise [k0_pay119, k0_pay117]

theorem pay120_apply (lam : EReal) (a l : FVec Ideal S2048x128 .f32) (r : Fin 512) (ln : Fin 128) :
    k0_pay120 (F := Ideal) lam a l (ix2 r ln) = lam * quo a l (stk 3 r) ln := by
  have e0 : stk 3 r = ⟨1536 + r.val, by omega⟩ := Fin.ext (by show 512 * 3 + r.val = 1536 + r.val; omega)
  rw [e0]
  pointwise [k0_pay120, k0_pay117]

/-- The difference of a lane's two maps. -/
def pick (x y z : FVec Ideal S512x128 .f32) (r : Fin 512) (ln : Fin 128) : EReal :=
  if ln.val < 64 then x (ix2 r ln) else (y (ix2 r ln) : EReal) - z (ix2 r ln)

/-- The sum over the lanes of a lane's head. -/
def halves (f : Fin 128 → EReal) (ln : Fin 128) : EReal :=
  if ln.val < 64 then ∑ l', (if l'.val < 64 then f l' else 0) else ∑ l', (if l'.val < 64 then 0 else f l')

theorem halves_eq (f : Fin 128 → EReal) (ln : Fin 128) :
    halves f ln = ∑ e : Fin 64, f ⟨64 * (ln.val / 64) + e.val, by have := ln.isLt; omega⟩ := by
  have hl := ln.isLt
  have h : halves f ln = ∑ l' : Fin 128, if l'.val / 64 = ln.val / 64 then f l' else 0 := by
    unfold halves
    split_ifs with h
    · exact Finset.sum_congr rfl fun l' _ => if_congr (by omega) rfl rfl
    · refine Finset.sum_congr rfl fun l' _ => ?_
      have hl' := l'.isLt
      by_cases h' : l'.val < 64
      · rw [if_pos h', if_neg (by omega)]
      · rw [if_neg h', if_pos (by omega)]
  refine h.trans ((_root_.Diff.sum_block (a := 2) (b := 64) f ⟨ln.val / 64, by omega⟩).trans (Finset.sum_congr rfl fun e _ => congrArg f ?_))
  exact Fin.ext (Nat.add_comm _ _)

theorem pay1_apply (x y z : FVec Ideal S512x128 .f32) (w : Vec Ideal S1x128 .f32) (r : Fin 512) (ln : Fin 128) :
    k0_pay1 (F := Ideal) (iota .tc S1x128 32 [1] iota_S1x128_d1_w32) x y z w (ix3 (0 : Fin 1) r ln)
      = pick x y z r ln * Ideal.rsqrt (halves (fun l' => pick x y z r l' * pick x y z r l') ln * Ideal.ofBits .f32 0x3C800000#32
          + Ideal.ofBits .f32 0x358637BD#32) * w (ix2 (0 : Fin 1) ln) := by
  have hs (α : Type) (l : Fin 128) (u v : α) : Scalar.select (IntOp.cmpi .slt (BitVec.ofNat 32 l.val) 64#32) u v = if l.val < 64 then u else v :=
    select_slt (b := 64) (by have := l.isLt; omega) (by omega) u v
  pointwise [k0_pay1]
  simp only [hs, Ideal.ofBits_zero]
  rfl

/-- The blocks' scores, the last one masked: the state after the diagonal block is the state after these. -/
def mscs (i : grid0.Coords) (q : FVec Ideal S2048x128 .bf16) (x2 : Vec Ideal S1x8192x128 .bf16) : ℕ → FVec Ideal S2048x512 .f32 :=
  fun j => if j < (i 2).val then scs q x2 j else msk i (scs q x2 (i 2).val)

theorem fin_eq (i : grid0.Coords) (q : FVec Ideal S2048x128 .bf16) (x2 x3 : Vec Ideal S1x8192x128 .bf16) :
    fin i q x2 x3 = St.after (mscs i q x2) (blk x3) ((i 2).val + 1) := by
  rw [St.after, fin, St.after_congr (S' := mscs i q x2) (blk x3) _ fun j hj => (if_pos hj).symm]
  congr 1
  exact (if_neg (lt_irrefl _)).symm

/-- The scores of a row of the point's block in a map against all the keys, those past the diagonal −∞. -/
def rowG (i : grid0.Coords) (x1 : Vec Ideal S1x512x128 .bf16) (x2 : Vec Ideal S1x8192x128 .bf16) (g : Fin 4) (r : Fin 512) : Fin 8192 → EReal :=
  fun c => if c.val ≤ 512 * (i 2).val + r.val
    then ∑ e : Fin 32, (x1 (ix3 (0 : Fin 1) r (lane g e)) : EReal) * x2 (ix3 (0 : Fin 1) c (lane g e)) else ⊥

theorem mscs_apply (i : grid0.Coords) (x1 : Vec Ideal S1x512x128 .bf16) (x2 : Vec Ideal S1x8192x128 .bf16) (g : Fin 4) (r : Fin 512)
    (j : ℕ) (hj : j < (i 2).val + 1) (k : Fin 512) : mscs i (k0_pay106 x1) x2 j (ix2 (stk g r) k) = rowG i x1 x2 g r (_root_.Mla.col j k) := by
  have hi : (i 2).val < 16 := (i 2).isLt
  have hs : ∀ j, scs (k0_pay106 x1) x2 j (ix2 (stk g r) k)
      = ∑ e : Fin 32, (x1 (ix3 (0 : Fin 1) r (lane g e)) : EReal) * x2 (ix3 (0 : Fin 1) (_root_.Mla.col j k) (lane g e)) := fun j =>
    sc_map x1 (blk x2 j) g r k
  unfold mscs rowG
  rw [_root_.Mla.col_val (by omega)]
  have hr := r.isLt
  have hk := k.isLt
  by_cases hc : j < (i 2).val
  · rw [if_pos hc, if_pos (by omega), hs]
  · obtain rfl : j = (i 2).val := by omega
    rw [if_neg hc, msk_apply, hs]
    exact if_congr (by omega) rfl rfl

variable (i : grid0.Coords) (x0 : Vec Ideal S1 .f32) (x1 : Vec Ideal S1x512x128 .bf16) (x2 x3 : Vec Ideal S1x8192x128 .bf16) (x4 : Vec Ideal S1x128 .f32)

/-- The maps of a lane's head. -/
def map (ln : Fin 128) (p : Fin 2) : Fin 4 := ⟨2 * (ln.val / 64) + p.val, by omega⟩

/-- The difference of the maps of a lane's head, applied to the lane's column of values. -/
def dif (r : Fin 512) (ln : Fin 128) : EReal :=
  _root_.Diff.quo (rowG i x1 x2 (map ln 0) r) (fun c => x3 (ix3 (0 : Fin 1) c ln))
    - x0 (ix1 (0 : Fin 1)) * _root_.Diff.quo (rowG i x1 x2 (map ln 1) r) (fun c => x3 (ix3 (0 : Fin 1) c ln))

/-- A row's weighted sum over its sum. Were a score +∞, the last block's update would have left both zero, as the
    exponentials are. -/
theorem quo_fin (g : Fin 4) (r : Fin 512) (ln : Fin 128) :
    quo (fin i (k0_pay106 x1) x2 x3).a (fin i (k0_pay106 x1) x2 x3).l (stk g r) ln
      = _root_.Diff.quo (rowG i x1 x2 g r) fun c => x3 (ix3 (0 : Fin 1) c ln) := by
  have hi : (i 2).val < 16 := (i 2).isLt
  have hS := mscs_apply i x1 x2 g r
  have hG : ∀ c : Fin 8192, 512 * ((i 2).val + 1) ≤ c.val → rowG i x1 x2 g r c = ⊥ := fun c hc => if_neg (by have := r.isLt; omega)
  have hM : _root_.Mla.maxAt (rowS (mscs i (k0_pay106 x1) x2) (stk g r)) ((i 2).val + 1) = Finset.univ.sup (rowG i x1 x2 g r) :=
    _root_.Mla.sup_blocks (by omega) hS hG
  have h0 (c : Fin 8192) (hc : 512 * ((i 2).val + 1) ≤ c.val) : Ideal.exp (rowG i x1 x2 g r c - Finset.univ.sup (rowG i x1 x2 g r)) = 0 := by
    rw [hG c hc, sub_eq_add_neg, EReal.bot_add, Ideal.exp_bot]
  unfold quo
  rw [fin_eq]
  by_cases ht : Finset.univ.sup (rowG i x1 x2 g r) = ⊤
  · have hm (l' : Fin 128) : updM (mscs i (k0_pay106 x1) x2 (i 2).val) (St.after (mscs i (k0_pay106 x1) x2) (blk x3) (i 2).val).m (ix2 (stk g r) l') = ⊤ :=
      (after_m (mscs i (k0_pay106 x1) x2) (blk x3) ((i 2).val + 1) (stk g r) l').trans (hM.trans ht)
    have e0 (x : EReal) : Ideal.exp (x - ⊤) = 0 := by rw [sub_eq_add_neg, EReal.neg_top, EReal.add_bot, Ideal.exp_bot]
    have ha : (St.after (mscs i (k0_pay106 x1) x2) (blk x3) ((i 2).val + 1)).a (ix2 (stk g r) ln) = 0 := by
      refine (updA_apply _ _ _ _ (stk g r) ln fun l' => (hm l').trans (hm ln).symm).trans ?_
      simp only [hm, e0, zero_mul, Finset.sum_const_zero, add_zero]
    have hl (l' : Fin 128) : (St.after (mscs i (k0_pay106 x1) x2) (blk x3) ((i 2).val + 1)).l (ix2 (stk g r) l') = 0 := by
      refine (updL_apply _ _ _ (stk g r) l').trans ?_
      simp only [hm, e0, zero_mul, Finset.sum_const_zero, add_zero]
    rw [_root_.Diff.quo_bot fun h => h.2 ht, ha, Finset.sum_congr rfl fun l' _ => hl l']
    simp [Ideal.div]
  · have ht' := fun h => ht (hM.symm.trans h)
    rw [after_a _ _ _ (stk g r) ln ht', Finset.sum_congr rfl fun l' _ => after_l _ (blk x3) _ (stk g r) l' ht', _root_.Mla.sum_sumAt]
    refine congrArg₂ Ideal.div ?_ ?_
    · refine _root_.Mla.sum_to (by omega) _ _ (fun j hj k => by rw [hM, show rowS (mscs i (k0_pay106 x1) x2) (stk g r) j k = _ from hS j hj k]; rfl) fun c hc => ?_
      rw [h0 c hc, zero_mul]
    · exact _root_.Mla.sum_to (by omega) _ _ (fun j hj k => by rw [hM, show rowS (mscs i (k0_pay106 x1) x2) (stk g r) j k = _ from hS j hj k]) h0

/-- The block written, at a row and a lane. -/
theorem OUT_apply (r : Fin 512) (ln : Fin 128) :
    OUT i x0 x1 x2 x3 x4 (ix3 (0 : Fin 1) r ln) = dif i x0 x1 x2 x3 r ln
      * _root_.Diff.scale (∑ e : Fin 64, dif i x0 x1 x2 x3 r ⟨64 * (ln.val / 64) + e.val, by have := ln.isLt; omega⟩
          * dif i x0 x1 x2 x3 r ⟨64 * (ln.val / 64) + e.val, by have := ln.isLt; omega⟩) * x4 (ix2 (0 : Fin 1) ln) := by
  have hq (g : Fin 4) (l : Fin 128) := quo_fin i x1 x2 x3 g r l
  have hp (l : Fin 128) : pick (k0_pay118 (x0 (ix1 (0 : Fin 1))) (fin i (k0_pay106 x1) x2 x3).a (fin i (k0_pay106 x1) x2 x3).l)
      (k0_pay119 (fin i (k0_pay106 x1) x2 x3).a (fin i (k0_pay106 x1) x2 x3).l)
      (k0_pay120 (x0 (ix1 (0 : Fin 1))) (fin i (k0_pay106 x1) x2 x3).a (fin i (k0_pay106 x1) x2 x3).l) r l = dif i x0 x1 x2 x3 r l := by
    have hl := l.isLt
    unfold pick dif
    rw [pay118_apply, pay119_apply, pay120_apply, hq, hq, hq, hq]
    split_ifs with h
    · have e (p : Fin 2) : map l p = ⟨p.val, by omega⟩ := Fin.ext (by show 2 * (l.val / 64) + p.val = p.val; omega)
      rw [e, e]; rfl
    · have e (p : Fin 2) : map l p = ⟨2 + p.val, by omega⟩ := Fin.ext (by show 2 * (l.val / 64) + p.val = 2 + p.val; omega)
      rw [e, e]; rfl
  refine (pay1_apply _ _ _ x4 r ln).trans ?_
  rw [halves_eq, _root_.Diff.mul_64th]
  simp only [hp]
  rfl

end Cert.Kernel2Ideal.Diff
-- ==== Proof.Diff.Value.lean ====
/- The output array after the run: the differential attention of the argument arrays. -/
module

public import proofs.«01_k».proof.Proof.Diff.Frame
public import proofs.«01_k».proof.Proof.Diff.Index

@[expose] public section

set_option maxRecDepth 16384

noncomputable section

namespace Cert.Kernel2Ideal.Diff

open Cert.Kernel2Ideal Cert.Kernel2Ideal.Gen
open Idealize.ShloMosaic Idealize.ShloMosaic.TcCoe Idealize.SL.Sem

variable (m : (ℓ : Loc nD τ sig) → Buf (Elt Ideal) ℓ)

/-- Which block each window takes at a point. -/
theorem idx : ∀ t : Fin cfg0.N,
    win0_0.index t = ![0]
    ∧ win0_1.index t = ![(grid0.coords t 0).val, (grid0.coords t 2).val, (grid0.coords t 1).val]
    ∧ win0_2.index t = ![(grid0.coords t 0).val, 0, (grid0.coords t 1).val]
    ∧ win0_3.index t = ![(grid0.coords t 0).val, 0, (grid0.coords t 1).val]
    ∧ win0_4.index t = ![0, (grid0.coords t 1).val]
    ∧ win0_5.index t = ![(grid0.coords t 0).val, (grid0.coords t 2).val, (grid0.coords t 1).val] :=
  (by decide +kernel : ∀ t : Fin grid0.N, _)

/-- The place in the arrays of a point's batch, query row, value element and map. -/
def pbat (t : Fin cfg0.N) : Fin 2 := grid0.coords t 0
def pr (t : Fin cfg0.N) (r : Fin 512) : Fin 8192 := ⟨512 * (grid0.coords t 2).val + r.val, by
  have h : (grid0.coords t 2).val < 16 := (grid0.coords t 2).isLt
  have := r.isLt
  omega⟩
def pl (t : Fin cfg0.N) (l : Fin 128) : Fin 256 := ⟨128 * (grid0.coords t 1).val + l.val, by
  have h : (grid0.coords t 1).val < 2 := (grid0.coords t 1).isLt
  have := l.isLt
  omega⟩
def pg (t : Fin cfg0.N) (g : Fin 4) : Fin 8 := ⟨4 * (grid0.coords t 1).val + g.val, by
  have h' : (grid0.coords t 1).val < 2 := (grid0.coords t 1).isLt
  have := g.isLt
  omega⟩

theorem read_lam (c : Dev nD) (t : Fin cfg0.N) : iblk m c 0 t (ix1 (0 : Fin 1)) = m ((c : Thread nD τ).loc main_arg3) (ix1 (0 : Fin 1)) := by
  blk_ext [iblk, V, idx t]

theorem read_q (c : Dev nD) (t : Fin cfg0.N) (r : Fin 512) (g : Fin 4) (e : Fin 32) :
    iblk m c 1 t (ix3 (0 : Fin 1) r (lane g e)) = m ((c : Thread nD τ).loc main_arg0) (ix3 (pbat t) (pr t r) (_root_.Diff.elt (pg t g) e)) := by
  have e1 : (pbat t).val = (grid0.coords t 0).val := rfl
  have e2 : (pr t r).val = 512 * (grid0.coords t 2).val + r.val := rfl
  have e3 : (_root_.Diff.elt (pg t g) e).val = 32 * (4 * (grid0.coords t 1).val + g.val) + e.val := rfl
  have e4 : (lane g e).val = 32 * g.val + e.val := rfl
  blk_ext [iblk, V, idx t]

theorem read_k (c : Dev nD) (t : Fin cfg0.N) (s : Fin 8192) (g : Fin 4) (e : Fin 32) :
    iblk m c 2 t (ix3 (0 : Fin 1) s (lane g e)) = m ((c : Thread nD τ).loc main_arg1) (ix3 (pbat t) s (_root_.Diff.elt (pg t g) e)) := by
  have e1 : (pbat t).val = (grid0.coords t 0).val := rfl
  have e3 : (_root_.Diff.elt (pg t g) e).val = 32 * (4 * (grid0.coords t 1).val + g.val) + e.val := rfl
  have e4 : (lane g e).val = 32 * g.val + e.val := rfl
  blk_ext [iblk, V, idx t]

theorem read_v (c : Dev nD) (t : Fin cfg0.N) (s : Fin 8192) (l : Fin 128) :
    iblk m c 3 t (ix3 (0 : Fin 1) s l) = m ((c : Thread nD τ).loc main_arg2) (ix3 (pbat t) s (pl t l)) := by
  have e1 : (pbat t).val = (grid0.coords t 0).val := rfl
  have e2 : (pl t l).val = 128 * (grid0.coords t 1).val + l.val := rfl
  blk_ext [iblk, V, idx t]

theorem read_gain (c : Dev nD) (t : Fin cfg0.N) (l : Fin 128) :
    iblk m c 4 t (ix2 (0 : Fin 1) l) = m ((c : Thread nD τ).loc main_arg4) (ix2 (0 : Fin 1) (pl t l)) := by
  have e2 : (pl t l).val = 128 * (grid0.coords t 1).val + l.val := rfl
  blk_ext [iblk, V, idx t]

theorem place (t : Fin cfg0.N) (r : Fin 512) (l : Fin 128) :
    (win0_5.blk t).view.emb (ix3 (0 : Fin 1) r l) = ix3 (pbat t) (pr t r) (pl t l) := by
  have e1 : (pbat t).val = (grid0.coords t 0).val := rfl
  have e2 : (pr t r).val = 512 * (grid0.coords t 2).val + r.val := rfl
  have e3 : (pl t l).val = 128 * (grid0.coords t 1).val + l.val := rfl
  blk_ext [idx t]

/-- A row of a point's scores is a row of the arrays'. -/
theorem rowG_eq (c : Dev nD) (t : Fin cfg0.N) (g : Fin 4) (r : Fin 512) :
    rowG (grid0.coords t) (iblk m c 1 t) (iblk m c 2 t) g r
      = _root_.Diff.row (m ((c : Thread nD τ).loc main_arg0)) (m ((c : Thread nD τ).loc main_arg1)) (pbat t) (pg t g) (pr t r) := by
  funext s
  refine if_congr Iff.rfl (Finset.sum_congr rfl fun e _ => ?_) rfl
  rw [read_q, read_k]

theorem dif_eq (c : Dev nD) (t : Fin cfg0.N) (r : Fin 512) (l : Fin 128) :
    dif (grid0.coords t) (iblk m c 0 t) (iblk m c 1 t) (iblk m c 2 t) (iblk m c 3 t) r l
      = _root_.Diff.dif (m ((c : Thread nD τ).loc main_arg0)) (m ((c : Thread nD τ).loc main_arg1)) (m ((c : Thread nD τ).loc main_arg2))
          (m ((c : Thread nD τ).loc main_arg3)) (pbat t) (pr t r) (pl t l) := by
  have hl := l.isLt
  have eg (p : Fin 2) : _root_.Diff.map (pl t l) p = pg t (map l p) := Fin.ext (by
    show 2 * ((128 * (grid0.coords t 1).val + l.val) / 64) + p.val = 4 * (grid0.coords t 1).val + (2 * (l.val / 64) + p.val)
    omega)
  have ev : (fun s => iblk m c 3 t (ix3 (0 : Fin 1) s l)) = fun s => m ((c : Thread nD τ).loc main_arg2) (ix3 (pbat t) s (pl t l)) :=
    funext fun s => read_v m c t s l
  unfold dif _root_.Diff.dif
  rw [eg, eg, ← rowG_eq, ← rowG_eq, read_lam, ev]

theorem point (c : Dev nD) (t : Fin cfg0.N) (r : Fin 512) (l : Fin 128) :
    OUT (grid0.coords t) (iblk m c 0 t) (iblk m c 1 t) (iblk m c 2 t) (iblk m c 3 t) (iblk m c 4 t) (ix3 (0 : Fin 1) r l)
      = _root_.Diff.norm (m ((c : Thread nD τ).loc main_arg4)) (_root_.Diff.dif (m ((c : Thread nD τ).loc main_arg0)) (m ((c : Thread nD τ).loc main_arg1))
          (m ((c : Thread nD τ).loc main_arg2)) (m ((c : Thread nD τ).loc main_arg3))) (ix3 (pbat t) (pr t r) (pl t l)) := by
  have hl := l.isLt
  rw [OUT_apply _ _ _ _ _ _ r l, read_gain]
  simp only [dif_eq]
  have em (e : Fin 64) : _root_.Diff.mate (pl t l) e = pl t ⟨64 * (l.val / 64) + e.val, by omega⟩ := Fin.ext (by
    show 64 * ((128 * (grid0.coords t 1).val + l.val) / 64) + e.val = 128 * (grid0.coords t 1).val + (64 * (l.val / 64) + e.val)
    omega)
  simp only [← em]
  rfl

theorem final (c : Dev nD) : (dats m 0 c).arrAt 5 cfg0.N
    = _root_.Diff.norm (m ((c : Thread nD τ).loc main_arg4)) (_root_.Diff.dif (m ((c : Thread nD τ).loc main_arg0)) (m ((c : Thread nD τ).loc main_arg1))
        (m ((c : Thread nD τ).loc main_arg2)) (m ((c : Thread nD τ).loc main_arg3))) := by
  refine (dats m 0 c).arrAt_eq_of_covers 5 _ (by decide +kernel) fun t _ y => ?_
  blk_simp
  rw [after0_5]
  obtain ⟨a, r, l, rfl⟩ : ∃ (a : Fin 1) (r : Fin 512) (l : Fin 128), y = ix3 a r l := ⟨y 0, y 1, y 2, eq_ix3 y⟩
  obtain rfl : a = 0 := Subsingleton.elim _ _
  refine (point m c t r l).trans ?_
  rw [← place]

end Cert.Kernel2Ideal.Diff
-- ==== Proof.Diff.Ref.lean ====
/- The reference's result is the differential attention of its arguments. -/
module

public import proofs.«01_k».proof.Proof.Gen.Reference2Ideal.Run
public import proofs.«01_k».proof.Proof.Diff.Spec
public import proofs.«01_k».proof.Proof.Mla.Ref

@[expose] public section

set_option maxRecDepth 16384

noncomputable section

namespace Cert.Reference2Ideal.Diff

open Cert.Reference2Ideal Cert.Reference2Ideal.Gen
open Idealize.ShloMosaic Idealize.ShloMosaic.TcCoe Idealize.SL.Sem

/-- Each head's elements for its first map and for its second. -/
def part0 (X : FVec Ideal S2x8192x256 .bf16) : FVec Ideal S2x8192x4x32 .f32 :=
  extractStridedSlice S2x8192x4x32 ![0, 0, 0, 0] (shapeCast _ (extf .f32 X bitsLt_bf16_f32) shapeCasts_S2x8192x256_S2x8192x4x64) slices_S2x8192x4x64_S2x8192x4x32_0_0_0_0
def part1 (X : FVec Ideal S2x8192x256 .bf16) : FVec Ideal S2x8192x4x32 .f32 :=
  extractStridedSlice S2x8192x4x32 ![0, 0, 0, 32] (shapeCast _ (extf .f32 X bitsLt_bf16_f32) shapeCasts_S2x8192x256_S2x8192x4x64) slices_S2x8192x4x64_S2x8192x4x32_0_0_0_32

/-- The masked scores of a map. -/
def scores (q k : FVec Ideal S2x8192x4x32 .f32) : FVec Ideal S2x4x8192x8192 .f32 :=
  select (broadcastInDim S2x4x8192x8192 ![2, 3] bcast_S8192x8192_S2x4x8192x8192_2_3 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))) (Host.dotGeneral dot_S2x8192x4x32_S2x8192x4x32_S2x4x8192x8192_3_3_1_1_02_02 none q k) (broadcastInDim S2x4x8192x8192 ![] bcast_S_S2x4x8192x8192 (id (constant S_ .f32 0xFF800000#32)))

/-- The largest score of each row. -/
def tops (X : FVec Ideal S2x4x8192x8192 .f32) : FVec Ideal S2x4x8192 .f32 :=
  Host.reduce FloatOps.maximumf X (constant S_ .f32 0xFF800000#32) reducesTo_S2x4x8192x8192_S2x4x8192_d3 h_S_

/-- The exponentials of scores, relative to given ones of each row. -/
def exps (X : FVec Ideal S2x4x8192x8192 .f32) (M : FVec Ideal S2x4x8192 .f32) : FVec Ideal S2x4x8192x8192 .f32 :=
  Host.exp (subf X (broadcastInDim S2x4x8192x8192 ![0, 1, 2, 3] bcast_S2x4x8192x1_S2x4x8192x8192_0_1_2_3 (broadcastInDim S2x4x8192x1 ![0, 1, 2] bcast_S2x4x8192_S2x4x8192x1_0_1_2 (maximumf (broadcastInDim S2x4x8192 ![] bcast_S_S2x4x8192 (constant S_ .f32 0xFF800000#32)) M))))

/-- Their shares of each row's sum. -/
def shares (E : FVec Ideal S2x4x8192x8192 .f32) : FVec Ideal S2x4x8192x8192 .f32 :=
  Host.divf E (broadcastInDim S2x4x8192x8192 ![0, 1, 2, 3] bcast_S2x4x8192x1_S2x4x8192x8192_0_1_2_3 (broadcastInDim S2x4x8192x1 ![0, 1, 2] bcast_S2x4x8192_S2x4x8192x1_0_1_2 (Host.reduceAdd E (constant S_ .f32 0x00000000#32) reducesTo_S2x4x8192x8192_S2x4x8192_d3 h_S_)))

/-- The second map's shares, times a number, off the first's. -/
def less (P P' : FVec Ideal S2x4x8192x8192 .f32) (lam : FVec Ideal S1 .f32) : FVec Ideal S2x4x8192x8192 .f32 :=
  subf P (mulf (broadcastInDim S2x4x8192x8192 ![] bcast_S_S2x4x8192x8192 (shapeCast _ lam shapeCasts_S1_S_)) P')

/-- The values weighted by shares. -/
def mix (P : FVec Ideal S2x4x8192x8192 .f32) (V : FVec Ideal S2x8192x256 .bf16) : FVec Ideal S2x8192x4x64 .f32 :=
  transpose S2x8192x4x64 [0, 3, 1, 2] (Host.dotGeneral dot_S2x8192x4x64_S2x4x8192x8192_S2x4x64x8192_1_3_3_2_02_01 none (shapeCast _ (extf .f32 V bitsLt_bf16_f32) shapeCasts_S2x8192x256_S2x8192x4x64) P) transposes_S2x4x64x8192_S2x8192x4x64_0_3_1_2

/-- Each head normalized, the heads side by side, times the gains. -/
def norm (O : FVec Ideal S2x8192x4x64 .f32) (gain : FVec Ideal S1x256 .f32) : FVec Ideal S2x8192x256 .bf16 :=
  truncf .bf16 (mulf (shapeCast _ (mulf O (broadcastInDim S2x8192x4x64 ![0, 1, 2, 3] bcast_S2x8192x4x1_S2x8192x4x64_0_1_2_3 (Host.rsqrt (addf (Host.divf (broadcastInDim S2x8192x4x1 ![0, 1, 2] bcast_S2x8192x4_S2x8192x4x1_0_1_2 (Host.reduceAdd (mulf O O) (constant S_ .f32 0x00000000#32) reducesTo_S2x8192x4x64_S2x8192x4_d3 h_S_)) (broadcastInDim S2x8192x4x1 ![] bcast_S_S2x8192x4x1 (constant S_ .f32 0x42800000#32))) (broadcastInDim S2x8192x4x1 ![] bcast_S_S2x8192x4x1 (constant S_ .f32 0x358637BD#32)))))) shapeCasts_S2x8192x4x64_S2x8192x256) (broadcastInDim S2x8192x256 ![0, 1, 2] bcast_S1x1x256_S2x8192x256_0_1_2 (broadcastInDim S1x1x256 ![1, 2] bcast_S1x256_S1x1x256_1_2 gain))) bitsLt_bf16_f32

/-- The maps of a head, the head of a value element and its place there. -/
def map (h : Fin 4) (p : Fin 2) : Fin 8 := ⟨2 * h.val + p.val, by omega⟩
def head (d : Fin 256) : Fin 4 := ⟨d.val / 64, by omega⟩
def elt (h : Fin 4) (e : Fin 64) : Fin 256 := ⟨64 * h.val + e.val, by omega⟩
def sub (d : Fin 256) : Fin 64 := ⟨d.val % 64, by omega⟩

theorem part0_apply (X : FVec Ideal S2x8192x256 .bf16) (b : Fin 2) (r : Fin 8192) (h : Fin 4) (e : Fin 32) :
    part0 X (ix4 b r h e) = X (ix3 b r (_root_.Diff.elt (map h 0) e)) := by
  have he : _root_.Diff.elt (map h 0) e = (⟨h.val * 64 + e.val, by omega⟩ : Fin 256) :=
    Fin.ext (by show 32 * (2 * h.val + 0) + e.val = h.val * 64 + e.val; omega)
  rw [he]
  pointwise [part0]

theorem part1_apply (X : FVec Ideal S2x8192x256 .bf16) (b : Fin 2) (r : Fin 8192) (h : Fin 4) (e : Fin 32) :
    part1 X (ix4 b r h e) = X (ix3 b r (_root_.Diff.elt (map h 1) e)) := by
  have he : _root_.Diff.elt (map h 1) e = (⟨h.val * 64 + (32 + e.val), by omega⟩ : Fin 256) :=
    Fin.ext (by show 32 * (2 * h.val + 1) + e.val = h.val * 64 + (32 + e.val); omega)
  rw [he]
  pointwise [part1]

theorem scores_apply (q k : FVec Ideal S2x8192x4x32 .f32) (b : Fin 2) (h : Fin 4) (r s : Fin 8192) :
    scores q k (ix4 b h r s) = if s.val ≤ r.val then ∑ e : Fin 32, (q (ix4 b r h e) : EReal) * k (ix4 b s h e) else ⊥ := by
  pointwise [scores]
  have hr := r.isLt
  have hs := s.isLt
  rw [Cert.ReferenceIdeal.Mla.select_sle (by omega) (by omega)]
  exact if_congr Iff.rfl rfl Cert.ReferenceIdeal.Mla.ofBits_bot

theorem tops_apply (X : FVec Ideal S2x4x8192x8192 .f32) (b : Fin 2) (h : Fin 4) (r : Fin 8192) :
    tops X (ix3 b h r) = Finset.univ.sup fun s => (X (ix4 b h r s) : EReal) := by
  refine (Cert.ReferenceIdeal.Mla.reduce_max ..).trans ?_
  show Finset.fold max (Ideal.ofBits .f32 0xFF800000#32) _ _ = _
  rw [Cert.ReferenceIdeal.Mla.ofBits_bot]
  rfl

theorem exps_apply (X : FVec Ideal S2x4x8192x8192 .f32) (M : FVec Ideal S2x4x8192 .f32) (b : Fin 2) (h : Fin 4) (r s : Fin 8192) :
    exps X M (ix4 b h r s) = Ideal.exp (X (ix4 b h r s) - M (ix3 b h r)) := by
  pointwise [exps]
  rw [Cert.ReferenceIdeal.Mla.ofBits_bot, max_eq_right bot_le]

theorem shares_apply (X : FVec Ideal S2x4x8192x8192 .f32) (b : Fin 2) (h : Fin 4) (r s : Fin 8192) :
    shares X (ix4 b h r s) = Ideal.div (X (ix4 b h r s)) (∑ s, (X (ix4 b h r s) : EReal)) := by
  pointwise [shares]

theorem less_apply (P P' : FVec Ideal S2x4x8192x8192 .f32) (lam : FVec Ideal S1 .f32) (b : Fin 2) (h : Fin 4) (r s : Fin 8192) :
    less P P' lam (ix4 b h r s) = (P (ix4 b h r s) : EReal) - lam (ix1 (0 : Fin 1)) * P' (ix4 b h r s) := by
  pointwise [less]

theorem mix_apply (P : FVec Ideal S2x4x8192x8192 .f32) (V : FVec Ideal S2x8192x256 .bf16) (b : Fin 2) (r : Fin 8192) (h : Fin 4) (e : Fin 64) :
    mix P V (ix4 b r h e) = ∑ s : Fin 8192, (P (ix4 b h r s) : EReal) * V (ix3 b s (elt h e)) := by
  have he : elt h e = (⟨h.val * 64 + e.val, by omega⟩ : Fin 256) := Fin.ext (by show 64 * h.val + e.val = h.val * 64 + e.val; omega)
  rw [he]
  pointwise [mix]
  exact Finset.sum_congr rfl fun x _ => mul_comm _ _

theorem norm_apply (O : FVec Ideal S2x8192x4x64 .f32) (gain : FVec Ideal S1x256 .f32) (b : Fin 2) (r : Fin 8192) (d : Fin 256) :
    norm O gain (ix3 b r d) = (O (ix4 b r (head d) (sub d)) : EReal)
      * _root_.Diff.scale (∑ e : Fin 64, (O (ix4 b r (head d) e) : EReal) * O (ix4 b r (head d) e)) * gain (ix2 (0 : Fin 1) d) := by
  pointwise [norm]
  rfl

/-- The scores of a head's two maps. -/
theorem row0 (Q K : FVec Ideal S2x8192x256 .bf16) (b : Fin 2) (h : Fin 4) (r : Fin 8192) :
    (fun s => (scores (part0 Q) (part0 K) (ix4 b h r s) : EReal)) = _root_.Diff.row Q K b (map h 0) r := by
  funext s
  rw [scores_apply]
  simp only [part0_apply]
  rfl

theorem row1 (Q K : FVec Ideal S2x8192x256 .bf16) (b : Fin 2) (h : Fin 4) (r : Fin 8192) :
    (fun s => (scores (part1 Q) (part1 K) (ix4 b h r s) : EReal)) = _root_.Diff.row Q K b (map h 1) r := by
  funext s
  rw [scores_apply]
  simp only [part1_apply]
  rfl

/-- The softmax of scores. -/
def soft (X : FVec Ideal S2x4x8192x8192 .f32) : FVec Ideal S2x4x8192x8192 .f32 := shares (exps X (tops X))

theorem soft_apply (X : FVec Ideal S2x4x8192x8192 .f32) (b : Fin 2) (h : Fin 4) (r s : Fin 8192) :
    soft X (ix4 b h r s) = _root_.Diff.share (fun s => (X (ix4 b h r s) : EReal)) s := by
  unfold soft
  rw [shares_apply]
  simp only [exps_apply, tops_apply]
  rfl

variable (Q K V : FVec Ideal S2x8192x256 .bf16) (lam : FVec Ideal S1 .f32) (gain : FVec Ideal S1x256 .f32)

theorem dif_apply (b : Fin 2) (r : Fin 8192) (h : Fin 4) (e : Fin 64) :
    mix (less (soft (scores (part0 Q) (part0 K))) (soft (scores (part1 Q) (part1 K))) lam) V (ix4 b r h e)
      = _root_.Diff.mixed Q K V lam b r (elt h e) := by
  rw [mix_apply]
  simp only [less_apply, soft_apply, row0, row1]
  have em (p : Fin 2) : _root_.Diff.map (elt h e) p = map h p := Fin.ext (by
    show 2 * ((64 * h.val + e.val) / 64) + p.val = 2 * h.val + p.val
    omega)
  unfold _root_.Diff.mixed
  rw [em, em]

theorem att_eq : norm (mix (less (soft (scores (part0 Q) (part0 K))) (soft (scores (part1 Q) (part1 K))) lam) V) gain
    = _root_.Diff.norm gain (_root_.Diff.mixed Q K V lam) := by
  funext j
  obtain ⟨b, r, d, rfl⟩ : ∃ (a : Fin 2) (r : Fin 8192) (l : Fin 256), j = ix3 a r l := ⟨j 0, j 1, j 2, eq_ix3 j⟩
  rw [norm_apply]
  simp only [dif_apply]
  have ed : elt (head d) (sub d) = d := Fin.ext (by show 64 * (d.val / 64) + d.val % 64 = d.val; omega)
  rw [ed]
  rfl

/-- The reference's result. -/
theorem res_eq (m : (ℓ : Loc nD τ sig) → Buf (Elt Ideal) ℓ) (c : Dev nD) : Value.res_main_v62 m c
    = _root_.Diff.norm (m ((c.tc : Thread nD τ).loc main_arg4)) (_root_.Diff.mixed (m ((c.tc : Thread nD τ).loc main_arg0)) (m ((c.tc : Thread nD τ).loc main_arg1))
        (m ((c.tc : Thread nD τ).loc main_arg2)) (m ((c.tc : Thread nD τ).loc main_arg3))) :=
  Eq.trans (by unfold Value.res_main_v62; rfl) (att_eq _ _ _ _ _)

end Cert.Reference2Ideal.Diff
-- ==== Proof.Diff.Pre.lean ====
/- The precondition says that the values and the number are real. -/
module

public import proofs.«01_k».proof.Pre_finite_values_lambda
public import proofs.«01_k».proof.Proof.Diff.Spec
public import proofs.«01_k».proof.Proof.Mla.Pre

@[expose] public section

set_option maxRecDepth 16384

noncomputable section

namespace Cert.Pre_finite_values_lambda.Diff

open Cert.Pre_finite_values_lambda Idealize.ShloMosaic
open Cert.Pre_finite_queries_keys.Mla (lt_top_of)

instance facts : Facts where
  bitsLt_bf16_f32 := by decide
  bcast_S_S2x8192x256 := by decide
  bcast_S_S1 := by decide

theorem finite (Q K V : FVec Ideal S2x8192x256 .bf16) (lam : FVec Ideal S1 .f32) (gain : FVec Ideal S1x256 .f32)
    (h : (fn (F := Ideal) Q K V lam gain).1 = (fun _ => 1#1) ∧ (fn (F := Ideal) Q K V lam gain).2 = fun _ => 1#1) :
    _root_.Diff.Finite V ∧ _root_.Diff.Real (lam (ix1 (0 : Fin 1))) :=
  ⟨fun j => lt_top_of _ (congrFun h.1 j), lt_top_of _ (congrFun h.2 _)⟩

end Cert.Pre_finite_values_lambda.Diff
-- ==== Proof.Post.Spec.lean ====
/- What follows the mixers, over whole arrays: their outputs side by side, projected and added to the input; the sum's rows
   normalized and multiplied by a gain; and the projection of these. -/
module

public import proofs.«01_k».proof.Proof.Mla.Spec

@[expose] public section

set_option maxRecDepth 16384

noncomputable section

namespace Post

open Idealize.ShloMosaic

/-- The arrays of inputs, of the narrow and the wide mixer outputs, of the two projections, of gains, and of queries. -/
abbrev SX : Shape := ⟨2, ![16384, 1024]⟩
abbrev SN : Shape := ⟨2, ![16384, 256]⟩
abbrev SM : Shape := ⟨2, ![16384, 512]⟩
abbrev SO : Shape := ⟨2, ![1024, 1024]⟩
abbrev SW : Shape := ⟨2, ![1024, 2048]⟩
abbrev SG : Shape := ⟨1, ![1024]⟩
abbrev SQ : Shape := ⟨2, ![16384, 2048]⟩

/-- A real number. -/
abbrev Real (x : EReal) : Prop := x ≠ ⊥ ∧ x ≠ ⊤

/-- The inverse root of the mean of 1024 squares, from their sum. -/
def scale (s : EReal) : EReal := Ideal.rsqrt (Ideal.div s (Ideal.ofBits .f32 0x44800000#32) + Ideal.ofBits .f32 0x358637BD#32)

variable (X : SX.Idx → EReal) (Y D : SN.Idx → EReal) (M : SM.Idx → EReal) (W : SO.Idx → EReal) (g : SG.Idx → EReal) (P : SW.Idx → EReal)

/-- The rows of the first projection that the second and the third mixer's elements take. -/
def row1 (e : Fin 256) : Fin 1024 := ⟨e.val, by omega⟩
def row2 (e : Fin 256) : Fin 1024 := ⟨256 + e.val, by omega⟩
def row3 (e : Fin 512) : Fin 1024 := ⟨512 + e.val, by omega⟩

theorem sum_rows (f : Fin 1024 → EReal) : ∑ x, f x = ∑ e, f (row1 e) + ∑ e, f (row2 e) + ∑ e, f (row3 e) :=
  (Fin.sum_univ_add (a := 512) (b := 512) f).trans
    (congrArg (· + _) (Fin.sum_univ_add (a := 256) (b := 256) fun x => f (Fin.castAdd 512 x)))

/-- The input and the projected outputs of the mixers. -/
def res (r : Fin 16384) (d : Fin 1024) : EReal :=
  X (ix2 r d) + ∑ e, Y (ix2 r e) * W (ix2 (row1 e) d) + ∑ e, D (ix2 r e) * W (ix2 (row2 e) d) + ∑ e, M (ix2 r e) * W (ix2 (row3 e) d)

/-- A row normalized, times the gains. -/
def norm (x : Fin 1024 → EReal) (d : Fin 1024) : EReal := x d * scale (∑ e, x e * x e) * g (ix1 d)

/-- The projection of a row. -/
def query (x : Fin 1024 → EReal) (n : Fin 2048) : EReal := ∑ d, x d * P (ix2 d n)

theorem ofBits_1024 : Ideal.ofBits .f32 0x44800000#32 = ((1024 : ℝ) : EReal) := by
  simp [Ideal.ofBits, Ideal.ieee]
  rw [← EReal.coe_mul]
  exact congrArg _ (by norm_num)

theorem ofBits_eps : ∃ a : ℝ, 0 < a ∧ Ideal.ofBits .f32 0x358637BD#32 = (a : EReal) := by
  refine ⟨_, ?_, by simp [Ideal.ofBits, Ideal.ieee]; rw [← EReal.coe_mul]⟩
  norm_num

theorem scale_top : scale ⊤ = 0 := by
  obtain ⟨a, _, ha⟩ := ofBits_eps
  have h : Ideal.div ⊤ (Ideal.ofBits .f32 0x44800000#32) = ⊤ := by
    rw [ofBits_1024, Ideal.div_coe (by norm_num)]
    exact EReal.top_mul_coe_of_pos (by norm_num)
  rw [scale, h, ha, EReal.top_add_of_ne_bot (EReal.coe_ne_bot a)]
  rfl

theorem scale_real {s : ℝ} (hs : 0 ≤ s) : Real (scale s) := by
  obtain ⟨a, h0, ha⟩ := ofBits_eps
  rw [scale, ofBits_1024, Ideal.div_coe (by norm_num), ha, ← EReal.coe_mul, ← EReal.coe_add]
  have hp : 0 < s * (1 / 1024) + a := by positivity
  rw [Ideal.rsqrt_coe, if_neg (not_lt.2 hp.le), if_neg hp.ne']
  exact ⟨EReal.coe_ne_bot _, EReal.coe_ne_top _⟩

/-- A square is not negative. -/
theorem sq_nonneg' (x : EReal) : 0 ≤ x * x := by
  induction x with
  | bot => simp
  | top => simp
  | coe r => rw [← EReal.coe_mul]; exact_mod_cast mul_self_nonneg r

/-- A row is normalized to real numbers whatever it holds: one infinite element makes the sum of squares infinite, whose
    inverse root is zero. -/
theorem scaled_real (x : Fin 1024 → EReal) (d : Fin 1024) : Real (x d * scale (∑ e, x e * x e)) := by
  by_cases h : ∀ e, Real (x e)
  · obtain ⟨h1, h2⟩ := Mla.sum_finite Finset.univ (fun e => x e * x e) fun e _ => Mla.mul_finite (h e) (h e)
    have h0 : 0 ≤ ∑ e, x e * x e := Finset.sum_nonneg fun e _ => sq_nonneg' (x e)
    lift (∑ e, x e * x e) to ℝ using ⟨h2, h1⟩ with s
    exact Mla.mul_finite (h d) (scale_real (by exact_mod_cast h0))
  · obtain ⟨e, he⟩ := not_forall.1 h
    have hi : x e * x e = ⊤ := by
      by_cases hb : x e = ⊥
      · rw [hb]; rfl
      · have ht : x e = ⊤ := by
          by_contra ht
          exact he ⟨hb, ht⟩
        rw [ht]; rfl
    have hs : ∑ e, x e * x e = ⊤ := top_le_iff.1 (hi ▸ Finset.single_le_sum (f := fun e => x e * x e) (fun e _ => sq_nonneg' (x e)) (Finset.mem_univ e))
    rw [hs, scale_top, mul_zero]
    exact ⟨EReal.zero_ne_bot, EReal.zero_ne_top⟩

variable {g P}

/-- With real gains what is left of a normalized row after a cast is zero. -/
theorem norm_sub (hg : ∀ j, Real (g j)) (x : Fin 1024 → EReal) (d : Fin 1024) : norm g x d - norm g x d = 0 := by
  obtain ⟨h1, h2⟩ := Mla.mul_finite (scaled_real x d) (hg (ix1 d))
  exact EReal.sub_self h2 h1

/-- So the two products of remainders add nothing. -/
theorem query_split (hg : ∀ j, Real (g j)) (hP : ∀ j, Real (P j)) (x : Fin 1024 → EReal) (n : Fin 2048) :
    ∑ d, norm g x d * P (ix2 d n) + ∑ d, norm g x d * (P (ix2 d n) - P (ix2 d n)) + ∑ d, (norm g x d - norm g x d) * P (ix2 d n)
      = query P (norm g x) n := by
  have hz (d : Fin 1024) : P (ix2 d n) - P (ix2 d n) = 0 := EReal.sub_self (hP _).2 (hP _).1
  simp only [norm_sub hg, hz, mul_zero, zero_mul, Finset.sum_const_zero, add_zero]
  rfl

end Post
-- ==== Proof.Post.Value.lean ====
/- The output arrays after the run: the residual sum, its normalized rows and their projection. -/
module

public import proofs.«01_k».proof.Proof.Gen.Kernel3Ideal.Value
public import proofs.«01_k».proof.Proof.Post.Spec

@[expose] public section

set_option maxRecDepth 16384

noncomputable section

namespace Cert.Kernel3Ideal.Post

open Cert.Kernel3Ideal Cert.Kernel3Ideal.Gen
open Idealize.ShloMosaic Idealize.ShloMosaic.TcCoe Idealize.SL.Sem

section Block

variable (x : Vec Ideal S512x1024 .f32) (y d : Vec Ideal S512x256 .bf16) (a : Vec Ideal S512x512 .bf16)
  (w1 w2 : Vec Ideal S256x1024 .bf16) (w3 : Vec Ideal S512x1024 .bf16) (g : Vec Ideal S1x1024 .f32)

/-- A block's row of the residual sum. -/
theorem pay2_apply (r : Fin 512) (n : Fin 1024) : k0_pay2 x y w1 d w2 a w3 (ix2 r n)
    = (x (ix2 r n) : EReal) + ∑ e : Fin 256, (y (ix2 r e) : EReal) * w1 (ix2 e n) + ∑ e : Fin 256, (d (ix2 r e) : EReal) * w2 (ix2 e n)
      + ∑ e : Fin 512, (a (ix2 r e) : EReal) * w3 (ix2 e n) := by
  pointwise [k0_pay2]

/-- Its normalized row. -/
theorem pay3_apply (r : Fin 512) (n : Fin 1024) : k0_pay3 x y w1 d w2 a w3 g (ix2 r n)
    = (k0_pay2 x y w1 d w2 a w3 (ix2 r n) : EReal) * _root_.Post.scale (∑ e : Fin 1024, (k0_pay2 x y w1 d w2 a w3 (ix2 r e) : EReal) * k0_pay2 x y w1 d w2 a w3 (ix2 r e))
      * g (ix2 (0 : Fin 1) n) := by
  unfold k0_pay3
  generalize k0_pay2 x y w1 d w2 a w3 = X
  pointwise
  rfl

theorem pay4_apply (j : S512x1024.Idx) : (k0_pay4 x y w1 d w2 a w3 g j : EReal) = k0_pay3 x y w1 d w2 a w3 g j := by
  unfold k0_pay4
  generalize k0_pay3 x y w1 d w2 a w3 g = X
  rfl

/-- What rounding it leaves over. -/
theorem pay5_apply (j : S512x1024.Idx) :
    (k0_pay5 x y w1 d w2 a w3 g j : EReal) = (k0_pay3 x y w1 d w2 a w3 g j : EReal) - (k0_pay3 x y w1 d w2 a w3 g j : EReal) := by
  unfold k0_pay5 k0_pay4
  generalize k0_pay3 x y w1 d w2 a w3 g = X
  rfl

theorem z2 : (![0, 0] : Fin 2 → Nat) = fun _ => 0 := by decide

theorem pay6_eq (w : Vec Ideal S1024x1024 .bf16) (p q : Vec Ideal S1024x2048 .bf16) : k0_pay6 x y d a w g p q
    = k0_pay4 x y (View.ld w r0_2) d (View.ld w r0_3) a (View.ld w r0_5) g := by
  have e0 : View.ld x r0_0 = x := View.ld_unit_zero z2 _ _
  have e1 : View.ld y r0_1 = y := View.ld_unit_zero z2 _ _
  have e2 : View.ld d r0_1 = d := View.ld_unit_zero z2 _ _
  have e3 : View.ld a r0_4 = a := View.ld_unit_zero z2 _ _
  have e4 : View.ld g r0_6 = g := View.ld_unit_zero z2 _ _
  unfold k0_pay6
  rw [e0, e1, e2, e3, e4]

/-- The three products of a projection whose factors are each split into a rounded part and the remainder. -/
theorem pay1_apply (h : FVec Ideal S512x1024 .bf16) (l : FVec Ideal S512x1024 .f32) (p q : Vec Ideal S1024x2048 .bf16) (r : Fin 512) (n : Fin 2048) :
    k0_pay1 h l p q p (ix2 r n) = ∑ e : Fin 1024, (h (ix2 r e) : EReal) * p (ix2 e n) + ∑ e : Fin 1024, (h (ix2 r e) : EReal) * q (ix2 e n)
      + ∑ e : Fin 1024, (l (ix2 r e) : EReal) * p (ix2 e n) := by
  pointwise [k0_pay1]

end Block

variable (m : (ℓ : Loc nD τ sig) → Buf (Elt Ideal) ℓ)

/-- Which block each window takes at a point. -/
theorem idx : ∀ t : Fin cfg0.N,
    win0_0.index t = ![t.val, 0] ∧ win0_1.index t = ![t.val, 0] ∧ win0_2.index t = ![t.val, 0] ∧ win0_3.index t = ![t.val, 0]
    ∧ win0_4.index t = ![0, 0] ∧ win0_5.index t = ![0, 0] ∧ win0_6.index t = ![0, 0] ∧ win0_7.index t = ![0, 0]
    ∧ win0_8.index t = ![t.val, 0] ∧ win0_9.index t = ![t.val, 0] ∧ win0_10.index t = ![t.val, 0] :=
  (by decide +kernel : ∀ t : Fin grid0.N, _)

/-- The place in the arrays of a point's row. -/
def pr (t : Fin cfg0.N) (r : Fin 512) : Fin 16384 := ⟨512 * t.val + r.val, by
  have h : t.val < 32 := t.isLt
  have := r.isLt
  omega⟩

/-- What the host makes of the weights and the gain. -/
theorem wout_eq (c : Dev nD) : V m c main_v4 = m ((c : Thread nD τ).loc main_arg4) := by
  entry_read
  rfl

theorem gain_eq (c : Dev nD) (n : Fin 1024) : V m c main_v5 (ix2 (0 : Fin 1) n) = m ((c : Thread nD τ).loc main_arg5) (ix1 n) := by
  entry_read
  pointwise

theorem hi_eq (c : Dev nD) : V m c main_v0 = m ((c : Thread nD τ).loc main_arg6) := by
  entry_read
  rfl

/-- What rounding leaves over, nothing of a real element. -/
def rest (P : FVec Ideal S1024x2048 .f32) (j : S1024x2048.Idx) : EReal := (P j : EReal) - P j

theorem lo_eq (c : Dev nD) : V m c main_v3 = rest (m ((c : Thread nD τ).loc main_arg6)) := by
  entry_read
  rfl

theorem read_x (c : Dev nD) (t : Fin cfg0.N) (r : Fin 512) (n : Fin 1024) :
    iblk m c 0 t (ix2 r n) = m ((c : Thread nD τ).loc main_arg0) (ix2 (pr t r) n) := by
  have e2 : (pr t r).val = 512 * t.val + r.val := rfl
  rw [← V_main_arg0 m c]
  blk_ext [iblk, idx t]

theorem read_y (c : Dev nD) (t : Fin cfg0.N) (r : Fin 512) (n : Fin 256) :
    iblk m c 1 t (ix2 r n) = m ((c : Thread nD τ).loc main_arg1) (ix2 (pr t r) n) := by
  have e2 : (pr t r).val = 512 * t.val + r.val := rfl
  rw [← V_main_arg1 m c]
  blk_ext [iblk, idx t]

theorem read_d (c : Dev nD) (t : Fin cfg0.N) (r : Fin 512) (n : Fin 256) :
    iblk m c 2 t (ix2 r n) = m ((c : Thread nD τ).loc main_arg2) (ix2 (pr t r) n) := by
  have e2 : (pr t r).val = 512 * t.val + r.val := rfl
  rw [← V_main_arg2 m c]
  blk_ext [iblk, idx t]

theorem read_m (c : Dev nD) (t : Fin cfg0.N) (r : Fin 512) (n : Fin 512) :
    iblk m c 3 t (ix2 r n) = m ((c : Thread nD τ).loc main_arg3) (ix2 (pr t r) n) := by
  have e2 : (pr t r).val = 512 * t.val + r.val := rfl
  rw [← V_main_arg3 m c]
  blk_ext [iblk, idx t]

theorem read_wout (c : Dev nD) (t : Fin cfg0.N) (e n : Fin 1024) :
    iblk m c 4 t (ix2 e n) = m ((c : Thread nD τ).loc main_arg4) (ix2 e n) := by
  rw [← wout_eq m c]
  blk_ext [iblk, idx t]

theorem read_gain (c : Dev nD) (t : Fin cfg0.N) (n : Fin 1024) :
    iblk m c 5 t (ix2 (0 : Fin 1) n) = m ((c : Thread nD τ).loc main_arg5) (ix1 n) := by
  rw [← gain_eq m c]
  blk_ext [iblk, idx t]

theorem read_hi (c : Dev nD) (t : Fin cfg0.N) (e : Fin 1024) (n : Fin 2048) :
    iblk m c 6 t (ix2 e n) = m ((c : Thread nD τ).loc main_arg6) (ix2 e n) := by
  rw [← hi_eq m c]
  blk_ext [iblk, idx t]

theorem read_lo (c : Dev nD) (t : Fin cfg0.N) (e : Fin 1024) (n : Fin 2048) :
    iblk m c 7 t (ix2 e n) = rest (m ((c : Thread nD τ).loc main_arg6)) (ix2 e n) := by
  rw [← lo_eq m c]
  blk_ext [iblk, idx t]

theorem place8 (t : Fin cfg0.N) (r : Fin 512) (n : Fin 1024) : (win0_8.blk t).view.emb (ix2 r n) = ix2 (pr t r) n := by
  have e2 : (pr t r).val = 512 * t.val + r.val := rfl
  blk_ext [idx t]

theorem place9 (t : Fin cfg0.N) (r : Fin 512) (n : Fin 1024) : (win0_9.blk t).view.emb (ix2 r n) = ix2 (pr t r) n := by
  have e2 : (pr t r).val = 512 * t.val + r.val := rfl
  blk_ext [idx t]

theorem place10 (t : Fin cfg0.N) (r : Fin 512) (n : Fin 2048) : (win0_10.blk t).view.emb (ix2 r n) = ix2 (pr t r) n := by
  have e2 : (pr t r).val = 512 * t.val + r.val := rfl
  blk_ext [idx t]

/-- The three results, of the argument arrays. -/
def RES (c : Dev nD) : Fin 16384 → Fin 1024 → EReal :=
  _root_.Post.res (m ((c : Thread nD τ).loc main_arg0)) (m ((c : Thread nD τ).loc main_arg1)) (m ((c : Thread nD τ).loc main_arg2))
    (m ((c : Thread nD τ).loc main_arg3)) (m ((c : Thread nD τ).loc main_arg4))
def NRM (c : Dev nD) (r : Fin 16384) : Fin 1024 → EReal := _root_.Post.norm (m ((c : Thread nD τ).loc main_arg5)) (RES m c r)
def QRY (c : Dev nD) (r : Fin 16384) : Fin 2048 → EReal := _root_.Post.query (m ((c : Thread nD τ).loc main_arg6)) (NRM m c r)

def out8 (c : Dev nD) : Vec Ideal S16384x1024 .f32 := fun j => RES m c (j 0) (j 1)
def out9 (c : Dev nD) : Vec Ideal S16384x1024 .bf16 := fun j => NRM m c (j 0) (j 1)
def out10 (c : Dev nD) : Vec Ideal S16384x2048 .f32 := fun j => QRY m c (j 0) (j 1)

/-- A point's rows of the residual sum and of its normalization are rows of the arrays'. -/
theorem res_point (c : Dev nD) (t : Fin cfg0.N) (r : Fin 512) (n : Fin 1024) :
    k0_pay2 (iblk m c 0 t) (iblk m c 1 t) (View.ld (iblk m c 4 t) r0_2) (iblk m c 2 t) (View.ld (iblk m c 4 t) r0_3) (iblk m c 3 t)
      (View.ld (iblk m c 4 t) r0_5) (ix2 r n) = RES m c (pr t r) n := by
  rw [pay2_apply]
  have h1 (e : Fin 256) : View.ld (iblk m c 4 t) r0_2 (ix2 e n) = iblk m c 4 t (ix2 (_root_.Post.row1 e) n) := by
    refine (congrFun (View.ld_unit (iblk m c 4 t) ![0, 0] S256x1024.size inb_S1024x1024_S256x1024_0_0) _).trans ?_
    pointwise
    rfl
  have h2 (e : Fin 256) : View.ld (iblk m c 4 t) r0_3 (ix2 e n) = iblk m c 4 t (ix2 (_root_.Post.row2 e) n) := by
    refine (congrFun (View.ld_unit (iblk m c 4 t) ![256, 0] S256x1024.size inb_S1024x1024_S256x1024_256_0) _).trans ?_
    pointwise
    rfl
  have h3 (e : Fin 512) : View.ld (iblk m c 4 t) r0_5 (ix2 e n) = iblk m c 4 t (ix2 (_root_.Post.row3 e) n) := by
    refine (congrFun (View.ld_unit (iblk m c 4 t) ![512, 0] S512x1024.size inb_S1024x1024_S512x1024_512_0) _).trans ?_
    pointwise
    rfl
  simp only [h1, h2, h3, read_wout, read_x, read_y, read_d, read_m]
  rfl

theorem norm_point (c : Dev nD) (t : Fin cfg0.N) (r : Fin 512) (n : Fin 1024) :
    k0_pay3 (iblk m c 0 t) (iblk m c 1 t) (View.ld (iblk m c 4 t) r0_2) (iblk m c 2 t) (View.ld (iblk m c 4 t) r0_3) (iblk m c 3 t)
      (View.ld (iblk m c 4 t) r0_5) (iblk m c 5 t) (ix2 r n) = NRM m c (pr t r) n := by
  rw [pay3_apply, read_gain]
  simp only [res_point]
  rfl

theorem norm_point' (c : Dev nD) (t : Fin cfg0.N) (r : Fin 512) (n : Fin 1024) :
    (k0_pay6 (iblk m c 0 t) (iblk m c 1 t) (iblk m c 2 t) (iblk m c 3 t) (iblk m c 4 t) (iblk m c 5 t) (iblk m c 6 t) (iblk m c 7 t) (ix2 r n) : EReal)
      = NRM m c (pr t r) n := by
  rw [pay6_eq, pay4_apply]
  exact norm_point m c t r n

theorem query_point (c : Dev nD) (hg : ∀ n, _root_.Post.Real (m ((c : Thread nD τ).loc main_arg5) n))
    (hP : ∀ j, _root_.Post.Real (m ((c : Thread nD τ).loc main_arg6) j)) (t : Fin cfg0.N) (r : Fin 512) (n : Fin 2048) :
    k0_pay1 (k0_pay6 (iblk m c 0 t) (iblk m c 1 t) (iblk m c 2 t) (iblk m c 3 t) (iblk m c 4 t) (iblk m c 5 t) (iblk m c 6 t) (iblk m c 7 t))
      (k0_pay5 (iblk m c 0 t) (iblk m c 1 t) (View.ld (iblk m c 4 t) r0_2) (iblk m c 2 t) (View.ld (iblk m c 4 t) r0_3) (iblk m c 3 t)
        (View.ld (iblk m c 4 t) r0_5) (iblk m c 5 t)) (iblk m c 6 t) (iblk m c 7 t) (iblk m c 6 t) (ix2 r n) = QRY m c (pr t r) n := by
  rw [pay1_apply]
  simp only [read_hi, read_lo, norm_point', pay5_apply, norm_point]
  exact _root_.Post.query_split hg hP (RES m c (pr t r)) n

theorem final8 (c : Dev nD) : (dats m 0 c).arrAt 8 cfg0.N = out8 m c := by
  refine (dats m 0 c).arrAt_eq_of_covers 8 _ (by decide +kernel) fun t _ y => ?_
  blk_simp
  rw [after0_8]
  obtain ⟨r, n, rfl⟩ : ∃ (r : Fin 512) (n : Fin 1024), y = ix2 r n := ⟨y 0, y 1, eq_ix2 y⟩
  rw [place8]
  frame_out
  exact res_point m c t r n

theorem final9 (c : Dev nD) : (dats m 0 c).arrAt 9 cfg0.N = out9 m c := by
  refine (dats m 0 c).arrAt_eq_of_covers 9 _ (by decide +kernel) fun t _ y => ?_
  blk_simp
  rw [after0_9]
  obtain ⟨r, n, rfl⟩ : ∃ (r : Fin 512) (n : Fin 1024), y = ix2 r n := ⟨y 0, y 1, eq_ix2 y⟩
  rw [place9]
  frame_out
  exact norm_point' m c t r n

theorem final10 (c : Dev nD) (hg : ∀ j, _root_.Post.Real (m ((c : Thread nD τ).loc main_arg5) j))
    (hP : ∀ j, _root_.Post.Real (m ((c : Thread nD τ).loc main_arg6) j)) : (dats m 0 c).arrAt 10 cfg0.N = out10 m c := by
  refine (dats m 0 c).arrAt_eq_of_covers 10 _ (by decide +kernel) fun t _ y => ?_
  blk_simp
  rw [after0_10]
  obtain ⟨r, n, rfl⟩ : ∃ (r : Fin 512) (n : Fin 2048), y = ix2 r n := ⟨y 0, y 1, eq_ix2 y⟩
  rw [place10]
  frame_out
  exact query_point m c hg hP t r n

end Cert.Kernel3Ideal.Post
-- ==== Proof.Post.Ref.lean ====
/- The reference's results are the residual sum, its normalized rows and their projection. -/
module

public import proofs.«01_k».proof.Proof.Gen.Reference3Ideal.Run
public import proofs.«01_k».proof.Proof.Post.Spec

@[expose] public section

set_option maxRecDepth 16384

noncomputable section

namespace Cert.Reference3Ideal.Post

open Cert.Reference3Ideal Cert.Reference3Ideal.Gen
open Idealize.ShloMosaic Idealize.ShloMosaic.TcCoe Idealize.SL.Sem

/-- The mixers' outputs side by side. -/
def mix (Y D : FVec Ideal S16384x256 .bf16) (M : FVec Ideal S16384x512 .bf16) : FVec Ideal S16384x1024 .f32 :=
  concatenate S16384x1024 1 [⟨S16384x256, extf .f32 Y bitsLt_bf16_f32⟩, ⟨S16384x256, extf .f32 D bitsLt_bf16_f32⟩, ⟨S16384x512, extf .f32 M bitsLt_bf16_f32⟩] concatenates_S16384x256_S16384x256_S16384x512_S16384x1024_d1

/-- The input and their projection. -/
def res (X A : FVec Ideal S16384x1024 .f32) (W : FVec Ideal S1024x1024 .f32) : FVec Ideal S16384x1024 .f32 :=
  addf X (Host.dotGeneral dot_S16384x1024_S1024x1024_S16384x1024_1_0_0_1_n_n none A W)

/-- The rows normalized, times the gains. -/
def norm (x : FVec Ideal S16384x1024 .f32) (g : FVec Ideal S1024 .f32) : FVec Ideal S16384x1024 .f32 :=
  mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 g))

/-- The projection of the rows. -/
def query (x : FVec Ideal S16384x1024 .f32) (P : FVec Ideal S1024x2048 .f32) : FVec Ideal S16384x2048 .f32 :=
  Host.dotGeneral dot_S16384x1024_S1024x2048_S16384x2048_1_0_0_1_n_n none x P

theorem res_apply (X : FVec Ideal S16384x1024 .f32) (Y D : FVec Ideal S16384x256 .bf16) (M : FVec Ideal S16384x512 .bf16)
    (W : FVec Ideal S1024x1024 .f32) (r : Fin 16384) (d : Fin 1024) :
    res X (mix Y D M) W (ix2 r d) = _root_.Post.res X Y D M W r d := by
  pointwise [res, mix]
  rw [_root_.Post.sum_rows]
  have h1 (e : Fin 256) : (_root_.Post.row1 e).val < 256 := e.isLt
  have h2 (e : Fin 256) : ¬(_root_.Post.row2 e).val < 256 := by show ¬256 + e.val < 256; omega
  have h2' (e : Fin 256) : (_root_.Post.row2 e).val - 256 < 256 := by show 256 + e.val - 256 < 256; omega
  have h3 (e : Fin 512) : ¬(_root_.Post.row3 e).val < 256 := by show ¬512 + e.val < 256; omega
  have h3' (e : Fin 512) : ¬(_root_.Post.row3 e).val - 256 < 256 := by show ¬512 + e.val - 256 < 256; omega
  have v2 (e : Fin 256) (h) : (⟨(_root_.Post.row2 e).val - 256, h⟩ : Fin 256) = e := Fin.ext (by show 256 + e.val - 256 = e.val; omega)
  have v3 (e : Fin 512) (h) : (⟨(_root_.Post.row3 e).val - 256 - 256, h⟩ : Fin 512) = e :=
    Fin.ext (by show 512 + e.val - 256 - 256 = e.val; omega)
  simp only [h1, h2, h2', h3, h3', v2, v3, dif_pos, dif_neg, not_false_eq_true]
  rw [← add_assoc, ← add_assoc]
  rfl

theorem norm_apply (x : FVec Ideal S16384x1024 .f32) (g : FVec Ideal S1024 .f32) (r : Fin 16384) (d : Fin 1024) :
    norm x g (ix2 r d) = _root_.Post.norm g (fun e => x (ix2 r e)) d := by
  pointwise [norm]
  rfl

theorem query_apply (x : FVec Ideal S16384x1024 .f32) (P : FVec Ideal S1024x2048 .f32) (r : Fin 16384) (n : Fin 2048) :
    query x P (ix2 r n) = _root_.Post.query P (fun e => x (ix2 r e)) n := by
  pointwise [query]
  rfl

/-- The reference's three results, of the argument arrays. -/
def RES (m : (ℓ : Loc nD τ sig) → Buf (Elt Ideal) ℓ) (c : Dev nD) : FVec Ideal S16384x1024 .f32 :=
  res (m ((c.tc : Thread nD τ).loc main_arg0)) (mix (m ((c.tc : Thread nD τ).loc main_arg1)) (m ((c.tc : Thread nD τ).loc main_arg2)) (m ((c.tc : Thread nD τ).loc main_arg3))) (m ((c.tc : Thread nD τ).loc main_arg4))

def NRM (m : (ℓ : Loc nD τ sig) → Buf (Elt Ideal) ℓ) (c : Dev nD) : FVec Ideal S16384x1024 .f32 := norm (RES m c) (m ((c.tc : Thread nD τ).loc main_arg5))

variable (m : (ℓ : Loc nD τ sig) → Buf (Elt Ideal) ℓ) (c : Dev nD)

/-- The same as functions of rows. -/
def rres : Fin 16384 → Fin 1024 → EReal :=
  _root_.Post.res (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4))
def rnrm (r : Fin 16384) : Fin 1024 → EReal := _root_.Post.norm (m ((c.tc : Thread nD τ).loc main_arg5)) (rres m c r)

theorem res_eq : RES m c = fun j => rres m c (j 0) (j 1) := by
  funext j
  obtain ⟨r, d, rfl⟩ : ∃ (r : Fin 16384) (d : Fin 1024), j = ix2 r d := ⟨j 0, j 1, eq_ix2 j⟩
  exact res_apply _ _ _ _ _ r d

theorem norm_eq : NRM m c = fun j => rnrm m c (j 0) (j 1) := by
  funext j
  obtain ⟨r, d, rfl⟩ : ∃ (r : Fin 16384) (d : Fin 1024), j = ix2 r d := ⟨j 0, j 1, eq_ix2 j⟩
  rw [NRM, norm_apply, res_eq]
  rfl

theorem query_eq : query (NRM m c) (m ((c.tc : Thread nD τ).loc main_arg6)) = fun j => _root_.Post.query (m ((c.tc : Thread nD τ).loc main_arg6)) (rnrm m c (j 0)) (j 1) := by
  funext j
  obtain ⟨r, n, rfl⟩ : ∃ (r : Fin 16384) (n : Fin 2048), j = ix2 r n := ⟨j 0, j 1, eq_ix2 j⟩
  rw [query_apply, norm_eq]
  rfl

end Cert.Reference3Ideal.Post
-- ==== Proof.Post.Pre.lean ====
/- The precondition says that the gain and the query weights are real. -/
module

public import proofs.«01_k».proof.Pre_finite_gain_weights
public import proofs.«01_k».proof.Proof.Post.Spec
public import proofs.«01_k».proof.Proof.Mla.Pre

@[expose] public section

set_option maxRecDepth 16384

noncomputable section

namespace Cert.Pre_finite_gain_weights.Post

open Cert.Pre_finite_gain_weights Idealize.ShloMosaic
open Cert.Pre_finite_queries_keys.Mla (lt_top_of)

instance facts : Facts where
  bcast_S_S1024 := by decide
  bcast_S_S1024x2048 := by decide

theorem finite (x : FVec Ideal S16384x1024 .f32) (y d : FVec Ideal S16384x256 .bf16) (a : FVec Ideal S16384x512 .bf16)
    (w : FVec Ideal S1024x1024 .f32) (g : FVec Ideal S1024 .f32) (P : FVec Ideal S1024x2048 .f32)
    (h : (fn (F := Ideal) x y d a w g P).1 = (fun _ => 1#1) ∧ (fn (F := Ideal) x y d a w g P).2 = fun _ => 1#1) :
    (∀ j, _root_.Post.Real (g j)) ∧ ∀ j, _root_.Post.Real (P j) :=
  ⟨fun j => lt_top_of _ (congrFun h.1 j), fun j => lt_top_of _ (congrFun h.2 j)⟩

end Cert.Pre_finite_gain_weights.Post
-- ==== Proof.Proj.KernelRun.lean ====
/- One run of the projections' body: it gives back the inputs as they were. -/
module

public import proofs.«01_k».proof.Proof.Gen.Kernel4.Frame.Runs
@[expose] public section

set_option maxRecDepth 16384

noncomputable section

namespace Cert.Kernel4.Proj

open Cert.Kernel4 Cert.Kernel4.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
theorem run_body (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x2304 .bf16) (harg4 : arg4.IsWhole) (arg5 : Memref sig .tc .vmem S3x256 .f32) (harg5 : arg5.IsWhole) (arg6 : Memref sig .tc .vmem S1x384 .f32) (harg6 : arg6.IsWhole) (arg7 : Memref sig .tc .vmem S1x256 .f32) (harg7 : arg7.IsWhole) (arg8 : Memref sig .tc .vmem S384x1024 .bf16) (harg8 : arg8.IsWhole) (arg9 : Memref sig .tc .vmem S384x1024 .bf16) (harg9 : arg9.IsWhole) (arg10 : Memref sig .tc .vmem S256x1024 .bf16) (harg10 : arg10.IsWhole) (arg11 : Memref sig .tc .vmem S256x512 .bf16) (harg11 : arg11.IsWhole) (arg12 : Memref sig .tc .vmem S1x512x128 .f32) (harg12 : arg12.IsWhole) (arg13 : Memref sig .tc .vmem S1x512x128 .f32) (harg13 : arg13.IsWhole) (arg14 : Memref sig .tc .vmem S1x512x128 .f32) (harg14 : arg14.IsWhole) (arg15 : Memref sig .tc .vmem S1x512x256 .bf16) (harg15 : arg15.IsWhole) (arg16 : Memref sig .tc .vmem S1x512x256 .bf16) (harg16 : arg16.IsWhole) (arg17 : Memref sig .tc .vmem S1x512x256 .f32) (harg17 : arg17.IsWhole) (arg18 : Memref sig .tc .vmem S1x512x256 .bf16) (harg18 : arg18.IsWhole) (arg19 : Memref sig .tc .vmem S1x512x256 .f32) (harg19 : arg19.IsWhole) (arg20 : Memref sig .tc .vmem S1x512x256 .bf16) (harg20 : arg20.IsWhole) (arg21 : Memref sig .tc .vmem S1x512x256 .f32) (harg21 : arg21.IsWhole) (arg22 : Memref sig .tc .vmem S1x512x32 .f32) (harg22 : arg22.IsWhole) (arg23 : Memref sig .tc .vmem S1x512x1024 .bf16) (harg23 : arg23.IsWhole) (arg24 : Memref sig .tc .vmem S1x512x1024 .bf16) (harg24 : arg24.IsWhole) (arg25 : Memref sig .tc .vmem S1x512x512 .bf16) (harg25 : arg25.IsWhole) (arg26 : Memref sig .tc .vmem S1x2x256 .f32) (harg26 : arg26.IsWhole) (arg27 : Memref sig .tc .vmem S520x256 .f32) (harg27 : arg27.IsWhole)
    (x0 : Vec F S1x512x1024 .f32) (x1 : Vec F S1x1024 .f32) (x2 : Vec F S1024x2304 .bf16) (x3 : Vec F S3x256 .f32) (x4 : Vec F S1x384 .f32) (x5 : Vec F S1x256 .f32) (x6 : Vec F S384x1024 .bf16) (x7 : Vec F S384x1024 .bf16) (x8 : Vec F S256x1024 .bf16) (x9 : Vec F S256x512 .bf16) (x10 : Vec F S1x512x128 .f32) (x11 : Vec F S1x512x128 .f32) (x12 : Vec F S1x512x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)) -∗ K ⟨⟩))
      ⊢ wp frame (wpE (defs₀ (F := F)) Variants.none c none) E (cc0_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  by_cases hc0 : cond0_0 i
  all_goals
    simp only [cc0_proj_eq_skeleton]; unfold cc0_proj_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    isplitl [H23]
    · iexists _, _; isplitr; swap; · iexact H23
      ipureintro; rfl
    isplitl [H24]
    · iexists _, _; isplitr; swap; · iexact H24
      ipureintro; rfl
    iexists _, _; isplitr; swap; · iexact HS
    ipureintro; rfl

end Cert.Kernel4.Proj
-- ==== Proof.Proj.KernelFrame.lean ====
/- The run of the kernel: the arguments end unchanged and the semaphores at zero. -/
module

public import proofs.«01_k».proof.Proof.Gen.Kernel4.Frame.Runs
public import proofs.«01_k».proof.Proof.Proj.KernelRun
public import Idealize.ShloMosaic.Lib.Claim
@[expose] public section

set_option maxRecDepth 16384

noncomputable section

namespace Cert.Kernel4.Proj

open Cert.Kernel4 Cert.Kernel4.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def forgets0 : Fin 25 → Bool := fun w => Nat.ble 13 w.val

/-- What each window holds after the body at a point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | w => Pipeline.Dat.unnamed (cfg := cfg0) w t
  Φ := fun _ => Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := rfl
theorem after0_1 (c : Dev nD) (t : Fin cfg0.N) : (dats m 0 c).after 1 t = iblk m c 1 t := rfl
theorem after0_2 (c : Dev nD) (t : Fin cfg0.N) : (dats m 0 c).after 2 t = iblk m c 2 t := rfl
theorem after0_3 (c : Dev nD) (t : Fin cfg0.N) : (dats m 0 c).after 3 t = iblk m c 3 t := rfl
theorem after0_4 (c : Dev nD) (t : Fin cfg0.N) : (dats m 0 c).after 4 t = iblk m c 4 t := rfl
theorem after0_5 (c : Dev nD) (t : Fin cfg0.N) : (dats m 0 c).after 5 t = iblk m c 5 t := rfl
theorem after0_6 (c : Dev nD) (t : Fin cfg0.N) : (dats m 0 c).after 6 t = iblk m c 6 t := rfl
theorem after0_7 (c : Dev nD) (t : Fin cfg0.N) : (dats m 0 c).after 7 t = iblk m c 7 t := rfl
theorem after0_8 (c : Dev nD) (t : Fin cfg0.N) : (dats m 0 c).after 8 t = iblk m c 8 t := rfl
theorem after0_9 (c : Dev nD) (t : Fin cfg0.N) : (dats m 0 c).after 9 t = iblk m c 9 t := rfl
theorem after0_10 (c : Dev nD) (t : Fin cfg0.N) : (dats m 0 c).after 10 t = iblk m c 10 t := rfl
theorem after0_11 (c : Dev nD) (t : Fin cfg0.N) : (dats m 0 c).after 11 t = iblk m c 11 t := rfl
theorem after0_12 (c : Dev nD) (t : Fin cfg0.N) : (dats m 0 c).after 12 t = iblk m c 12 t := rfl

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

/-! ## The body obligation, at a generic point -/

/-- What the body takes at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare d)
    ∗ (∃ d, owns (c : Thread nD τ) (ms0_14 t) fullShare d)
    ∗ (∃ d, owns (c : Thread nD τ) (ms0_15 t) fullShare d)
    ∗ (∃ d, owns (c : Thread nD τ) (ms0_16 t) fullShare d)
    ∗ (∃ d, owns (c : Thread nD τ) (ms0_17 t) fullShare d)
    ∗ (∃ d, owns (c : Thread nD τ) (ms0_18 t) fullShare d)
    ∗ (∃ d, owns (c : Thread nD τ) (ms0_19 t) fullShare d)
    ∗ (∃ d, owns (c : Thread nD τ) (ms0_20 t) fullShare d)
    ∗ (∃ d, owns (c : Thread nD τ) (ms0_21 t) fullShare d)
    ∗ (∃ d, owns (c : Thread nD τ) (ms0_22 t) fullShare d)
    ∗ (∃ d, owns (c : Thread nD τ) (ms0_23 t) fullShare d)
    ∗ (∃ d, owns (c : Thread nD τ) (ms0_24 t) fullShare d))

/-- and what it gives back. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ (∃ d, owns (c : Thread nD τ) (ms0_13 t) fullShare d)
    ∗ (∃ d, owns (c : Thread nD τ) (ms0_14 t) fullShare d)
    ∗ (∃ d, owns (c : Thread nD τ) (ms0_15 t) fullShare d)
    ∗ (∃ d, owns (c : Thread nD τ) (ms0_16 t) fullShare d)
    ∗ (∃ d, owns (c : Thread nD τ) (ms0_17 t) fullShare d)
    ∗ (∃ d, owns (c : Thread nD τ) (ms0_18 t) fullShare d)
    ∗ (∃ d, owns (c : Thread nD τ) (ms0_19 t) fullShare d)
    ∗ (∃ d, owns (c : Thread nD τ) (ms0_20 t) fullShare d)
    ∗ (∃ d, owns (c : Thread nD τ) (ms0_21 t) fullShare d)
    ∗ (∃ d, owns (c : Thread nD τ) (ms0_22 t) fullShare d)
    ∗ (∃ d, owns (c : Thread nD τ) (ms0_23 t) fullShare d)
    ∗ (∃ d, owns (c : Thread nD τ) (ms0_24 t) fullShare d))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).owesAt () t.succ = (dats m 0 c).owesAt () t.castSucc from rfl,
    after0_0, after0_1, after0_2, after0_3, after0_4, after0_5, after0_6, after0_7, after0_8, after0_9, after0_10, after0_11, after0_12]
  rw [show (dats m 0 c).Φ t.succ = (dats m 0 c).Φ t.castSucc from rfl, show (dats m 0 c).Φ t.castSucc = Pipeline.ΦA spec0 c from rfl, PhiA0_eq]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
  iapply (run_body c (grid0.coords t) _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [HS]; · iexact HS
  iintro ⟨H0, H1, H2, H3, H4, H5, H6, H7, H8, H9, H10, H11, H12, H13, H14, H15, H16, H17, H18, H19, H20, H21, H22, H23, H24, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  iexact H24

theorem defs₀_row (t : Fin cfg0.N) :
    defs₀ (F := F) .tc cfg0.body (cfg0.bodyArgs t (cfg0.slots t)) = bodyAt0 t := by
  unfold defs₀; rw [Defs.onTc_tc]

set_option maxHeartbeats 19200000 in
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

set_option maxHeartbeats 19200000 in
/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(Pipeline.RDat.FramePost.arr_in h.1 c 0 rfl).trans ((A_eq m c 0).trans (V_main_arg0 m c)),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      (Pipeline.RDat.FramePost.arr_in h.1 c 3 rfl).trans ((A_eq m c 3).trans (V_main_arg3 m c)),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c)⟩) (run_main_quiescent m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.Kernel4.Proj
-- ==== Proof.Proj.Block.lean ====
/- What one run of the projections' body leaves: the seven output blocks with a value claim. -/
module

public import proofs.«01_k».proof.Proof.Gen.Kernel4Ideal.Frame.Runs
public import proofs.«01_k».proof.Proof.Post.Spec
public import Idealize.ShloMosaic.Lib.VecWindow
public import Idealize.ShloMosaic.Lib.WritesUnit
public import Idealize.ShloMosaic.Lib.WholeRead
public import Idealize.ShloMosaic.Lib.Claim

@[expose] public section

set_option maxRecDepth 16384

noncomputable section

namespace Cert.Kernel4Ideal.Proj

open Cert.Kernel4Ideal Cert.Kernel4Ideal.Gen
open Idealize.ShloMosaic Idealize.ShloMosaic.TcCoe Idealize.ShloMosaic.Tactic

/-! ## From the values loaded -/

def zoL (x : Vec Ideal S1x512x1024 .f32) (g : Vec Ideal S1x1024 .f32) (w1 w2 : Vec Ideal S1024x256 .bf16) : FVec Ideal S1x2x256 .f32 :=
  k0_pay9 (k0_pay5 x g w1 w2)
def dqL (x : Vec Ideal S1x512x1024 .f32) (g : Vec Ideal S1x1024 .f32) (w : Vec Ideal S1024x256 .bf16) : FVec Ideal S1x512x256 .bf16 :=
  k0_pay12 (k0_pay11 (k0_pay3 x g) w)
def dkL (x : Vec Ideal S1x512x1024 .f32) (g : Vec Ideal S1x1024 .f32) (w : Vec Ideal S1024x256 .bf16) : FVec Ideal S1x512x256 .f32 :=
  k0_pay14 (k0_pay3 x g) w
def dkbL (x : Vec Ideal S1x512x1024 .f32) (g : Vec Ideal S1x1024 .f32) (w : Vec Ideal S1024x256 .bf16) : FVec Ideal S1x512x256 .bf16 :=
  k0_pay15 (k0_pay3 x g) w
def dvL (x : Vec Ideal S1x512x1024 .f32) (g : Vec Ideal S1x1024 .f32) (w : Vec Ideal S1024x256 .bf16) : FVec Ideal S1x512x256 .f32 :=
  k0_pay17 (k0_pay3 x g) w
def dvbL (x : Vec Ideal S1x512x1024 .f32) (g : Vec Ideal S1x1024 .f32) (w : Vec Ideal S1024x256 .bf16) : FVec Ideal S1x512x256 .bf16 :=
  k0_pay18 (k0_pay3 x g) w
def ckvL (x : Vec Ideal S1x512x1024 .f32) (g : Vec Ideal S1x1024 .f32) (w : Vec Ideal S1024x256 .bf16) (k : Vec Ideal S1x256 .f32) : FVec Ideal S1x512x256 .f32 :=
  k0_pay28 (k0_pay24 (k0_pay3 x g) w) (k0_pay25 k) (k0_pay26 (k0_pay3 x g) w)
def vmL (x : Vec Ideal S1x512x1024 .f32) (g : Vec Ideal S1x1024 .f32) (w : Vec Ideal S1024x256 .bf16) (k : Vec Ideal S1x256 .f32)
    (wv : Vec Ideal S256x512 .bf16) : FVec Ideal S1x512x512 .bf16 :=
  k0_pay2 (k0_pay29 (k0_pay24 (k0_pay3 x g) w) (k0_pay25 k) (k0_pay26 (k0_pay3 x g) w)) wv

/-! ## From the whole input blocks -/

/-- `n` columns of the input projection's weights. -/
def col (n o : ℕ) (h : o + n ≤ 2304) (w : Vec Ideal S1024x2304 .bf16) : (⟨2, ![1024, n]⟩ : Shape).Idx → EReal :=
  fun j => w (ix2 (j 0 : Fin 1024) (⟨o + (j 1).val, lt_of_lt_of_le (Nat.add_lt_add_left (j 1).isLt o) h⟩ : Fin 2304))

variable (x : Vec Ideal S1x512x1024 .f32) (g : Vec Ideal S1x1024 .f32) (w : Vec Ideal S1024x2304 .bf16) (k : Vec Ideal S1x256 .f32)
  (wv : Vec Ideal S256x512 .bf16)

def zoB := zoL x g (col 256 256 (by decide) w) (col 256 512 (by decide) w)
def dqB := dqL x g (col 256 768 (by decide) w)
def dkB := dkL x g (col 256 1024 (by decide) w)
def dkbB := dkbL x g (col 256 1024 (by decide) w)
def dvB := dvL x g (col 256 1280 (by decide) w)
def dvbB := dvbL x g (col 256 1280 (by decide) w)
def ckvB := ckvL x g (col 256 1920 (by decide) w) k
def vmB := vmL x g (col 256 1920 (by decide) w) k wv
/-! ## Loads and stores -/

section

variable {κ' : Kind} {sp : Space}

theorem load_all {s : Shape} {e : EltTy} (r : Memref sig κ' sp s e) (hr : r.IsWhole) (X : s.Idx → Elt Ideal e) {off : Fin s.rank → ℕ} (inb) :
    r.view.readAt (Elt Ideal) (Rect.unit (s := s) off s.size inb).toLoadRect (hr.unread X) = X :=
  (View.readAt_full _ _ inb).trans (hr.read_unread X)

theorem load_col (r : Memref sig κ' sp S1024x2304 .bf16) (hr : r.IsWhole) (X : Vec Ideal S1024x2304 .bf16) (n o : ℕ) (h : o + n ≤ 2304) (inb) :
    r.view.readAt (Elt Ideal) (Rect.unit (s := S1024x2304) ![0, o] ![1024, n] inb).toLoadRect (hr.unread X) = col n o h X := by
  funext j
  refine (Memref.IsWhole.readAt_unread hr X _ j).trans (congrArg X (funext fun a => Fin.ext ?_))
  fin_cases a
  · show 0 + 1 * (j 0).val = (j 0).val; omega
  · show o + 1 * (j 1).val = o + (j 1).val; omega

end

end Cert.Kernel4Ideal.Proj
-- ==== Proof.Proj.Run.lean ====
/- One run of the projections' body over the reals: what it leaves in each block. -/
module

public import proofs.«01_k».proof.Proof.Gen.Kernel4Ideal.Frame.Runs
public import proofs.«01_k».proof.Proof.Proj.Block
@[expose] public section

set_option maxRecDepth 16384

noncomputable section

namespace Cert.Kernel4Ideal.Proj

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

set_option maxHeartbeats 8000000 in
theorem run_body (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x2304 .bf16) (harg4 : arg4.IsWhole) (arg5 : Memref sig .tc .vmem S3x256 .f32) (harg5 : arg5.IsWhole) (arg6 : Memref sig .tc .vmem S1x384 .f32) (harg6 : arg6.IsWhole) (arg7 : Memref sig .tc .vmem S1x256 .f32) (harg7 : arg7.IsWhole) (arg8 : Memref sig .tc .vmem S384x1024 .bf16) (harg8 : arg8.IsWhole) (arg9 : Memref sig .tc .vmem S384x1024 .bf16) (harg9 : arg9.IsWhole) (arg10 : Memref sig .tc .vmem S256x1024 .bf16) (harg10 : arg10.IsWhole) (arg11 : Memref sig .tc .vmem S256x512 .bf16) (harg11 : arg11.IsWhole) (arg12 : Memref sig .tc .vmem S1x512x128 .f32) (harg12 : arg12.IsWhole) (arg13 : Memref sig .tc .vmem S1x512x128 .f32) (harg13 : arg13.IsWhole) (arg14 : Memref sig .tc .vmem S1x512x128 .f32) (harg14 : arg14.IsWhole) (arg15 : Memref sig .tc .vmem S1x512x256 .bf16) (harg15 : arg15.IsWhole) (arg16 : Memref sig .tc .vmem S1x512x256 .bf16) (harg16 : arg16.IsWhole) (arg17 : Memref sig .tc .vmem S1x512x256 .f32) (harg17 : arg17.IsWhole) (arg18 : Memref sig .tc .vmem S1x512x256 .bf16) (harg18 : arg18.IsWhole) (arg19 : Memref sig .tc .vmem S1x512x256 .f32) (harg19 : arg19.IsWhole) (arg20 : Memref sig .tc .vmem S1x512x256 .bf16) (harg20 : arg20.IsWhole) (arg21 : Memref sig .tc .vmem S1x512x256 .f32) (harg21 : arg21.IsWhole) (arg22 : Memref sig .tc .vmem S1x512x32 .f32) (harg22 : arg22.IsWhole) (arg23 : Memref sig .tc .vmem S1x512x1024 .bf16) (harg23 : arg23.IsWhole) (arg24 : Memref sig .tc .vmem S1x512x1024 .bf16) (harg24 : arg24.IsWhole) (arg25 : Memref sig .tc .vmem S1x512x512 .bf16) (harg25 : arg25.IsWhole) (arg26 : Memref sig .tc .vmem S1x2x256 .f32) (harg26 : arg26.IsWhole) (arg27 : Memref sig .tc .vmem S520x256 .f32) (harg27 : arg27.IsWhole)
    (x0 : Vec Ideal S1x512x1024 .f32) (x1 : Vec Ideal S1x1024 .f32) (x2 : Vec Ideal S1024x2304 .bf16) (x3 : Vec Ideal S3x256 .f32) (x4 : Vec Ideal S1x384 .f32) (x5 : Vec Ideal S1x256 .f32) (x6 : Vec Ideal S384x1024 .bf16) (x7 : Vec Ideal S384x1024 .bf16) (x8 : Vec Ideal S256x1024 .bf16) (x9 : Vec Ideal S256x512 .bf16) (x10 : Vec Ideal S1x512x128 .f32) (x11 : Vec Ideal S1x512x128 .f32) (x12 : Vec Ideal S1x512x128 .f32) (s : Vec Ideal S520x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ owns (c : Thread nD τ) arg27 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ d, owns (c : Thread nD τ) arg15 fullShare d) ∗ owns (c : Thread nD τ) arg16 fullShare (dqB x0 x1 x2) ∗ owns (c : Thread nD τ) arg17 fullShare (dkB x0 x1 x2) ∗ owns (c : Thread nD τ) arg18 fullShare (dkbB x0 x1 x2) ∗ owns (c : Thread nD τ) arg19 fullShare (dvB x0 x1 x2) ∗ owns (c : Thread nD τ) arg20 fullShare (dvbB x0 x1 x2) ∗ owns (c : Thread nD τ) arg21 fullShare (ckvB x0 x1 x2 x5) ∗ (∃ d, owns (c : Thread nD τ) arg22 fullShare d) ∗ (∃ d, owns (c : Thread nD τ) arg23 fullShare d) ∗ (∃ d, owns (c : Thread nD τ) arg24 fullShare d) ∗ owns (c : Thread nD τ) arg25 fullShare (vmB x0 x1 x2 x5 x9) ∗ owns (c : Thread nD τ) arg26 fullShare (zoB x0 x1 x2) ∗ (∃ d, owns (c : Thread nD τ) arg27 fullShare d)) -∗ K ⟨⟩))
      ⊢ wp frame (wpE (defs₀ (F := Ideal)) Variants.none c none) E (cc0_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  by_cases hc0 : cond0_0 i
  all_goals
    simp only [cc0_proj_eq_skeleton]; unfold cc0_proj_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg27.eq_unread hfs
    sl_exec (disch := first | sl_exact hc0)
    sl_step
    iapply Hk
    have e0 := load_all arg2 harg2 x0 (off := ![0,0,0]) inb_S1x512x1024_S1x512x1024_0_0_0
    have e1 := load_all arg3 harg3 x1 (off := ![0,0]) inb_S1x1024_S1x1024_0_0
    have e5 := load_all arg7 harg7 x5 (off := ![0,0]) inb_S1x256_S1x256_0_0
    have e9 := load_all arg11 harg11 x9 (off := ![0,0]) inb_S256x512_S256x512_0_0
    have c256 := load_col arg4 harg4 x2 256 256 (by decide) inb_S1024x2304_S1024x256_0_256
    have c512 := load_col arg4 harg4 x2 256 512 (by decide) inb_S1024x2304_S1024x256_0_512
    have c768 := load_col arg4 harg4 x2 256 768 (by decide) inb_S1024x2304_S1024x256_0_768
    have c1024 := load_col arg4 harg4 x2 256 1024 (by decide) inb_S1024x2304_S1024x256_0_1024
    have c1280 := load_col arg4 harg4 x2 256 1280 (by decide) inb_S1024x2304_S1024x256_0_1280
    have c1920 := load_col arg4 harg4 x2 256 1920 (by decide) inb_S1024x2304_S1024x256_0_1920
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _, _; isplitr; swap; · iexact H13
      ipureintro; rfl
    isplitl [H14]
    · iexists _; isplitr; swap; · iexact H14
      ipureintro
      have h := congr (congr (congrArg dqL e0) e1) c768
      exact (View.read_writes_full _ _ _ _ _).trans h
    isplitl [H15]
    · iexists _; isplitr; swap; · iexact H15
      ipureintro
      exact (View.read_writes_full _ _ _ _ _).trans (congr (congr (congrArg dkL e0) e1) c1024)
    isplitl [H16]
    · iexists _; isplitr; swap; · iexact H16
      ipureintro
      exact (View.read_writes_full _ _ _ _ _).trans (congr (congr (congrArg dkbL e0) e1) c1024)
    isplitl [H17]
    · iexists _; isplitr; swap; · iexact H17
      ipureintro
      exact (View.read_writes_full _ _ _ _ _).trans (congr (congr (congrArg dvL e0) e1) c1280)
    isplitl [H18]
    · iexists _; isplitr; swap; · iexact H18
      ipureintro
      exact (View.read_writes_full _ _ _ _ _).trans (congr (congr (congrArg dvbL e0) e1) c1280)
    isplitl [H19]
    · iexists _; isplitr; swap; · iexact H19
      ipureintro
      have h := congr (congr (congr (congrArg ckvL e0) e1) c1920) e5
      exact (View.read_writes_full _ _ _ _ _).trans h
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    isplitl [H23]
    · iexists _; isplitr; swap; · iexact H23
      ipureintro
      exact (View.read_writes_full _ _ _ _ _).trans (congr (congr (congr (congr (congrArg vmL e0) e1) c1920) e5) e9)
    isplitl [H24]
    · iexists _; isplitr; swap; · iexact H24
      ipureintro
      have h := congr (congr (congr (congrArg zoL e0) e1) c256) c512
      exact (View.read_writes_full _ _ _ _ _).trans h
    iexists _, _; isplitr; swap; · iexact HS
    ipureintro; rfl

end Cert.Kernel4Ideal.Proj
-- ==== Proof.Proj.Frame.lean ====
/- The run of the idealized kernel: the arguments end unchanged, the semaphores at zero and the output arrays hold,
   block by block, what the body computes. -/
module

public import proofs.«01_k».proof.Proof.Gen.Kernel4Ideal.Frame.Runs
public import proofs.«01_k».proof.Proof.Proj.Run
public import Idealize.ShloMosaic.Lib.Claim
@[expose] public section

set_option maxRecDepth 16384

noncomputable section

namespace Cert.Kernel4Ideal.Proj

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The outputs without a value claim. -/
def forgets0 : Fin 25 → Bool := fun w => Nat.beq 13 w.val || (Nat.ble 20 w.val && Nat.ble w.val 22)

/-- What each window holds after the body at a point. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨14, _⟩ => dqB (iblk m c 0 t) (iblk m c 1 t) (iblk m c 2 t)
    | ⟨15, _⟩ => dkB (iblk m c 0 t) (iblk m c 1 t) (iblk m c 2 t)
    | ⟨16, _⟩ => dkbB (iblk m c 0 t) (iblk m c 1 t) (iblk m c 2 t)
    | ⟨17, _⟩ => dvB (iblk m c 0 t) (iblk m c 1 t) (iblk m c 2 t)
    | ⟨18, _⟩ => dvbB (iblk m c 0 t) (iblk m c 1 t) (iblk m c 2 t)
    | ⟨19, _⟩ => ckvB (iblk m c 0 t) (iblk m c 1 t) (iblk m c 2 t) (iblk m c 5 t)
    | ⟨23, _⟩ => vmB (iblk m c 0 t) (iblk m c 1 t) (iblk m c 2 t) (iblk m c 5 t) (iblk m c 9 t)
    | ⟨24, _⟩ => zoB (iblk m c 0 t) (iblk m c 1 t) (iblk m c 2 t)
    | w => Pipeline.Dat.unnamed (cfg := cfg0) w t
  Φ := fun _ => Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := rfl
theorem after0_1 (c : Dev nD) (t : Fin cfg0.N) : (dats m 0 c).after 1 t = iblk m c 1 t := rfl
theorem after0_2 (c : Dev nD) (t : Fin cfg0.N) : (dats m 0 c).after 2 t = iblk m c 2 t := rfl
theorem after0_3 (c : Dev nD) (t : Fin cfg0.N) : (dats m 0 c).after 3 t = iblk m c 3 t := rfl
theorem after0_4 (c : Dev nD) (t : Fin cfg0.N) : (dats m 0 c).after 4 t = iblk m c 4 t := rfl
theorem after0_5 (c : Dev nD) (t : Fin cfg0.N) : (dats m 0 c).after 5 t = iblk m c 5 t := rfl
theorem after0_6 (c : Dev nD) (t : Fin cfg0.N) : (dats m 0 c).after 6 t = iblk m c 6 t := rfl
theorem after0_7 (c : Dev nD) (t : Fin cfg0.N) : (dats m 0 c).after 7 t = iblk m c 7 t := rfl
theorem after0_8 (c : Dev nD) (t : Fin cfg0.N) : (dats m 0 c).after 8 t = iblk m c 8 t := rfl
theorem after0_9 (c : Dev nD) (t : Fin cfg0.N) : (dats m 0 c).after 9 t = iblk m c 9 t := rfl
theorem after0_10 (c : Dev nD) (t : Fin cfg0.N) : (dats m 0 c).after 10 t = iblk m c 10 t := rfl
theorem after0_11 (c : Dev nD) (t : Fin cfg0.N) : (dats m 0 c).after 11 t = iblk m c 11 t := rfl
theorem after0_12 (c : Dev nD) (t : Fin cfg0.N) : (dats m 0 c).after 12 t = iblk m c 12 t := rfl
theorem after0_14 (c : Dev nD) (t : Fin cfg0.N) :
    (dats m 0 c).after 14 t = dqB (iblk m c 0 t) (iblk m c 1 t) (iblk m c 2 t) := rfl
theorem after0_15 (c : Dev nD) (t : Fin cfg0.N) :
    (dats m 0 c).after 15 t = dkB (iblk m c 0 t) (iblk m c 1 t) (iblk m c 2 t) := rfl
theorem after0_16 (c : Dev nD) (t : Fin cfg0.N) :
    (dats m 0 c).after 16 t = dkbB (iblk m c 0 t) (iblk m c 1 t) (iblk m c 2 t) := rfl
theorem after0_17 (c : Dev nD) (t : Fin cfg0.N) :
    (dats m 0 c).after 17 t = dvB (iblk m c 0 t) (iblk m c 1 t) (iblk m c 2 t) := rfl
theorem after0_18 (c : Dev nD) (t : Fin cfg0.N) :
    (dats m 0 c).after 18 t = dvbB (iblk m c 0 t) (iblk m c 1 t) (iblk m c 2 t) := rfl
theorem after0_19 (c : Dev nD) (t : Fin cfg0.N) :
    (dats m 0 c).after 19 t = ckvB (iblk m c 0 t) (iblk m c 1 t) (iblk m c 2 t) (iblk m c 5 t) := rfl
theorem after0_23 (c : Dev nD) (t : Fin cfg0.N) :
    (dats m 0 c).after 23 t = vmB (iblk m c 0 t) (iblk m c 1 t) (iblk m c 2 t) (iblk m c 5 t) (iblk m c 9 t) := rfl

theorem after0_24 (c : Dev nD) (t : Fin cfg0.N) :
    (dats m 0 c).after 24 t = zoB (iblk m c 0 t) (iblk m c 1 t) (iblk m c 2 t) := rfl

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

/-! ## The body obligation, at a generic point -/

/-- What the body takes at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare d)
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare d)
    ∗ (∃ d, owns (c : Thread nD τ) (ms0_21 t) fullShare d)
    ∗ (∃ d, owns (c : Thread nD τ) (ms0_22 t) fullShare d)
    ∗ (∃ d, owns (c : Thread nD τ) (ms0_23 t) fullShare ((dats m 0 c).before 23 t d))
    ∗ (∃ d, owns (c : Thread nD τ) (ms0_24 t) fullShare ((dats m 0 c).before 24 t d)))

/-- and what it gives back. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ (∃ d, owns (c : Thread nD τ) (ms0_13 t) fullShare d)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ (∃ d, owns (c : Thread nD τ) (ms0_20 t) fullShare d)
    ∗ (∃ d, owns (c : Thread nD τ) (ms0_21 t) fullShare d)
    ∗ (∃ d, owns (c : Thread nD τ) (ms0_22 t) fullShare d)
    ∗ owns (c : Thread nD τ) (ms0_23 t) fullShare ((dats m 0 c).after 23 t)
    ∗ owns (c : Thread nD τ) (ms0_24 t) fullShare ((dats m 0 c).after 24 t))

set_option maxHeartbeats 4000000 in
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).owesAt () t.succ = (dats m 0 c).owesAt () t.castSucc from rfl,
    after0_0, after0_1, after0_2, after0_3, after0_4, after0_5, after0_6, after0_7, after0_8, after0_9, after0_10, after0_11, after0_12, after0_14, after0_15, after0_16, after0_17, after0_18, after0_19, after0_23, after0_24]
  rw [show (dats m 0 c).Φ t.succ = (dats m 0 c).Φ t.castSucc from rfl, show (dats m 0 c).Φ t.castSucc = Pipeline.ΦA spec0 c from rfl, PhiA0_eq]
  iintro ⟨⟨⟨%s, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
  iapply (run_body c (grid0.coords t) _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) s Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [HS]; · iexact HS
  iintro ⟨H0, H1, H2, H3, H4, H5, H6, H7, H8, H9, H10, H11, H12, H13, H14, H15, H16, H17, H18, H19, H20, H21, H22, H23, H24, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  iexact H24

theorem defs₀_row (t : Fin cfg0.N) :
    defs₀ (F := Ideal) .tc cfg0.body (cfg0.bodyArgs t (cfg0.slots t)) = bodyAt0 t := by
  unfold defs₀; rw [Defs.onTc_tc]

set_option maxHeartbeats 19200000 in
theorem body_obligation (c : Dev nD) : BodyObligation (dats m 0 c) (defs₀ (F := Ideal)) Variants.none () Set.univ forgets0 := fun t => by
  rw [bigSep_W0, bigSep_W0, defs₀_row]
  exact triple_restated (sound_body m c t) rfl .rfl fun _ => .rfl

/-! ## The run and the frame -/

set_option backward.isDefEq.respectTransparency.types false in
theorem run_main_quiescent : θ_run defs (onTc (τ := τ) (main (F := Ideal))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The output arrays with a value claim end at the blocks written. -/
theorem run_out : θ_run defs (onTc (τ := τ) (main (F := Ideal))) ⟨m, fun _ => 0, ρ⟩ (fun r => ∀ c : Dev nD, r.2.mem ((c.tc : Thread nD τ).loc main_v57_1) = (dats m 0 c).arrAt 14 cfg0.N
      ∧ r.2.mem ((c.tc : Thread nD τ).loc main_v57_2) = (dats m 0 c).arrAt 15 cfg0.N
      ∧ r.2.mem ((c.tc : Thread nD τ).loc main_v57_3) = (dats m 0 c).arrAt 16 cfg0.N
      ∧ r.2.mem ((c.tc : Thread nD τ).loc main_v57_4) = (dats m 0 c).arrAt 17 cfg0.N
      ∧ r.2.mem ((c.tc : Thread nD τ).loc main_v57_5) = (dats m 0 c).arrAt 18 cfg0.N
      ∧ r.2.mem ((c.tc : Thread nD τ).loc main_v57_6) = (dats m 0 c).arrAt 19 cfg0.N
      ∧ r.2.mem ((c.tc : Thread nD τ).loc main_v57_10) = (dats m 0 c).arrAt 23 cfg0.N
      ∧ r.2.mem ((c.tc : Thread nD τ).loc main_v57_11) = (dats m 0 c).arrAt 24 cfg0.N) :=
  (θ_run defs _ _).mono (fun r h c => ⟨((dats m 0 c).toRForget_arrAt_iff (fgt := forgets0) (w := 14) rfl _ _).mp ((h.1 c).1 14),
      ((dats m 0 c).toRForget_arrAt_iff (fgt := forgets0) (w := 15) rfl _ _).mp ((h.1 c).1 15),
      ((dats m 0 c).toRForget_arrAt_iff (fgt := forgets0) (w := 16) rfl _ _).mp ((h.1 c).1 16),
      ((dats m 0 c).toRForget_arrAt_iff (fgt := forgets0) (w := 17) rfl _ _).mp ((h.1 c).1 17),
      ((dats m 0 c).toRForget_arrAt_iff (fgt := forgets0) (w := 18) rfl _ _).mp ((h.1 c).1 18),
      ((dats m 0 c).toRForget_arrAt_iff (fgt := forgets0) (w := 19) rfl _ _).mp ((h.1 c).1 19),
      ((dats m 0 c).toRForget_arrAt_iff (fgt := forgets0) (w := 23) rfl _ _).mp ((h.1 c).1 23),
      ((dats m 0 c).toRForget_arrAt_iff (fgt := forgets0) (w := 24) rfl _ _).mp ((h.1 c).1 24)⟩) (run_main_quiescent m ρ)

set_option maxHeartbeats 19200000 in
/-- The argument arrays end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(Pipeline.RDat.FramePost.arr_in h.1 c 0 rfl).trans ((A_eq m c 0).trans (V_main_arg0 m c)),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      (Pipeline.RDat.FramePost.arr_in h.1 c 3 rfl).trans ((A_eq m c 3).trans (V_main_arg3 m c)),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c)⟩) (run_main_quiescent m ρ)

theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.Kernel4Ideal.Proj
-- ==== Proof.Proj.Spec.lean ====
/- The projections in front of the mixers, over whole arrays: the normalized input times one weight matrix, of whose
   columns these are the differential attention's queries, keys and values and the latent attention's compressed keys
   and values, and what each is made into. -/
module

public import proofs.«01_k».proof.Proof.Post.Spec

@[expose] public section

set_option maxRecDepth 16384

noncomputable section

namespace Proj

open Idealize.ShloMosaic
open Post (Real)

/-- The shapes of inputs, of weights and of gains. -/
abbrev SX : Shape := ⟨3, ![2, 8192, 1024]⟩
abbrev SI : Shape := ⟨2, ![1024, 2208]⟩
abbrev SGK : Shape := ⟨1, ![256]⟩
abbrev SUK : Shape := ⟨3, ![256, 8, 64]⟩

variable (X : SX.Idx → EReal) (g : Post.SG.Idx → EReal) (W : SI.Idx → EReal)
  (gk : SGK.Idx → EReal)

/-- The input's normalized row. -/
def h (b : Fin 2) (s : Fin 8192) (d : Fin 1024) : EReal := Post.norm g (fun e => X (ix3 b s e)) d

/-- Its product with the weights. -/
def p (b : Fin 2) (s : Fin 8192) (n : Fin 2208) : EReal := ∑ d, h X g b s d * W (ix2 d n)

section Row

variable (r : Fin 2208 → EReal)

/-- `n` of a row's columns. -/
def part (n o : ℕ) (ho : o + n ≤ 2208) (i : Fin n) : EReal := r ⟨o + i.val, lt_of_lt_of_le (Nat.add_lt_add_left i.isLt o) ho⟩

/-- The inverse root of the mean of squares, from their sum and the number. -/
def scale (n : BitVec 32) (s : EReal) : EReal := Ideal.rsqrt (Ideal.div s (Ideal.ofBits .f32 n) + Ideal.ofBits .f32 0x358637BD#32)

/-- A row normalized, times the gains. -/
def norm {n : ℕ} (k : BitVec 32) (u g : Fin n → EReal) (i : Fin n) : EReal := u i * scale k (∑ e, u e * u e) * g i

/-- The differential attention's queries, with their scale. -/
def dq (i : Fin 256) : EReal := part r 256 768 (by decide) i * Ideal.ofBits .f32 0x3E3504F3#32

/-- The compressed keys and values, normalized. -/
def ckv : Fin 256 → EReal := norm 0x43800000#32 (part r 256 1920 (by decide)) fun i => gk (ix1 i)

/-- What the convolution takes. -/
def gated (i : Fin 256) : EReal := part r 256 256 (by decide) i * part r 256 512 (by decide) i

/-- The values by head. -/
def up (U : SUK.Idx → EReal) (a : Fin 8) (i : Fin 64) : EReal := ∑ e, ckv gk r e * U (ix3 e a i)

end Row

/-- The array whose place `i` in row `s` of sequence `b` is `f b s i`. -/
def arr {q n : ℕ} (f : Fin 2 → Fin q → Fin n → EReal) : (⟨3, ![2, q, n]⟩ : Shape).Idx → EReal := fun j => f (j 0) (j 1) (j 2)

/-- The six results: the scaled queries, the keys and the values; the latent rows and their values, head by head; the
    convolution's state, its last two rows. -/
def Dq := arr fun b s => dq (p X g W b s)
def Dk := arr fun b s => part (p X g W b s) 256 1024 (by decide)
def Dv := arr fun b s => part (p X g W b s) 256 1280 (by decide)
def Ckv := arr fun b s => ckv gk (p X g W b s)
def Vm (U : SUK.Idx → EReal) := arr fun b s (n : Fin 512) => up gk (p X g W b s) U ⟨n.val / 64, by omega⟩ ⟨n.val % 64, by omega⟩
def Conv := arr fun b (s : Fin 2) => gated (p X g W b ⟨8190 + s.val, by omega⟩)

end Proj
-- ==== Proof.Proj.Points.lean ====
/- A point of the projections' grid: the rows its blocks hold, and what the body makes of them. -/
module

public import proofs.«01_k».proof.Proof.Proj.Block
public import proofs.«01_k».proof.Proof.Proj.Spec

@[expose] public section

set_option maxRecDepth 16384

noncomputable section

namespace Cert.Kernel4Ideal.Proj

open Cert.Kernel4Ideal Cert.Kernel4Ideal.Gen
open Idealize.ShloMosaic Idealize.ShloMosaic.TcCoe Idealize.SL.Sem

section Block

variable (x : Vec Ideal S1x512x1024 .f32) (g : Vec Ideal S1x1024 .f32) (w : Vec Ideal S1024x2304 .bf16) (k : Vec Ideal S1x256 .f32)
  (wv : Vec Ideal S256x512 .bf16)

/-- A block's normalized row. -/
theorem pay3_apply (r : Fin 512) (d : Fin 1024) : (k0_pay3 x g (ix2 r d) : EReal)
    = (x (ix3 (0 : Fin 1) r d) : EReal) * _root_.Post.scale (∑ e : Fin 1024, (x (ix3 (0 : Fin 1) r e) : EReal) * x (ix3 (0 : Fin 1) r e))
      * g (ix2 (0 : Fin 1) d) := by
  pointwise [k0_pay3]
  rfl

/-- Its product with the weights. -/
def prod (r : Fin 512) (n : Fin 2304) : EReal := ∑ e : Fin 1024, (k0_pay3 x g (ix2 r e) : EReal) * w (ix2 e n)

/-- `256` columns of it. -/
def cols (o : ℕ) (h : o + 256 ≤ 2304) (r : Fin 512) (i : Fin 256) : EReal :=
  prod x g w r ⟨o + i.val, lt_of_lt_of_le (Nat.add_lt_add_left i.isLt o) h⟩

theorem dqB_apply (r : Fin 512) (i : Fin 256) :
    (dqB x g w (ix3 (0 : Fin 1) r i) : EReal) = cols x g w 768 (by decide) r i * Ideal.ofBits .f32 0x3E3504F3#32 := by
  unfold dqB dqL cols prod
  generalize k0_pay3 x g = H
  pointwise [k0_pay12, k0_pay11]
  rfl

theorem dkB_apply (r : Fin 512) (i : Fin 256) : dkB x g w (ix3 (0 : Fin 1) r i) = cols x g w 1024 (by decide) r i := by
  unfold dkB dkL cols prod
  generalize k0_pay3 x g = H
  pointwise [k0_pay14, k0_pay13]
  rfl

theorem dkbB_apply (r : Fin 512) (i : Fin 256) : (dkbB x g w (ix3 (0 : Fin 1) r i) : EReal) = cols x g w 1024 (by decide) r i := by
  unfold dkbB dkbL cols prod
  generalize k0_pay3 x g = H
  pointwise [k0_pay15, k0_pay13]
  rfl

theorem dvB_apply (r : Fin 512) (i : Fin 256) : dvB x g w (ix3 (0 : Fin 1) r i) = cols x g w 1280 (by decide) r i := by
  unfold dvB dvL cols prod
  generalize k0_pay3 x g = H
  pointwise [k0_pay17, k0_pay16]
  rfl

theorem dvbB_apply (r : Fin 512) (i : Fin 256) : (dvbB x g w (ix3 (0 : Fin 1) r i) : EReal) = cols x g w 1280 (by decide) r i := by
  unfold dvbB dvbL cols prod
  generalize k0_pay3 x g = H
  pointwise [k0_pay18, k0_pay16]
  rfl

/-- The latent columns, and them normalized. -/
theorem pay24_apply (r : Fin 512) (i : Fin 256) : k0_pay24 (k0_pay3 x g) (col 256 1920 (by decide) w) (ix2 r i) = cols x g w 1920 (by decide) r i := by
  unfold cols prod
  generalize k0_pay3 x g = H
  pointwise [k0_pay24]
  rfl

theorem pay27_apply (u : FVec Ideal S512x256 .f32) (v : FVec Ideal S1x256 .f32) (r : Fin 512) (i : Fin 256) : k0_pay27 u v (mulf u u) (ix2 r i)
    = _root_.Proj.norm 0x43800000#32 (fun e => u (ix2 r e)) (fun e => v (ix2 (0 : Fin 1) e)) i := by
  pointwise [k0_pay27]
  rfl

/-- The latent row. -/
def lat (r : Fin 512) (i : Fin 256) : EReal :=
  _root_.Proj.norm 0x43800000#32 (cols x g w 1920 (by decide) r) (fun e => k (ix2 (0 : Fin 1) e)) i

theorem lat_apply (r : Fin 512) (i : Fin 256) :
    k0_pay27 (k0_pay24 (k0_pay3 x g) (col 256 1920 (by decide) w)) (k0_pay25 k) (k0_pay26 (k0_pay3 x g) (col 256 1920 (by decide) w)) (ix2 r i)
      = lat x g w k r i := by
  refine (pay27_apply _ _ r i).trans ?_
  have e : k0_pay25 k = k := by
    unfold k0_pay25
    funext j
    idx_vars j
    pointwise
  rw [e]
  simp only [pay24_apply]
  rfl

theorem ckvB_apply (r : Fin 512) (i : Fin 256) : ckvB x g w k (ix3 (0 : Fin 1) r i) = lat x g w k r i := by
  rw [← lat_apply]
  unfold ckvB ckvL k0_pay28
  generalize k0_pay27 (F := Ideal) _ _ _ = H
  pointwise

theorem vmB_apply (r : Fin 512) (n : Fin 512) :
    (vmB x g w k wv (ix3 (0 : Fin 1) r n) : EReal) = ∑ e : Fin 256, lat x g w k r e * wv (ix2 e n) := by
  simp only [← lat_apply]
  unfold vmB vmL k0_pay29
  generalize k0_pay27 (F := Ideal) _ _ _ = H
  pointwise [k0_pay2]

theorem pay5_apply (r : Fin 512) (i : Fin 256) : k0_pay5 x g (col 256 256 (by decide) w) (col 256 512 (by decide) w) (ix2 r i)
    = cols x g w 256 (by decide) r i * cols x g w 512 (by decide) r i := by
  unfold cols prod k0_pay5
  generalize k0_pay3 x g = H
  pointwise
  rfl

theorem zoB_apply (r : Fin 2) (i : Fin 256) : zoB x g w (ix3 (0 : Fin 1) r i)
    = cols x g w 256 (by decide) ⟨510 + r.val, by omega⟩ i * cols x g w 512 (by decide) ⟨510 + r.val, by omega⟩ i := by
  rw [← pay5_apply]
  unfold zoB zoL
  generalize k0_pay5 (F := Ideal) _ _ _ _ = H
  pointwise [k0_pay9]

end Block

variable (m : (ℓ : Loc nD τ sig) → Buf (Elt Ideal) ℓ)

/-- Which block each window takes at a point. -/
theorem idx : ∀ t : Fin cfg0.N,
    win0_0.index t = ![t.val / 16, t.val % 16, 0] ∧ win0_1.index t = ![0, 0] ∧ win0_2.index t = ![0, 0] ∧ win0_5.index t = ![0, 0]
    ∧ win0_9.index t = ![0, 0] ∧ win0_14.index t = ![t.val / 16, t.val % 16, 0] ∧ win0_15.index t = ![t.val / 16, t.val % 16, 0]
    ∧ win0_16.index t = ![t.val / 16, t.val % 16, 0] ∧ win0_17.index t = ![t.val / 16, t.val % 16, 0]
    ∧ win0_18.index t = ![t.val / 16, t.val % 16, 0] ∧ win0_19.index t = ![t.val / 16, t.val % 16, 0]
    ∧ win0_23.index t = ![t.val / 16, t.val % 16, 0] :=
  (by decide +kernel : ∀ t : Fin grid0.N, _)

theorem idx24 : ∀ t : Fin cfg0.N, win0_24.index t = ![t.val / 16, 0, 0] := (by decide +kernel : ∀ t : Fin grid0.N, _)

/-- The convolution's state is written out after the last block of a sequence. -/
theorem flush24 : ∀ t : Fin cfg0.N, (cfg0.win 24).flush t = true → t.val % 16 = 15 := (by decide +kernel : ∀ t : Fin grid0.N, _)

/-- The sequence of a point, and the place in it of a point's row. -/
def sq (t : Fin cfg0.N) : Fin 2 := ⟨t.val / 16, by have h : t.val < 32 := t.isLt; omega⟩
def pr (t : Fin cfg0.N) (r : Fin 512) : Fin 8192 := ⟨512 * (t.val % 16) + r.val, by have := r.isLt; omega⟩

/-- What the host makes of the gains and the weights. -/
theorem gain_eq (c : Dev nD) (d : Fin 1024) : V m c main_v22 (ix2 (0 : Fin 1) d) = m ((c : Thread nD τ).loc main_arg1) (ix1 d) := by
  entry_read
  pointwise

set_option maxHeartbeats 1000000 in
theorem first4 (A : FVec Ideal S1024x2176 .f32) (Z : FVec Ideal S1024x64 .f32) (K R : FVec Ideal S1024x32 .f32) (e : Fin 1024) (n : Fin 2208) (hn : n.val < 2176) :
    concatenate S1024x2304 1 [⟨S1024x2176, A⟩, ⟨S1024x64, Z⟩, ⟨S1024x32, K⟩, ⟨S1024x32, R⟩] concatenates_S1024x2176_S1024x64_S1024x32_S1024x32_S1024x2304_d1
      (ix2 e (⟨n.val, by omega⟩ : Fin 2304)) = A (ix2 e (⟨n.val, hn⟩ : Fin 2176)) := by
  generalize hv : (⟨n.val, by omega⟩ : Fin 2304) = v
  have hv' : v.val < 2176 := by rw [← hv]; exact hn
  have : (⟨n.val, hn⟩ : Fin 2176) = ⟨v.val, hv'⟩ := Fin.ext (by simp [← hv])
  rw [this]
  clear hv this
  pointwise
  rw [dif_pos hv']

/-- One line of operations after another. -/
theorem after_append (k : List (HloOp τ sig (Elt Ideal))) (l : List (HloOp τ sig (Elt Ideal))) : ∀ σ : Valuation τ sig (Elt Ideal),
    StableHlo.after (k ++ l) σ = StableHlo.after l (StableHlo.after k σ) := by
  induction k with
  | nil => exact fun _ => rfl
  | cons o k ih => exact fun σ => ih (o.result σ)

/-- The weights side by side, as the host lays them out: its operations cut before and after the one that does. -/
theorem host_after (σ : Valuation τ sig (Elt Ideal)) : StableHlo.after ((hostOps0 (F := Ideal)).drop 9) σ (Proc.devRef .tc main_v23)
    = truncf (F := Ideal) .bf16 (σ (Proc.devRef .tc main_v7) : FVec Ideal S1024x2304 .f32) bitsLt_bf16_f32 := by
  simp only [hostOps0, List.drop_succ_cons, List.drop_zero]
  after_results_simp

theorem host_at (σ : Valuation τ sig (Elt Ideal)) : ∃ (Z : FVec Ideal S1024x64 .f32) (K R : FVec Ideal S1024x32 .f32),
    StableHlo.after (((hostOps0 (F := Ideal)).drop 8).take 1) σ (Proc.devRef .tc main_v7)
      = concatenate S1024x2304 1 [⟨S1024x2176, (σ (Proc.devRef .tc main_v1) : FVec Ideal S1024x2176 .f32)⟩, ⟨S1024x64, Z⟩, ⟨S1024x32, K⟩, ⟨S1024x32, R⟩] concatenates_S1024x2176_S1024x64_S1024x32_S1024x32_S1024x2304_d1 := by
  refine ⟨σ (Proc.devRef .tc main_v2), σ (Proc.devRef .tc main_v0), σ (Proc.devRef .tc main_v6), ?_⟩
  simp only [hostOps0, List.drop_succ_cons, List.drop_zero, List.take_succ_cons, List.take_zero]
  rw [StableHlo.after_cons, StableHlo.after_nil]
  exact StableHlo.nary_result ..

theorem host_before (σ : Valuation τ sig (Elt Ideal)) : StableHlo.after ((hostOps0 (F := Ideal)).take 8) σ (Proc.devRef .tc main_v1)
    = extractStridedSlice S1024x2176 ![0, 0] (σ (Proc.devRef .tc main_arg2) : FVec Ideal S1024x2208 .f32) slices_S1024x2208_S1024x2176_0_0 := by
  simp only [hostOps0, List.take_succ_cons, List.take_zero]
  after_results_simp

theorem win_eq (c : Dev nD) (e : Fin 1024) (n : Fin 2208) (hn : n.val < 2176) :
    (V m c main_v23 (ix2 e (⟨n.val, by omega⟩ : Fin 2304)) : EReal) = m ((c : Thread nD τ).loc main_arg2) (ix2 e n) := by
  have h : V m c main_v23 = StableHlo.after ((hostOps0 (F := Ideal)).take 8 ++ (((hostOps0 (F := Ideal)).drop 8).take 1 ++ (hostOps0 (F := Ideal)).drop 9))
      (fun b => m (c, b)) (Proc.devRef .tc main_v23) := rfl
  rw [h, after_append, after_append, host_after]
  obtain ⟨Z, K, R, h⟩ := host_at (StableHlo.after ((hostOps0 (F := Ideal)).take 8) (fun b => m (c, b)))
  rw [h, host_before]
  refine (first4 _ Z K R e n hn).trans ?_
  pointwise

theorem kgain_eq (c : Dev nD) (d : Fin 256) : V m c main_v25 (ix2 (0 : Fin 1) d) = m ((c : Thread nD τ).loc main_arg5) (ix1 d) := by
  entry_read
  pointwise

theorem wv_eq (c : Dev nD) (e : Fin 256) (n : Fin 512) : (V m c main_v30 (ix2 e n) : EReal)
    = m ((c : Thread nD τ).loc main_arg8) (ix3 e (⟨n.val / 64, by omega⟩ : Fin 8) (⟨n.val % 64, by omega⟩ : Fin 64)) := by
  entry_read
  pointwise

theorem read_x (c : Dev nD) (t : Fin cfg0.N) (r : Fin 512) (d : Fin 1024) :
    iblk m c 0 t (ix3 (0 : Fin 1) r d) = m ((c : Thread nD τ).loc main_arg0) (ix3 (sq t) (pr t r) d) := by
  have e1 : (sq t).val = t.val / 16 := rfl
  have e2 : (pr t r).val = 512 * (t.val % 16) + r.val := rfl
  rw [← V_main_arg0 m c]
  blk_ext [iblk, idx t]

theorem read_gain (c : Dev nD) (t : Fin cfg0.N) (d : Fin 1024) :
    iblk m c 1 t (ix2 (0 : Fin 1) d) = m ((c : Thread nD τ).loc main_arg1) (ix1 d) := by
  rw [← gain_eq m c]
  blk_ext [iblk, idx t]

theorem read_win (c : Dev nD) (t : Fin cfg0.N) (e : Fin 1024) (n : Fin 2208) (hn : n.val < 2176) :
    (iblk m c 2 t (ix2 e (⟨n.val, by omega⟩ : Fin 2304)) : EReal) = m ((c : Thread nD τ).loc main_arg2) (ix2 e n) := by
  rw [← win_eq m c e n hn]
  blk_ext [iblk, idx t]

theorem read_kgain (c : Dev nD) (t : Fin cfg0.N) (d : Fin 256) :
    iblk m c 5 t (ix2 (0 : Fin 1) d) = m ((c : Thread nD τ).loc main_arg5) (ix1 d) := by
  rw [← kgain_eq m c]
  blk_ext [iblk, idx t]

theorem read_wv (c : Dev nD) (t : Fin cfg0.N) (e : Fin 256) (n : Fin 512) : (iblk m c 9 t (ix2 e n) : EReal)
    = m ((c : Thread nD τ).loc main_arg8) (ix3 e (⟨n.val / 64, by omega⟩ : Fin 8) (⟨n.val % 64, by omega⟩ : Fin 64)) := by
  rw [← wv_eq m c]
  blk_ext [iblk, idx t]

/-- The row of the product at a place of a sequence, of the argument arrays. -/
def ROW (c : Dev nD) : Fin 2 → Fin 8192 → Fin 2208 → EReal :=
  _root_.Proj.p (m ((c : Thread nD τ).loc main_arg0)) (m ((c : Thread nD τ).loc main_arg1)) (m ((c : Thread nD τ).loc main_arg2))

/-- A point's rows are rows of the arrays'. -/
theorem prod_point (c : Dev nD) (t : Fin cfg0.N) (r : Fin 512) (n : Fin 2208) (hn : n.val < 2176) :
    prod (iblk m c 0 t) (iblk m c 1 t) (iblk m c 2 t) r ⟨n.val, by omega⟩ = ROW m c (sq t) (pr t r) n := by
  unfold prod ROW _root_.Proj.p
  refine Finset.sum_congr rfl fun e _ => ?_
  rw [pay3_apply, read_win m c t e n hn, read_gain]
  simp only [read_x]
  rfl

theorem cols_point (o : ℕ) (h : o + 256 ≤ 2176) (c : Dev nD) (t : Fin cfg0.N) (r : Fin 512) (i : Fin 256) :
    cols (iblk m c 0 t) (iblk m c 1 t) (iblk m c 2 t) o (by omega) r i
      = _root_.Proj.part (ROW m c (sq t) (pr t r)) 256 o (by omega) i :=
  prod_point m c t r ⟨o + i.val, by omega⟩ (by show o + i.val < 2176; omega)

theorem lat_point (c : Dev nD) (t : Fin cfg0.N) (r : Fin 512) (i : Fin 256) :
    lat (iblk m c 0 t) (iblk m c 1 t) (iblk m c 2 t) (iblk m c 5 t) r i
      = _root_.Proj.ckv (m ((c : Thread nD τ).loc main_arg5)) (ROW m c (sq t) (pr t r)) i := by
  unfold lat _root_.Proj.ckv
  rw [show cols (iblk m c 0 t) (iblk m c 1 t) (iblk m c 2 t) 1920 (by decide) r = _ from funext (cols_point m 1920 (by decide) c t r)]
  simp only [read_kgain]

end Cert.Kernel4Ideal.Proj
-- ==== Proof.Proj.Value.lean ====
/- What the kernel leaves in the output arrays with a value claim. -/
module

public import proofs.«01_k».proof.Proof.Proj.Frame
public import proofs.«01_k».proof.Proof.Proj.Points

@[expose] public section

set_option maxRecDepth 16384

noncomputable section

namespace Cert.Kernel4Ideal.Proj

open Cert.Kernel4Ideal Cert.Kernel4Ideal.Gen
open Idealize.ShloMosaic Idealize.ShloMosaic.TcCoe Idealize.SL.Sem
open Idealize.ShloMosaic.Pipeline (Dat Cfg Window)

variable (m : (ℓ : Loc nD τ sig) → Buf (Elt Ideal) ℓ)

/-! ## Where a block's rows lie in the array -/

theorem place14 (t : Fin cfg0.N) (r : Fin 512) (i : Fin 256) : (win0_14.blk t).view.emb (ix3 (0 : Fin 1) r i) = ix3 (sq t) (pr t r) i := by
  have e1 : (sq t).val = t.val / 16 := rfl
  have e2 : (pr t r).val = 512 * (t.val % 16) + r.val := rfl
  blk_ext [idx t]

theorem place15 (t : Fin cfg0.N) (r : Fin 512) (i : Fin 256) : (win0_15.blk t).view.emb (ix3 (0 : Fin 1) r i) = ix3 (sq t) (pr t r) i := by
  have e1 : (sq t).val = t.val / 16 := rfl
  have e2 : (pr t r).val = 512 * (t.val % 16) + r.val := rfl
  blk_ext [idx t]

theorem place16 (t : Fin cfg0.N) (r : Fin 512) (i : Fin 256) : (win0_16.blk t).view.emb (ix3 (0 : Fin 1) r i) = ix3 (sq t) (pr t r) i := by
  have e1 : (sq t).val = t.val / 16 := rfl
  have e2 : (pr t r).val = 512 * (t.val % 16) + r.val := rfl
  blk_ext [idx t]

theorem place17 (t : Fin cfg0.N) (r : Fin 512) (i : Fin 256) : (win0_17.blk t).view.emb (ix3 (0 : Fin 1) r i) = ix3 (sq t) (pr t r) i := by
  have e1 : (sq t).val = t.val / 16 := rfl
  have e2 : (pr t r).val = 512 * (t.val % 16) + r.val := rfl
  blk_ext [idx t]

theorem place18 (t : Fin cfg0.N) (r : Fin 512) (i : Fin 256) : (win0_18.blk t).view.emb (ix3 (0 : Fin 1) r i) = ix3 (sq t) (pr t r) i := by
  have e1 : (sq t).val = t.val / 16 := rfl
  have e2 : (pr t r).val = 512 * (t.val % 16) + r.val := rfl
  blk_ext [idx t]

theorem place19 (t : Fin cfg0.N) (r : Fin 512) (i : Fin 256) : (win0_19.blk t).view.emb (ix3 (0 : Fin 1) r i) = ix3 (sq t) (pr t r) i := by
  have e1 : (sq t).val = t.val / 16 := rfl
  have e2 : (pr t r).val = 512 * (t.val % 16) + r.val := rfl
  blk_ext [idx t]

theorem place23 (t : Fin cfg0.N) (r : Fin 512) (i : Fin 512) : (win0_23.blk t).view.emb (ix3 (0 : Fin 1) r i) = ix3 (sq t) (pr t r) i := by
  have e1 : (sq t).val = t.val / 16 := rfl
  have e2 : (pr t r).val = 512 * (t.val % 16) + r.val := rfl
  blk_ext [idx t]

theorem place24 (t : Fin cfg0.N) (r : Fin 2) (i : Fin 256) : (win0_24.blk t).view.emb (ix3 (0 : Fin 1) r i) = ix3 (sq t) r i := by
  have e1 : (sq t).val = t.val / 16 := rfl
  blk_ext [idx24 t]

/-! ## The arrays at the end -/

theorem final14 (c : Dev nD) : (dats m 0 c).arrAt 14 cfg0.N = _root_.Proj.Dq (m ((c : Thread nD τ).loc main_arg0)) (m ((c : Thread nD τ).loc main_arg1)) (m ((c : Thread nD τ).loc main_arg2)) := by
  refine (dats m 0 c).arrAt_eq_of_covers 14 _ (by decide +kernel) fun t _ y => ?_
  blk_simp
  rw [after0_14]
  obtain ⟨z, r, i, rfl⟩ : ∃ (z : Fin 1) (r : Fin 512) (i : Fin 256), y = ix3 z r i := ⟨y 0, y 1, y 2, eq_ix3 y⟩
  obtain rfl : z = 0 := Subsingleton.elim _ _
  rw [place14]
  frame_out
  exact (dqB_apply _ _ _ r i).trans (by rw [cols_point m 768 (by decide)]; rfl)

theorem final15 (c : Dev nD) : (dats m 0 c).arrAt 15 cfg0.N = _root_.Proj.Dk (m ((c : Thread nD τ).loc main_arg0)) (m ((c : Thread nD τ).loc main_arg1)) (m ((c : Thread nD τ).loc main_arg2)) := by
  refine (dats m 0 c).arrAt_eq_of_covers 15 _ (by decide +kernel) fun t _ y => ?_
  blk_simp
  rw [after0_15]
  obtain ⟨z, r, i, rfl⟩ : ∃ (z : Fin 1) (r : Fin 512) (i : Fin 256), y = ix3 z r i := ⟨y 0, y 1, y 2, eq_ix3 y⟩
  obtain rfl : z = 0 := Subsingleton.elim _ _
  rw [place15]
  frame_out
  exact (dkB_apply _ _ _ r i).trans (cols_point m 1024 (by decide) c t r i)

theorem final16 (c : Dev nD) : (dats m 0 c).arrAt 16 cfg0.N = _root_.Proj.Dk (m ((c : Thread nD τ).loc main_arg0)) (m ((c : Thread nD τ).loc main_arg1)) (m ((c : Thread nD τ).loc main_arg2)) := by
  refine (dats m 0 c).arrAt_eq_of_covers 16 _ (by decide +kernel) fun t _ y => ?_
  blk_simp
  rw [after0_16]
  obtain ⟨z, r, i, rfl⟩ : ∃ (z : Fin 1) (r : Fin 512) (i : Fin 256), y = ix3 z r i := ⟨y 0, y 1, y 2, eq_ix3 y⟩
  obtain rfl : z = 0 := Subsingleton.elim _ _
  rw [place16]
  frame_out
  exact (dkbB_apply _ _ _ r i).trans (cols_point m 1024 (by decide) c t r i)

theorem final17 (c : Dev nD) : (dats m 0 c).arrAt 17 cfg0.N = _root_.Proj.Dv (m ((c : Thread nD τ).loc main_arg0)) (m ((c : Thread nD τ).loc main_arg1)) (m ((c : Thread nD τ).loc main_arg2)) := by
  refine (dats m 0 c).arrAt_eq_of_covers 17 _ (by decide +kernel) fun t _ y => ?_
  blk_simp
  rw [after0_17]
  obtain ⟨z, r, i, rfl⟩ : ∃ (z : Fin 1) (r : Fin 512) (i : Fin 256), y = ix3 z r i := ⟨y 0, y 1, y 2, eq_ix3 y⟩
  obtain rfl : z = 0 := Subsingleton.elim _ _
  rw [place17]
  frame_out
  exact (dvB_apply _ _ _ r i).trans (cols_point m 1280 (by decide) c t r i)

theorem final18 (c : Dev nD) : (dats m 0 c).arrAt 18 cfg0.N = _root_.Proj.Dv (m ((c : Thread nD τ).loc main_arg0)) (m ((c : Thread nD τ).loc main_arg1)) (m ((c : Thread nD τ).loc main_arg2)) := by
  refine (dats m 0 c).arrAt_eq_of_covers 18 _ (by decide +kernel) fun t _ y => ?_
  blk_simp
  rw [after0_18]
  obtain ⟨z, r, i, rfl⟩ : ∃ (z : Fin 1) (r : Fin 512) (i : Fin 256), y = ix3 z r i := ⟨y 0, y 1, y 2, eq_ix3 y⟩
  obtain rfl : z = 0 := Subsingleton.elim _ _
  rw [place18]
  frame_out
  exact (dvbB_apply _ _ _ r i).trans (cols_point m 1280 (by decide) c t r i)

theorem final19 (c : Dev nD) : (dats m 0 c).arrAt 19 cfg0.N = _root_.Proj.Ckv (m ((c : Thread nD τ).loc main_arg0)) (m ((c : Thread nD τ).loc main_arg1)) (m ((c : Thread nD τ).loc main_arg2)) (m ((c : Thread nD τ).loc main_arg5)) := by
  refine (dats m 0 c).arrAt_eq_of_covers 19 _ (by decide +kernel) fun t _ y => ?_
  blk_simp
  rw [after0_19]
  obtain ⟨z, r, i, rfl⟩ : ∃ (z : Fin 1) (r : Fin 512) (i : Fin 256), y = ix3 z r i := ⟨y 0, y 1, y 2, eq_ix3 y⟩
  obtain rfl : z = 0 := Subsingleton.elim _ _
  rw [place19]
  frame_out
  exact (ckvB_apply _ _ _ _ r i).trans (lat_point m c t r i)

theorem final23 (c : Dev nD) : (dats m 0 c).arrAt 23 cfg0.N = _root_.Proj.Vm (m ((c : Thread nD τ).loc main_arg0)) (m ((c : Thread nD τ).loc main_arg1)) (m ((c : Thread nD τ).loc main_arg2)) (m ((c : Thread nD τ).loc main_arg5)) (m ((c : Thread nD τ).loc main_arg8)) := by
  refine (dats m 0 c).arrAt_eq_of_covers 23 _ (by decide +kernel) fun t _ y => ?_
  blk_simp
  rw [after0_23]
  obtain ⟨z, r, i, rfl⟩ : ∃ (z : Fin 1) (r : Fin 512) (i : Fin 512), y = ix3 z r i := ⟨y 0, y 1, y 2, eq_ix3 y⟩
  obtain rfl : z = 0 := Subsingleton.elim _ _
  rw [place23]
  frame_out
  exact (vmB_apply _ _ _ _ _ r i).trans (by simp only [lat_point, read_wv]; rfl)

theorem final24 (c : Dev nD) : (dats m 0 c).arrAt 24 cfg0.N = _root_.Proj.Conv (m ((c : Thread nD τ).loc main_arg0)) (m ((c : Thread nD τ).loc main_arg1)) (m ((c : Thread nD τ).loc main_arg2)) := by
  refine (dats m 0 c).arrAt_eq_of_covers 24 _ (by decide +kernel) fun t ht y => ?_
  have h15 := flush24 t ht
  blk_simp
  rw [after0_24]
  obtain ⟨z, r, i, rfl⟩ : ∃ (z : Fin 1) (r : Fin 2) (i : Fin 256), y = ix3 z r i := ⟨y 0, y 1, y 2, eq_ix3 y⟩
  obtain rfl : z = 0 := Subsingleton.elim _ _
  rw [place24]
  frame_out
  have e : pr t ⟨510 + r.val, by omega⟩ = ⟨8190 + r.val, by omega⟩ := Fin.ext (by show 512 * (t.val % 16) + (510 + r.val) = 8190 + r.val; omega)
  refine (zoB_apply _ _ _ r i).trans ?_
  rw [cols_point m 256 (by decide), cols_point m 512 (by decide), e]
  rfl

end Cert.Kernel4Ideal.Proj
-- ==== Proof.Proj.Ref.lean ====
/- The reference's results. -/
module

public import proofs.«01_k».proof.Proof.Gen.Reference4Ideal.Run
public import proofs.«01_k».proof.Proof.Proj.Spec

@[expose] public section

set_option maxRecDepth 16384

noncomputable section

namespace Cert.Reference4Ideal.Proj

open Cert.Reference4Ideal Cert.Reference4Ideal.Gen
open Idealize.ShloMosaic Idealize.ShloMosaic.TcCoe Idealize.SL.Sem

/-- The rows normalized, times the gains. -/
def norm (x : FVec Ideal S2x8192x1024 .f32) (g : FVec Ideal S1024 .f32) : FVec Ideal S2x8192x1024 .f32 :=
  mulf (mulf x (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf x x) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 g))

/-- Their product with the weights. -/
def pr (x : FVec Ideal S2x8192x1024 .f32) (g : FVec Ideal S1024 .f32) (w : FVec Ideal S1024x2208 .f32) : FVec Ideal S2x8192x2208 .f32 :=
  Host.dotGeneral dot_S2x8192x1024_S1024x2208_S2x8192x2208_2_0_01_1_n_n none (norm x g) w

theorem norm_apply (x : FVec Ideal S2x8192x1024 .f32) (g : FVec Ideal S1024 .f32) (b : Fin 2) (s : Fin 8192) (d : Fin 1024) :
    norm x g (ix3 b s d) = _root_.Proj.h x g b s d := by
  pointwise [norm]
  rfl

theorem pr_apply (x : FVec Ideal S2x8192x1024 .f32) (g : FVec Ideal S1024 .f32) (w : FVec Ideal S1024x2208 .f32) (b : Fin 2) (s : Fin 8192) (n : Fin 2208) :
    pr x g w (ix3 b s n) = _root_.Proj.p x g w b s n := by
  unfold pr _root_.Proj.p
  simp only [← norm_apply]
  generalize norm x g = N
  pointwise

section Parts

variable (P : FVec Ideal S2x8192x2208 .f32)

/-- A row of the product. -/
def row (b : Fin 2) (s : Fin 8192) (n : Fin 2208) : EReal := P (ix3 b s n)

def ckv (g : FVec Ideal S256 .f32) : FVec Ideal S2x8192x256 .f32 :=
  mulf (mulf (extractStridedSlice S2x8192x256 ![0, 0, 1920] P slices_S2x8192x2208_S2x8192x256_0_0_1920) (broadcastInDim S2x8192x256 ![0, 1, 2] bcast_S2x8192x1_S2x8192x256_0_1_2 (Host.rsqrt (addf (Host.divf (broadcastInDim S2x8192x1 ![0, 1] bcast_S2x8192_S2x8192x1_0_1 (Host.reduceAdd (mulf (extractStridedSlice S2x8192x256 ![0, 0, 1920] P slices_S2x8192x2208_S2x8192x256_0_0_1920) (extractStridedSlice S2x8192x256 ![0, 0, 1920] P slices_S2x8192x2208_S2x8192x256_0_0_1920)) (constant S_ .f32 0x00000000#32) reducesTo_S2x8192x256_S2x8192_d2 h_S_)) (broadcastInDim S2x8192x1 ![] bcast_S_S2x8192x1 (constant S_ .f32 0x43800000#32))) (broadcastInDim S2x8192x1 ![] bcast_S_S2x8192x1 (constant S_ .f32 0x358637BD#32)))))) (broadcastInDim S2x8192x256 ![0, 1, 2] bcast_S1x1x256_S2x8192x256_0_1_2 (broadcastInDim S1x1x256 ![2] bcast_S256_S1x1x256_2 g))

def dq : FVec Ideal S2x8192x256 .bf16 :=
  truncf .bf16 (mulf (extractStridedSlice S2x8192x256 ![0, 0, 768] P slices_S2x8192x2208_S2x8192x256_0_0_768) (broadcastInDim S2x8192x256 ![] bcast_S_S2x8192x256 (constant S_ .f32 0x3E3504F3#32))) bitsLt_bf16_f32

def up (K : FVec Ideal S2x8192x256 .f32) (U : FVec Ideal S256x8x64 .f32) : FVec Ideal S2x8192x8x64 .f32 :=
  Host.dotGeneral dot_S2x8192x256_S256x8x64_S2x8192x8x64_2_0_01_12_n_n none K U

def vm (V : FVec Ideal S2x8192x8x64 .f32) : FVec Ideal S2x8192x512 .bf16 := truncf .bf16 (shapeCast _ V shapeCasts_S2x8192x8x64_S2x8192x512) bitsLt_bf16_f32

theorem ckv_apply (g : FVec Ideal S256 .f32) (b : Fin 2) (s : Fin 8192) (i : Fin 256) : ckv P g (ix3 b s i) = _root_.Proj.ckv g (row P b s) i := by
  pointwise [ckv]
  rfl

theorem dq_apply (b : Fin 2) (s : Fin 8192) (i : Fin 256) : (dq P (ix3 b s i) : EReal) = _root_.Proj.dq (row P b s) i := by
  pointwise [dq]
  rfl

/-- The keys and the values of the differential attention. -/
def dk : FVec Ideal S2x8192x256 .f32 := extractStridedSlice S2x8192x256 ![0, 0, 1024] P slices_S2x8192x2208_S2x8192x256_0_0_1024
def dv : FVec Ideal S2x8192x256 .f32 := extractStridedSlice S2x8192x256 ![0, 0, 1280] P slices_S2x8192x2208_S2x8192x256_0_0_1280

theorem dk_apply (b : Fin 2) (s : Fin 8192) (i : Fin 256) : dk P (ix3 b s i) = _root_.Proj.part (row P b s) 256 1024 (by decide) i := by
  pointwise [dk]
  rfl

theorem dv_apply (b : Fin 2) (s : Fin 8192) (i : Fin 256) : dv P (ix3 b s i) = _root_.Proj.part (row P b s) 256 1280 (by decide) i := by
  pointwise [dv]
  rfl

/-- The product that the convolution takes. -/
def gate : FVec Ideal S2x8192x256 .f32 :=
  mulf (extractStridedSlice S2x8192x256 ![0, 0, 256] P slices_S2x8192x2208_S2x8192x256_0_0_256) (extractStridedSlice S2x8192x256 ![0, 0, 512] P slices_S2x8192x2208_S2x8192x256_0_0_512)

/-- The convolution's state: the last two rows of a zero state and the product. -/
def conv : FVec Ideal S2x2x256 .f32 :=
  extractStridedSlice S2x2x256 ![0, 8192, 0] (concatenate S2x8194x256 1 [⟨S2x2x256, (broadcastInDim S2x2x256 ![] bcast_S_S2x2x256 (constant S_ .f32 0x00000000#32) : FVec Ideal S2x2x256 .f32)⟩, ⟨S2x8192x256, gate P⟩] concatenates_S2x2x256_S2x8192x256_S2x8194x256_d1) slices_S2x8194x256_S2x2x256_0_8192_0

theorem gate_apply (b : Fin 2) (s : Fin 8192) (i : Fin 256) : gate P (ix3 b s i) = _root_.Proj.gated (row P b s) i := by
  pointwise [gate]
  rfl

theorem conv_apply (b : Fin 2) (s : Fin 2) (i : Fin 256) : conv P (ix3 b s i) = _root_.Proj.gated (row P b ⟨8190 + s.val, by omega⟩) i := by
  rw [← gate_apply]
  unfold conv
  generalize gate P = G
  pointwise
  rw [dif_neg (by omega)]
  exact congrArg (fun r => G (ix3 b r i)) (Fin.ext (by show 8192 + s.val - 2 = 8190 + s.val; omega))

theorem up_apply (K : FVec Ideal S2x8192x256 .f32) (U : FVec Ideal S256x8x64 .f32) (b : Fin 2) (s : Fin 8192) (a : Fin 8) (i : Fin 64) :
    up K U (ix4 b s a i) = ∑ e : Fin 256, (K (ix3 b s e) : EReal) * U (ix3 e a i) := by
  pointwise [up]

theorem vm_apply (V : FVec Ideal S2x8192x8x64 .f32) (b : Fin 2) (s : Fin 8192) (n : Fin 512) :
    (vm V (ix3 b s n) : EReal) = V (ix4 b s (⟨n.val / 64, by omega⟩ : Fin 8) (⟨n.val % 64, by omega⟩ : Fin 64)) := by
  pointwise [vm]

end Parts

/-! ## The results, of the arguments -/

section Results

variable (x : FVec Ideal S2x8192x1024 .f32) (g : FVec Ideal S1024 .f32) (w : FVec Ideal S1024x2208 .f32) (k : FVec Ideal S256 .f32)

theorem row_pr (b : Fin 2) (s : Fin 8192) : row (pr x g w) b s = _root_.Proj.p x g w b s := funext (pr_apply x g w b s)

/-- An array is known by its rows. -/
theorem eq_arr {q n : ℕ} {A : (⟨3, ![2, q, n]⟩ : Shape).Idx → EReal} {f : Fin 2 → Fin q → Fin n → EReal}
    (h : ∀ b s i, A (ix3 b s i) = f b s i) : A = _root_.Proj.arr f :=
  funext fun j => (congrArg A (eq_ix3 j)).trans (h (j 0) (j 1) (j 2))

theorem dq_eq : dq (pr x g w) = _root_.Proj.Dq x g w :=
  eq_arr fun b s i => (dq_apply _ b s i).trans (by rw [row_pr])

theorem dk_eq : dk (pr x g w) = _root_.Proj.Dk x g w :=
  eq_arr fun b s i => (dk_apply _ b s i).trans (by rw [row_pr])

theorem dv_eq : dv (pr x g w) = _root_.Proj.Dv x g w :=
  eq_arr fun b s i => (dv_apply _ b s i).trans (by rw [row_pr])

theorem conv_eq : conv (pr x g w) = _root_.Proj.Conv x g w :=
  eq_arr fun b s i => (conv_apply _ b s i).trans (by rw [row_pr])

theorem ckv_eq : ckv (pr x g w) k = _root_.Proj.Ckv x g w k :=
  eq_arr fun b s i => (ckv_apply _ k b s i).trans (by rw [row_pr])

theorem vm_eq (U : FVec Ideal S256x8x64 .f32) : vm (up (ckv (pr x g w) k) U) = _root_.Proj.Vm x g w k U :=
  eq_arr fun b s n => (vm_apply _ b s n).trans ((up_apply _ U b s _ _).trans (by simp only [ckv_apply, row_pr]; rfl))

end Results

end Cert.Reference4Ideal.Proj
-- ==== Proof.lean ====
/- The claims, for each of the four calls: the kernel and its idealization run and leave their arguments alone, the
   idealization keeps the kernel's meaning, and on real arguments it computes what the reference computes. -/
module

public import proofs.«01_k».proof.Defs
public import proofs.«01_k».proof.Proof.Mla.KernelFrame
public import proofs.«01_k».proof.Proof.Mla.Value
public import proofs.«01_k».proof.Proof.Mla.Ref
public import proofs.«01_k».proof.Proof.Mla.Pre
public import proofs.«01_k».proof.Proof.Diff.KernelFrame
public import proofs.«01_k».proof.Proof.Diff.Value
public import proofs.«01_k».proof.Proof.Diff.Ref
public import proofs.«01_k».proof.Proof.Diff.Pre
public import proofs.«01_k».proof.Proof.Gen.Kernel3.Frame
public import proofs.«01_k».proof.Proof.Post.Value
public import proofs.«01_k».proof.Proof.Post.Ref
public import proofs.«01_k».proof.Proof.Post.Pre
public import proofs.«01_k».proof.Proof.Proj.KernelFrame
public import proofs.«01_k».proof.Proof.Proj.Value
public import proofs.«01_k».proof.Proof.Proj.Ref

@[expose] public section

set_option maxRecDepth 16384

noncomputable section

namespace Cert.Proof

open Idealize.ShloMosaic Idealize.ShloMosaic.TcCoe Idealize.SL.Sem

theorem frame_kernel : Cert.quiescent_Kernel := fun m g _ => Cert.Kernel.Mla.frame m g

theorem frame_ideal : Cert.quiescent_KernelIdeal := fun m g _ => Cert.KernelIdeal.Mla.frame m g

theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run Cert.ReferenceIdeal.defs _ _).mono (fun r h => ⟨fun c => (h c).2, sem_eq_zero_of_no_sems (by decide) r.2⟩)
    (Cert.ReferenceIdeal.Value.run m g)

theorem preserves : Cert.preserves_Kernel_KernelIdeal := IdealRules.named_const.statement Cert.KernelIdeal.κ "mask" .f32 0xF149F2CA#32 ⊥ rfl

/-- Both sides end at the attention of the arguments. -/
theorem algebraic : Cert.algebraic_KernelIdeal_ReferenceIdeal_pre_finite_queries_keys := by
  intro m g m' g' hpre hargs
  refine ⟨fun c => (Cert.KernelIdeal.Mla.dats m 0 c).arrAt 3 Cert.KernelIdeal.cfg0.N, Cert.KernelIdeal.Mla.run_out m g, ?_⟩
  refine (θ_run Cert.ReferenceIdeal.defs _ _).mono (fun r h c => ⟨(h c).1.trans ?_, (h c).2⟩) (Cert.ReferenceIdeal.Value.run m' g')
  obtain ⟨hQ, hK⟩ := Cert.Pre_finite_queries_keys.Mla.finite _ _ _ (hpre c)
  refine (Cert.ReferenceIdeal.Mla.res_eq m' c).trans ?_
  refine Eq.trans ?_ (Cert.KernelIdeal.Mla.final m c hQ hK).symm
  rw [(hargs c).1, (hargs c).2.1, (hargs c).2.2]

theorem frame_kernel2 : Cert.quiescent_Kernel2 := fun m g _ => Cert.Kernel2.Diff.frame m g

theorem frame_ideal2 : Cert.quiescent_Kernel2Ideal := fun m g _ => Cert.Kernel2Ideal.Diff.frame m g

theorem frame_reference2 : Cert.quiescent_Reference2Ideal := fun m g _ =>
  (θ_run Cert.Reference2Ideal.defs _ _).mono (fun r h => ⟨fun c => (h c).2, sem_eq_zero_of_no_sems (by decide) r.2⟩)
    (Cert.Reference2Ideal.Value.run m g)

theorem preserves2 : Cert.preserves_Kernel2_Kernel2Ideal := IdealRules.named_const.statement Cert.Kernel2Ideal.κ "mask" .f32 0xF149F2CA#32 ⊥ rfl

/-- Both sides end at the differential attention of the arguments. -/
theorem algebraic2 : Cert.algebraic_Kernel2Ideal_Reference2Ideal_pre_finite_values_lambda := by
  intro m g m' g' hpre hargs
  refine ⟨fun c => (Cert.Kernel2Ideal.Diff.dats m 0 c).arrAt 5 Cert.Kernel2Ideal.cfg0.N, Cert.Kernel2Ideal.Diff.run_out m g, ?_⟩
  refine (θ_run Cert.Reference2Ideal.defs _ _).mono (fun r h c => ⟨(h c).1.trans ?_, (h c).2⟩) (Cert.Reference2Ideal.Value.run m' g')
  obtain ⟨hV, hl⟩ := Cert.Pre_finite_values_lambda.Diff.finite _ _ _ _ _ (hpre c)
  obtain ⟨e0, e1, e2, e3, e4⟩ := hargs c
  refine (Cert.Reference2Ideal.Diff.res_eq m' c).trans ?_
  refine Eq.trans ?_ (Cert.Kernel2Ideal.Diff.final m c).symm
  rw [e0, e1, e2, e3, e4]
  exact _root_.Diff.norm_mixed hV hl

theorem frame_kernel3 : Cert.quiescent_Kernel3 := fun m g _ => Cert.Kernel3.Gen.frame m g

theorem frame_ideal3 : Cert.quiescent_Kernel3Ideal := fun m g _ => Cert.Kernel3Ideal.Gen.frame m g

theorem frame_reference3 : Cert.quiescent_Reference3Ideal := fun m g _ =>
  (θ_run Cert.Reference3Ideal.defs _ _).mono (fun r h => ⟨fun c => (h c).2.2.2, sem_eq_zero_of_no_sems (by decide) r.2⟩)
    (Cert.Reference3Ideal.Value.run m g)

theorem preserves3 : Cert.preserves_Kernel3_Kernel3Ideal := trivial

/-- Both sides end at the residual sum of the arguments, its normalized rows and their projection. -/
theorem algebraic3 : Cert.algebraic_Kernel3Ideal_Reference3Ideal_pre_finite_gain_weights := by
  intro m g m' g' hpre hargs
  refine ⟨fun c => (Cert.Kernel3Ideal.Gen.dats m 0 c).arrAt 8 Cert.Kernel3Ideal.cfg0.N, fun c => (Cert.Kernel3Ideal.Gen.dats m 0 c).arrAt 9 Cert.Kernel3Ideal.cfg0.N,
    fun c => (Cert.Kernel3Ideal.Gen.dats m 0 c).arrAt 10 Cert.Kernel3Ideal.cfg0.N, Cert.Kernel3Ideal.Value.run_blocks m g, ?_⟩
  refine (θ_run Cert.Reference3Ideal.defs _ _).mono (fun r h c => ⟨(h c).1.trans ?_, (h c).2.1.trans ?_, (h c).2.2.1.trans ?_, (h c).2.2.2⟩)
    (Cert.Reference3Ideal.Value.run m' g')
  all_goals obtain ⟨e0, e1, e2, e3, e4, e5, e6⟩ := hargs c
  · refine (Cert.Reference3Ideal.Post.res_eq m' c).trans (Eq.trans ?_ (Cert.Kernel3Ideal.Post.final8 m c).symm)
    unfold Cert.Reference3Ideal.Post.rres
    rw [e0, e1, e2, e3, e4]
    rfl
  · refine (Cert.Reference3Ideal.Post.norm_eq m' c).trans (Eq.trans ?_ (Cert.Kernel3Ideal.Post.final9 m c).symm)
    unfold Cert.Reference3Ideal.Post.rnrm Cert.Reference3Ideal.Post.rres
    rw [e0, e1, e2, e3, e4, e5]
    rfl
  · obtain ⟨hg, hP⟩ := Cert.Pre_finite_gain_weights.Post.finite _ _ _ _ _ _ _ (hpre c)
    refine (Cert.Reference3Ideal.Post.query_eq m' c).trans (Eq.trans ?_ (Cert.Kernel3Ideal.Post.final10 m c hg hP).symm)
    unfold Cert.Reference3Ideal.Post.rnrm Cert.Reference3Ideal.Post.rres
    rw [e0, e1, e2, e3, e4, e5, e6]
    rfl

theorem frame_kernel4 : Cert.quiescent_Kernel4 := fun m g _ => Cert.Kernel4.Proj.frame m g

theorem frame_ideal4 : Cert.quiescent_Kernel4Ideal := fun m g _ => Cert.Kernel4Ideal.Proj.frame m g

theorem frame_reference4 : Cert.quiescent_Reference4Ideal := fun m g _ =>
  (θ_run Cert.Reference4Ideal.defs _ _).mono (fun r h => ⟨fun c => (h c).2.2.2.2.2.2.2.2, sem_eq_zero_of_no_sems (by decide) r.2⟩)
    (Cert.Reference4Ideal.Value.run m g)

theorem preserves4 : Cert.preserves_Kernel4_Kernel4Ideal := trivial

set_option maxHeartbeats 4000000 in
/-- Both sides end at the same eight of the arguments' projections. -/
theorem algebraic4 : Cert.algebraic_Kernel4Ideal_Reference4Ideal := by
  intro m g m' g' _ hargs
  refine ⟨fun c => (Cert.Kernel4Ideal.Proj.dats m 0 c).arrAt 14 Cert.Kernel4Ideal.cfg0.N, fun c => (Cert.Kernel4Ideal.Proj.dats m 0 c).arrAt 15 Cert.Kernel4Ideal.cfg0.N,
    fun c => (Cert.Kernel4Ideal.Proj.dats m 0 c).arrAt 16 Cert.Kernel4Ideal.cfg0.N, fun c => (Cert.Kernel4Ideal.Proj.dats m 0 c).arrAt 17 Cert.Kernel4Ideal.cfg0.N,
    fun c => (Cert.Kernel4Ideal.Proj.dats m 0 c).arrAt 18 Cert.Kernel4Ideal.cfg0.N, fun c => (Cert.Kernel4Ideal.Proj.dats m 0 c).arrAt 19 Cert.Kernel4Ideal.cfg0.N,
    fun c => (Cert.Kernel4Ideal.Proj.dats m 0 c).arrAt 23 Cert.Kernel4Ideal.cfg0.N, fun c => (Cert.Kernel4Ideal.Proj.dats m 0 c).arrAt 24 Cert.Kernel4Ideal.cfg0.N,
    (θ_run Cert.Kernel4Ideal.defs _ _).mono (fun r h c => ⟨(h.1 c).1, (h.1 c).2.1, (h.1 c).2.2.1, (h.1 c).2.2.2.1, (h.1 c).2.2.2.2.1, (h.1 c).2.2.2.2.2.1,
      (h.1 c).2.2.2.2.2.2.1, (h.1 c).2.2.2.2.2.2.2, h.2 c⟩) (θ_run_and (Cert.Kernel4Ideal.Proj.run_out m g) (Cert.Kernel4Ideal.Proj.unchanged m g)), ?_⟩
  refine (θ_run Cert.Reference4Ideal.defs _ _).mono (fun r h c => ?_) (Cert.Reference4Ideal.Value.run m' g')
  obtain ⟨h0, h1, h2, h3, h4, h5, h6, h7, ha⟩ := h c
  obtain ⟨e0, e1, e2, e3, e4, e5, e6, e7, e8⟩ := hargs c
  refine ⟨h0.trans ?_, h1.trans ?_, h2.trans ?_, h3.trans ?_, h4.trans ?_, h5.trans ?_, h6.trans ?_, h7.trans ?_, ha⟩
  · refine (Cert.Reference4Ideal.Proj.dq_eq _ _ _).trans (Eq.trans ?_ (Cert.Kernel4Ideal.Proj.final14 m c).symm)
    rw [e0, e1, e2]
  · refine (Cert.Reference4Ideal.Proj.dk_eq _ _ _).trans (Eq.trans ?_ (Cert.Kernel4Ideal.Proj.final15 m c).symm)
    rw [e0, e1, e2]
  · refine (Cert.Reference4Ideal.Proj.dk_eq _ _ _).trans (Eq.trans ?_ (Cert.Kernel4Ideal.Proj.final16 m c).symm)
    rw [e0, e1, e2]
  · refine (Cert.Reference4Ideal.Proj.dv_eq _ _ _).trans (Eq.trans ?_ (Cert.Kernel4Ideal.Proj.final17 m c).symm)
    rw [e0, e1, e2]
  · refine (Cert.Reference4Ideal.Proj.dv_eq _ _ _).trans (Eq.trans ?_ (Cert.Kernel4Ideal.Proj.final18 m c).symm)
    rw [e0, e1, e2]
  · refine (Cert.Reference4Ideal.Proj.ckv_eq _ _ _ _).trans (Eq.trans ?_ (Cert.Kernel4Ideal.Proj.final19 m c).symm)
    rw [e0, e1, e2, e5]
  · refine (Cert.Reference4Ideal.Proj.vm_eq _ _ _ _ _).trans (Eq.trans ?_ (Cert.Kernel4Ideal.Proj.final23 m c).symm)
    rw [e0, e1, e2, e5, e8]
  · refine (Cert.Reference4Ideal.Proj.conv_eq _ _ _).trans (Eq.trans ?_ (Cert.Kernel4Ideal.Proj.final24 m c).symm)
    rw [e0, e1, e2]

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Pre_finite_queries_keys.Mla.facts, Cert.Pre_finite_values_lambda.Diff.facts, Cert.Pre_finite_gain_weights.Post.facts,
    frame_kernel, frame_ideal, fun m g _ => frame_ideal m g trivial, fun m g _ => frame_reference m g, fun m g _ => frame_reference m g,
    frame_kernel2, frame_ideal2, fun m g _ => frame_ideal2 m g trivial, frame_reference2, fun m g _ => frame_reference2 m g trivial,
    frame_kernel3, frame_ideal3, fun m g _ => frame_ideal3 m g trivial, frame_reference3, fun m g _ => frame_reference3 m g trivial,
    frame_kernel4, frame_ideal4, frame_reference4,
    preserves, algebraic, preserves2, algebraic2, preserves3, algebraic3, preserves4, algebraic4⟩

end Cert.Proof

end
